-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27))
      ∧ r.2.sem = fun _ => 0)

def preserves_Kernel_KernelIdeal : Prop :=
  IdealRules.named_const.Statement Cert.KernelIdeal.κ "s" .f32 0x3E3504F3#32 (((Real.sqrt 32)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v169)) (v1 : (c : Dev Cert.KernelIdeal.nD) → Buf (Elt Ideal) ((c.tc : Thread Cert.KernelIdeal.nD Cert.KernelIdeal.τ).loc Cert.KernelIdeal.main_arg4)) (v2 : (c : Dev Cert.KernelIdeal.nD) → Buf (Elt Ideal) ((c.tc : Thread Cert.KernelIdeal.nD Cert.KernelIdeal.τ).loc Cert.KernelIdeal.main_v147_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_v147_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v592) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_v492) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "s" .f32 0x3E3504F3#32 (((Real.sqrt 32)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  IdealRules.named_const.Statement Cert.Kernel4Ideal.κ "s" .f32 0x3E3504F3#32 (((Real.sqrt 32)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  IdealRules.named_const.Statement Cert.Kernel6Ideal.κ "s" .f32 0x3E3504F3#32 (((Real.sqrt 32)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v352) = v0 c
          ∧ r.2.mem ((c.tc : Thread Cert.Reference6Ideal.nD Cert.Reference6Ideal.τ).loc Cert.Reference6Ideal.main_v159) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S300x2x256 : Shape := ⟨3, ![300, 2, 256]⟩
abbrev S4096x2x256 : Shape := ⟨3, ![4096, 2, 256]⟩
abbrev S300x2x4 : Shape := ⟨3, ![300, 2, 4]⟩
abbrev S2x256x256 : Shape := ⟨3, ![2, 256, 256]⟩
abbrev S2x256 : Shape := ⟨2, ![2, 256]⟩
abbrev S2x256x2048 : Shape := ⟨3, ![2, 256, 2048]⟩
abbrev S2x2048 : Shape := ⟨2, ![2, 2048]⟩
abbrev S2x2048x256 : Shape := ⟨3, ![2, 2048, 256]⟩
abbrev S256 : Shape := ⟨1, ![256]⟩
abbrev S300x512 : Shape := ⟨2, ![300, 512]⟩
abbrev S4096x512 : Shape := ⟨2, ![4096, 512]⟩
abbrev S2x300x4 : Shape := ⟨3, ![2, 300, 4]⟩
abbrev S2x4x300 : Shape := ⟨3, ![2, 4, 300]⟩
abbrev S1x256x256 : Shape := ⟨3, ![1, 256, 256]⟩
abbrev S256x256 : Shape := ⟨2, ![256, 256]⟩
abbrev S256x512 : Shape := ⟨2, ![256, 512]⟩
abbrev S1x256 : Shape := ⟨2, ![1, 256]⟩
abbrev S512 : Shape := ⟨1, ![512]⟩
abbrev S1x512 : Shape := ⟨2, ![1, 512]⟩
abbrev S2x4096x512 : Shape := ⟨3, ![2, 4096, 512]⟩
abbrev S1024x256 : Shape := ⟨2, ![1024, 256]⟩
abbrev S1x1024x512 : Shape := ⟨3, ![1, 1024, 512]⟩
abbrev S1024x512 : Shape := ⟨2, ![1024, 512]⟩
abbrev S1x256x2048 : Shape := ⟨3, ![1, 256, 2048]⟩
abbrev S256x2048 : Shape := ⟨2, ![256, 2048]⟩
abbrev S1x2048 : Shape := ⟨2, ![1, 2048]⟩
abbrev S2048 : Shape := ⟨1, ![2048]⟩
abbrev S1x2048x256 : Shape := ⟨3, ![1, 2048, 256]⟩
abbrev S2048x256 : Shape := ⟨2, ![2048, 256]⟩
abbrev S2x300x256 : Shape := ⟨3, ![2, 300, 256]⟩
abbrev S2x300x300 : Shape := ⟨3, ![2, 300, 300]⟩
abbrev S1x300x4 : Shape := ⟨3, ![1, 300, 4]⟩
abbrev S1x4x300 : Shape := ⟨3, ![1, 4, 300]⟩
abbrev S300x256 : Shape := ⟨2, ![300, 256]⟩
abbrev S1x4096x256 : Shape := ⟨3, ![1, 4096, 256]⟩
abbrev S1x300x256 : Shape := ⟨3, ![1, 300, 256]⟩
abbrev S1x300x300 : Shape := ⟨3, ![1, 300, 300]⟩
abbrev S1x300x1 : Shape := ⟨3, ![1, 300, 1]⟩
abbrev S300x1 : Shape := ⟨2, ![300, 1]⟩
abbrev S1x1x300 : Shape := ⟨3, ![1, 1, 300]⟩
abbrev S1x300 : Shape := ⟨2, ![1, 300]⟩
abbrev S300x300 : Shape := ⟨2, ![300, 300]⟩
abbrev S300 : Shape := ⟨1, ![300]⟩
abbrev S300x32 : Shape := ⟨2, ![300, 32]⟩
abbrev S4096x256 : Shape := ⟨2, ![4096, 256]⟩
abbrev S4096x32 : Shape := ⟨2, ![4096, 32]⟩
abbrev S300x4096 : Shape := ⟨2, ![300, 4096]⟩
abbrev S300x2048 : Shape := ⟨2, ![300, 2048]⟩
abbrev S2x300x4096 : Shape := ⟨3, ![2, 300, 4096]⟩
abbrev S1x300x4096 : Shape := ⟨3, ![1, 300, 4096]⟩

abbrev nBuf : Space → Nat
  | .hbm => 206
  | .vmem => 98
  | .smem => 0
  | _ => 0

abbrev hbmTy0_0 (i : Nat) : BufTy := match i % 128 with
  | 0 => ⟨S300x2x256, .f32⟩
  | 1 => ⟨S4096x2x256, .f32⟩
  | 2 => ⟨S4096x2x256, .f32⟩
  | 3 => ⟨S300x2x256, .f32⟩
  | 4 => ⟨S300x2x4, .f32⟩
  | 5 => ⟨S2x256x256, .f32⟩
  | 6 => ⟨S2x256, .f32⟩
  | 7 => ⟨S2x256x256, .f32⟩
  | 8 => ⟨S2x256, .f32⟩
  | 9 => ⟨S2x256x256, .f32⟩
  | 10 => ⟨S2x256, .f32⟩
  | 11 => ⟨S2x256x256, .f32⟩
  | 12 => ⟨S2x256, .f32⟩
  | 13 => ⟨S2x256x256, .f32⟩
  | 14 => ⟨S2x256, .f32⟩
  | 15 => ⟨S2x256x256, .f32⟩
  | 16 => ⟨S2x256, .f32⟩
  | 17 => ⟨S2x256x256, .f32⟩
  | 18 => ⟨S2x256, .f32⟩
  | 19 => ⟨S2x256x256, .f32⟩
  | 20 => ⟨S2x256, .f32⟩
  | 21 => ⟨S2x256x2048, .f32⟩
  | 22 => ⟨S2x2048, .f32⟩
  | 23 => ⟨S2x2048x256, .f32⟩
  | 24 => ⟨S2x256, .f32⟩
  | 25 => ⟨S2x256, .f32⟩
  | 26 => ⟨S2x256, .f32⟩
  | 27 => ⟨S2x256, .f32⟩
  | 28 => ⟨S2x256, .f32⟩
  | 29 => ⟨S2x256, .f32⟩
  | 30 => ⟨S2x256, .f32⟩
  | 31 => ⟨S256, .f32⟩
  | 32 => ⟨S256, .f32⟩
  | 33 => ⟨S300x512, .f32⟩
  | 34 => ⟨S300x512, .f32⟩
  | 35 => ⟨S4096x512, .f32⟩
  | 36 => ⟨S4096x512, .f32⟩
  | 37 => ⟨S2x300x4, .f32⟩
  | 38 => ⟨S2x4x300, .f32⟩
  | 39 => ⟨S1x256x256, .f32⟩
  | 40 => ⟨S256x256, .f32⟩
  | 41 => ⟨S1x256x256, .f32⟩
  | 42 => ⟨S256x256, .f32⟩
  | 43 => ⟨S256x512, .f32⟩
  | 44 => ⟨S256x512, .bf16⟩
  | 45 => ⟨S1x256, .f32⟩
  | 46 => ⟨S256, .f32⟩
  | 47 => ⟨S1x256, .f32⟩
  | 48 => ⟨S256, .f32⟩
  | 49 => ⟨S512, .f32⟩
  | 50 => ⟨S1x512, .f32⟩
  | 51 => ⟨S1x256x256, .f32⟩
  | 52 => ⟨S256x256, .f32⟩
  | 53 => ⟨S1x256x256, .f32⟩
  | 54 => ⟨S256x256, .f32⟩
  | 55 => ⟨S256x512, .f32⟩
  | 56 => ⟨S256x512, .bf16⟩
  | 57 => ⟨S1x256, .f32⟩
  | 58 => ⟨S256, .f32⟩
  | 59 => ⟨S1x256, .f32⟩
  | 60 => ⟨S256, .f32⟩
  | 61 => ⟨S512, .f32⟩
  | 62 => ⟨S1x512, .f32⟩
  | 63 => ⟨S2x4096x512, .bf16⟩
  | 64 => ⟨S2x4096x512, .bf16⟩
  | 65 => ⟨S1x256x256, .f32⟩
  | 66 => ⟨S256x256, .f32⟩
  | 67 => ⟨S256x256, .bf16⟩
  | 68 => ⟨S1x256, .f32⟩
  | 69 => ⟨S256, .f32⟩
  | 70 => ⟨S1x256, .f32⟩
  | 71 => ⟨S1x256x256, .f32⟩
  | 72 => ⟨S256x256, .f32⟩
  | 73 => ⟨S256x256, .bf16⟩
  | 74 => ⟨S1x256, .f32⟩
  | 75 => ⟨S256, .f32⟩
  | 76 => ⟨S1x256, .f32⟩
  | 77 => ⟨S1x256x256, .f32⟩
  | 78 => ⟨S256x256, .f32⟩
  | 79 => ⟨S256x256, .bf16⟩
  | 80 => ⟨S1x256, .f32⟩
  | 81 => ⟨S256, .f32⟩
  | 82 => ⟨S1x256, .f32⟩
  | 83 => ⟨S1x256x256, .f32⟩
  | 84 => ⟨S256x256, .f32⟩
  | 85 => ⟨S256x256, .bf16⟩
  | 86 => ⟨S1x256, .f32⟩
  | 87 => ⟨S256, .f32⟩
  | 88 => ⟨S1x256, .f32⟩
  | 89 => ⟨S1x256x256, .f32⟩
  | 90 => ⟨S256x256, .f32⟩
  | 91 => ⟨S256x256, .bf16⟩
  | 92 => ⟨S1x256, .f32⟩
  | 93 => ⟨S256, .f32⟩
  | 94 => ⟨S1x256, .f32⟩
  | 95 => ⟨S1x256x256, .f32⟩
  | 96 => ⟨S256x256, .f32⟩
  | 97 => ⟨S256x256, .bf16⟩
  | 98 => ⟨S1x256, .f32⟩
  | 99 => ⟨S256, .f32⟩
  | 100 => ⟨S1x256, .f32⟩
  | 101 => ⟨S1x256x2048, .f32⟩
  | 102 => ⟨S256x2048, .f32⟩
  | 103 => ⟨S256x2048, .bf16⟩
  | 104 => ⟨S1x2048, .f32⟩
  | 105 => ⟨S2048, .f32⟩
  | 106 => ⟨S1x2048, .f32⟩
  | 107 => ⟨S1x2048x256, .f32⟩
  | 108 => ⟨S2048x256, .f32⟩
  | 109 => ⟨S2048x256, .bf16⟩
  | 110 => ⟨S1x256, .f32⟩
  | 111 => ⟨S256, .f32⟩
  | 112 => ⟨S1x256, .f32⟩
  | 113 => ⟨S1x256, .f32⟩
  | 114 => ⟨S256, .f32⟩
  | 115 => ⟨S1x256, .f32⟩
  | 116 => ⟨S1x256, .f32⟩
  | 117 => ⟨S256, .f32⟩
  | 118 => ⟨S1x256, .f32⟩
  | 119 => ⟨S1x256, .f32⟩
  | 120 => ⟨S256, .f32⟩
  | 121 => ⟨S1x256, .f32⟩
  | 122 => ⟨S1x256, .f32⟩
  | 123 => ⟨S256, .f32⟩
  | 124 => ⟨S1x256, .f32⟩
  | 125 => ⟨S1x256, .f32⟩
  | 126 => ⟨S256, .f32⟩
  | 127 => ⟨S1x256, .f32⟩
  | _ => ⟨S300x2x256, .f32⟩

abbrev hbmTy0_1 (i : Nat) : BufTy := match i % 128 with
  | 0 => ⟨S1x256, .f32⟩
  | 1 => ⟨S256, .f32⟩
  | 2 => ⟨S1x256, .f32⟩
  | 3 => ⟨S2x300x256, .f32⟩
  | 4 => ⟨S2x300x300, .f32⟩
  | 5 => ⟨S1x256x256, .f32⟩
  | 6 => ⟨S256x256, .f32⟩
  | 7 => ⟨S256x256, .bf16⟩
  | 8 => ⟨S1x256, .f32⟩
  | 9 => ⟨S256, .f32⟩
  | 10 => ⟨S1x256, .f32⟩
  | 11 => ⟨S1x256x256, .f32⟩
  | 12 => ⟨S256x256, .f32⟩
  | 13 => ⟨S256x256, .bf16⟩
  | 14 => ⟨S1x256, .f32⟩
  | 15 => ⟨S256, .f32⟩
  | 16 => ⟨S1x256, .f32⟩
  | 17 => ⟨S1x256x256, .f32⟩
  | 18 => ⟨S256x256, .f32⟩
  | 19 => ⟨S256x256, .bf16⟩
  | 20 => ⟨S1x256, .f32⟩
  | 21 => ⟨S256, .f32⟩
  | 22 => ⟨S1x256, .f32⟩
  | 23 => ⟨S1x256x256, .f32⟩
  | 24 => ⟨S256x256, .f32⟩
  | 25 => ⟨S256x256, .bf16⟩
  | 26 => ⟨S1x256, .f32⟩
  | 27 => ⟨S256, .f32⟩
  | 28 => ⟨S1x256, .f32⟩
  | 29 => ⟨S1x256, .f32⟩
  | 30 => ⟨S256, .f32⟩
  | 31 => ⟨S1x256, .f32⟩
  | 32 => ⟨S1x256, .f32⟩
  | 33 => ⟨S256, .f32⟩
  | 34 => ⟨S1x256, .f32⟩
  | 35 => ⟨S2x300x256, .f32⟩
  | 36 => ⟨S1x256x256, .f32⟩
  | 37 => ⟨S256x256, .f32⟩
  | 38 => ⟨S256x256, .bf16⟩
  | 39 => ⟨S1x256, .f32⟩
  | 40 => ⟨S256, .f32⟩
  | 41 => ⟨S1x256, .f32⟩
  | 42 => ⟨S1x256x256, .f32⟩
  | 43 => ⟨S256x256, .f32⟩
  | 44 => ⟨S256x256, .bf16⟩
  | 45 => ⟨S1x256, .f32⟩
  | 46 => ⟨S256, .f32⟩
  | 47 => ⟨S1x256, .f32⟩
  | 48 => ⟨S1x256, .f32⟩
  | 49 => ⟨S256, .f32⟩
  | 50 => ⟨S1x256, .f32⟩
  | 51 => ⟨S1x256, .f32⟩
  | 52 => ⟨S256, .f32⟩
  | 53 => ⟨S1x256, .f32⟩
  | 54 => ⟨S2x300x256, .f32⟩
  | 55 => ⟨S2x300x4096, .f32⟩
  | 56 => ⟨S1x256x2048, .f32⟩
  | 57 => ⟨S256x2048, .f32⟩
  | 58 => ⟨S256x2048, .bf16⟩
  | 59 => ⟨S1x2048, .f32⟩
  | 60 => ⟨S2048, .f32⟩
  | 61 => ⟨S1x2048, .f32⟩
  | 62 => ⟨S1x2048x256, .f32⟩
  | 63 => ⟨S2048x256, .f32⟩
  | 64 => ⟨S2048x256, .bf16⟩
  | 65 => ⟨S1x256, .f32⟩
  | 66 => ⟨S256, .f32⟩
  | 67 => ⟨S1x256, .f32⟩
  | 68 => ⟨S1x256, .f32⟩
  | 69 => ⟨S256, .f32⟩
  | 70 => ⟨S1x256, .f32⟩
  | 71 => ⟨S1x256, .f32⟩
  | 72 => ⟨S256, .f32⟩
  | 73 => ⟨S1x256, .f32⟩
  | 74 => ⟨S1x256, .f32⟩
  | 75 => ⟨S1x256, .f32⟩
  | 76 => ⟨S2x300x256, .f32⟩
  | 77 => ⟨S300x2x256, .f32⟩
  | _ => ⟨S300x2x256, .f32⟩

abbrev hbmTy (i : Nat) : BufTy := match i / 128 with
  | 0 => hbmTy0_0 i
  | 1 => hbmTy0_1 i
  | _ => ⟨S300x2x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x512, .bf16⟩
  | .local _ .vmem, ⟨5, _⟩ => ⟨S1x512, .f32⟩
  | .local _ .vmem, ⟨6, _⟩ => ⟨S256x512, .bf16⟩
  | .local _ .vmem, ⟨7, _⟩ => ⟨S1x512, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x300x4, .f32⟩
  | .local _ .vmem, ⟨13, _⟩ => ⟨S1x300x4, .f32⟩
  | .local _ .vmem, ⟨14, _⟩ => ⟨S1x4x300, .f32⟩
  | .local _ .vmem, ⟨15, _⟩ => ⟨S1x4x300, .f32⟩
  | .local _ .vmem, ⟨16, _⟩ => ⟨S300x256, .f32⟩
  | .local _ .vmem, ⟨17, _⟩ => ⟨S300x256, .f32⟩
  | .local _ .vmem, ⟨18, _⟩ => ⟨S300x256, .f32⟩
  | .local _ .vmem, ⟨19, _⟩ => ⟨S300x256, .f32⟩
  | .local _ .vmem, ⟨20, _⟩ => ⟨S1x4096x256, .bf16⟩
  | .local _ .vmem, ⟨21, _⟩ => ⟨S1x4096x256, .bf16⟩
  | .local _ .vmem, ⟨22, _⟩ => ⟨S1x4096x256, .bf16⟩
  | .local _ .vmem, ⟨23, _⟩ => ⟨S1x4096x256, .bf16⟩
  | .local _ .vmem, ⟨24, _⟩ => ⟨S256x256, .bf16⟩
  | .local _ .vmem, ⟨25, _⟩ => ⟨S1x256, .f32⟩
  | .local _ .vmem, ⟨26, _⟩ => ⟨S256x256, .bf16⟩
  | .local _ .vmem, ⟨27, _⟩ => ⟨S1x256, .f32⟩
  | .local _ .vmem, ⟨28, _⟩ => ⟨S256x256, .bf16⟩
  | .local _ .vmem, ⟨29, _⟩ => ⟨S1x256, .f32⟩
  | .local _ .vmem, ⟨30, _⟩ => ⟨S256x256, .bf16⟩
  | .local _ .vmem, ⟨31, _⟩ => ⟨S1x256, .f32⟩
  | .local _ .vmem, ⟨32, _⟩ => ⟨S256x256, .bf16⟩
  | .local _ .vmem, ⟨33, _⟩ => ⟨S1x256, .f32⟩
  | .local _ .vmem, ⟨34, _⟩ => ⟨S256x256, .bf16⟩
  | .local _ .vmem, ⟨35, _⟩ => ⟨S1x256, .f32⟩
  | .local _ .vmem, ⟨36, _⟩ => ⟨S256x2048, .bf16⟩
  | .local _ .vmem, ⟨37, _⟩ => ⟨S1x2048, .f32⟩
  | .local _ .vmem, ⟨38, _⟩ => ⟨S2048x256, .bf16⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S1x300x256, .f32⟩
  | .local _ .vmem, ⟨47, _⟩ => ⟨S1x300x256, .f32⟩
  | .local _ .vmem, ⟨48, _⟩ => ⟨S1x300x300, .f32⟩
  | .local _ .vmem, ⟨49, _⟩ => ⟨S1x300x300, .f32⟩
  | .local _ .vmem, ⟨50, _⟩ => ⟨S1x300x256, .f32⟩
  | .local _ .vmem, ⟨51, _⟩ => ⟨S1x300x256, .f32⟩
  | .local _ .vmem, ⟨52, _⟩ => ⟨S300x256, .f32⟩
  | .local _ .vmem, ⟨53, _⟩ => ⟨S300x256, .f32⟩
  | .local _ .vmem, ⟨54, _⟩ => ⟨S1x300x300, .f32⟩
  | .local _ .vmem, ⟨55, _⟩ => ⟨S1x300x300, .f32⟩
  | .local _ .vmem, ⟨56, _⟩ => ⟨S256x256, .bf16⟩
  | .local _ .vmem, ⟨57, _⟩ => ⟨S1x256, .f32⟩
  | .local _ .vmem, ⟨58, _⟩ => ⟨S256x256, .bf16⟩
  | .local _ .vmem, ⟨59, _⟩ => ⟨S1x256, .f32⟩
  | .local _ .vmem, ⟨60, _⟩ => ⟨S256x256, .bf16⟩
  | .local _ .vmem, ⟨61, _⟩ => ⟨S1x256, .f32⟩
  | .local _ .vmem, ⟨62, _⟩ => ⟨S256x256, .bf16⟩
  | .local _ .vmem, ⟨63, _⟩ => ⟨S1x256, .f32⟩
  | .local _ .vmem, ⟨64, _⟩ => ⟨S1x256, .f32⟩
  | .local _ .vmem, ⟨65, _⟩ => ⟨S1x256, .f32⟩
  | .local _ .vmem, ⟨66, _⟩ => ⟨S1x300x256, .f32⟩
  | .local _ .vmem, ⟨67, _⟩ => ⟨S1x300x256, .f32⟩
  | .local _ .vmem, ⟨68, _⟩ => ⟨S1x300x256, .f32⟩
  | .local _ .vmem, ⟨69, _⟩ => ⟨S1x300x256, .f32⟩
  | .local _ .vmem, ⟨70, _⟩ => ⟨S300x256, .f32⟩
  | .local _ .vmem, ⟨71, _⟩ => ⟨S300x256, .f32⟩
  | .local _ .vmem, ⟨72, _⟩ => ⟨S1x4096x256, .bf16⟩
  | .local _ .vmem, ⟨73, _⟩ => ⟨S1x4096x256, .bf16⟩
  | .local _ .vmem, ⟨74, _⟩ => ⟨S1x4096x256, .bf16⟩
  | .local _ .vmem, ⟨75, _⟩ => ⟨S1x4096x256, .bf16⟩
  | .local _ .vmem, ⟨76, _⟩ => ⟨S256x256, .bf16⟩
  | .local _ .vmem, ⟨77, _⟩ => ⟨S1x256, .f32⟩
  | .local _ .vmem, ⟨78, _⟩ => ⟨S256x256, .bf16⟩
  | .local _ .vmem, ⟨79, _⟩ => ⟨S1x256, .f32⟩
  | .local _ .vmem, ⟨80, _⟩ => ⟨S1x256, .f32⟩
  | .local _ .vmem, ⟨81, _⟩ => ⟨S1x256, .f32⟩
  | .local _ .vmem, ⟨82, _⟩ => ⟨S1x300x256, .f32⟩
  | .local _ .vmem, ⟨83, _⟩ => ⟨S1x300x256, .f32⟩
  | .local _ .vmem, ⟨84, _⟩ => ⟨S1x300x4096, .f32⟩
  | .local _ .vmem, ⟨85, _⟩ => ⟨S1x300x4096, .f32⟩
  | .local _ .vmem, ⟨86, _⟩ => ⟨S1x300x256, .f32⟩
  | .local _ .vmem, ⟨87, _⟩ => ⟨S1x300x256, .f32⟩
  | .local _ .vmem, ⟨88, _⟩ => ⟨S256x2048, .bf16⟩
  | .local _ .vmem, ⟨89, _⟩ => ⟨S1x2048, .f32⟩
  | .local _ .vmem, ⟨90, _⟩ => ⟨S2048x256, .bf16⟩
  | .local _ .vmem, ⟨91, _⟩ => ⟨S1x256, .f32⟩
  | .local _ .vmem, ⟨92, _⟩ => ⟨S1x256, .f32⟩
  | .local _ .vmem, ⟨93, _⟩ => ⟨S1x256, .f32⟩
  | .local _ .vmem, ⟨94, _⟩ => ⟨S1x256, .f32⟩
  | .local _ .vmem, ⟨95, _⟩ => ⟨S1x256, .f32⟩
  | .local _ .vmem, ⟨96, _⟩ => ⟨S1x300x256, .f32⟩
  | .local _ .vmem, ⟨97, _⟩ => ⟨S1x300x256, .f32⟩
  | _, _ => ⟨S300x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30_0 : Ref sig .tc := ⟨.hbm, 63, rfl⟩
abbrev main_v30_1 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97_0 : Ref sig .tc := ⟨.hbm, 131, rfl⟩
abbrev main_v97_1 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147_0 : Ref sig .tc := ⟨.hbm, 182, rfl⟩
abbrev main_v147_1 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg14_0 : Ref sig .tc := ⟨.vmem, 32, rfl⟩
abbrev cc1_stg15_0 : Ref sig .tc := ⟨.vmem, 33, rfl⟩
abbrev cc1_stg16_0 : Ref sig .tc := ⟨.vmem, 34, rfl⟩
abbrev cc1_stg17_0 : Ref sig .tc := ⟨.vmem, 35, rfl⟩
abbrev cc1_stg18_0 : Ref sig .tc := ⟨.vmem, 36, rfl⟩
abbrev cc1_stg19_0 : Ref sig .tc := ⟨.vmem, 37, rfl⟩
abbrev cc1_stg20_0 : Ref sig .tc := ⟨.vmem, 38, rfl⟩
abbrev cc1_stg21_0 : Ref sig .tc := ⟨.vmem, 39, rfl⟩
abbrev cc1_stg22_0 : Ref sig .tc := ⟨.vmem, 40, rfl⟩
abbrev cc1_stg23_0 : Ref sig .tc := ⟨.vmem, 41, rfl⟩
abbrev cc1_stg24_0 : Ref sig .tc := ⟨.vmem, 42, rfl⟩
abbrev cc1_stg25_0 : Ref sig .tc := ⟨.vmem, 43, rfl⟩
abbrev cc1_stg26_0 : Ref sig .tc := ⟨.vmem, 44, rfl⟩
abbrev cc1_stg27_0 : Ref sig .tc := ⟨.vmem, 45, rfl⟩
abbrev cc1_stg28_0 : Ref sig .tc := ⟨.vmem, 46, rfl⟩
abbrev cc1_stg28_1 : Ref sig .tc := ⟨.vmem, 47, rfl⟩
abbrev cc1_stg29_0 : Ref sig .tc := ⟨.vmem, 48, rfl⟩
abbrev cc1_stg29_1 : Ref sig .tc := ⟨.vmem, 49, rfl⟩
abbrev cc2_stg0_0 : Ref sig .tc := ⟨.vmem, 50, rfl⟩
abbrev cc2_stg0_1 : Ref sig .tc := ⟨.vmem, 51, rfl⟩
abbrev cc2_stg1_0 : Ref sig .tc := ⟨.vmem, 52, rfl⟩
abbrev cc2_stg1_1 : Ref sig .tc := ⟨.vmem, 53, rfl⟩
abbrev cc2_stg2_0 : Ref sig .tc := ⟨.vmem, 54, rfl⟩
abbrev cc2_stg2_1 : Ref sig .tc := ⟨.vmem, 55, rfl⟩
abbrev cc2_stg3_0 : Ref sig .tc := ⟨.vmem, 56, rfl⟩
abbrev cc2_stg4_0 : Ref sig .tc := ⟨.vmem, 57, rfl⟩
abbrev cc2_stg5_0 : Ref sig .tc := ⟨.vmem, 58, rfl⟩
abbrev cc2_stg6_0 : Ref sig .tc := ⟨.vmem, 59, rfl⟩
abbrev cc2_stg7_0 : Ref sig .tc := ⟨.vmem, 60, rfl⟩
abbrev cc2_stg8_0 : Ref sig .tc := ⟨.vmem, 61, rfl⟩
abbrev cc2_stg9_0 : Ref sig .tc := ⟨.vmem, 62, rfl⟩
abbrev cc2_stg10_0 : Ref sig .tc := ⟨.vmem, 63, rfl⟩
abbrev cc2_stg11_0 : Ref sig .tc := ⟨.vmem, 64, rfl⟩
abbrev cc2_stg12_0 : Ref sig .tc := ⟨.vmem, 65, rfl⟩
abbrev cc2_stg13_0 : Ref sig .tc := ⟨.vmem, 66, rfl⟩
abbrev cc2_stg13_1 : Ref sig .tc := ⟨.vmem, 67, rfl⟩
abbrev cc3_stg0_0 : Ref sig .tc := ⟨.vmem, 68, rfl⟩
abbrev cc3_stg0_1 : Ref sig .tc := ⟨.vmem, 69, rfl⟩
abbrev cc3_stg1_0 : Ref sig .tc := ⟨.vmem, 70, rfl⟩
abbrev cc3_stg1_1 : Ref sig .tc := ⟨.vmem, 71, rfl⟩
abbrev cc3_stg2_0 : Ref sig .tc := ⟨.vmem, 72, rfl⟩
abbrev cc3_stg2_1 : Ref sig .tc := ⟨.vmem, 73, rfl⟩
abbrev cc3_stg3_0 : Ref sig .tc := ⟨.vmem, 74, rfl⟩
abbrev cc3_stg3_1 : Ref sig .tc := ⟨.vmem, 75, rfl⟩
abbrev cc3_stg4_0 : Ref sig .tc := ⟨.vmem, 76, rfl⟩
abbrev cc3_stg5_0 : Ref sig .tc := ⟨.vmem, 77, rfl⟩
abbrev cc3_stg6_0 : Ref sig .tc := ⟨.vmem, 78, rfl⟩
abbrev cc3_stg7_0 : Ref sig .tc := ⟨.vmem, 79, rfl⟩
abbrev cc3_stg8_0 : Ref sig .tc := ⟨.vmem, 80, rfl⟩
abbrev cc3_stg9_0 : Ref sig .tc := ⟨.vmem, 81, rfl⟩
abbrev cc3_stg10_0 : Ref sig .tc := ⟨.vmem, 82, rfl⟩
abbrev cc3_stg10_1 : Ref sig .tc := ⟨.vmem, 83, rfl⟩
abbrev cc3_stg11_0 : Ref sig .tc := ⟨.vmem, 84, rfl⟩
abbrev cc3_stg11_1 : Ref sig .tc := ⟨.vmem, 85, rfl⟩
abbrev cc4_stg0_0 : Ref sig .tc := ⟨.vmem, 86, rfl⟩
abbrev cc4_stg0_1 : Ref sig .tc := ⟨.vmem, 87, rfl⟩
abbrev cc4_stg1_0 : Ref sig .tc := ⟨.vmem, 88, rfl⟩
abbrev cc4_stg2_0 : Ref sig .tc := ⟨.vmem, 89, rfl⟩
abbrev cc4_stg3_0 : Ref sig .tc := ⟨.vmem, 90, rfl⟩
abbrev cc4_stg4_0 : Ref sig .tc := ⟨.vmem, 91, rfl⟩
abbrev cc4_stg5_0 : Ref sig .tc := ⟨.vmem, 92, rfl⟩
abbrev cc4_stg6_0 : Ref sig .tc := ⟨.vmem, 93, rfl⟩
abbrev cc4_stg7_0 : Ref sig .tc := ⟨.vmem, 94, rfl⟩
abbrev cc4_stg8_0 : Ref sig .tc := ⟨.vmem, 95, rfl⟩
abbrev cc4_stg9_0 : Ref sig .tc := ⟨.vmem, 96, rfl⟩
abbrev cc4_stg9_1 : Ref sig .tc := ⟨.vmem, 97, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem15_0 : DmaSem sig := 33
abbrev cc1_sem16_0 : DmaSem sig := 34
abbrev cc1_sem17_0 : DmaSem sig := 35
abbrev cc1_sem18_0 : DmaSem sig := 36
abbrev cc1_sem19_0 : DmaSem sig := 37
abbrev cc1_sem20_0 : DmaSem sig := 38
abbrev cc1_sem21_0 : DmaSem sig := 39
abbrev cc1_sem22_0 : DmaSem sig := 40
abbrev cc1_sem23_0 : DmaSem sig := 41
abbrev cc1_sem24_0 : DmaSem sig := 42
abbrev cc1_sem25_0 : DmaSem sig := 43
abbrev cc1_sem26_0 : DmaSem sig := 44
abbrev cc1_sem27_0 : DmaSem sig := 45
abbrev cc1_sem28_0 : DmaSem sig := 46
abbrev cc1_sem28_1 : DmaSem sig := 47
abbrev cc1_sem29_0 : DmaSem sig := 48
abbrev cc1_sem29_1 : DmaSem sig := 49
abbrev cc2_sem0_0 : DmaSem sig := 50
abbrev cc2_sem0_1 : DmaSem sig := 51
abbrev cc2_sem1_0 : DmaSem sig := 52
abbrev cc2_sem1_1 : DmaSem sig := 53
abbrev cc2_sem2_0 : DmaSem sig := 54
abbrev cc2_sem2_1 : DmaSem sig := 55
abbrev cc2_sem3_0 : DmaSem sig := 56
abbrev cc2_sem4_0 : DmaSem sig := 57
abbrev cc2_sem5_0 : DmaSem sig := 58
abbrev cc2_sem6_0 : DmaSem sig := 59
abbrev cc2_sem7_0 : DmaSem sig := 60
abbrev cc2_sem8_0 : DmaSem sig := 61
abbrev cc2_sem9_0 : DmaSem sig := 62
abbrev cc2_sem10_0 : DmaSem sig := 63
abbrev cc2_sem11_0 : DmaSem sig := 64
abbrev cc2_sem12_0 : DmaSem sig := 65
abbrev cc2_sem13_0 : DmaSem sig := 66
abbrev cc2_sem13_1 : DmaSem sig := 67
abbrev cc3_sem0_0 : DmaSem sig := 68
abbrev cc3_sem0_1 : DmaSem sig := 69
abbrev cc3_sem1_0 : DmaSem sig := 70
abbrev cc3_sem1_1 : DmaSem sig := 71
abbrev cc3_sem2_0 : DmaSem sig := 72
abbrev cc3_sem2_1 : DmaSem sig := 73
abbrev cc3_sem3_0 : DmaSem sig := 74
abbrev cc3_sem3_1 : DmaSem sig := 75
abbrev cc3_sem4_0 : DmaSem sig := 76
abbrev cc3_sem5_0 : DmaSem sig := 77
abbrev cc3_sem6_0 : DmaSem sig := 78
abbrev cc3_sem7_0 : DmaSem sig := 79
abbrev cc3_sem8_0 : DmaSem sig := 80
abbrev cc3_sem9_0 : DmaSem sig := 81
abbrev cc3_sem10_0 : DmaSem sig := 82
abbrev cc3_sem10_1 : DmaSem sig := 83
abbrev cc3_sem11_0 : DmaSem sig := 84
abbrev cc3_sem11_1 : DmaSem sig := 85
abbrev cc4_sem0_0 : DmaSem sig := 86
abbrev cc4_sem0_1 : DmaSem sig := 87
abbrev cc4_sem1_0 : DmaSem sig := 88
abbrev cc4_sem2_0 : DmaSem sig := 89
abbrev cc4_sem3_0 : DmaSem sig := 90
abbrev cc4_sem4_0 : DmaSem sig := 91
abbrev cc4_sem5_0 : DmaSem sig := 92
abbrev cc4_sem6_0 : DmaSem sig := 93
abbrev cc4_sem7_0 : DmaSem sig := 94
abbrev cc4_sem8_0 : DmaSem sig := 95
abbrev cc4_sem9_0 : DmaSem sig := 96
abbrev cc4_sem9_1 : DmaSem sig := 97

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![2], ![false]⟩

@[reducible] def k1_t1_loop : Scf.Loop 32 :=
  let c0_i32_32 : BitVec 32 := 0#32
  let c300_i32 : BitVec 32 := 300#32
  let v104 : BitVec 32 := Scalar.addi c0_i32_32 c300_i32
  let c1_i32 : BitVec 32 := 1#32
  ⟨c0_i32_32, v104, c1_i32⟩
@[reducible] def k1_t2_loop : Scf.Loop 32 :=
  let c0_i32_35 : BitVec 32 := 0#32
  let c31_i32 : BitVec 32 := 31#32
  let v108 : BitVec 32 := Scalar.addi c0_i32_35 c31_i32
  let c1_i32_36 : BitVec 32 := 1#32
  ⟨c0_i32_35, v108, c1_i32_36⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_27 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_28 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_29 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x300x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S300x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S300x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x4096x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256x256 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x256 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S256x256 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S256x2048 .bf16 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x2048 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S2048x256 .bf16 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x256 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x256 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x256 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S1x256 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 1 → Memref sig .tc .vmem S1x256 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false]

abbrev stage1_27 : Fin 1 → Memref sig .tc .vmem S1x256 .f32 := fun | 0 => Memref.whole cc1_stg27_0 | ⟨_ + 1, h⟩ => absurd h (Nat.not_lt.2 (Nat.le_add_left _ _))
abbrev sem1_27 : Fin 1 → DmaSem sig := fun | 0 => cc1_sem27_0 | ⟨_ + 1, h⟩ => absurd h (Nat.not_lt.2 (Nat.le_add_left _ _))
abbrev reads1_27 : Fin grid1.rank → Bool := ![false]

abbrev stage1_28 : Fin 2 → Memref sig .tc .vmem S1x300x256 .f32 := fun | 0 => Memref.whole cc1_stg28_0 | 1 => Memref.whole cc1_stg28_1 | ⟨_ + 2, h⟩ => absurd h (Nat.not_lt.2 (Nat.le_add_left _ _))
abbrev sem1_28 : Fin 2 → DmaSem sig := fun | 0 => cc1_sem28_0 | 1 => cc1_sem28_1 | ⟨_ + 2, h⟩ => absurd h (Nat.not_lt.2 (Nat.le_add_left _ _))
abbrev reads1_28 : Fin grid1.rank → Bool := ![true]

abbrev stage1_29 : Fin 2 → Memref sig .tc .vmem S1x300x300 .f32 := fun | 0 => Memref.whole cc1_stg29_0 | 1 => Memref.whole cc1_stg29_1 | ⟨_ + 2, h⟩ => absurd h (Nat.not_lt.2 (Nat.le_add_left _ _))
abbrev sem1_29 : Fin 2 → DmaSem sig := fun | 0 => cc1_sem29_0 | 1 => cc1_sem29_1 | ⟨_ + 2, h⟩ => absurd h (Nat.not_lt.2 (Nat.le_add_left _ _))
abbrev reads1_29 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x300x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S300x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x300x300 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x256 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S1x300x256 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc3_transform_3 (i : grid3.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x300x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S300x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x4096x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x4096x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1x300x256 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1x300x4096 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![2], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x300x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S1x300x256 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]
-- ==== KernelIdeal.lean ====
variable {F : FTy → Type} [FloatOps F] [Named F]
def κ : String → Option EReal := fun
  | "s" => some (((Real.sqrt 32)⁻¹ : ℝ) : EReal)
  | _ => none
-- ==== ReferenceIdeal.lean ====
abbrev S300x2x256 : Shape := ⟨3, ![300, 2, 256]⟩
abbrev S4096x2x256 : Shape := ⟨3, ![4096, 2, 256]⟩
abbrev S300x2x4 : Shape := ⟨3, ![300, 2, 4]⟩
abbrev S2x256x256 : Shape := ⟨3, ![2, 256, 256]⟩
abbrev S2x256 : Shape := ⟨2, ![2, 256]⟩
abbrev S2x256x2048 : Shape := ⟨3, ![2, 256, 2048]⟩
abbrev S2x2048 : Shape := ⟨2, ![2, 2048]⟩
abbrev S2x2048x256 : Shape := ⟨3, ![2, 2048, 256]⟩
abbrev S256 : Shape := ⟨1, ![256]⟩
abbrev S2x300x256 : Shape := ⟨3, ![2, 300, 256]⟩
abbrev S2x4096x256 : Shape := ⟨3, ![2, 4096, 256]⟩
abbrev S2x300x4 : Shape := ⟨3, ![2, 300, 4]⟩
abbrev S_ : Shape := ⟨0, ![]⟩
abbrev S2x300x1 : Shape := ⟨3, ![2, 300, 1]⟩
abbrev S2x300 : Shape := ⟨2, ![2, 300]⟩
abbrev S2x1x300 : Shape := ⟨3, ![2, 1, 300]⟩
abbrev S2x300x300 : Shape := ⟨3, ![2, 300, 300]⟩
abbrev S2x300x100 : Shape := ⟨3, ![2, 300, 100]⟩
abbrev S2x300x100x1 : Shape := ⟨4, ![2, 300, 100, 1]⟩
abbrev S300 : Shape := ⟨1, ![300]⟩
abbrev S1x1x1x300 : Shape := ⟨4, ![1, 1, 1, 300]⟩
abbrev S2x300x100x300 : Shape := ⟨4, ![2, 300, 100, 300]⟩
abbrev S1x256x256 : Shape := ⟨3, ![1, 256, 256]⟩
abbrev S256x256 : Shape := ⟨2, ![256, 256]⟩
abbrev S1x256 : Shape := ⟨2, ![1, 256]⟩
abbrev S1x1x256 : Shape := ⟨3, ![1, 1, 256]⟩
abbrev S2x300x8x32 : Shape := ⟨4, ![2, 300, 8, 32]⟩
abbrev S2x8x300x32 : Shape := ⟨4, ![2, 8, 300, 32]⟩
abbrev S2x8x300x300 : Shape := ⟨4, ![2, 8, 300, 300]⟩
abbrev S2x1x300x300 : Shape := ⟨4, ![2, 1, 300, 300]⟩
abbrev S2x8x300 : Shape := ⟨3, ![2, 8, 300]⟩
abbrev S2x8x300x1 : Shape := ⟨4, ![2, 8, 300, 1]⟩
abbrev S2x4096x8x32 : Shape := ⟨4, ![2, 4096, 8, 32]⟩
abbrev S2x8x4096x32 : Shape := ⟨4, ![2, 8, 4096, 32]⟩
abbrev S2x8x300x4096 : Shape := ⟨4, ![2, 8, 300, 4096]⟩
abbrev S2x300x4096 : Shape := ⟨3, ![2, 300, 4096]⟩
abbrev S1x256x2048 : Shape := ⟨3, ![1, 256, 2048]⟩
abbrev S256x2048 : Shape := ⟨2, ![256, 2048]⟩
abbrev S2x300x2048 : Shape := ⟨3, ![2, 300, 2048]⟩
abbrev S1x2048 : Shape := ⟨2, ![1, 2048]⟩
abbrev S2048 : Shape := ⟨1, ![2048]⟩
abbrev S1x1x2048 : Shape := ⟨3, ![1, 1, 2048]⟩
abbrev S1x2048x256 : Shape := ⟨3, ![1, 2048, 256]⟩
abbrev S2048x256 : Shape := ⟨2, ![2048, 256]⟩

abbrev nBuf : Space → Nat
  | .hbm => 721
  | .vmem => 0
  | .smem => 0
  | _ => 0

abbrev hbmTy0_0 (i : Nat) : BufTy := match i % 128 with
  | 0 => ⟨S300x2x256, .f32⟩
  | 1 => ⟨S4096x2x256, .f32⟩
  | 2 => ⟨S4096x2x256, .f32⟩
  | 3 => ⟨S300x2x256, .f32⟩
  | 4 => ⟨S300x2x4, .f32⟩
  | 5 => ⟨S2x256x256, .f32⟩
  | 6 => ⟨S2x256, .f32⟩
  | 7 => ⟨S2x256x256, .f32⟩
  | 8 => ⟨S2x256, .f32⟩
  | 9 => ⟨S2x256x256, .f32⟩
  | 10 => ⟨S2x256, .f32⟩
  | 11 => ⟨S2x256x256, .f32⟩
  | 12 => ⟨S2x256, .f32⟩
  | 13 => ⟨S2x256x256, .f32⟩
  | 14 => ⟨S2x256, .f32⟩
  | 15 => ⟨S2x256x256, .f32⟩
  | 16 => ⟨S2x256, .f32⟩
  | 17 => ⟨S2x256x256, .f32⟩
  | 18 => ⟨S2x256, .f32⟩
  | 19 => ⟨S2x256x256, .f32⟩
  | 20 => ⟨S2x256, .f32⟩
  | 21 => ⟨S2x256x2048, .f32⟩
  | 22 => ⟨S2x2048, .f32⟩
  | 23 => ⟨S2x2048x256, .f32⟩
  | 24 => ⟨S2x256, .f32⟩
  | 25 => ⟨S2x256, .f32⟩
  | 26 => ⟨S2x256, .f32⟩
  | 27 => ⟨S2x256, .f32⟩
  | 28 => ⟨S2x256, .f32⟩
  | 29 => ⟨S2x256, .f32⟩
  | 30 => ⟨S2x256, .f32⟩
  | 31 => ⟨S256, .f32⟩
  | 32 => ⟨S256, .f32⟩
  | 33 => ⟨S2x300x256, .f32⟩
  | 34 => ⟨S2x4096x256, .f32⟩
  | 35 => ⟨S2x4096x256, .f32⟩
  | 36 => ⟨S2x300x256, .f32⟩
  | 37 => ⟨S2x300x4, .f32⟩
  | 38 => ⟨S2x300x4, .f32⟩
  | 39 => ⟨S2x300x4, .f32⟩
  | 40 => ⟨S_, .f32⟩
  | 41 => ⟨S2x300x4, .f32⟩
  | 42 => ⟨S2x300x4, .f32⟩
  | 43 => ⟨S_, .f32⟩
  | 44 => ⟨S2x300x4, .f32⟩
  | 45 => ⟨S2x300x4, .f32⟩
  | 46 => ⟨S2x300x1, .f32⟩
  | 47 => ⟨S2x300, .f32⟩
  | 48 => ⟨S2x300x1, .f32⟩
  | 49 => ⟨S2x300, .f32⟩
  | 50 => ⟨S2x300x1, .f32⟩
  | 51 => ⟨S2x300, .f32⟩
  | 52 => ⟨S2x300x1, .f32⟩
  | 53 => ⟨S2x300, .f32⟩
  | 54 => ⟨S_, .f32⟩
  | 55 => ⟨S2x300, .f32⟩
  | 56 => ⟨S2x300, .f32⟩
  | 57 => ⟨S2x300, .f32⟩
  | 58 => ⟨S_, .f32⟩
  | 59 => ⟨S2x300, .f32⟩
  | 60 => ⟨S2x300, .f32⟩
  | 61 => ⟨S2x300, .f32⟩
  | 62 => ⟨S_, .f32⟩
  | 63 => ⟨S2x300, .f32⟩
  | 64 => ⟨S2x300, .f32⟩
  | 65 => ⟨S2x300, .f32⟩
  | 66 => ⟨S_, .f32⟩
  | 67 => ⟨S2x300, .f32⟩
  | 68 => ⟨S2x300, .f32⟩
  | 69 => ⟨S2x300, .f32⟩
  | 70 => ⟨S2x300, .f32⟩
  | 71 => ⟨S2x300, .f32⟩
  | 72 => ⟨S2x300, .f32⟩
  | 73 => ⟨S2x300x1, .f32⟩
  | 74 => ⟨S2x1x300, .f32⟩
  | 75 => ⟨S2x300x300, .f32⟩
  | 76 => ⟨S2x300x300, .f32⟩
  | 77 => ⟨S2x300x300, .f32⟩
  | 78 => ⟨S2x300x1, .f32⟩
  | 79 => ⟨S2x1x300, .f32⟩
  | 80 => ⟨S2x300x300, .f32⟩
  | 81 => ⟨S2x300x300, .f32⟩
  | 82 => ⟨S2x300x300, .f32⟩
  | 83 => ⟨S2x300x300, .f32⟩
  | 84 => ⟨S_, .f32⟩
  | 85 => ⟨S_, .f32⟩
  | 86 => ⟨S2x300x300, .f32⟩
  | 87 => ⟨S2x300x300, .f32⟩
  | 88 => ⟨S2x300x1, .f32⟩
  | 89 => ⟨S2x1x300, .f32⟩
  | 90 => ⟨S2x300x300, .f32⟩
  | 91 => ⟨S2x300x300, .f32⟩
  | 92 => ⟨S2x300x300, .f32⟩
  | 93 => ⟨S2x300x1, .f32⟩
  | 94 => ⟨S2x1x300, .f32⟩
  | 95 => ⟨S2x300x300, .f32⟩
  | 96 => ⟨S2x300x300, .f32⟩
  | 97 => ⟨S2x300x300, .f32⟩
  | 98 => ⟨S2x300x300, .f32⟩
  | 99 => ⟨S_, .f32⟩
  | 100 => ⟨S_, .f32⟩
  | 101 => ⟨S2x300x300, .f32⟩
  | 102 => ⟨S2x300x300, .f32⟩
  | 103 => ⟨S2x300x300, .f32⟩
  | 104 => ⟨S2x300x1, .f32⟩
  | 105 => ⟨S2x1x300, .f32⟩
  | 106 => ⟨S2x300x300, .f32⟩
  | 107 => ⟨S2x300x300, .f32⟩
  | 108 => ⟨S2x300x300, .f32⟩
  | 109 => ⟨S2x300x300, .f32⟩
  | 110 => ⟨S2x300x300, .f32⟩
  | 111 => ⟨S2x300x1, .f32⟩
  | 112 => ⟨S2x1x300, .f32⟩
  | 113 => ⟨S2x300x300, .f32⟩
  | 114 => ⟨S2x300x300, .f32⟩
  | 115 => ⟨S2x300x300, .f32⟩
  | 116 => ⟨S2x300x1, .f32⟩
  | 117 => ⟨S2x1x300, .f32⟩
  | 118 => ⟨S2x300x300, .f32⟩
  | 119 => ⟨S2x300x300, .f32⟩
  | 120 => ⟨S2x300x300, .f32⟩
  | 121 => ⟨S2x300x300, .f32⟩
  | 122 => ⟨S_, .f32⟩
  | 123 => ⟨S_, .f32⟩
  | 124 => ⟨S2x300x300, .f32⟩
  | 125 => ⟨S2x300x300, .f32⟩
  | 126 => ⟨S2x300x1, .f32⟩
  | 127 => ⟨S2x1x300, .f32⟩
  | _ => ⟨S300x2x256, .f32⟩

abbrev hbmTy0_1 (i : Nat) : BufTy := match i % 128 with
  | 0 => ⟨S2x300x300, .f32⟩
  | 1 => ⟨S2x300x300, .f32⟩
  | 2 => ⟨S2x300x300, .f32⟩
  | 3 => ⟨S2x300x1, .f32⟩
  | 4 => ⟨S2x1x300, .f32⟩
  | 5 => ⟨S2x300x300, .f32⟩
  | 6 => ⟨S2x300x300, .f32⟩
  | 7 => ⟨S2x300x300, .f32⟩
  | 8 => ⟨S2x300x300, .f32⟩
  | 9 => ⟨S_, .f32⟩
  | 10 => ⟨S_, .f32⟩
  | 11 => ⟨S2x300x300, .f32⟩
  | 12 => ⟨S2x300x300, .f32⟩
  | 13 => ⟨S2x300x300, .f32⟩
  | 14 => ⟨S2x300x300, .f32⟩
  | 15 => ⟨S2x300x300, .f32⟩
  | 16 => ⟨S2x300x300, .f32⟩
  | 17 => ⟨S_, .f32⟩
  | 18 => ⟨S2x300x300, .f32⟩
  | 19 => ⟨S2x300x300, .f32⟩
  | 20 => ⟨S2x300x300, .i32⟩
  | 21 => ⟨S2x300x300, .f32⟩
  | 22 => ⟨S2x300x300, .i32⟩
  | 23 => ⟨S2x300x100, .i32⟩
  | 24 => ⟨S2x300x100x1, .i32⟩
  | 25 => ⟨S300, .i32⟩
  | 26 => ⟨S1x1x1x300, .i32⟩
  | 27 => ⟨S2x300x100x300, .i32⟩
  | 28 => ⟨S2x300x100x300, .i32⟩
  | 29 => ⟨S2x300x100x300, .i1⟩
  | 30 => ⟨S_, .i1⟩
  | 31 => ⟨S2x300x300, .i1⟩
  | 32 => ⟨S2x300x300, .f32⟩
  | 33 => ⟨S2x300x256, .f32⟩
  | 34 => ⟨S1x256x256, .f32⟩
  | 35 => ⟨S256x256, .f32⟩
  | 36 => ⟨S1x256, .f32⟩
  | 37 => ⟨S256, .f32⟩
  | 38 => ⟨S1x256x256, .f32⟩
  | 39 => ⟨S256x256, .f32⟩
  | 40 => ⟨S1x256, .f32⟩
  | 41 => ⟨S256, .f32⟩
  | 42 => ⟨S1x256x256, .f32⟩
  | 43 => ⟨S256x256, .f32⟩
  | 44 => ⟨S1x256, .f32⟩
  | 45 => ⟨S256, .f32⟩
  | 46 => ⟨S1x256x256, .f32⟩
  | 47 => ⟨S256x256, .f32⟩
  | 48 => ⟨S1x256, .f32⟩
  | 49 => ⟨S256, .f32⟩
  | 50 => ⟨S2x300x256, .f32⟩
  | 51 => ⟨S1x1x256, .f32⟩
  | 52 => ⟨S2x300x256, .f32⟩
  | 53 => ⟨S2x300x256, .f32⟩
  | 54 => ⟨S2x300x8x32, .f32⟩
  | 55 => ⟨S2x8x300x32, .f32⟩
  | 56 => ⟨S2x300x256, .f32⟩
  | 57 => ⟨S1x1x256, .f32⟩
  | 58 => ⟨S2x300x256, .f32⟩
  | 59 => ⟨S2x300x256, .f32⟩
  | 60 => ⟨S2x300x8x32, .f32⟩
  | 61 => ⟨S2x8x300x32, .f32⟩
  | 62 => ⟨S2x300x256, .f32⟩
  | 63 => ⟨S1x1x256, .f32⟩
  | 64 => ⟨S2x300x256, .f32⟩
  | 65 => ⟨S2x300x256, .f32⟩
  | 66 => ⟨S2x300x8x32, .f32⟩
  | 67 => ⟨S2x8x300x32, .f32⟩
  | 68 => ⟨S2x8x300x300, .f32⟩
  | 69 => ⟨S_, .f32⟩
  | 70 => ⟨S_, .f32⟩
  | 71 => ⟨S_, .f32⟩
  | 72 => ⟨S2x8x300x300, .f32⟩
  | 73 => ⟨S2x8x300x300, .f32⟩
  | 74 => ⟨S2x1x300x300, .f32⟩
  | 75 => ⟨S_, .f32⟩
  | 76 => ⟨S2x1x300x300, .f32⟩
  | 77 => ⟨S2x1x300x300, .i1⟩
  | 78 => ⟨S_, .f32⟩
  | 79 => ⟨S_, .f32⟩
  | 80 => ⟨S2x8x300x300, .i1⟩
  | 81 => ⟨S2x8x300x300, .f32⟩
  | 82 => ⟨S2x8x300x300, .f32⟩
  | 83 => ⟨S_, .f32⟩
  | 84 => ⟨S2x8x300, .f32⟩
  | 85 => ⟨S2x8x300x1, .f32⟩
  | 86 => ⟨S2x8x300x300, .f32⟩
  | 87 => ⟨S2x8x300x300, .f32⟩
  | 88 => ⟨S2x8x300x300, .f32⟩
  | 89 => ⟨S_, .f32⟩
  | 90 => ⟨S2x8x300, .f32⟩
  | 91 => ⟨S2x8x300x1, .f32⟩
  | 92 => ⟨S_, .f32⟩
  | 93 => ⟨S2x8x300x1, .f32⟩
  | 94 => ⟨S2x8x300x1, .f32⟩
  | 95 => ⟨S2x8x300x300, .f32⟩
  | 96 => ⟨S2x8x300x300, .f32⟩
  | 97 => ⟨S2x8x300x32, .f32⟩
  | 98 => ⟨S2x300x8x32, .f32⟩
  | 99 => ⟨S2x300x256, .f32⟩
  | 100 => ⟨S2x300x256, .f32⟩
  | 101 => ⟨S1x1x256, .f32⟩
  | 102 => ⟨S2x300x256, .f32⟩
  | 103 => ⟨S2x300x256, .f32⟩
  | 104 => ⟨S_, .f32⟩
  | 105 => ⟨S2x300x300, .f32⟩
  | 106 => ⟨S_, .f32⟩
  | 107 => ⟨S2x300x300, .f32⟩
  | 108 => ⟨S2x300x300, .f32⟩
  | 109 => ⟨S2x300x256, .f32⟩
  | 110 => ⟨S1x256, .f32⟩
  | 111 => ⟨S256, .f32⟩
  | 112 => ⟨S1x256, .f32⟩
  | 113 => ⟨S256, .f32⟩
  | 114 => ⟨S_, .f32⟩
  | 115 => ⟨S2x300, .f32⟩
  | 116 => ⟨S2x300x1, .f32⟩
  | 117 => ⟨S_, .f32⟩
  | 118 => ⟨S2x300x1, .f32⟩
  | 119 => ⟨S2x300x1, .f32⟩
  | 120 => ⟨S2x300x256, .f32⟩
  | 121 => ⟨S2x300x256, .f32⟩
  | 122 => ⟨S2x300x256, .f32⟩
  | 123 => ⟨S_, .f32⟩
  | 124 => ⟨S2x300, .f32⟩
  | 125 => ⟨S2x300x1, .f32⟩
  | 126 => ⟨S_, .f32⟩
  | 127 => ⟨S2x300x1, .f32⟩
  | _ => ⟨S300x2x256, .f32⟩

abbrev hbmTy0_2 (i : Nat) : BufTy := match i % 128 with
  | 0 => ⟨S2x300x1, .f32⟩
  | 1 => ⟨S2x300x256, .f32⟩
  | 2 => ⟨S2x300x256, .f32⟩
  | 3 => ⟨S_, .f32⟩
  | 4 => ⟨S2x300x1, .f32⟩
  | 5 => ⟨S2x300x1, .f32⟩
  | 6 => ⟨S2x300x1, .f32⟩
  | 7 => ⟨S2x300x256, .f32⟩
  | 8 => ⟨S2x300x256, .f32⟩
  | 9 => ⟨S1x1x256, .f32⟩
  | 10 => ⟨S2x300x256, .f32⟩
  | 11 => ⟨S2x300x256, .f32⟩
  | 12 => ⟨S1x1x256, .f32⟩
  | 13 => ⟨S2x300x256, .f32⟩
  | 14 => ⟨S2x300x256, .f32⟩
  | 15 => ⟨S2x300x256, .f32⟩
  | 16 => ⟨S2x4096x256, .f32⟩
  | 17 => ⟨S1x256x256, .f32⟩
  | 18 => ⟨S256x256, .f32⟩
  | 19 => ⟨S1x256, .f32⟩
  | 20 => ⟨S256, .f32⟩
  | 21 => ⟨S1x256x256, .f32⟩
  | 22 => ⟨S256x256, .f32⟩
  | 23 => ⟨S1x256, .f32⟩
  | 24 => ⟨S256, .f32⟩
  | 25 => ⟨S1x256x256, .f32⟩
  | 26 => ⟨S256x256, .f32⟩
  | 27 => ⟨S1x256, .f32⟩
  | 28 => ⟨S256, .f32⟩
  | 29 => ⟨S1x256x256, .f32⟩
  | 30 => ⟨S256x256, .f32⟩
  | 31 => ⟨S1x256, .f32⟩
  | 32 => ⟨S256, .f32⟩
  | 33 => ⟨S2x300x256, .f32⟩
  | 34 => ⟨S1x1x256, .f32⟩
  | 35 => ⟨S2x300x256, .f32⟩
  | 36 => ⟨S2x300x256, .f32⟩
  | 37 => ⟨S2x300x8x32, .f32⟩
  | 38 => ⟨S2x8x300x32, .f32⟩
  | 39 => ⟨S2x4096x256, .f32⟩
  | 40 => ⟨S1x1x256, .f32⟩
  | 41 => ⟨S2x4096x256, .f32⟩
  | 42 => ⟨S2x4096x256, .f32⟩
  | 43 => ⟨S2x4096x8x32, .f32⟩
  | 44 => ⟨S2x8x4096x32, .f32⟩
  | 45 => ⟨S2x4096x256, .f32⟩
  | 46 => ⟨S1x1x256, .f32⟩
  | 47 => ⟨S2x4096x256, .f32⟩
  | 48 => ⟨S2x4096x256, .f32⟩
  | 49 => ⟨S2x4096x8x32, .f32⟩
  | 50 => ⟨S2x8x4096x32, .f32⟩
  | 51 => ⟨S2x8x300x4096, .f32⟩
  | 52 => ⟨S_, .f32⟩
  | 53 => ⟨S_, .f32⟩
  | 54 => ⟨S_, .f32⟩
  | 55 => ⟨S2x8x300x4096, .f32⟩
  | 56 => ⟨S2x8x300x4096, .f32⟩
  | 57 => ⟨S_, .f32⟩
  | 58 => ⟨S2x8x300, .f32⟩
  | 59 => ⟨S2x8x300x1, .f32⟩
  | 60 => ⟨S2x8x300x4096, .f32⟩
  | 61 => ⟨S2x8x300x4096, .f32⟩
  | 62 => ⟨S2x8x300x4096, .f32⟩
  | 63 => ⟨S_, .f32⟩
  | 64 => ⟨S2x8x300, .f32⟩
  | 65 => ⟨S2x8x300x1, .f32⟩
  | 66 => ⟨S_, .f32⟩
  | 67 => ⟨S2x8x300x1, .f32⟩
  | 68 => ⟨S2x8x300x1, .f32⟩
  | 69 => ⟨S2x8x300x4096, .f32⟩
  | 70 => ⟨S2x8x300x4096, .f32⟩
  | 71 => ⟨S2x8x300x32, .f32⟩
  | 72 => ⟨S2x300x8x32, .f32⟩
  | 73 => ⟨S2x300x256, .f32⟩
  | 74 => ⟨S2x300x256, .f32⟩
  | 75 => ⟨S1x1x256, .f32⟩
  | 76 => ⟨S2x300x256, .f32⟩
  | 77 => ⟨S2x300x256, .f32⟩
  | 78 => ⟨S_, .f32⟩
  | 79 => ⟨S2x300x4096, .f32⟩
  | 80 => ⟨S_, .f32⟩
  | 81 => ⟨S2x300x4096, .f32⟩
  | 82 => ⟨S2x300x4096, .f32⟩
  | 83 => ⟨S2x300x256, .f32⟩
  | 84 => ⟨S1x256, .f32⟩
  | 85 => ⟨S256, .f32⟩
  | 86 => ⟨S1x256, .f32⟩
  | 87 => ⟨S256, .f32⟩
  | 88 => ⟨S_, .f32⟩
  | 89 => ⟨S2x300, .f32⟩
  | 90 => ⟨S2x300x1, .f32⟩
  | 91 => ⟨S_, .f32⟩
  | 92 => ⟨S2x300x1, .f32⟩
  | 93 => ⟨S2x300x1, .f32⟩
  | 94 => ⟨S2x300x256, .f32⟩
  | 95 => ⟨S2x300x256, .f32⟩
  | 96 => ⟨S2x300x256, .f32⟩
  | 97 => ⟨S_, .f32⟩
  | 98 => ⟨S2x300, .f32⟩
  | 99 => ⟨S2x300x1, .f32⟩
  | 100 => ⟨S_, .f32⟩
  | 101 => ⟨S2x300x1, .f32⟩
  | 102 => ⟨S2x300x1, .f32⟩
  | 103 => ⟨S2x300x256, .f32⟩
  | 104 => ⟨S2x300x256, .f32⟩
  | 105 => ⟨S_, .f32⟩
  | 106 => ⟨S2x300x1, .f32⟩
  | 107 => ⟨S2x300x1, .f32⟩
  | 108 => ⟨S2x300x1, .f32⟩
  | 109 => ⟨S2x300x256, .f32⟩
  | 110 => ⟨S2x300x256, .f32⟩
  | 111 => ⟨S1x1x256, .f32⟩
  | 112 => ⟨S2x300x256, .f32⟩
  | 113 => ⟨S2x300x256, .f32⟩
  | 114 => ⟨S1x1x256, .f32⟩
  | 115 => ⟨S2x300x256, .f32⟩
  | 116 => ⟨S2x300x256, .f32⟩
  | 117 => ⟨S1x256x2048, .f32⟩
  | 118 => ⟨S256x2048, .f32⟩
  | 119 => ⟨S2x300x2048, .f32⟩
  | 120 => ⟨S1x2048, .f32⟩
  | 121 => ⟨S2048, .f32⟩
  | 122 => ⟨S1x1x2048, .f32⟩
  | 123 => ⟨S2x300x2048, .f32⟩
  | 124 => ⟨S2x300x2048, .f32⟩
  | 125 => ⟨S_, .f32⟩
  | 126 => ⟨S2x300x2048, .f32⟩
  | 127 => ⟨S2x300x2048, .f32⟩
  | _ => ⟨S300x2x256, .f32⟩

abbrev hbmTy0_3 (i : Nat) : BufTy := match i % 128 with
  | 0 => ⟨S1x2048x256, .f32⟩
  | 1 => ⟨S2048x256, .f32⟩
  | 2 => ⟨S2x300x256, .f32⟩
  | 3 => ⟨S1x256, .f32⟩
  | 4 => ⟨S256, .f32⟩
  | 5 => ⟨S1x1x256, .f32⟩
  | 6 => ⟨S2x300x256, .f32⟩
  | 7 => ⟨S2x300x256, .f32⟩
  | 8 => ⟨S2x300x256, .f32⟩
  | 9 => ⟨S1x256, .f32⟩
  | 10 => ⟨S256, .f32⟩
  | 11 => ⟨S1x256, .f32⟩
  | 12 => ⟨S256, .f32⟩
  | 13 => ⟨S_, .f32⟩
  | 14 => ⟨S2x300, .f32⟩
  | 15 => ⟨S2x300x1, .f32⟩
  | 16 => ⟨S_, .f32⟩
  | 17 => ⟨S2x300x1, .f32⟩
  | 18 => ⟨S2x300x1, .f32⟩
  | 19 => ⟨S2x300x256, .f32⟩
  | 20 => ⟨S2x300x256, .f32⟩
  | 21 => ⟨S2x300x256, .f32⟩
  | 22 => ⟨S_, .f32⟩
  | 23 => ⟨S2x300, .f32⟩
  | 24 => ⟨S2x300x1, .f32⟩
  | 25 => ⟨S_, .f32⟩
  | 26 => ⟨S2x300x1, .f32⟩
  | 27 => ⟨S2x300x1, .f32⟩
  | 28 => ⟨S2x300x256, .f32⟩
  | 29 => ⟨S2x300x256, .f32⟩
  | 30 => ⟨S_, .f32⟩
  | 31 => ⟨S2x300x1, .f32⟩
  | 32 => ⟨S2x300x1, .f32⟩
  | 33 => ⟨S2x300x1, .f32⟩
  | 34 => ⟨S2x300x256, .f32⟩
  | 35 => ⟨S2x300x256, .f32⟩
  | 36 => ⟨S1x1x256, .f32⟩
  | 37 => ⟨S2x300x256, .f32⟩
  | 38 => ⟨S2x300x256, .f32⟩
  | 39 => ⟨S1x1x256, .f32⟩
  | 40 => ⟨S2x300x256, .f32⟩
  | 41 => ⟨S2x300x256, .f32⟩
  | 42 => ⟨S2x300x256, .f32⟩
  | 43 => ⟨S1x256x256, .f32⟩
  | 44 => ⟨S256x256, .f32⟩
  | 45 => ⟨S1x256, .f32⟩
  | 46 => ⟨S256, .f32⟩
  | 47 => ⟨S1x256x256, .f32⟩
  | 48 => ⟨S256x256, .f32⟩
  | 49 => ⟨S1x256, .f32⟩
  | 50 => ⟨S256, .f32⟩
  | 51 => ⟨S1x256x256, .f32⟩
  | 52 => ⟨S256x256, .f32⟩
  | 53 => ⟨S1x256, .f32⟩
  | 54 => ⟨S256, .f32⟩
  | 55 => ⟨S1x256x256, .f32⟩
  | 56 => ⟨S256x256, .f32⟩
  | 57 => ⟨S1x256, .f32⟩
  | 58 => ⟨S256, .f32⟩
  | 59 => ⟨S2x300x256, .f32⟩
  | 60 => ⟨S1x1x256, .f32⟩
  | 61 => ⟨S2x300x256, .f32⟩
  | 62 => ⟨S2x300x256, .f32⟩
  | 63 => ⟨S2x300x8x32, .f32⟩
  | 64 => ⟨S2x8x300x32, .f32⟩
  | 65 => ⟨S2x300x256, .f32⟩
  | 66 => ⟨S1x1x256, .f32⟩
  | 67 => ⟨S2x300x256, .f32⟩
  | 68 => ⟨S2x300x256, .f32⟩
  | 69 => ⟨S2x300x8x32, .f32⟩
  | 70 => ⟨S2x8x300x32, .f32⟩
  | 71 => ⟨S2x300x256, .f32⟩
  | 72 => ⟨S1x1x256, .f32⟩
  | 73 => ⟨S2x300x256, .f32⟩
  | 74 => ⟨S2x300x256, .f32⟩
  | 75 => ⟨S2x300x8x32, .f32⟩
  | 76 => ⟨S2x8x300x32, .f32⟩
  | 77 => ⟨S2x8x300x300, .f32⟩
  | 78 => ⟨S_, .f32⟩
  | 79 => ⟨S_, .f32⟩
  | 80 => ⟨S_, .f32⟩
  | 81 => ⟨S2x8x300x300, .f32⟩
  | 82 => ⟨S2x8x300x300, .f32⟩
  | 83 => ⟨S2x1x300x300, .f32⟩
  | 84 => ⟨S_, .f32⟩
  | 85 => ⟨S2x1x300x300, .f32⟩
  | 86 => ⟨S2x1x300x300, .i1⟩
  | 87 => ⟨S_, .f32⟩
  | 88 => ⟨S_, .f32⟩
  | 89 => ⟨S2x8x300x300, .i1⟩
  | 90 => ⟨S2x8x300x300, .f32⟩
  | 91 => ⟨S2x8x300x300, .f32⟩
  | 92 => ⟨S_, .f32⟩
  | 93 => ⟨S2x8x300, .f32⟩
  | 94 => ⟨S2x8x300x1, .f32⟩
  | 95 => ⟨S2x8x300x300, .f32⟩
  | 96 => ⟨S2x8x300x300, .f32⟩
  | 97 => ⟨S2x8x300x300, .f32⟩
  | 98 => ⟨S_, .f32⟩
  | 99 => ⟨S2x8x300, .f32⟩
  | 100 => ⟨S2x8x300x1, .f32⟩
  | 101 => ⟨S_, .f32⟩
  | 102 => ⟨S2x8x300x1, .f32⟩
  | 103 => ⟨S2x8x300x1, .f32⟩
  | 104 => ⟨S2x8x300x300, .f32⟩
  | 105 => ⟨S2x8x300x300, .f32⟩
  | 106 => ⟨S2x8x300x32, .f32⟩
  | 107 => ⟨S2x300x8x32, .f32⟩
  | 108 => ⟨S2x300x256, .f32⟩
  | 109 => ⟨S2x300x256, .f32⟩
  | 110 => ⟨S1x1x256, .f32⟩
  | 111 => ⟨S2x300x256, .f32⟩
  | 112 => ⟨S2x300x256, .f32⟩
  | 113 => ⟨S_, .f32⟩
  | 114 => ⟨S2x300x300, .f32⟩
  | 115 => ⟨S_, .f32⟩
  | 116 => ⟨S2x300x300, .f32⟩
  | 117 => ⟨S2x300x300, .f32⟩
  | 118 => ⟨S2x300x256, .f32⟩
  | 119 => ⟨S1x256, .f32⟩
  | 120 => ⟨S256, .f32⟩
  | 121 => ⟨S1x256, .f32⟩
  | 122 => ⟨S256, .f32⟩
  | 123 => ⟨S_, .f32⟩
  | 124 => ⟨S2x300, .f32⟩
  | 125 => ⟨S2x300x1, .f32⟩
  | 126 => ⟨S_, .f32⟩
  | 127 => ⟨S2x300x1, .f32⟩
  | _ => ⟨S300x2x256, .f32⟩

abbrev hbmTy0_4 (i : Nat) : BufTy := match i % 128 with
  | 0 => ⟨S2x300x1, .f32⟩
  | 1 => ⟨S2x300x256, .f32⟩
  | 2 => ⟨S2x300x256, .f32⟩
  | 3 => ⟨S2x300x256, .f32⟩
  | 4 => ⟨S_, .f32⟩
  | 5 => ⟨S2x300, .f32⟩
  | 6 => ⟨S2x300x1, .f32⟩
  | 7 => ⟨S_, .f32⟩
  | 8 => ⟨S2x300x1, .f32⟩
  | 9 => ⟨S2x300x1, .f32⟩
  | 10 => ⟨S2x300x256, .f32⟩
  | 11 => ⟨S2x300x256, .f32⟩
  | 12 => ⟨S_, .f32⟩
  | 13 => ⟨S2x300x1, .f32⟩
  | 14 => ⟨S2x300x1, .f32⟩
  | 15 => ⟨S2x300x1, .f32⟩
  | 16 => ⟨S2x300x256, .f32⟩
  | 17 => ⟨S2x300x256, .f32⟩
  | 18 => ⟨S1x1x256, .f32⟩
  | 19 => ⟨S2x300x256, .f32⟩
  | 20 => ⟨S2x300x256, .f32⟩
  | 21 => ⟨S1x1x256, .f32⟩
  | 22 => ⟨S2x300x256, .f32⟩
  | 23 => ⟨S2x300x256, .f32⟩
  | 24 => ⟨S2x300x256, .f32⟩
  | 25 => ⟨S2x4096x256, .f32⟩
  | 26 => ⟨S1x256x256, .f32⟩
  | 27 => ⟨S256x256, .f32⟩
  | 28 => ⟨S1x256, .f32⟩
  | 29 => ⟨S256, .f32⟩
  | 30 => ⟨S1x256x256, .f32⟩
  | 31 => ⟨S256x256, .f32⟩
  | 32 => ⟨S1x256, .f32⟩
  | 33 => ⟨S256, .f32⟩
  | 34 => ⟨S1x256x256, .f32⟩
  | 35 => ⟨S256x256, .f32⟩
  | 36 => ⟨S1x256, .f32⟩
  | 37 => ⟨S256, .f32⟩
  | 38 => ⟨S1x256x256, .f32⟩
  | 39 => ⟨S256x256, .f32⟩
  | 40 => ⟨S1x256, .f32⟩
  | 41 => ⟨S256, .f32⟩
  | 42 => ⟨S2x300x256, .f32⟩
  | 43 => ⟨S1x1x256, .f32⟩
  | 44 => ⟨S2x300x256, .f32⟩
  | 45 => ⟨S2x300x256, .f32⟩
  | 46 => ⟨S2x300x8x32, .f32⟩
  | 47 => ⟨S2x8x300x32, .f32⟩
  | 48 => ⟨S2x4096x256, .f32⟩
  | 49 => ⟨S1x1x256, .f32⟩
  | 50 => ⟨S2x4096x256, .f32⟩
  | 51 => ⟨S2x4096x256, .f32⟩
  | 52 => ⟨S2x4096x8x32, .f32⟩
  | 53 => ⟨S2x8x4096x32, .f32⟩
  | 54 => ⟨S2x4096x256, .f32⟩
  | 55 => ⟨S1x1x256, .f32⟩
  | 56 => ⟨S2x4096x256, .f32⟩
  | 57 => ⟨S2x4096x256, .f32⟩
  | 58 => ⟨S2x4096x8x32, .f32⟩
  | 59 => ⟨S2x8x4096x32, .f32⟩
  | 60 => ⟨S2x8x300x4096, .f32⟩
  | 61 => ⟨S_, .f32⟩
  | 62 => ⟨S_, .f32⟩
  | 63 => ⟨S_, .f32⟩
  | 64 => ⟨S2x8x300x4096, .f32⟩
  | 65 => ⟨S2x8x300x4096, .f32⟩
  | 66 => ⟨S_, .f32⟩
  | 67 => ⟨S2x8x300, .f32⟩
  | 68 => ⟨S2x8x300x1, .f32⟩
  | 69 => ⟨S2x8x300x4096, .f32⟩
  | 70 => ⟨S2x8x300x4096, .f32⟩
  | 71 => ⟨S2x8x300x4096, .f32⟩
  | 72 => ⟨S_, .f32⟩
  | 73 => ⟨S2x8x300, .f32⟩
  | 74 => ⟨S2x8x300x1, .f32⟩
  | 75 => ⟨S_, .f32⟩
  | 76 => ⟨S2x8x300x1, .f32⟩
  | 77 => ⟨S2x8x300x1, .f32⟩
  | 78 => ⟨S2x8x300x4096, .f32⟩
  | 79 => ⟨S2x8x300x4096, .f32⟩
  | 80 => ⟨S2x8x300x32, .f32⟩
  | 81 => ⟨S2x300x8x32, .f32⟩
  | 82 => ⟨S2x300x256, .f32⟩
  | 83 => ⟨S2x300x256, .f32⟩
  | 84 => ⟨S1x1x256, .f32⟩
  | 85 => ⟨S2x300x256, .f32⟩
  | 86 => ⟨S2x300x256, .f32⟩
  | 87 => ⟨S_, .f32⟩
  | 88 => ⟨S2x300x4096, .f32⟩
  | 89 => ⟨S_, .f32⟩
  | 90 => ⟨S2x300x4096, .f32⟩
  | 91 => ⟨S2x300x4096, .f32⟩
  | 92 => ⟨S2x300x256, .f32⟩
  | 93 => ⟨S1x256, .f32⟩
  | 94 => ⟨S256, .f32⟩
  | 95 => ⟨S1x256, .f32⟩
  | 96 => ⟨S256, .f32⟩
  | 97 => ⟨S_, .f32⟩
  | 98 => ⟨S2x300, .f32⟩
  | 99 => ⟨S2x300x1, .f32⟩
  | 100 => ⟨S_, .f32⟩
  | 101 => ⟨S2x300x1, .f32⟩
  | 102 => ⟨S2x300x1, .f32⟩
  | 103 => ⟨S2x300x256, .f32⟩
  | 104 => ⟨S2x300x256, .f32⟩
  | 105 => ⟨S2x300x256, .f32⟩
  | 106 => ⟨S_, .f32⟩
  | 107 => ⟨S2x300, .f32⟩
  | 108 => ⟨S2x300x1, .f32⟩
  | 109 => ⟨S_, .f32⟩
  | 110 => ⟨S2x300x1, .f32⟩
  | 111 => ⟨S2x300x1, .f32⟩
  | 112 => ⟨S2x300x256, .f32⟩
  | 113 => ⟨S2x300x256, .f32⟩
  | 114 => ⟨S_, .f32⟩
  | 115 => ⟨S2x300x1, .f32⟩
  | 116 => ⟨S2x300x1, .f32⟩
  | 117 => ⟨S2x300x1, .f32⟩
  | 118 => ⟨S2x300x256, .f32⟩
  | 119 => ⟨S2x300x256, .f32⟩
  | 120 => ⟨S1x1x256, .f32⟩
  | 121 => ⟨S2x300x256, .f32⟩
  | 122 => ⟨S2x300x256, .f32⟩
  | 123 => ⟨S1x1x256, .f32⟩
  | 124 => ⟨S2x300x256, .f32⟩
  | 125 => ⟨S2x300x256, .f32⟩
  | 126 => ⟨S1x256x2048, .f32⟩
  | 127 => ⟨S256x2048, .f32⟩
  | _ => ⟨S300x2x256, .f32⟩

abbrev hbmTy0_5 (i : Nat) : BufTy := match i % 128 with
  | 0 => ⟨S2x300x2048, .f32⟩
  | 1 => ⟨S1x2048, .f32⟩
  | 2 => ⟨S2048, .f32⟩
  | 3 => ⟨S1x1x2048, .f32⟩
  | 4 => ⟨S2x300x2048, .f32⟩
  | 5 => ⟨S2x300x2048, .f32⟩
  | 6 => ⟨S_, .f32⟩
  | 7 => ⟨S2x300x2048, .f32⟩
  | 8 => ⟨S2x300x2048, .f32⟩
  | 9 => ⟨S1x2048x256, .f32⟩
  | 10 => ⟨S2048x256, .f32⟩
  | 11 => ⟨S2x300x256, .f32⟩
  | 12 => ⟨S1x256, .f32⟩
  | 13 => ⟨S256, .f32⟩
  | 14 => ⟨S1x1x256, .f32⟩
  | 15 => ⟨S2x300x256, .f32⟩
  | 16 => ⟨S2x300x256, .f32⟩
  | 17 => ⟨S2x300x256, .f32⟩
  | 18 => ⟨S1x256, .f32⟩
  | 19 => ⟨S256, .f32⟩
  | 20 => ⟨S1x256, .f32⟩
  | 21 => ⟨S256, .f32⟩
  | 22 => ⟨S_, .f32⟩
  | 23 => ⟨S2x300, .f32⟩
  | 24 => ⟨S2x300x1, .f32⟩
  | 25 => ⟨S_, .f32⟩
  | 26 => ⟨S2x300x1, .f32⟩
  | 27 => ⟨S2x300x1, .f32⟩
  | 28 => ⟨S2x300x256, .f32⟩
  | 29 => ⟨S2x300x256, .f32⟩
  | 30 => ⟨S2x300x256, .f32⟩
  | 31 => ⟨S_, .f32⟩
  | 32 => ⟨S2x300, .f32⟩
  | 33 => ⟨S2x300x1, .f32⟩
  | 34 => ⟨S_, .f32⟩
  | 35 => ⟨S2x300x1, .f32⟩
  | 36 => ⟨S2x300x1, .f32⟩
  | 37 => ⟨S2x300x256, .f32⟩
  | 38 => ⟨S2x300x256, .f32⟩
  | 39 => ⟨S_, .f32⟩
  | 40 => ⟨S2x300x1, .f32⟩
  | 41 => ⟨S2x300x1, .f32⟩
  | 42 => ⟨S2x300x1, .f32⟩
  | 43 => ⟨S2x300x256, .f32⟩
  | 44 => ⟨S2x300x256, .f32⟩
  | 45 => ⟨S1x1x256, .f32⟩
  | 46 => ⟨S2x300x256, .f32⟩
  | 47 => ⟨S2x300x256, .f32⟩
  | 48 => ⟨S1x1x256, .f32⟩
  | 49 => ⟨S2x300x256, .f32⟩
  | 50 => ⟨S2x300x256, .f32⟩
  | 51 => ⟨S_, .f32⟩
  | 52 => ⟨S2x300, .f32⟩
  | 53 => ⟨S2x300x1, .f32⟩
  | 54 => ⟨S_, .f32⟩
  | 55 => ⟨S2x300x1, .f32⟩
  | 56 => ⟨S2x300x1, .f32⟩
  | 57 => ⟨S2x300x256, .f32⟩
  | 58 => ⟨S2x300x256, .f32⟩
  | 59 => ⟨S2x300x256, .f32⟩
  | 60 => ⟨S_, .f32⟩
  | 61 => ⟨S2x300, .f32⟩
  | 62 => ⟨S2x300x1, .f32⟩
  | 63 => ⟨S_, .f32⟩
  | 64 => ⟨S2x300x1, .f32⟩
  | 65 => ⟨S2x300x1, .f32⟩
  | 66 => ⟨S2x300x256, .f32⟩
  | 67 => ⟨S2x300x256, .f32⟩
  | 68 => ⟨S_, .f32⟩
  | 69 => ⟨S2x300x1, .f32⟩
  | 70 => ⟨S2x300x1, .f32⟩
  | 71 => ⟨S2x300x1, .f32⟩
  | 72 => ⟨S2x300x256, .f32⟩
  | 73 => ⟨S2x300x256, .f32⟩
  | 74 => ⟨S1x1x256, .f32⟩
  | 75 => ⟨S2x300x256, .f32⟩
  | 76 => ⟨S2x300x256, .f32⟩
  | 77 => ⟨S1x1x256, .f32⟩
  | 78 => ⟨S2x300x256, .f32⟩
  | 79 => ⟨S2x300x256, .f32⟩
  | 80 => ⟨S300x2x256, .f32⟩
  | _ => ⟨S300x2x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S300x2x256, .f32⟩

abbrev bufTy : (tb : Table) → Fin (tcTables nBuf tb) → BufTy
  | .hbm, ⟨i, _⟩ => hbmTy i
  | _, _ => ⟨S300x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst : Ref sig .tc := ⟨.hbm, 40, rfl⟩
abbrev main_v7 : Ref sig .tc := ⟨.hbm, 41, rfl⟩
abbrev main_v8 : Ref sig .tc := ⟨.hbm, 42, rfl⟩
abbrev main_cst_0 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_1 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_3 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_4 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_5 : Ref sig .tc := ⟨.hbm, 84, rfl⟩
abbrev main_call0_v0 : Ref sig .tc := ⟨.hbm, 85, rfl⟩
abbrev main_call0_v1 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_6 : Ref sig .tc := ⟨.hbm, 99, rfl⟩
abbrev main_call1_v0 : Ref sig .tc := ⟨.hbm, 100, rfl⟩
abbrev main_call1_v1 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_7 : Ref sig .tc := ⟨.hbm, 122, rfl⟩
abbrev main_call2_v0 : Ref sig .tc := ⟨.hbm, 123, rfl⟩
abbrev main_call2_v1 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_8 : Ref sig .tc := ⟨.hbm, 137, rfl⟩
abbrev main_call3_v0 : Ref sig .tc := ⟨.hbm, 138, rfl⟩
abbrev main_call3_v1 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_9 : Ref sig .tc := ⟨.hbm, 145, rfl⟩
abbrev main_v94 : Ref sig .tc := ⟨.hbm, 146, rfl⟩
abbrev main_v95 : Ref sig .tc := ⟨.hbm, 147, rfl⟩
abbrev main_call4_v0 : Ref sig .tc := ⟨.hbm, 148, rfl⟩
abbrev main_call4_v1_0 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_c : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_10 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_cst_11 : Ref sig .tc := ⟨.hbm, 203, rfl⟩
abbrev main_v147 : Ref sig .tc := ⟨.hbm, 204, rfl⟩
abbrev main_v148 : Ref sig .tc := ⟨.hbm, 205, rfl⟩
abbrev main_cst_12 : Ref sig .tc := ⟨.hbm, 206, rfl⟩
abbrev main_call5_v0 : Ref sig .tc := ⟨.hbm, 207, rfl⟩
abbrev main_call5_v1 : Ref sig .tc := ⟨.hbm, 208, rfl⟩
abbrev main_call5_v2 : Ref sig .tc := ⟨.hbm, 209, rfl⟩
abbrev main_v149 : Ref sig .tc := ⟨.hbm, 210, rfl⟩
abbrev main_cst_13 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_14 : Ref sig .tc := ⟨.hbm, 217, rfl⟩
abbrev main_v155 : Ref sig .tc := ⟨.hbm, 218, rfl⟩
abbrev main_v156 : Ref sig .tc := ⟨.hbm, 219, rfl⟩
abbrev main_cst_15 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_16 : Ref sig .tc := ⟨.hbm, 232, rfl⟩
abbrev main_v168 : Ref sig .tc := ⟨.hbm, 233, rfl⟩
abbrev main_cst_17 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_cst_18 : Ref sig .tc := ⟨.hbm, 242, rfl⟩
abbrev main_v176 : Ref sig .tc := ⟨.hbm, 243, rfl⟩
abbrev main_v177 : Ref sig .tc := ⟨.hbm, 244, rfl⟩
abbrev main_cst_19 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_cst_20 : Ref sig .tc := ⟨.hbm, 251, rfl⟩
abbrev main_v183 : Ref sig .tc := ⟨.hbm, 252, rfl⟩
abbrev main_v184 : Ref sig .tc := ⟨.hbm, 253, rfl⟩
abbrev main_cst_21 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_cst_22 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_cst_23 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_cst_24 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_cst_25 : Ref sig .tc := ⟨.hbm, 319, rfl⟩
abbrev main_v246 : Ref sig .tc := ⟨.hbm, 320, rfl⟩
abbrev main_v247 : Ref sig .tc := ⟨.hbm, 321, rfl⟩
abbrev main_cst_26 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_cst_27 : Ref sig .tc := ⟨.hbm, 334, rfl⟩
abbrev main_v259 : Ref sig .tc := ⟨.hbm, 335, rfl⟩
abbrev main_cst_28 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_cst_29 : Ref sig .tc := ⟨.hbm, 344, rfl⟩
abbrev main_v267 : Ref sig .tc := ⟨.hbm, 345, rfl⟩
abbrev main_v268 : Ref sig .tc := ⟨.hbm, 346, rfl⟩
abbrev main_cst_30 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_cst_31 : Ref sig .tc := ⟨.hbm, 353, rfl⟩
abbrev main_v274 : Ref sig .tc := ⟨.hbm, 354, rfl⟩
abbrev main_v275 : Ref sig .tc := ⟨.hbm, 355, rfl⟩
abbrev main_cst_32 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_cst_33 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_call6_cst : Ref sig .tc := ⟨.hbm, 381, rfl⟩
abbrev main_call6_v0 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_v304 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_v308 : Ref sig .tc := ⟨.hbm, 392, rfl⟩
abbrev main_v309 : Ref sig .tc := ⟨.hbm, 393, rfl⟩
abbrev main_v310 : Ref sig .tc := ⟨.hbm, 394, rfl⟩
abbrev main_v311 : Ref sig .tc := ⟨.hbm, 395, rfl⟩
abbrev main_v312 : Ref sig .tc := ⟨.hbm, 396, rfl⟩
abbrev main_cst_34 : Ref sig .tc := ⟨.hbm, 397, rfl⟩
abbrev main_v313 : Ref sig .tc := ⟨.hbm, 398, rfl⟩
abbrev main_v314 : Ref sig .tc := ⟨.hbm, 399, rfl⟩
abbrev main_cst_35 : Ref sig .tc := ⟨.hbm, 400, rfl⟩
abbrev main_v315 : Ref sig .tc := ⟨.hbm, 401, rfl⟩
abbrev main_v316 : Ref sig .tc := ⟨.hbm, 402, rfl⟩
abbrev main_v317 : Ref sig .tc := ⟨.hbm, 403, rfl⟩
abbrev main_v318 : Ref sig .tc := ⟨.hbm, 404, rfl⟩
abbrev main_v319 : Ref sig .tc := ⟨.hbm, 405, rfl⟩
abbrev main_cst_36 : Ref sig .tc := ⟨.hbm, 406, rfl⟩
abbrev main_v320 : Ref sig .tc := ⟨.hbm, 407, rfl⟩
abbrev main_v321 : Ref sig .tc := ⟨.hbm, 408, rfl⟩
abbrev main_cst_37 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_cst_38 : Ref sig .tc := ⟨.hbm, 414, rfl⟩
abbrev main_v326 : Ref sig .tc := ⟨.hbm, 415, rfl⟩
abbrev main_v327 : Ref sig .tc := ⟨.hbm, 416, rfl⟩
abbrev main_v328 : Ref sig .tc := ⟨.hbm, 417, rfl⟩
abbrev main_v329 : Ref sig .tc := ⟨.hbm, 418, rfl⟩
abbrev main_v330 : Ref sig .tc := ⟨.hbm, 419, rfl⟩
abbrev main_v331 : Ref sig .tc := ⟨.hbm, 420, rfl⟩
abbrev main_v332 : Ref sig .tc := ⟨.hbm, 421, rfl⟩
abbrev main_v333 : Ref sig .tc := ⟨.hbm, 422, rfl⟩
abbrev main_v334 : Ref sig .tc := ⟨.hbm, 423, rfl⟩
abbrev main_v335 : Ref sig .tc := ⟨.hbm, 424, rfl⟩
abbrev main_v336 : Ref sig .tc := ⟨.hbm, 425, rfl⟩
abbrev main_v337 : Ref sig .tc := ⟨.hbm, 426, rfl⟩
abbrev main_v338 : Ref sig .tc := ⟨.hbm, 427, rfl⟩
abbrev main_v339 : Ref sig .tc := ⟨.hbm, 428, rfl⟩
abbrev main_v340 : Ref sig .tc := ⟨.hbm, 429, rfl⟩
abbrev main_v341 : Ref sig .tc := ⟨.hbm, 430, rfl⟩
abbrev main_v342 : Ref sig .tc := ⟨.hbm, 431, rfl⟩
abbrev main_v343 : Ref sig .tc := ⟨.hbm, 432, rfl⟩
abbrev main_v344 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_v360 : Ref sig .tc := ⟨.hbm, 449, rfl⟩
abbrev main_v361 : Ref sig .tc := ⟨.hbm, 450, rfl⟩
abbrev main_v362 : Ref sig .tc := ⟨.hbm, 451, rfl⟩
abbrev main_v363 : Ref sig .tc := ⟨.hbm, 452, rfl⟩
abbrev main_v364 : Ref sig .tc := ⟨.hbm, 453, rfl⟩
abbrev main_v365 : Ref sig .tc := ⟨.hbm, 454, rfl⟩
abbrev main_v366 : Ref sig .tc := ⟨.hbm, 455, rfl⟩
abbrev main_v367 : Ref sig .tc := ⟨.hbm, 456, rfl⟩
abbrev main_v368 : Ref sig .tc := ⟨.hbm, 457, rfl⟩
abbrev main_v369 : Ref sig .tc := ⟨.hbm, 458, rfl⟩
abbrev main_v370 : Ref sig .tc := ⟨.hbm, 459, rfl⟩
abbrev main_v371 : Ref sig .tc := ⟨.hbm, 460, rfl⟩
abbrev main_v372 : Ref sig .tc := ⟨.hbm, 461, rfl⟩
abbrev main_cst_39 : Ref sig .tc := ⟨.hbm, 462, rfl⟩
abbrev main_v373 : Ref sig .tc := ⟨.hbm, 463, rfl⟩
abbrev main_v374 : Ref sig .tc := ⟨.hbm, 464, rfl⟩
abbrev main_v375 : Ref sig .tc := ⟨.hbm, 465, rfl⟩
abbrev main_v376 : Ref sig .tc := ⟨.hbm, 466, rfl⟩
abbrev main_v377 : Ref sig .tc := ⟨.hbm, 467, rfl⟩
abbrev main_cst_40 : Ref sig .tc := ⟨.hbm, 468, rfl⟩
abbrev main_v378 : Ref sig .tc := ⟨.hbm, 469, rfl⟩
abbrev main_v379 : Ref sig .tc := ⟨.hbm, 470, rfl⟩
abbrev main_cst_41 : Ref sig .tc := ⟨.hbm, 471, rfl⟩
abbrev main_call7_v0 : Ref sig .tc := ⟨.hbm, 472, rfl⟩
abbrev main_call7_v1 : Ref sig .tc := ⟨.hbm, 473, rfl⟩
abbrev main_call7_v2 : Ref sig .tc := ⟨.hbm, 474, rfl⟩
abbrev main_v380 : Ref sig .tc := ⟨.hbm, 475, rfl⟩
abbrev main_cst_42 : Ref sig .tc := ⟨.hbm, 476, rfl⟩
abbrev main_v381 : Ref sig .tc := ⟨.hbm, 477, rfl⟩
abbrev main_v382 : Ref sig .tc := ⟨.hbm, 478, rfl⟩
abbrev main_v383 : Ref sig .tc := ⟨.hbm, 479, rfl⟩
abbrev main_v384 : Ref sig .tc := ⟨.hbm, 480, rfl⟩
abbrev main_v385 : Ref sig .tc := ⟨.hbm, 481, rfl⟩
abbrev main_cst_43 : Ref sig .tc := ⟨.hbm, 482, rfl⟩
abbrev main_v386 : Ref sig .tc := ⟨.hbm, 483, rfl⟩
abbrev main_v387 : Ref sig .tc := ⟨.hbm, 484, rfl⟩
abbrev main_cst_44 : Ref sig .tc := ⟨.hbm, 485, rfl⟩
abbrev main_v388 : Ref sig .tc := ⟨.hbm, 486, rfl⟩
abbrev main_v389 : Ref sig .tc := ⟨.hbm, 487, rfl⟩
abbrev main_v390 : Ref sig .tc := ⟨.hbm, 488, rfl⟩
abbrev main_v391 : Ref sig .tc := ⟨.hbm, 489, rfl⟩
abbrev main_v392 : Ref sig .tc := ⟨.hbm, 490, rfl⟩
abbrev main_v393 : Ref sig .tc := ⟨.hbm, 491, rfl⟩
abbrev main_v394 : Ref sig .tc := ⟨.hbm, 492, rfl⟩
abbrev main_v395 : Ref sig .tc := ⟨.hbm, 493, rfl⟩
abbrev main_v396 : Ref sig .tc := ⟨.hbm, 494, rfl⟩
abbrev main_v397 : Ref sig .tc := ⟨.hbm, 495, rfl⟩
abbrev main_v398 : Ref sig .tc := ⟨.hbm, 496, rfl⟩
abbrev main_cst_45 : Ref sig .tc := ⟨.hbm, 497, rfl⟩
abbrev main_v399 : Ref sig .tc := ⟨.hbm, 498, rfl⟩
abbrev main_cst_46 : Ref sig .tc := ⟨.hbm, 499, rfl⟩
abbrev main_v400 : Ref sig .tc := ⟨.hbm, 500, rfl⟩
abbrev main_v401 : Ref sig .tc := ⟨.hbm, 501, rfl⟩
abbrev main_v402 : Ref sig .tc := ⟨.hbm, 502, rfl⟩
abbrev main_v403 : Ref sig .tc := ⟨.hbm, 503, rfl⟩
abbrev main_v404 : Ref sig .tc := ⟨.hbm, 504, rfl⟩
abbrev main_v405 : Ref sig .tc := ⟨.hbm, 505, rfl⟩
abbrev main_v406 : Ref sig .tc := ⟨.hbm, 506, rfl⟩
abbrev main_cst_47 : Ref sig .tc := ⟨.hbm, 507, rfl⟩
abbrev main_v407 : Ref sig .tc := ⟨.hbm, 508, rfl⟩
abbrev main_v408 : Ref sig .tc := ⟨.hbm, 509, rfl⟩
abbrev main_cst_48 : Ref sig .tc := ⟨.hbm, 510, rfl⟩
abbrev main_v409 : Ref sig .tc := ⟨.hbm, 511, rfl⟩
abbrev main_v410 : Ref sig .tc := ⟨.hbm, 512, rfl⟩
abbrev main_v411 : Ref sig .tc := ⟨.hbm, 513, rfl⟩
abbrev main_v412 : Ref sig .tc := ⟨.hbm, 514, rfl⟩
abbrev main_v413 : Ref sig .tc := ⟨.hbm, 515, rfl⟩
abbrev main_cst_49 : Ref sig .tc := ⟨.hbm, 516, rfl⟩
abbrev main_v414 : Ref sig .tc := ⟨.hbm, 517, rfl⟩
abbrev main_v415 : Ref sig .tc := ⟨.hbm, 518, rfl⟩
abbrev main_cst_50 : Ref sig .tc := ⟨.hbm, 519, rfl⟩
abbrev main_v416 : Ref sig .tc := ⟨.hbm, 520, rfl⟩
abbrev main_v417 : Ref sig .tc := ⟨.hbm, 521, rfl⟩
abbrev main_v418 : Ref sig .tc := ⟨.hbm, 522, rfl⟩
abbrev main_v419 : Ref sig .tc := ⟨.hbm, 523, rfl⟩
abbrev main_cst_51 : Ref sig .tc := ⟨.hbm, 524, rfl⟩
abbrev main_v420 : Ref sig .tc := ⟨.hbm, 525, rfl⟩
abbrev main_v421 : Ref sig .tc := ⟨.hbm, 526, rfl⟩
abbrev main_v422 : Ref sig .tc := ⟨.hbm, 527, rfl⟩
abbrev main_v423 : Ref sig .tc := ⟨.hbm, 528, rfl⟩
abbrev main_v424 : Ref sig .tc := ⟨.hbm, 529, rfl⟩
abbrev main_v425 : Ref sig .tc := ⟨.hbm, 530, rfl⟩
abbrev main_v426 : Ref sig .tc := ⟨.hbm, 531, rfl⟩
abbrev main_v427 : Ref sig .tc := ⟨.hbm, 532, rfl⟩
abbrev main_v428 : Ref sig .tc := ⟨.hbm, 533, rfl⟩
abbrev main_v429 : Ref sig .tc := ⟨.hbm, 534, rfl⟩
abbrev main_v430 : Ref sig .tc := ⟨.hbm, 535, rfl⟩
abbrev main_v431 : Ref sig .tc := ⟨.hbm, 536, rfl⟩
abbrev main_v432 : Ref sig .tc := ⟨.hbm, 537, rfl⟩
abbrev main_v433 : Ref sig .tc := ⟨.hbm, 538, rfl⟩
abbrev main_v434 : Ref sig .tc := ⟨.hbm, 539, rfl⟩
abbrev main_v435 : Ref sig .tc := ⟨.hbm, 540, rfl⟩
abbrev main_v436 : Ref sig .tc := ⟨.hbm, 541, rfl⟩
abbrev main_v437 : Ref sig .tc := ⟨.hbm, 542, rfl⟩
abbrev main_v438 : Ref sig .tc := ⟨.hbm, 543, rfl⟩
abbrev main_v439 : Ref sig .tc := ⟨.hbm, 544, rfl⟩
abbrev main_v440 : Ref sig .tc := ⟨.hbm, 545, rfl⟩
abbrev main_v441 : Ref sig .tc := ⟨.hbm, 546, rfl⟩
abbrev main_v442 : Ref sig .tc := ⟨.hbm, 547, rfl⟩
abbrev main_v443 : Ref sig .tc := ⟨.hbm, 548, rfl⟩
abbrev main_v444 : Ref sig .tc := ⟨.hbm, 549, rfl⟩
abbrev main_v445 : Ref sig .tc := ⟨.hbm, 550, rfl⟩
abbrev main_v446 : Ref sig .tc := ⟨.hbm, 551, rfl⟩
abbrev main_v447 : Ref sig .tc := ⟨.hbm, 552, rfl⟩
abbrev main_v448 : Ref sig .tc := ⟨.hbm, 553, rfl⟩
abbrev main_v449 : Ref sig .tc := ⟨.hbm, 554, rfl⟩
abbrev main_v450 : Ref sig .tc := ⟨.hbm, 555, rfl⟩
abbrev main_v451 : Ref sig .tc := ⟨.hbm, 556, rfl⟩
abbrev main_v452 : Ref sig .tc := ⟨.hbm, 557, rfl⟩
abbrev main_v453 : Ref sig .tc := ⟨.hbm, 558, rfl⟩
abbrev main_v454 : Ref sig .tc := ⟨.hbm, 559, rfl⟩
abbrev main_v455 : Ref sig .tc := ⟨.hbm, 560, rfl⟩
abbrev main_v456 : Ref sig .tc := ⟨.hbm, 561, rfl⟩
abbrev main_v457 : Ref sig .tc := ⟨.hbm, 562, rfl⟩
abbrev main_v458 : Ref sig .tc := ⟨.hbm, 563, rfl⟩
abbrev main_v459 : Ref sig .tc := ⟨.hbm, 564, rfl⟩
abbrev main_v460 : Ref sig .tc := ⟨.hbm, 565, rfl⟩
abbrev main_v461 : Ref sig .tc := ⟨.hbm, 566, rfl⟩
abbrev main_v462 : Ref sig .tc := ⟨.hbm, 567, rfl⟩
abbrev main_v463 : Ref sig .tc := ⟨.hbm, 568, rfl⟩
abbrev main_v464 : Ref sig .tc := ⟨.hbm, 569, rfl⟩
abbrev main_v465 : Ref sig .tc := ⟨.hbm, 570, rfl⟩
abbrev main_v466 : Ref sig .tc := ⟨.hbm, 571, rfl⟩
abbrev main_v467 : Ref sig .tc := ⟨.hbm, 572, rfl⟩
abbrev main_cst_52 : Ref sig .tc := ⟨.hbm, 573, rfl⟩
abbrev main_v468 : Ref sig .tc := ⟨.hbm, 574, rfl⟩
abbrev main_v469 : Ref sig .tc := ⟨.hbm, 575, rfl⟩
abbrev main_v470 : Ref sig .tc := ⟨.hbm, 576, rfl⟩
abbrev main_v471 : Ref sig .tc := ⟨.hbm, 577, rfl⟩
abbrev main_cst_53 : Ref sig .tc := ⟨.hbm, 578, rfl⟩
abbrev main_v472 : Ref sig .tc := ⟨.hbm, 579, rfl⟩
abbrev main_v473 : Ref sig .tc := ⟨.hbm, 580, rfl⟩
abbrev main_v474 : Ref sig .tc := ⟨.hbm, 581, rfl⟩
abbrev main_v475 : Ref sig .tc := ⟨.hbm, 582, rfl⟩
abbrev main_v476 : Ref sig .tc := ⟨.hbm, 583, rfl⟩
abbrev main_cst_54 : Ref sig .tc := ⟨.hbm, 584, rfl⟩
abbrev main_v477 : Ref sig .tc := ⟨.hbm, 585, rfl⟩
abbrev main_v478 : Ref sig .tc := ⟨.hbm, 586, rfl⟩
abbrev main_cst_55 : Ref sig .tc := ⟨.hbm, 587, rfl⟩
abbrev main_v479 : Ref sig .tc := ⟨.hbm, 588, rfl⟩
abbrev main_v480 : Ref sig .tc := ⟨.hbm, 589, rfl⟩
abbrev main_v481 : Ref sig .tc := ⟨.hbm, 590, rfl⟩
abbrev main_v482 : Ref sig .tc := ⟨.hbm, 591, rfl⟩
abbrev main_v483 : Ref sig .tc := ⟨.hbm, 592, rfl⟩
abbrev main_v484 : Ref sig .tc := ⟨.hbm, 593, rfl⟩
abbrev main_v485 : Ref sig .tc := ⟨.hbm, 594, rfl⟩
abbrev main_v486 : Ref sig .tc := ⟨.hbm, 595, rfl⟩
abbrev main_v487 : Ref sig .tc := ⟨.hbm, 596, rfl⟩
abbrev main_v488 : Ref sig .tc := ⟨.hbm, 597, rfl⟩
abbrev main_v489 : Ref sig .tc := ⟨.hbm, 598, rfl⟩
abbrev main_cst_56 : Ref sig .tc := ⟨.hbm, 599, rfl⟩
abbrev main_v490 : Ref sig .tc := ⟨.hbm, 600, rfl⟩
abbrev main_cst_57 : Ref sig .tc := ⟨.hbm, 601, rfl⟩
abbrev main_v491 : Ref sig .tc := ⟨.hbm, 602, rfl⟩
abbrev main_v492 : Ref sig .tc := ⟨.hbm, 603, rfl⟩
abbrev main_v493 : Ref sig .tc := ⟨.hbm, 604, rfl⟩
abbrev main_v494 : Ref sig .tc := ⟨.hbm, 605, rfl⟩
abbrev main_v495 : Ref sig .tc := ⟨.hbm, 606, rfl⟩
abbrev main_v496 : Ref sig .tc := ⟨.hbm, 607, rfl⟩
abbrev main_v497 : Ref sig .tc := ⟨.hbm, 608, rfl⟩
abbrev main_cst_58 : Ref sig .tc := ⟨.hbm, 609, rfl⟩
abbrev main_v498 : Ref sig .tc := ⟨.hbm, 610, rfl⟩
abbrev main_v499 : Ref sig .tc := ⟨.hbm, 611, rfl⟩
abbrev main_cst_59 : Ref sig .tc := ⟨.hbm, 612, rfl⟩
abbrev main_v500 : Ref sig .tc := ⟨.hbm, 613, rfl⟩
abbrev main_v501 : Ref sig .tc := ⟨.hbm, 614, rfl⟩
abbrev main_v502 : Ref sig .tc := ⟨.hbm, 615, rfl⟩
abbrev main_v503 : Ref sig .tc := ⟨.hbm, 616, rfl⟩
abbrev main_v504 : Ref sig .tc := ⟨.hbm, 617, rfl⟩
abbrev main_cst_60 : Ref sig .tc := ⟨.hbm, 618, rfl⟩
abbrev main_v505 : Ref sig .tc := ⟨.hbm, 619, rfl⟩
abbrev main_v506 : Ref sig .tc := ⟨.hbm, 620, rfl⟩
abbrev main_cst_61 : Ref sig .tc := ⟨.hbm, 621, rfl⟩
abbrev main_v507 : Ref sig .tc := ⟨.hbm, 622, rfl⟩
abbrev main_v508 : Ref sig .tc := ⟨.hbm, 623, rfl⟩
abbrev main_v509 : Ref sig .tc := ⟨.hbm, 624, rfl⟩
abbrev main_v510 : Ref sig .tc := ⟨.hbm, 625, rfl⟩
abbrev main_cst_62 : Ref sig .tc := ⟨.hbm, 626, rfl⟩
abbrev main_v511 : Ref sig .tc := ⟨.hbm, 627, rfl⟩
abbrev main_v512 : Ref sig .tc := ⟨.hbm, 628, rfl⟩
abbrev main_v513 : Ref sig .tc := ⟨.hbm, 629, rfl⟩
abbrev main_v514 : Ref sig .tc := ⟨.hbm, 630, rfl⟩
abbrev main_v515 : Ref sig .tc := ⟨.hbm, 631, rfl⟩
abbrev main_v516 : Ref sig .tc := ⟨.hbm, 632, rfl⟩
abbrev main_v517 : Ref sig .tc := ⟨.hbm, 633, rfl⟩
abbrev main_v518 : Ref sig .tc := ⟨.hbm, 634, rfl⟩
abbrev main_v519 : Ref sig .tc := ⟨.hbm, 635, rfl⟩
abbrev main_v520 : Ref sig .tc := ⟨.hbm, 636, rfl⟩
abbrev main_v521 : Ref sig .tc := ⟨.hbm, 637, rfl⟩
abbrev main_v522 : Ref sig .tc := ⟨.hbm, 638, rfl⟩
abbrev main_v523 : Ref sig .tc := ⟨.hbm, 639, rfl⟩
abbrev main_v524 : Ref sig .tc := ⟨.hbm, 640, rfl⟩
abbrev main_v525 : Ref sig .tc := ⟨.hbm, 641, rfl⟩
abbrev main_v526 : Ref sig .tc := ⟨.hbm, 642, rfl⟩
abbrev main_v527 : Ref sig .tc := ⟨.hbm, 643, rfl⟩
abbrev main_v528 : Ref sig .tc := ⟨.hbm, 644, rfl⟩
abbrev main_v529 : Ref sig .tc := ⟨.hbm, 645, rfl⟩
abbrev main_call8_cst : Ref sig .tc := ⟨.hbm, 646, rfl⟩
abbrev main_call8_v0 : Ref sig .tc := ⟨.hbm, 647, rfl⟩
abbrev main_v530 : Ref sig .tc := ⟨.hbm, 648, rfl⟩
abbrev main_v531 : Ref sig .tc := ⟨.hbm, 649, rfl⟩
abbrev main_v532 : Ref sig .tc := ⟨.hbm, 650, rfl⟩
abbrev main_v533 : Ref sig .tc := ⟨.hbm, 651, rfl⟩
abbrev main_v534 : Ref sig .tc := ⟨.hbm, 652, rfl⟩
abbrev main_v535 : Ref sig .tc := ⟨.hbm, 653, rfl⟩
abbrev main_v536 : Ref sig .tc := ⟨.hbm, 654, rfl⟩
abbrev main_v537 : Ref sig .tc := ⟨.hbm, 655, rfl⟩
abbrev main_v538 : Ref sig .tc := ⟨.hbm, 656, rfl⟩
abbrev main_v539 : Ref sig .tc := ⟨.hbm, 657, rfl⟩
abbrev main_v540 : Ref sig .tc := ⟨.hbm, 658, rfl⟩
abbrev main_v541 : Ref sig .tc := ⟨.hbm, 659, rfl⟩
abbrev main_v542 : Ref sig .tc := ⟨.hbm, 660, rfl⟩
abbrev main_v543 : Ref sig .tc := ⟨.hbm, 661, rfl⟩
abbrev main_cst_63 : Ref sig .tc := ⟨.hbm, 662, rfl⟩
abbrev main_v544 : Ref sig .tc := ⟨.hbm, 663, rfl⟩
abbrev main_v545 : Ref sig .tc := ⟨.hbm, 664, rfl⟩
abbrev main_cst_64 : Ref sig .tc := ⟨.hbm, 665, rfl⟩
abbrev main_v546 : Ref sig .tc := ⟨.hbm, 666, rfl⟩
abbrev main_v547 : Ref sig .tc := ⟨.hbm, 667, rfl⟩
abbrev main_v548 : Ref sig .tc := ⟨.hbm, 668, rfl⟩
abbrev main_v549 : Ref sig .tc := ⟨.hbm, 669, rfl⟩
abbrev main_v550 : Ref sig .tc := ⟨.hbm, 670, rfl⟩
abbrev main_cst_65 : Ref sig .tc := ⟨.hbm, 671, rfl⟩
abbrev main_v551 : Ref sig .tc := ⟨.hbm, 672, rfl⟩
abbrev main_v552 : Ref sig .tc := ⟨.hbm, 673, rfl⟩
abbrev main_cst_66 : Ref sig .tc := ⟨.hbm, 674, rfl⟩
abbrev main_v553 : Ref sig .tc := ⟨.hbm, 675, rfl⟩
abbrev main_v554 : Ref sig .tc := ⟨.hbm, 676, rfl⟩
abbrev main_v555 : Ref sig .tc := ⟨.hbm, 677, rfl⟩
abbrev main_v556 : Ref sig .tc := ⟨.hbm, 678, rfl⟩
abbrev main_cst_67 : Ref sig .tc := ⟨.hbm, 679, rfl⟩
abbrev main_v557 : Ref sig .tc := ⟨.hbm, 680, rfl⟩
abbrev main_v558 : Ref sig .tc := ⟨.hbm, 681, rfl⟩
abbrev main_v559 : Ref sig .tc := ⟨.hbm, 682, rfl⟩
abbrev main_v560 : Ref sig .tc := ⟨.hbm, 683, rfl⟩
abbrev main_v561 : Ref sig .tc := ⟨.hbm, 684, rfl⟩
abbrev main_v562 : Ref sig .tc := ⟨.hbm, 685, rfl⟩
abbrev main_v563 : Ref sig .tc := ⟨.hbm, 686, rfl⟩
abbrev main_v564 : Ref sig .tc := ⟨.hbm, 687, rfl⟩
abbrev main_v565 : Ref sig .tc := ⟨.hbm, 688, rfl⟩
abbrev main_v566 : Ref sig .tc := ⟨.hbm, 689, rfl⟩
abbrev main_v567 : Ref sig .tc := ⟨.hbm, 690, rfl⟩
abbrev main_cst_68 : Ref sig .tc := ⟨.hbm, 691, rfl⟩
abbrev main_v568 : Ref sig .tc := ⟨.hbm, 692, rfl⟩
abbrev main_v569 : Ref sig .tc := ⟨.hbm, 693, rfl⟩
abbrev main_cst_69 : Ref sig .tc := ⟨.hbm, 694, rfl⟩
abbrev main_v570 : Ref sig .tc := ⟨.hbm, 695, rfl⟩
abbrev main_v571 : Ref sig .tc := ⟨.hbm, 696, rfl⟩
abbrev main_v572 : Ref sig .tc := ⟨.hbm, 697, rfl⟩
abbrev main_v573 : Ref sig .tc := ⟨.hbm, 698, rfl⟩
abbrev main_v574 : Ref sig .tc := ⟨.hbm, 699, rfl⟩
abbrev main_cst_70 : Ref sig .tc := ⟨.hbm, 700, rfl⟩
abbrev main_v575 : Ref sig .tc := ⟨.hbm, 701, rfl⟩
abbrev main_v576 : Ref sig .tc := ⟨.hbm, 702, rfl⟩
abbrev main_cst_71 : Ref sig .tc := ⟨.hbm, 703, rfl⟩
abbrev main_v577 : Ref sig .tc := ⟨.hbm, 704, rfl⟩
abbrev main_v578 : Ref sig .tc := ⟨.hbm, 705, rfl⟩
abbrev main_v579 : Ref sig .tc := ⟨.hbm, 706, rfl⟩
abbrev main_v580 : Ref sig .tc := ⟨.hbm, 707, rfl⟩
abbrev main_cst_72 : Ref sig .tc := ⟨.hbm, 708, rfl⟩
abbrev main_v581 : Ref sig .tc := ⟨.hbm, 709, rfl⟩
abbrev main_v582 : Ref sig .tc := ⟨.hbm, 710, rfl⟩
abbrev main_v583 : Ref sig .tc := ⟨.hbm, 711, rfl⟩
abbrev main_v584 : Ref sig .tc := ⟨.hbm, 712, rfl⟩
abbrev main_v585 : Ref sig .tc := ⟨.hbm, 713, rfl⟩
abbrev main_v586 : Ref sig .tc := ⟨.hbm, 714, rfl⟩
abbrev main_v587 : Ref sig .tc := ⟨.hbm, 715, rfl⟩
abbrev main_v588 : Ref sig .tc := ⟨.hbm, 716, rfl⟩
abbrev main_v589 : Ref sig .tc := ⟨.hbm, 717, rfl⟩
abbrev main_v590 : Ref sig .tc := ⟨.hbm, 718, rfl⟩
abbrev main_v591 : Ref sig .tc := ⟨.hbm, 719, rfl⟩
abbrev main_v592 : Ref sig .tc := ⟨.hbm, 720, rfl⟩

abbrev nD : Nat := 1
abbrev τ : Topo := Topo.v7x

variable {F : FTy → Type} [FloatOps F]
-- ==== Kernel2.lean ====
abbrev S4096x512 : Shape := ⟨2, ![4096, 512]⟩
abbrev S256x512 : Shape := ⟨2, ![256, 512]⟩
abbrev S1x512 : Shape := ⟨2, ![1, 512]⟩
abbrev S2x4096x512 : Shape := ⟨3, ![2, 4096, 512]⟩
abbrev S1024x256 : Shape := ⟨2, ![1024, 256]⟩
abbrev S1x1024x512 : Shape := ⟨3, ![1, 1024, 512]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S256x512, .bf16⟩
  | .hbm, ⟨3, _⟩ => ⟨S1x512, .f32⟩
  | .hbm, ⟨4, _⟩ => ⟨S256x512, .bf16⟩
  | .hbm, ⟨5, _⟩ => ⟨S1x512, .f32⟩
  | .hbm, ⟨6, _⟩ => ⟨S2x4096x512, .bf16⟩
  | .hbm, ⟨7, _⟩ => ⟨S2x4096x512, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x512, .bf16⟩
  | .local _ .vmem, ⟨5, _⟩ => ⟨S1x512, .f32⟩
  | .local _ .vmem, ⟨6, _⟩ => ⟨S256x512, .bf16⟩
  | .local _ .vmem, ⟨7, _⟩ => ⟨S1x512, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4096x512 : Shape := ⟨2, ![4096, 512]⟩
abbrev S256x512 : Shape := ⟨2, ![256, 512]⟩
abbrev S1x512 : Shape := ⟨2, ![1, 512]⟩
abbrev S4096x2x256 : Shape := ⟨3, ![4096, 2, 256]⟩
abbrev S2x4096x256 : Shape := ⟨3, ![2, 4096, 256]⟩
abbrev S2x4096x512 : Shape := ⟨3, ![2, 4096, 512]⟩
abbrev S512 : Shape := ⟨1, ![512]⟩
abbrev S1x1x512 : Shape := ⟨3, ![1, 1, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S256x512, .bf16⟩
  | .hbm, ⟨3, _⟩ => ⟨S1x512, .f32⟩
  | .hbm, ⟨4, _⟩ => ⟨S256x512, .bf16⟩
  | .hbm, ⟨5, _⟩ => ⟨S1x512, .f32⟩
  | .hbm, ⟨6, _⟩ => ⟨S4096x2x256, .f32⟩
  | .hbm, ⟨7, _⟩ => ⟨S2x4096x256, .f32⟩
  | .hbm, ⟨8, _⟩ => ⟨S4096x2x256, .f32⟩
  | .hbm, ⟨9, _⟩ => ⟨S2x4096x256, .f32⟩
  | .hbm, ⟨10, _⟩ => ⟨S2x4096x256, .f32⟩
  | .hbm, ⟨11, _⟩ => ⟨S256x512, .f32⟩
  | .hbm, ⟨12, _⟩ => ⟨S2x4096x512, .f32⟩
  | .hbm, ⟨13, _⟩ => ⟨S512, .f32⟩
  | .hbm, ⟨14, _⟩ => ⟨S1x1x512, .f32⟩
  | .hbm, ⟨15, _⟩ => ⟨S2x4096x512, .f32⟩
  | .hbm, ⟨16, _⟩ => ⟨S2x4096x512, .f32⟩
  | .hbm, ⟨17, _⟩ => ⟨S256x512, .f32⟩
  | .hbm, ⟨18, _⟩ => ⟨S2x4096x512, .f32⟩
  | .hbm, ⟨19, _⟩ => ⟨S512, .f32⟩
  | .hbm, ⟨20, _⟩ => ⟨S1x1x512, .f32⟩
  | .hbm, ⟨21, _⟩ => ⟨S2x4096x512, .f32⟩
  | .hbm, ⟨22, _⟩ => ⟨S2x4096x512, .f32⟩
  | .hbm, ⟨23, _⟩ => ⟨S2x4096x512, .bf16⟩
  | .hbm, ⟨24, _⟩ => ⟨S2x4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S2x300x256 : Shape := ⟨3, ![2, 300, 256]⟩
abbrev S300x512 : Shape := ⟨2, ![300, 512]⟩
abbrev S2x300x300 : Shape := ⟨3, ![2, 300, 300]⟩
abbrev S256x256 : Shape := ⟨2, ![256, 256]⟩
abbrev S1x256 : Shape := ⟨2, ![1, 256]⟩
abbrev S1x300x256 : Shape := ⟨3, ![1, 300, 256]⟩
abbrev S300x256 : Shape := ⟨2, ![300, 256]⟩
abbrev S1x300x300 : Shape := ⟨3, ![1, 300, 300]⟩
abbrev S300x300 : Shape := ⟨2, ![300, 300]⟩
abbrev S300x32 : Shape := ⟨2, ![300, 32]⟩
abbrev S300 : Shape := ⟨1, ![300]⟩
abbrev S300x1 : Shape := ⟨2, ![300, 1]⟩

abbrev nBuf : Space → Nat
  | .hbm => 14
  | .vmem => 18
  | .smem => 0
  | _ => 0

abbrev bufTy : (tb : Table) → Fin (tcTables nBuf tb) → BufTy
  | .hbm, ⟨0, _⟩ => ⟨S2x300x256, .f32⟩
  | .hbm, ⟨1, _⟩ => ⟨S300x512, .f32⟩
  | .hbm, ⟨2, _⟩ => ⟨S2x300x300, .f32⟩
  | .hbm, ⟨3, _⟩ => ⟨S256x256, .bf16⟩
  | .hbm, ⟨4, _⟩ => ⟨S1x256, .f32⟩
  | .hbm, ⟨5, _⟩ => ⟨S256x256, .bf16⟩
  | .hbm, ⟨6, _⟩ => ⟨S1x256, .f32⟩
  | .hbm, ⟨7, _⟩ => ⟨S256x256, .bf16⟩
  | .hbm, ⟨8, _⟩ => ⟨S1x256, .f32⟩
  | .hbm, ⟨9, _⟩ => ⟨S256x256, .bf16⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S2x300x256, .f32⟩
  | .local _ .vmem, ⟨0, _⟩ => ⟨S1x300x256, .f32⟩
  | .local _ .vmem, ⟨1, _⟩ => ⟨S1x300x256, .f32⟩
  | .local _ .vmem, ⟨2, _⟩ => ⟨S300x256, .f32⟩
  | .local _ .vmem, ⟨3, _⟩ => ⟨S300x256, .f32⟩
  | .local _ .vmem, ⟨4, _⟩ => ⟨S1x300x300, .f32⟩
  | .local _ .vmem, ⟨5, _⟩ => ⟨S1x300x300, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x300x256, .f32⟩
  | .local _ .vmem, ⟨17, _⟩ => ⟨S1x300x256, .f32⟩
  | _, _ => ⟨S2x300x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x300x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S300x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x300x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x300x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel3Ideal.lean ====
variable {F : FTy → Type} [FloatOps F] [Named F]
def κ : String → Option EReal := fun
  | "s" => some (((Real.sqrt 32)⁻¹ : ℝ) : EReal)
  | _ => none
-- ==== Reference3Ideal.lean ====
abbrev S2x300x256 : Shape := ⟨3, ![2, 300, 256]⟩
abbrev S300x512 : Shape := ⟨2, ![300, 512]⟩
abbrev S2x300x300 : Shape := ⟨3, ![2, 300, 300]⟩
abbrev S256x256 : Shape := ⟨2, ![256, 256]⟩
abbrev S1x256 : Shape := ⟨2, ![1, 256]⟩
abbrev S300x2x256 : Shape := ⟨3, ![300, 2, 256]⟩
abbrev S256 : Shape := ⟨1, ![256]⟩
abbrev S1x1x256 : Shape := ⟨3, ![1, 1, 256]⟩
abbrev S2x300x8x32 : Shape := ⟨4, ![2, 300, 8, 32]⟩
abbrev S2x8x300x32 : Shape := ⟨4, ![2, 8, 300, 32]⟩
abbrev S2x8x300x300 : Shape := ⟨4, ![2, 8, 300, 300]⟩
abbrev S_ : Shape := ⟨0, ![]⟩
abbrev S2x1x300x300 : Shape := ⟨4, ![2, 1, 300, 300]⟩
abbrev S2x8x300 : Shape := ⟨3, ![2, 8, 300]⟩
abbrev S2x8x300x1 : Shape := ⟨4, ![2, 8, 300, 1]⟩
abbrev S2x300 : Shape := ⟨2, ![2, 300]⟩
abbrev S2x300x1 : Shape := ⟨3, ![2, 300, 1]⟩

abbrev nBuf : Space → Nat
  | .hbm => 115
  | .vmem => 0
  | .smem => 0
  | _ => 0

abbrev bufTy : (tb : Table) → Fin (tcTables nBuf tb) → BufTy
  | .hbm, ⟨0, _⟩ => ⟨S2x300x256, .f32⟩
  | .hbm, ⟨1, _⟩ => ⟨S300x512, .f32⟩
  | .hbm, ⟨2, _⟩ => ⟨S2x300x300, .f32⟩
  | .hbm, ⟨3, _⟩ => ⟨S256x256, .bf16⟩
  | .hbm, ⟨4, _⟩ => ⟨S1x256, .f32⟩
  | .hbm, ⟨5, _⟩ => ⟨S256x256, .bf16⟩
  | .hbm, ⟨6, _⟩ => ⟨S1x256, .f32⟩
  | .hbm, ⟨7, _⟩ => ⟨S256x256, .bf16⟩
  | .hbm, ⟨8, _⟩ => ⟨S1x256, .f32⟩
  | .hbm, ⟨9, _⟩ => ⟨S256x256, .bf16⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S300x2x256, .f32⟩
  | .hbm, ⟨14, _⟩ => ⟨S2x300x256, .f32⟩
  | .hbm, ⟨15, _⟩ => ⟨S2x300x256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x256, .f32⟩
  | .hbm, ⟨21, _⟩ => ⟨S256, .f32⟩
  | .hbm, ⟨22, _⟩ => ⟨S256x256, .f32⟩
  | .hbm, ⟨23, _⟩ => ⟨S256, .f32⟩
  | .hbm, ⟨24, _⟩ => ⟨S2x300x256, .f32⟩
  | .hbm, ⟨25, _⟩ => ⟨S1x1x256, .f32⟩
  | .hbm, ⟨26, _⟩ => ⟨S2x300x256, .f32⟩
  | .hbm, ⟨27, _⟩ => ⟨S2x300x256, .f32⟩
  | .hbm, ⟨28, _⟩ => ⟨S2x300x8x32, .f32⟩
  | .hbm, ⟨29, _⟩ => ⟨S2x8x300x32, .f32⟩
  | .hbm, ⟨30, _⟩ => ⟨S2x300x256, .f32⟩
  | .hbm, ⟨31, _⟩ => ⟨S1x1x256, .f32⟩
  | .hbm, ⟨32, _⟩ => ⟨S2x300x256, .f32⟩
  | .hbm, ⟨33, _⟩ => ⟨S2x300x256, .f32⟩
  | .hbm, ⟨34, _⟩ => ⟨S2x300x8x32, .f32⟩
  | .hbm, ⟨35, _⟩ => ⟨S2x8x300x32, .f32⟩
  | .hbm, ⟨36, _⟩ => ⟨S2x300x256, .f32⟩
  | .hbm, ⟨37, _⟩ => ⟨S1x1x256, .f32⟩
  | .hbm, ⟨38, _⟩ => ⟨S2x300x256, .f32⟩
  | .hbm, ⟨39, _⟩ => ⟨S2x300x256, .f32⟩
  | .hbm, ⟨40, _⟩ => ⟨S2x300x8x32, .f32⟩
  | .hbm, ⟨41, _⟩ => ⟨S2x8x300x32, .f32⟩
  | .hbm, ⟨42, _⟩ => ⟨S2x8x300x300, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2x8x300x300, .f32⟩
  | .hbm, ⟨47, _⟩ => ⟨S2x8x300x300, .f32⟩
  | .hbm, ⟨48, _⟩ => ⟨S2x1x300x300, .f32⟩
  | .hbm, ⟨49, _⟩ => ⟨S_, .f32⟩
  | .hbm, ⟨50, _⟩ => ⟨S2x1x300x300, .f32⟩
  | .hbm, ⟨51, _⟩ => ⟨S2x1x300x300, .i1⟩
  | .hbm, ⟨52, _⟩ => ⟨S_, .f32⟩
  | .hbm, ⟨53, _⟩ => ⟨S_, .f32⟩
  | .hbm, ⟨54, _⟩ => ⟨S2x8x300x300, .i1⟩
  | .hbm, ⟨55, _⟩ => ⟨S2x8x300x300, .f32⟩
  | .hbm, ⟨56, _⟩ => ⟨S2x8x300x300, .f32⟩
  | .hbm, ⟨57, _⟩ => ⟨S_, .f32⟩
  | .hbm, ⟨58, _⟩ => ⟨S2x8x300, .f32⟩
  | .hbm, ⟨59, _⟩ => ⟨S2x8x300x1, .f32⟩
  | .hbm, ⟨60, _⟩ => ⟨S2x8x300x300, .f32⟩
  | .hbm, ⟨61, _⟩ => ⟨S2x8x300x300, .f32⟩
  | .hbm, ⟨62, _⟩ => ⟨S2x8x300x300, .f32⟩
  | .hbm, ⟨63, _⟩ => ⟨S_, .f32⟩
  | .hbm, ⟨64, _⟩ => ⟨S2x8x300, .f32⟩
  | .hbm, ⟨65, _⟩ => ⟨S2x8x300x1, .f32⟩
  | .hbm, ⟨66, _⟩ => ⟨S_, .f32⟩
  | .hbm, ⟨67, _⟩ => ⟨S2x8x300x1, .f32⟩
  | .hbm, ⟨68, _⟩ => ⟨S2x8x300x1, .f32⟩
  | .hbm, ⟨69, _⟩ => ⟨S2x8x300x300, .f32⟩
  | .hbm, ⟨70, _⟩ => ⟨S2x8x300x300, .f32⟩
  | .hbm, ⟨71, _⟩ => ⟨S2x8x300x32, .f32⟩
  | .hbm, ⟨72, _⟩ => ⟨S2x300x8x32, .f32⟩
  | .hbm, ⟨73, _⟩ => ⟨S2x300x256, .f32⟩
  | .hbm, ⟨74, _⟩ => ⟨S2x300x256, .f32⟩
  | .hbm, ⟨75, _⟩ => ⟨S1x1x256, .f32⟩
  | .hbm, ⟨76, _⟩ => ⟨S2x300x256, .f32⟩
  | .hbm, ⟨77, _⟩ => ⟨S2x300x256, .f32⟩
  | .hbm, ⟨78, _⟩ => ⟨S_, .f32⟩
  | .hbm, ⟨79, _⟩ => ⟨S2x300x300, .f32⟩
  | .hbm, ⟨80, _⟩ => ⟨S_, .f32⟩
  | .hbm, ⟨81, _⟩ => ⟨S2x300x300, .f32⟩
  | .hbm, ⟨82, _⟩ => ⟨S2x300x300, .f32⟩
  | .hbm, ⟨83, _⟩ => ⟨S2x300x256, .f32⟩
  | .hbm, ⟨84, _⟩ => ⟨S256, .f32⟩
  | .hbm, ⟨85, _⟩ => ⟨S256, .f32⟩
  | .hbm, ⟨86, _⟩ => ⟨S_, .f32⟩
  | .hbm, ⟨87, _⟩ => ⟨S2x300, .f32⟩
  | .hbm, ⟨88, _⟩ => ⟨S2x300x1, .f32⟩
  | .hbm, ⟨89, _⟩ => ⟨S_, .f32⟩
  | .hbm, ⟨90, _⟩ => ⟨S2x300x1, .f32⟩
  | .hbm, ⟨91, _⟩ => ⟨S2x300x1, .f32⟩
  | .hbm, ⟨92, _⟩ => ⟨S2x300x256, .f32⟩
  | .hbm, ⟨93, _⟩ => ⟨S2x300x256, .f32⟩
  | .hbm, ⟨94, _⟩ => ⟨S2x300x256, .f32⟩
  | .hbm, ⟨95, _⟩ => ⟨S_, .f32⟩
  | .hbm, ⟨96, _⟩ => ⟨S2x300, .f32⟩
  | .hbm, ⟨97, _⟩ => ⟨S2x300x1, .f32⟩
  | .hbm, ⟨98, _⟩ => ⟨S_, .f32⟩
  | .hbm, ⟨99, _⟩ => ⟨S2x300x1, .f32⟩
  | .hbm, ⟨100, _⟩ => ⟨S2x300x1, .f32⟩
  | .hbm, ⟨101, _⟩ => ⟨S2x300x256, .f32⟩
  | .hbm, ⟨102, _⟩ => ⟨S2x300x256, .f32⟩
  | .hbm, ⟨103, _⟩ => ⟨S_, .f32⟩
  | .hbm, ⟨104, _⟩ => ⟨S2x300x1, .f32⟩
  | .hbm, ⟨105, _⟩ => ⟨S2x300x1, .f32⟩
  | .hbm, ⟨106, _⟩ => ⟨S2x300x1, .f32⟩
  | .hbm, ⟨107, _⟩ => ⟨S2x300x256, .f32⟩
  | .hbm, ⟨108, _⟩ => ⟨S2x300x256, .f32⟩
  | .hbm, ⟨109, _⟩ => ⟨S1x1x256, .f32⟩
  | .hbm, ⟨110, _⟩ => ⟨S2x300x256, .f32⟩
  | .hbm, ⟨111, _⟩ => ⟨S2x300x256, .f32⟩
  | .hbm, ⟨112, _⟩ => ⟨S1x1x256, .f32⟩
  | .hbm, ⟨113, _⟩ => ⟨S2x300x256, .f32⟩
  | .hbm, ⟨114, _⟩ => ⟨S2x300x256, .f32⟩
  | _, _ => ⟨S2x300x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_0 : Ref sig .tc := ⟨.hbm, 49, rfl⟩
abbrev main_v35 : Ref sig .tc := ⟨.hbm, 50, rfl⟩
abbrev main_v36 : Ref sig .tc := ⟨.hbm, 51, rfl⟩
abbrev main_cst_1 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_5 : Ref sig .tc := ⟨.hbm, 78, rfl⟩
abbrev main_v56 : Ref sig .tc := ⟨.hbm, 79, rfl⟩
abbrev main_cst_6 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_7 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_9 : Ref sig .tc := ⟨.hbm, 95, rfl⟩
abbrev main_v69 : Ref sig .tc := ⟨.hbm, 96, rfl⟩
abbrev main_v70 : Ref sig .tc := ⟨.hbm, 97, rfl⟩
abbrev main_cst_10 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_11 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]
-- ==== Kernel4.lean ====
abbrev S2x300x256 : Shape := ⟨3, ![2, 300, 256]⟩
abbrev S300x512 : Shape := ⟨2, ![300, 512]⟩
abbrev S2x4096x512 : Shape := ⟨3, ![2, 4096, 512]⟩
abbrev S256x256 : Shape := ⟨2, ![256, 256]⟩
abbrev S1x256 : Shape := ⟨2, ![1, 256]⟩
abbrev S2x300x4096 : Shape := ⟨3, ![2, 300, 4096]⟩
abbrev S1x300x256 : Shape := ⟨3, ![1, 300, 256]⟩
abbrev S300x256 : Shape := ⟨2, ![300, 256]⟩
abbrev S1x4096x256 : Shape := ⟨3, ![1, 4096, 256]⟩
abbrev S1x300x4096 : Shape := ⟨3, ![1, 300, 4096]⟩
abbrev S4096x256 : Shape := ⟨2, ![4096, 256]⟩
abbrev S300x32 : Shape := ⟨2, ![300, 32]⟩
abbrev S4096x32 : Shape := ⟨2, ![4096, 32]⟩
abbrev S300x4096 : Shape := ⟨2, ![300, 4096]⟩
abbrev S300 : Shape := ⟨1, ![300]⟩
abbrev S300x1 : Shape := ⟨2, ![300, 1]⟩

abbrev nBuf : Space → Nat
  | .hbm => 12
  | .vmem => 18
  | .smem => 0
  | _ => 0

abbrev bufTy : (tb : Table) → Fin (tcTables nBuf tb) → BufTy
  | .hbm, ⟨0, _⟩ => ⟨S2x300x256, .f32⟩
  | .hbm, ⟨1, _⟩ => ⟨S300x512, .f32⟩
  | .hbm, ⟨2, _⟩ => ⟨S2x4096x512, .bf16⟩
  | .hbm, ⟨3, _⟩ => ⟨S2x4096x512, .bf16⟩
  | .hbm, ⟨4, _⟩ => ⟨S256x256, .bf16⟩
  | .hbm, ⟨5, _⟩ => ⟨S1x256, .f32⟩
  | .hbm, ⟨6, _⟩ => ⟨S256x256, .bf16⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S2x300x256, .f32⟩
  | .hbm, ⟨11, _⟩ => ⟨S2x300x4096, .f32⟩
  | .local _ .vmem, ⟨0, _⟩ => ⟨S1x300x256, .f32⟩
  | .local _ .vmem, ⟨1, _⟩ => ⟨S1x300x256, .f32⟩
  | .local _ .vmem, ⟨2, _⟩ => ⟨S300x256, .f32⟩
  | .local _ .vmem, ⟨3, _⟩ => ⟨S300x256, .f32⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x300x256, .f32⟩
  | .local _ .vmem, ⟨15, _⟩ => ⟨S1x300x256, .f32⟩
  | .local _ .vmem, ⟨16, _⟩ => ⟨S1x300x4096, .f32⟩
  | .local _ .vmem, ⟨17, _⟩ => ⟨S1x300x4096, .f32⟩
  | _, _ => ⟨S2x300x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x300x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S300x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x300x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x300x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel4Ideal.lean ====
variable {F : FTy → Type} [FloatOps F] [Named F]
def κ : String → Option EReal := fun
  | "s" => some (((Real.sqrt 32)⁻¹ : ℝ) : EReal)
  | _ => none
-- ==== Reference4Ideal.lean ====
abbrev S2x300x256 : Shape := ⟨3, ![2, 300, 256]⟩
abbrev S300x512 : Shape := ⟨2, ![300, 512]⟩
abbrev S2x4096x512 : Shape := ⟨3, ![2, 4096, 512]⟩
abbrev S256x256 : Shape := ⟨2, ![256, 256]⟩
abbrev S1x256 : Shape := ⟨2, ![1, 256]⟩
abbrev S300x2x256 : Shape := ⟨3, ![300, 2, 256]⟩
abbrev S2x4096x256 : Shape := ⟨3, ![2, 4096, 256]⟩
abbrev S256 : Shape := ⟨1, ![256]⟩
abbrev S1x1x256 : Shape := ⟨3, ![1, 1, 256]⟩
abbrev S2x300x8x32 : Shape := ⟨4, ![2, 300, 8, 32]⟩
abbrev S2x8x300x32 : Shape := ⟨4, ![2, 8, 300, 32]⟩
abbrev S2x4096x8x32 : Shape := ⟨4, ![2, 4096, 8, 32]⟩
abbrev S2x8x4096x32 : Shape := ⟨4, ![2, 8, 4096, 32]⟩
abbrev S2x8x300x4096 : Shape := ⟨4, ![2, 8, 300, 4096]⟩
abbrev S_ : Shape := ⟨0, ![]⟩
abbrev S2x8x300 : Shape := ⟨3, ![2, 8, 300]⟩
abbrev S2x8x300x1 : Shape := ⟨4, ![2, 8, 300, 1]⟩
abbrev S2x300 : Shape := ⟨2, ![2, 300]⟩
abbrev S2x300x1 : Shape := ⟨3, ![2, 300, 1]⟩
abbrev S2x300x4096 : Shape := ⟨3, ![2, 300, 4096]⟩

abbrev nBuf : Space → Nat
  | .hbm => 95
  | .vmem => 0
  | .smem => 0
  | _ => 0

abbrev bufTy : (tb : Table) → Fin (tcTables nBuf tb) → BufTy
  | .hbm, ⟨0, _⟩ => ⟨S2x300x256, .f32⟩
  | .hbm, ⟨1, _⟩ => ⟨S300x512, .f32⟩
  | .hbm, ⟨2, _⟩ => ⟨S2x4096x512, .bf16⟩
  | .hbm, ⟨3, _⟩ => ⟨S2x4096x512, .bf16⟩
  | .hbm, ⟨4, _⟩ => ⟨S256x256, .bf16⟩
  | .hbm, ⟨5, _⟩ => ⟨S1x256, .f32⟩
  | .hbm, ⟨6, _⟩ => ⟨S256x256, .bf16⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S300x2x256, .f32⟩
  | .hbm, ⟨11, _⟩ => ⟨S2x300x256, .f32⟩
  | .hbm, ⟨12, _⟩ => ⟨S2x4096x256, .bf16⟩
  | .hbm, ⟨13, _⟩ => ⟨S2x4096x256, .f32⟩
  | .hbm, ⟨14, _⟩ => ⟨S2x4096x256, .bf16⟩
  | .hbm, ⟨15, _⟩ => ⟨S2x4096x256, .f32⟩
  | .hbm, ⟨16, _⟩ => ⟨S2x300x256, .f32⟩
  | .hbm, ⟨17, _⟩ => ⟨S256x256, .f32⟩
  | .hbm, ⟨18, _⟩ => ⟨S2x300x256, .f32⟩
  | .hbm, ⟨19, _⟩ => ⟨S256, .f32⟩
  | .hbm, ⟨20, _⟩ => ⟨S1x1x256, .f32⟩
  | .hbm, ⟨21, _⟩ => ⟨S2x300x256, .f32⟩
  | .hbm, ⟨22, _⟩ => ⟨S2x300x256, .f32⟩
  | .hbm, ⟨23, _⟩ => ⟨S2x300x8x32, .f32⟩
  | .hbm, ⟨24, _⟩ => ⟨S2x8x300x32, .f32⟩
  | .hbm, ⟨25, _⟩ => ⟨S2x4096x8x32, .f32⟩
  | .hbm, ⟨26, _⟩ => ⟨S2x8x4096x32, .f32⟩
  | .hbm, ⟨27, _⟩ => ⟨S2x4096x8x32, .f32⟩
  | .hbm, ⟨28, _⟩ => ⟨S2x8x4096x32, .f32⟩
  | .hbm, ⟨29, _⟩ => ⟨S2x8x300x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x8x300x4096, .f32⟩
  | .hbm, ⟨34, _⟩ => ⟨S2x8x300x4096, .f32⟩
  | .hbm, ⟨35, _⟩ => ⟨S_, .f32⟩
  | .hbm, ⟨36, _⟩ => ⟨S2x8x300, .f32⟩
  | .hbm, ⟨37, _⟩ => ⟨S2x8x300x1, .f32⟩
  | .hbm, ⟨38, _⟩ => ⟨S2x8x300x4096, .f32⟩
  | .hbm, ⟨39, _⟩ => ⟨S2x8x300x4096, .f32⟩
  | .hbm, ⟨40, _⟩ => ⟨S2x8x300x4096, .f32⟩
  | .hbm, ⟨41, _⟩ => ⟨S_, .f32⟩
  | .hbm, ⟨42, _⟩ => ⟨S2x8x300, .f32⟩
  | .hbm, ⟨43, _⟩ => ⟨S2x8x300x1, .f32⟩
  | .hbm, ⟨44, _⟩ => ⟨S_, .f32⟩
  | .hbm, ⟨45, _⟩ => ⟨S2x8x300x1, .f32⟩
  | .hbm, ⟨46, _⟩ => ⟨S2x8x300x1, .f32⟩
  | .hbm, ⟨47, _⟩ => ⟨S2x8x300x4096, .f32⟩
  | .hbm, ⟨48, _⟩ => ⟨S2x8x300x4096, .f32⟩
  | .hbm, ⟨49, _⟩ => ⟨S2x8x300x32, .f32⟩
  | .hbm, ⟨50, _⟩ => ⟨S2x300x8x32, .f32⟩
  | .hbm, ⟨51, _⟩ => ⟨S2x300x256, .f32⟩
  | .hbm, ⟨52, _⟩ => ⟨S256x256, .f32⟩
  | .hbm, ⟨53, _⟩ => ⟨S2x300x256, .f32⟩
  | .hbm, ⟨54, _⟩ => ⟨S256, .f32⟩
  | .hbm, ⟨55, _⟩ => ⟨S1x1x256, .f32⟩
  | .hbm, ⟨56, _⟩ => ⟨S2x300x256, .f32⟩
  | .hbm, ⟨57, _⟩ => ⟨S2x300x256, .f32⟩
  | .hbm, ⟨58, _⟩ => ⟨S2x300x256, .f32⟩
  | .hbm, ⟨59, _⟩ => ⟨S256, .f32⟩
  | .hbm, ⟨60, _⟩ => ⟨S256, .f32⟩
  | .hbm, ⟨61, _⟩ => ⟨S_, .f32⟩
  | .hbm, ⟨62, _⟩ => ⟨S2x300, .f32⟩
  | .hbm, ⟨63, _⟩ => ⟨S2x300x1, .f32⟩
  | .hbm, ⟨64, _⟩ => ⟨S_, .f32⟩
  | .hbm, ⟨65, _⟩ => ⟨S2x300x1, .f32⟩
  | .hbm, ⟨66, _⟩ => ⟨S2x300x1, .f32⟩
  | .hbm, ⟨67, _⟩ => ⟨S2x300x256, .f32⟩
  | .hbm, ⟨68, _⟩ => ⟨S2x300x256, .f32⟩
  | .hbm, ⟨69, _⟩ => ⟨S2x300x256, .f32⟩
  | .hbm, ⟨70, _⟩ => ⟨S_, .f32⟩
  | .hbm, ⟨71, _⟩ => ⟨S2x300, .f32⟩
  | .hbm, ⟨72, _⟩ => ⟨S2x300x1, .f32⟩
  | .hbm, ⟨73, _⟩ => ⟨S_, .f32⟩
  | .hbm, ⟨74, _⟩ => ⟨S2x300x1, .f32⟩
  | .hbm, ⟨75, _⟩ => ⟨S2x300x1, .f32⟩
  | .hbm, ⟨76, _⟩ => ⟨S2x300x256, .f32⟩
  | .hbm, ⟨77, _⟩ => ⟨S2x300x256, .f32⟩
  | .hbm, ⟨78, _⟩ => ⟨S_, .f32⟩
  | .hbm, ⟨79, _⟩ => ⟨S2x300x1, .f32⟩
  | .hbm, ⟨80, _⟩ => ⟨S2x300x1, .f32⟩
  | .hbm, ⟨81, _⟩ => ⟨S2x300x1, .f32⟩
  | .hbm, ⟨82, _⟩ => ⟨S2x300x256, .f32⟩
  | .hbm, ⟨83, _⟩ => ⟨S2x300x256, .f32⟩
  | .hbm, ⟨84, _⟩ => ⟨S1x1x256, .f32⟩
  | .hbm, ⟨85, _⟩ => ⟨S2x300x256, .f32⟩
  | .hbm, ⟨86, _⟩ => ⟨S2x300x256, .f32⟩
  | .hbm, ⟨87, _⟩ => ⟨S1x1x256, .f32⟩
  | .hbm, ⟨88, _⟩ => ⟨S2x300x256, .f32⟩
  | .hbm, ⟨89, _⟩ => ⟨S2x300x256, .f32⟩
  | .hbm, ⟨90, _⟩ => ⟨S_, .f32⟩
  | .hbm, ⟨91, _⟩ => ⟨S2x300x4096, .f32⟩
  | .hbm, ⟨92, _⟩ => ⟨S_, .f32⟩
  | .hbm, ⟨93, _⟩ => ⟨S2x300x4096, .f32⟩
  | .hbm, ⟨94, _⟩ => ⟨S2x300x4096, .f32⟩
  | _, _ => ⟨S2x300x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_5 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_cst_9 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Kernel5.lean ====
abbrev S2x300x256 : Shape := ⟨3, ![2, 300, 256]⟩
abbrev S256x2048 : Shape := ⟨2, ![256, 2048]⟩
abbrev S1x2048 : Shape := ⟨2, ![1, 2048]⟩
abbrev S2048x256 : Shape := ⟨2, ![2048, 256]⟩
abbrev S1x256 : Shape := ⟨2, ![1, 256]⟩
abbrev S1x300x256 : Shape := ⟨3, ![1, 300, 256]⟩
abbrev S300x256 : Shape := ⟨2, ![300, 256]⟩
abbrev S300x2048 : Shape := ⟨2, ![300, 2048]⟩
abbrev S300 : Shape := ⟨1, ![300]⟩
abbrev S300x1 : Shape := ⟨2, ![300, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x300x256, .f32⟩
  | .hbm, ⟨1, _⟩ => ⟨S256x2048, .bf16⟩
  | .hbm, ⟨2, _⟩ => ⟨S1x2048, .f32⟩
  | .hbm, ⟨3, _⟩ => ⟨S2048x256, .bf16⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S2x300x256, .f32⟩
  | .local _ .vmem, ⟨0, _⟩ => ⟨S1x300x256, .f32⟩
  | .local _ .vmem, ⟨1, _⟩ => ⟨S1x300x256, .f32⟩
  | .local _ .vmem, ⟨2, _⟩ => ⟨S256x2048, .bf16⟩
  | .local _ .vmem, ⟨3, _⟩ => ⟨S1x2048, .f32⟩
  | .local _ .vmem, ⟨4, _⟩ => ⟨S2048x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x300x256, .f32⟩
  | .local _ .vmem, ⟨11, _⟩ => ⟨S1x300x256, .f32⟩
  | _, _ => ⟨S2x300x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x300x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x300x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S2x300x256 : Shape := ⟨3, ![2, 300, 256]⟩
abbrev S256x2048 : Shape := ⟨2, ![256, 2048]⟩
abbrev S1x2048 : Shape := ⟨2, ![1, 2048]⟩
abbrev S2048x256 : Shape := ⟨2, ![2048, 256]⟩
abbrev S1x256 : Shape := ⟨2, ![1, 256]⟩
abbrev S2x300x2048 : Shape := ⟨3, ![2, 300, 2048]⟩
abbrev S2048 : Shape := ⟨1, ![2048]⟩
abbrev S1x1x2048 : Shape := ⟨3, ![1, 1, 2048]⟩
abbrev S_ : Shape := ⟨0, ![]⟩
abbrev S256 : Shape := ⟨1, ![256]⟩
abbrev S1x1x256 : Shape := ⟨3, ![1, 1, 256]⟩
abbrev S2x300 : Shape := ⟨2, ![2, 300]⟩
abbrev S2x300x1 : Shape := ⟨3, ![2, 300, 1]⟩

abbrev nBuf : Space → Nat
  | .hbm => 87
  | .vmem => 0
  | .smem => 0
  | _ => 0

abbrev bufTy : (tb : Table) → Fin (tcTables nBuf tb) → BufTy
  | .hbm, ⟨0, _⟩ => ⟨S2x300x256, .f32⟩
  | .hbm, ⟨1, _⟩ => ⟨S256x2048, .bf16⟩
  | .hbm, ⟨2, _⟩ => ⟨S1x2048, .f32⟩
  | .hbm, ⟨3, _⟩ => ⟨S2048x256, .bf16⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S256x2048, .f32⟩
  | .hbm, ⟨10, _⟩ => ⟨S2x300x2048, .f32⟩
  | .hbm, ⟨11, _⟩ => ⟨S2048, .f32⟩
  | .hbm, ⟨12, _⟩ => ⟨S1x1x2048, .f32⟩
  | .hbm, ⟨13, _⟩ => ⟨S2x300x2048, .f32⟩
  | .hbm, ⟨14, _⟩ => ⟨S2x300x2048, .f32⟩
  | .hbm, ⟨15, _⟩ => ⟨S_, .f32⟩
  | .hbm, ⟨16, _⟩ => ⟨S2x300x2048, .f32⟩
  | .hbm, ⟨17, _⟩ => ⟨S2x300x2048, .f32⟩
  | .hbm, ⟨18, _⟩ => ⟨S2048x256, .f32⟩
  | .hbm, ⟨19, _⟩ => ⟨S2x300x256, .f32⟩
  | .hbm, ⟨20, _⟩ => ⟨S256, .f32⟩
  | .hbm, ⟨21, _⟩ => ⟨S1x1x256, .f32⟩
  | .hbm, ⟨22, _⟩ => ⟨S2x300x256, .f32⟩
  | .hbm, ⟨23, _⟩ => ⟨S2x300x256, .f32⟩
  | .hbm, ⟨24, _⟩ => ⟨S2x300x256, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S2x300, .f32⟩
  | .hbm, ⟨29, _⟩ => ⟨S2x300x1, .f32⟩
  | .hbm, ⟨30, _⟩ => ⟨S_, .f32⟩
  | .hbm, ⟨31, _⟩ => ⟨S2x300x1, .f32⟩
  | .hbm, ⟨32, _⟩ => ⟨S2x300x1, .f32⟩
  | .hbm, ⟨33, _⟩ => ⟨S2x300x256, .f32⟩
  | .hbm, ⟨34, _⟩ => ⟨S2x300x256, .f32⟩
  | .hbm, ⟨35, _⟩ => ⟨S2x300x256, .f32⟩
  | .hbm, ⟨36, _⟩ => ⟨S_, .f32⟩
  | .hbm, ⟨37, _⟩ => ⟨S2x300, .f32⟩
  | .hbm, ⟨38, _⟩ => ⟨S2x300x1, .f32⟩
  | .hbm, ⟨39, _⟩ => ⟨S_, .f32⟩
  | .hbm, ⟨40, _⟩ => ⟨S2x300x1, .f32⟩
  | .hbm, ⟨41, _⟩ => ⟨S2x300x1, .f32⟩
  | .hbm, ⟨42, _⟩ => ⟨S2x300x256, .f32⟩
  | .hbm, ⟨43, _⟩ => ⟨S2x300x256, .f32⟩
  | .hbm, ⟨44, _⟩ => ⟨S_, .f32⟩
  | .hbm, ⟨45, _⟩ => ⟨S2x300x1, .f32⟩
  | .hbm, ⟨46, _⟩ => ⟨S2x300x1, .f32⟩
  | .hbm, ⟨47, _⟩ => ⟨S2x300x1, .f32⟩
  | .hbm, ⟨48, _⟩ => ⟨S2x300x256, .f32⟩
  | .hbm, ⟨49, _⟩ => ⟨S2x300x256, .f32⟩
  | .hbm, ⟨50, _⟩ => ⟨S1x1x256, .f32⟩
  | .hbm, ⟨51, _⟩ => ⟨S2x300x256, .f32⟩
  | .hbm, ⟨52, _⟩ => ⟨S2x300x256, .f32⟩
  | .hbm, ⟨53, _⟩ => ⟨S1x1x256, .f32⟩
  | .hbm, ⟨54, _⟩ => ⟨S2x300x256, .f32⟩
  | .hbm, ⟨55, _⟩ => ⟨S2x300x256, .f32⟩
  | .hbm, ⟨56, _⟩ => ⟨S256, .f32⟩
  | .hbm, ⟨57, _⟩ => ⟨S256, .f32⟩
  | .hbm, ⟨58, _⟩ => ⟨S_, .f32⟩
  | .hbm, ⟨59, _⟩ => ⟨S2x300, .f32⟩
  | .hbm, ⟨60, _⟩ => ⟨S2x300x1, .f32⟩
  | .hbm, ⟨61, _⟩ => ⟨S_, .f32⟩
  | .hbm, ⟨62, _⟩ => ⟨S2x300x1, .f32⟩
  | .hbm, ⟨63, _⟩ => ⟨S2x300x1, .f32⟩
  | .hbm, ⟨64, _⟩ => ⟨S2x300x256, .f32⟩
  | .hbm, ⟨65, _⟩ => ⟨S2x300x256, .f32⟩
  | .hbm, ⟨66, _⟩ => ⟨S2x300x256, .f32⟩
  | .hbm, ⟨67, _⟩ => ⟨S_, .f32⟩
  | .hbm, ⟨68, _⟩ => ⟨S2x300, .f32⟩
  | .hbm, ⟨69, _⟩ => ⟨S2x300x1, .f32⟩
  | .hbm, ⟨70, _⟩ => ⟨S_, .f32⟩
  | .hbm, ⟨71, _⟩ => ⟨S2x300x1, .f32⟩
  | .hbm, ⟨72, _⟩ => ⟨S2x300x1, .f32⟩
  | .hbm, ⟨73, _⟩ => ⟨S2x300x256, .f32⟩
  | .hbm, ⟨74, _⟩ => ⟨S2x300x256, .f32⟩
  | .hbm, ⟨75, _⟩ => ⟨S_, .f32⟩
  | .hbm, ⟨76, _⟩ => ⟨S2x300x1, .f32⟩
  | .hbm, ⟨77, _⟩ => ⟨S2x300x1, .f32⟩
  | .hbm, ⟨78, _⟩ => ⟨S2x300x1, .f32⟩
  | .hbm, ⟨79, _⟩ => ⟨S2x300x256, .f32⟩
  | .hbm, ⟨80, _⟩ => ⟨S2x300x256, .f32⟩
  | .hbm, ⟨81, _⟩ => ⟨S1x1x256, .f32⟩
  | .hbm, ⟨82, _⟩ => ⟨S2x300x256, .f32⟩
  | .hbm, ⟨83, _⟩ => ⟨S2x300x256, .f32⟩
  | .hbm, ⟨84, _⟩ => ⟨S1x1x256, .f32⟩
  | .hbm, ⟨85, _⟩ => ⟨S2x300x256, .f32⟩
  | .hbm, ⟨86, _⟩ => ⟨S2x300x256, .f32⟩
  | _, _ => ⟨S2x300x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel6.lean ====
abbrev S2x300x4 : Shape := ⟨3, ![2, 300, 4]⟩
abbrev S2x4x300 : Shape := ⟨3, ![2, 4, 300]⟩
abbrev S300x512 : Shape := ⟨2, ![300, 512]⟩
abbrev S2x4096x512 : Shape := ⟨3, ![2, 4096, 512]⟩
abbrev S256x256 : Shape := ⟨2, ![256, 256]⟩
abbrev S1x256 : Shape := ⟨2, ![1, 256]⟩
abbrev S256x2048 : Shape := ⟨2, ![256, 2048]⟩
abbrev S1x2048 : Shape := ⟨2, ![1, 2048]⟩
abbrev S2048x256 : Shape := ⟨2, ![2048, 256]⟩
abbrev S2x300x256 : Shape := ⟨3, ![2, 300, 256]⟩
abbrev S2x300x300 : Shape := ⟨3, ![2, 300, 300]⟩
abbrev S1x300x4 : Shape := ⟨3, ![1, 300, 4]⟩
abbrev S1x4x300 : Shape := ⟨3, ![1, 4, 300]⟩
abbrev S300x256 : Shape := ⟨2, ![300, 256]⟩
abbrev S1x4096x256 : Shape := ⟨3, ![1, 4096, 256]⟩
abbrev S1x300x256 : Shape := ⟨3, ![1, 300, 256]⟩
abbrev S1x300x300 : Shape := ⟨3, ![1, 300, 300]⟩
abbrev S1x300x1 : Shape := ⟨3, ![1, 300, 1]⟩
abbrev S300x1 : Shape := ⟨2, ![300, 1]⟩
abbrev S1x1x300 : Shape := ⟨3, ![1, 1, 300]⟩
abbrev S1x300 : Shape := ⟨2, ![1, 300]⟩
abbrev S300x300 : Shape := ⟨2, ![300, 300]⟩
abbrev S300 : Shape := ⟨1, ![300]⟩
abbrev S300x32 : Shape := ⟨2, ![300, 32]⟩
abbrev S4096x256 : Shape := ⟨2, ![4096, 256]⟩
abbrev S4096x32 : Shape := ⟨2, ![4096, 32]⟩
abbrev S300x4096 : Shape := ⟨2, ![300, 4096]⟩
abbrev S300x2048 : Shape := ⟨2, ![300, 2048]⟩

abbrev nBuf : Space → Nat
  | .hbm => 30
  | .vmem => 38
  | .smem => 0
  | _ => 0

abbrev bufTy : (tb : Table) → Fin (tcTables nBuf tb) → BufTy
  | .hbm, ⟨0, _⟩ => ⟨S2x300x4, .f32⟩
  | .hbm, ⟨1, _⟩ => ⟨S2x4x300, .f32⟩
  | .hbm, ⟨2, _⟩ => ⟨S300x512, .f32⟩
  | .hbm, ⟨3, _⟩ => ⟨S300x512, .f32⟩
  | .hbm, ⟨4, _⟩ => ⟨S2x4096x512, .bf16⟩
  | .hbm, ⟨5, _⟩ => ⟨S2x4096x512, .bf16⟩
  | .hbm, ⟨6, _⟩ => ⟨S256x256, .bf16⟩
  | .hbm, ⟨7, _⟩ => ⟨S1x256, .f32⟩
  | .hbm, ⟨8, _⟩ => ⟨S256x256, .bf16⟩
  | .hbm, ⟨9, _⟩ => ⟨S1x256, .f32⟩
  | .hbm, ⟨10, _⟩ => ⟨S256x256, .bf16⟩
  | .hbm, ⟨11, _⟩ => ⟨S1x256, .f32⟩
  | .hbm, ⟨12, _⟩ => ⟨S256x256, .bf16⟩
  | .hbm, ⟨13, _⟩ => ⟨S1x256, .f32⟩
  | .hbm, ⟨14, _⟩ => ⟨S256x256, .bf16⟩
  | .hbm, ⟨15, _⟩ => ⟨S1x256, .f32⟩
  | .hbm, ⟨16, _⟩ => ⟨S256x256, .bf16⟩
  | .hbm, ⟨17, _⟩ => ⟨S1x256, .f32⟩
  | .hbm, ⟨18, _⟩ => ⟨S256x2048, .bf16⟩
  | .hbm, ⟨19, _⟩ => ⟨S1x2048, .f32⟩
  | .hbm, ⟨20, _⟩ => ⟨S2048x256, .bf16⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S2x300x256, .f32⟩
  | .hbm, ⟨29, _⟩ => ⟨S2x300x300, .f32⟩
  | .local _ .vmem, ⟨0, _⟩ => ⟨S1x300x4, .f32⟩
  | .local _ .vmem, ⟨1, _⟩ => ⟨S1x300x4, .f32⟩
  | .local _ .vmem, ⟨2, _⟩ => ⟨S1x4x300, .f32⟩
  | .local _ .vmem, ⟨3, _⟩ => ⟨S1x4x300, .f32⟩
  | .local _ .vmem, ⟨4, _⟩ => ⟨S300x256, .f32⟩
  | .local _ .vmem, ⟨5, _⟩ => ⟨S300x256, .f32⟩
  | .local _ .vmem, ⟨6, _⟩ => ⟨S300x256, .f32⟩
  | .local _ .vmem, ⟨7, _⟩ => ⟨S300x256, .f32⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S256x256, .bf16⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S256x256, .bf16⟩
  | .local _ .vmem, ⟨19, _⟩ => ⟨S1x256, .f32⟩
  | .local _ .vmem, ⟨20, _⟩ => ⟨S256x256, .bf16⟩
  | .local _ .vmem, ⟨21, _⟩ => ⟨S1x256, .f32⟩
  | .local _ .vmem, ⟨22, _⟩ => ⟨S256x256, .bf16⟩
  | .local _ .vmem, ⟨23, _⟩ => ⟨S1x256, .f32⟩
  | .local _ .vmem, ⟨24, _⟩ => ⟨S256x2048, .bf16⟩
  | .local _ .vmem, ⟨25, _⟩ => ⟨S1x2048, .f32⟩
  | .local _ .vmem, ⟨26, _⟩ => ⟨S2048x256, .bf16⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x300x256, .f32⟩
  | .local _ .vmem, ⟨35, _⟩ => ⟨S1x300x256, .f32⟩
  | .local _ .vmem, ⟨36, _⟩ => ⟨S1x300x300, .f32⟩
  | .local _ .vmem, ⟨37, _⟩ => ⟨S1x300x300, .f32⟩
  | _, _ => ⟨S2x300x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg27_0 : Ref sig .tc := ⟨.vmem, 33, rfl⟩
abbrev cc0_stg28_0 : Ref sig .tc := ⟨.vmem, 34, rfl⟩
abbrev cc0_stg28_1 : Ref sig .tc := ⟨.vmem, 35, rfl⟩
abbrev cc0_stg29_0 : Ref sig .tc := ⟨.vmem, 36, rfl⟩
abbrev cc0_stg29_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem27_0 : DmaSem sig := 33
abbrev cc0_sem28_0 : DmaSem sig := 34
abbrev cc0_sem28_1 : DmaSem sig := 35
abbrev cc0_sem29_0 : DmaSem sig := 36
abbrev cc0_sem29_1 : DmaSem sig := 37

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_32 : BitVec 32 := 0#32
  let c300_i32 : BitVec 32 := 300#32
  let v104 : BitVec 32 := Scalar.addi c0_i32_32 c300_i32
  let c1_i32 : BitVec 32 := 1#32
  ⟨c0_i32_32, v104, c1_i32⟩
@[reducible] def k0_t2_loop : Scf.Loop 32 :=
  let c0_i32_35 : BitVec 32 := 0#32
  let c31_i32 : BitVec 32 := 31#32
  let v108 : BitVec 32 := Scalar.addi c0_i32_35 c31_i32
  let c1_i32_36 : BitVec 32 := 1#32
  ⟨c0_i32_35, v108, c1_i32_36⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x300x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S300x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S300x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2048x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S1x300x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x300x300 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== Kernel6Ideal.lean ====
variable {F : FTy → Type} [FloatOps F] [Named F]
def κ : String → Option EReal := fun
  | "s" => some (((Real.sqrt 32)⁻¹ : ℝ) : EReal)
  | _ => none
-- ==== Reference6Ideal.lean ====
abbrev S2x300x4 : Shape := ⟨3, ![2, 300, 4]⟩
abbrev S2x4x300 : Shape := ⟨3, ![2, 4, 300]⟩
abbrev S300x512 : Shape := ⟨2, ![300, 512]⟩
abbrev S2x4096x512 : Shape := ⟨3, ![2, 4096, 512]⟩
abbrev S256x256 : Shape := ⟨2, ![256, 256]⟩
abbrev S1x256 : Shape := ⟨2, ![1, 256]⟩
abbrev S256x2048 : Shape := ⟨2, ![256, 2048]⟩
abbrev S1x2048 : Shape := ⟨2, ![1, 2048]⟩
abbrev S2048x256 : Shape := ⟨2, ![2048, 256]⟩
abbrev S300x2x256 : Shape := ⟨3, ![300, 2, 256]⟩
abbrev S2x300x256 : Shape := ⟨3, ![2, 300, 256]⟩
abbrev S2x300x1 : Shape := ⟨3, ![2, 300, 1]⟩
abbrev S2x300 : Shape := ⟨2, ![2, 300]⟩
abbrev S_ : Shape := ⟨0, ![]⟩
abbrev S2x1x300 : Shape := ⟨3, ![2, 1, 300]⟩
abbrev S2x300x300 : Shape := ⟨3, ![2, 300, 300]⟩
abbrev S2x300x100 : Shape := ⟨3, ![2, 300, 100]⟩
abbrev S2x300x100x1 : Shape := ⟨4, ![2, 300, 100, 1]⟩
abbrev S300 : Shape := ⟨1, ![300]⟩
abbrev S1x1x1x300 : Shape := ⟨4, ![1, 1, 1, 300]⟩
abbrev S2x300x100x300 : Shape := ⟨4, ![2, 300, 100, 300]⟩
abbrev S256 : Shape := ⟨1, ![256]⟩
abbrev S1x1x256 : Shape := ⟨3, ![1, 1, 256]⟩
abbrev S2x300x8x32 : Shape := ⟨4, ![2, 300, 8, 32]⟩
abbrev S2x8x300x32 : Shape := ⟨4, ![2, 8, 300, 32]⟩
abbrev S2x8x300x300 : Shape := ⟨4, ![2, 8, 300, 300]⟩
abbrev S2x1x300x300 : Shape := ⟨4, ![2, 1, 300, 300]⟩
abbrev S2x8x300 : Shape := ⟨3, ![2, 8, 300]⟩
abbrev S2x8x300x1 : Shape := ⟨4, ![2, 8, 300, 1]⟩
abbrev S2x4096x256 : Shape := ⟨3, ![2, 4096, 256]⟩
abbrev S2x4096x8x32 : Shape := ⟨4, ![2, 4096, 8, 32]⟩
abbrev S2x8x4096x32 : Shape := ⟨4, ![2, 8, 4096, 32]⟩
abbrev S2x8x300x4096 : Shape := ⟨4, ![2, 8, 300, 4096]⟩
abbrev S2x300x2048 : Shape := ⟨3, ![2, 300, 2048]⟩
abbrev S2048 : Shape := ⟨1, ![2048]⟩
abbrev S1x1x2048 : Shape := ⟨3, ![1, 1, 2048]⟩

abbrev nBuf : Space → Nat
  | .hbm => 453
  | .vmem => 0
  | .smem => 0
  | _ => 0

abbrev hbmTy0_0 (i : Nat) : BufTy := match i % 128 with
  | 0 => ⟨S2x300x4, .f32⟩
  | 1 => ⟨S2x4x300, .f32⟩
  | 2 => ⟨S300x512, .f32⟩
  | 3 => ⟨S300x512, .f32⟩
  | 4 => ⟨S2x4096x512, .bf16⟩
  | 5 => ⟨S2x4096x512, .bf16⟩
  | 6 => ⟨S256x256, .bf16⟩
  | 7 => ⟨S1x256, .f32⟩
  | 8 => ⟨S256x256, .bf16⟩
  | 9 => ⟨S1x256, .f32⟩
  | 10 => ⟨S256x256, .bf16⟩
  | 11 => ⟨S1x256, .f32⟩
  | 12 => ⟨S256x256, .bf16⟩
  | 13 => ⟨S1x256, .f32⟩
  | 14 => ⟨S256x256, .bf16⟩
  | 15 => ⟨S1x256, .f32⟩
  | 16 => ⟨S256x256, .bf16⟩
  | 17 => ⟨S1x256, .f32⟩
  | 18 => ⟨S256x2048, .bf16⟩
  | 19 => ⟨S1x2048, .f32⟩
  | 20 => ⟨S2048x256, .bf16⟩
  | 21 => ⟨S1x256, .f32⟩
  | 22 => ⟨S1x256, .f32⟩
  | 23 => ⟨S1x256, .f32⟩
  | 24 => ⟨S1x256, .f32⟩
  | 25 => ⟨S1x256, .f32⟩
  | 26 => ⟨S1x256, .f32⟩
  | 27 => ⟨S1x256, .f32⟩
  | 28 => ⟨S300x2x256, .f32⟩
  | 29 => ⟨S2x300x256, .f32⟩
  | 30 => ⟨S300x2x256, .f32⟩
  | 31 => ⟨S2x300x256, .f32⟩
  | 32 => ⟨S2x300x1, .f32⟩
  | 33 => ⟨S2x300, .f32⟩
  | 34 => ⟨S2x300, .f32⟩
  | 35 => ⟨S2x300, .f32⟩
  | 36 => ⟨S_, .f32⟩
  | 37 => ⟨S2x300, .f32⟩
  | 38 => ⟨S2x300, .f32⟩
  | 39 => ⟨S_, .f32⟩
  | 40 => ⟨S2x300, .f32⟩
  | 41 => ⟨S2x300, .f32⟩
  | 42 => ⟨S2x300x1, .f32⟩
  | 43 => ⟨S2x300x1, .f32⟩
  | 44 => ⟨S2x300, .f32⟩
  | 45 => ⟨S2x300, .f32⟩
  | 46 => ⟨S2x300, .f32⟩
  | 47 => ⟨S_, .f32⟩
  | 48 => ⟨S2x300, .f32⟩
  | 49 => ⟨S2x300, .f32⟩
  | 50 => ⟨S_, .f32⟩
  | 51 => ⟨S2x300, .f32⟩
  | 52 => ⟨S2x300, .f32⟩
  | 53 => ⟨S2x300x1, .f32⟩
  | 54 => ⟨S2x300x1, .f32⟩
  | 55 => ⟨S2x300, .f32⟩
  | 56 => ⟨S2x300, .f32⟩
  | 57 => ⟨S2x300, .f32⟩
  | 58 => ⟨S_, .f32⟩
  | 59 => ⟨S2x300, .f32⟩
  | 60 => ⟨S2x300, .f32⟩
  | 61 => ⟨S_, .f32⟩
  | 62 => ⟨S2x300, .f32⟩
  | 63 => ⟨S2x300, .f32⟩
  | 64 => ⟨S2x300x1, .f32⟩
  | 65 => ⟨S2x300x1, .f32⟩
  | 66 => ⟨S2x300, .f32⟩
  | 67 => ⟨S2x300, .f32⟩
  | 68 => ⟨S2x300, .f32⟩
  | 69 => ⟨S_, .f32⟩
  | 70 => ⟨S2x300, .f32⟩
  | 71 => ⟨S2x300, .f32⟩
  | 72 => ⟨S_, .f32⟩
  | 73 => ⟨S2x300, .f32⟩
  | 74 => ⟨S2x300, .f32⟩
  | 75 => ⟨S2x300x1, .f32⟩
  | 76 => ⟨S_, .f32⟩
  | 77 => ⟨S2x300x1, .f32⟩
  | 78 => ⟨S2x300x1, .f32⟩
  | 79 => ⟨S2x300x1, .f32⟩
  | 80 => ⟨S_, .f32⟩
  | 81 => ⟨S2x300x1, .f32⟩
  | 82 => ⟨S2x300x1, .f32⟩
  | 83 => ⟨S2x300x1, .f32⟩
  | 84 => ⟨S_, .f32⟩
  | 85 => ⟨S2x300x1, .f32⟩
  | 86 => ⟨S2x300x1, .f32⟩
  | 87 => ⟨S2x300x1, .f32⟩
  | 88 => ⟨S_, .f32⟩
  | 89 => ⟨S2x300x1, .f32⟩
  | 90 => ⟨S2x300x1, .f32⟩
  | 91 => ⟨S2x300x1, .f32⟩
  | 92 => ⟨S2x1x300, .f32⟩
  | 93 => ⟨S2x300, .f32⟩
  | 94 => ⟨S2x300, .f32⟩
  | 95 => ⟨S2x300, .f32⟩
  | 96 => ⟨S_, .f32⟩
  | 97 => ⟨S2x300, .f32⟩
  | 98 => ⟨S2x300, .f32⟩
  | 99 => ⟨S_, .f32⟩
  | 100 => ⟨S2x300, .f32⟩
  | 101 => ⟨S2x300, .f32⟩
  | 102 => ⟨S2x1x300, .f32⟩
  | 103 => ⟨S2x1x300, .f32⟩
  | 104 => ⟨S2x300, .f32⟩
  | 105 => ⟨S2x300, .f32⟩
  | 106 => ⟨S2x300, .f32⟩
  | 107 => ⟨S_, .f32⟩
  | 108 => ⟨S2x300, .f32⟩
  | 109 => ⟨S2x300, .f32⟩
  | 110 => ⟨S_, .f32⟩
  | 111 => ⟨S2x300, .f32⟩
  | 112 => ⟨S2x300, .f32⟩
  | 113 => ⟨S2x1x300, .f32⟩
  | 114 => ⟨S2x1x300, .f32⟩
  | 115 => ⟨S2x300, .f32⟩
  | 116 => ⟨S2x300, .f32⟩
  | 117 => ⟨S2x300, .f32⟩
  | 118 => ⟨S_, .f32⟩
  | 119 => ⟨S2x300, .f32⟩
  | 120 => ⟨S2x300, .f32⟩
  | 121 => ⟨S_, .f32⟩
  | 122 => ⟨S2x300, .f32⟩
  | 123 => ⟨S2x300, .f32⟩
  | 124 => ⟨S2x1x300, .f32⟩
  | 125 => ⟨S2x1x300, .f32⟩
  | 126 => ⟨S2x300, .f32⟩
  | 127 => ⟨S2x300, .f32⟩
  | _ => ⟨S2x300x4, .f32⟩

abbrev hbmTy0_1 (i : Nat) : BufTy := match i % 128 with
  | 0 => ⟨S2x300, .f32⟩
  | 1 => ⟨S_, .f32⟩
  | 2 => ⟨S2x300, .f32⟩
  | 3 => ⟨S2x300, .f32⟩
  | 4 => ⟨S_, .f32⟩
  | 5 => ⟨S2x300, .f32⟩
  | 6 => ⟨S2x300, .f32⟩
  | 7 => ⟨S2x1x300, .f32⟩
  | 8 => ⟨S_, .f32⟩
  | 9 => ⟨S2x1x300, .f32⟩
  | 10 => ⟨S2x1x300, .f32⟩
  | 11 => ⟨S2x1x300, .f32⟩
  | 12 => ⟨S_, .f32⟩
  | 13 => ⟨S2x1x300, .f32⟩
  | 14 => ⟨S2x1x300, .f32⟩
  | 15 => ⟨S2x1x300, .f32⟩
  | 16 => ⟨S_, .f32⟩
  | 17 => ⟨S2x1x300, .f32⟩
  | 18 => ⟨S2x1x300, .f32⟩
  | 19 => ⟨S2x1x300, .f32⟩
  | 20 => ⟨S_, .f32⟩
  | 21 => ⟨S2x1x300, .f32⟩
  | 22 => ⟨S2x1x300, .f32⟩
  | 23 => ⟨S2x1x300, .f32⟩
  | 24 => ⟨S2x300x300, .f32⟩
  | 25 => ⟨S2x300x300, .f32⟩
  | 26 => ⟨S2x300x300, .f32⟩
  | 27 => ⟨S2x300x300, .f32⟩
  | 28 => ⟨S2x300x300, .f32⟩
  | 29 => ⟨S2x300x300, .f32⟩
  | 30 => ⟨S2x300x300, .f32⟩
  | 31 => ⟨S_, .f32⟩
  | 32 => ⟨S_, .f32⟩
  | 33 => ⟨S2x300x300, .f32⟩
  | 34 => ⟨S2x300x300, .f32⟩
  | 35 => ⟨S2x300x300, .f32⟩
  | 36 => ⟨S2x300x300, .f32⟩
  | 37 => ⟨S2x300x300, .f32⟩
  | 38 => ⟨S2x300x300, .f32⟩
  | 39 => ⟨S2x300x300, .f32⟩
  | 40 => ⟨S2x300x300, .f32⟩
  | 41 => ⟨S2x300x300, .f32⟩
  | 42 => ⟨S_, .f32⟩
  | 43 => ⟨S_, .f32⟩
  | 44 => ⟨S2x300x300, .f32⟩
  | 45 => ⟨S2x300x300, .f32⟩
  | 46 => ⟨S2x300x300, .f32⟩
  | 47 => ⟨S2x300x1, .f32⟩
  | 48 => ⟨S2x300x1, .f32⟩
  | 49 => ⟨S2x300x1, .f32⟩
  | 50 => ⟨S2x1x300, .f32⟩
  | 51 => ⟨S2x1x300, .f32⟩
  | 52 => ⟨S2x1x300, .f32⟩
  | 53 => ⟨S2x300x300, .f32⟩
  | 54 => ⟨S2x300x300, .f32⟩
  | 55 => ⟨S2x300x300, .f32⟩
  | 56 => ⟨S2x300x300, .f32⟩
  | 57 => ⟨S2x300x300, .f32⟩
  | 58 => ⟨S2x300x300, .f32⟩
  | 59 => ⟨S2x300x300, .f32⟩
  | 60 => ⟨S2x300x300, .f32⟩
  | 61 => ⟨S2x300x300, .f32⟩
  | 62 => ⟨S2x300x300, .f32⟩
  | 63 => ⟨S2x300x300, .f32⟩
  | 64 => ⟨S_, .f32⟩
  | 65 => ⟨S_, .f32⟩
  | 66 => ⟨S2x300x300, .f32⟩
  | 67 => ⟨S2x300x300, .f32⟩
  | 68 => ⟨S2x300x300, .f32⟩
  | 69 => ⟨S2x300x300, .f32⟩
  | 70 => ⟨S2x300x300, .f32⟩
  | 71 => ⟨S2x300x300, .f32⟩
  | 72 => ⟨S2x300x300, .f32⟩
  | 73 => ⟨S2x300x300, .f32⟩
  | 74 => ⟨S2x300x300, .f32⟩
  | 75 => ⟨S_, .f32⟩
  | 76 => ⟨S_, .f32⟩
  | 77 => ⟨S2x300x300, .f32⟩
  | 78 => ⟨S2x300x300, .f32⟩
  | 79 => ⟨S2x300x300, .f32⟩
  | 80 => ⟨S2x300x300, .f32⟩
  | 81 => ⟨S2x300x300, .f32⟩
  | 82 => ⟨S2x300x300, .f32⟩
  | 83 => ⟨S2x300x300, .f32⟩
  | 84 => ⟨S_, .f32⟩
  | 85 => ⟨S2x300x300, .f32⟩
  | 86 => ⟨S2x300x300, .f32⟩
  | 87 => ⟨S2x300x300, .i32⟩
  | 88 => ⟨S2x300x300, .f32⟩
  | 89 => ⟨S2x300x300, .i32⟩
  | 90 => ⟨S2x300x100, .i32⟩
  | 91 => ⟨S2x300x100x1, .i32⟩
  | 92 => ⟨S300, .i32⟩
  | 93 => ⟨S1x1x1x300, .i32⟩
  | 94 => ⟨S2x300x100x300, .i32⟩
  | 95 => ⟨S2x300x100x300, .i32⟩
  | 96 => ⟨S2x300x100x300, .i1⟩
  | 97 => ⟨S_, .i1⟩
  | 98 => ⟨S2x300x300, .i1⟩
  | 99 => ⟨S2x300x300, .f32⟩
  | 100 => ⟨S2x300x256, .f32⟩
  | 101 => ⟨S256x256, .f32⟩
  | 102 => ⟨S256, .f32⟩
  | 103 => ⟨S256x256, .f32⟩
  | 104 => ⟨S256, .f32⟩
  | 105 => ⟨S256x256, .f32⟩
  | 106 => ⟨S256, .f32⟩
  | 107 => ⟨S256x256, .f32⟩
  | 108 => ⟨S256, .f32⟩
  | 109 => ⟨S2x300x256, .f32⟩
  | 110 => ⟨S1x1x256, .f32⟩
  | 111 => ⟨S2x300x256, .f32⟩
  | 112 => ⟨S2x300x256, .f32⟩
  | 113 => ⟨S2x300x8x32, .f32⟩
  | 114 => ⟨S2x8x300x32, .f32⟩
  | 115 => ⟨S2x300x256, .f32⟩
  | 116 => ⟨S1x1x256, .f32⟩
  | 117 => ⟨S2x300x256, .f32⟩
  | 118 => ⟨S2x300x256, .f32⟩
  | 119 => ⟨S2x300x8x32, .f32⟩
  | 120 => ⟨S2x8x300x32, .f32⟩
  | 121 => ⟨S2x300x256, .f32⟩
  | 122 => ⟨S1x1x256, .f32⟩
  | 123 => ⟨S2x300x256, .f32⟩
  | 124 => ⟨S2x300x256, .f32⟩
  | 125 => ⟨S2x300x8x32, .f32⟩
  | 126 => ⟨S2x8x300x32, .f32⟩
  | 127 => ⟨S2x8x300x300, .f32⟩
  | _ => ⟨S2x300x4, .f32⟩

abbrev hbmTy0_2 (i : Nat) : BufTy := match i % 128 with
  | 0 => ⟨S_, .f32⟩
  | 1 => ⟨S_, .f32⟩
  | 2 => ⟨S_, .f32⟩
  | 3 => ⟨S2x8x300x300, .f32⟩
  | 4 => ⟨S2x8x300x300, .f32⟩
  | 5 => ⟨S2x1x300x300, .f32⟩
  | 6 => ⟨S_, .f32⟩
  | 7 => ⟨S2x1x300x300, .f32⟩
  | 8 => ⟨S2x1x300x300, .i1⟩
  | 9 => ⟨S_, .f32⟩
  | 10 => ⟨S_, .f32⟩
  | 11 => ⟨S2x8x300x300, .i1⟩
  | 12 => ⟨S2x8x300x300, .f32⟩
  | 13 => ⟨S2x8x300x300, .f32⟩
  | 14 => ⟨S_, .f32⟩
  | 15 => ⟨S2x8x300, .f32⟩
  | 16 => ⟨S2x8x300x1, .f32⟩
  | 17 => ⟨S2x8x300x300, .f32⟩
  | 18 => ⟨S2x8x300x300, .f32⟩
  | 19 => ⟨S2x8x300x300, .f32⟩
  | 20 => ⟨S_, .f32⟩
  | 21 => ⟨S2x8x300, .f32⟩
  | 22 => ⟨S2x8x300x1, .f32⟩
  | 23 => ⟨S_, .f32⟩
  | 24 => ⟨S2x8x300x1, .f32⟩
  | 25 => ⟨S2x8x300x1, .f32⟩
  | 26 => ⟨S2x8x300x300, .f32⟩
  | 27 => ⟨S2x8x300x300, .f32⟩
  | 28 => ⟨S2x8x300x32, .f32⟩
  | 29 => ⟨S2x300x8x32, .f32⟩
  | 30 => ⟨S2x300x256, .f32⟩
  | 31 => ⟨S2x300x256, .f32⟩
  | 32 => ⟨S1x1x256, .f32⟩
  | 33 => ⟨S2x300x256, .f32⟩
  | 34 => ⟨S2x300x256, .f32⟩
  | 35 => ⟨S_, .f32⟩
  | 36 => ⟨S2x300x300, .f32⟩
  | 37 => ⟨S_, .f32⟩
  | 38 => ⟨S2x300x300, .f32⟩
  | 39 => ⟨S2x300x300, .f32⟩
  | 40 => ⟨S2x300x256, .f32⟩
  | 41 => ⟨S256, .f32⟩
  | 42 => ⟨S256, .f32⟩
  | 43 => ⟨S_, .f32⟩
  | 44 => ⟨S2x300, .f32⟩
  | 45 => ⟨S2x300x1, .f32⟩
  | 46 => ⟨S_, .f32⟩
  | 47 => ⟨S2x300x1, .f32⟩
  | 48 => ⟨S2x300x1, .f32⟩
  | 49 => ⟨S2x300x256, .f32⟩
  | 50 => ⟨S2x300x256, .f32⟩
  | 51 => ⟨S2x300x256, .f32⟩
  | 52 => ⟨S_, .f32⟩
  | 53 => ⟨S2x300, .f32⟩
  | 54 => ⟨S2x300x1, .f32⟩
  | 55 => ⟨S_, .f32⟩
  | 56 => ⟨S2x300x1, .f32⟩
  | 57 => ⟨S2x300x1, .f32⟩
  | 58 => ⟨S2x300x256, .f32⟩
  | 59 => ⟨S2x300x256, .f32⟩
  | 60 => ⟨S_, .f32⟩
  | 61 => ⟨S2x300x1, .f32⟩
  | 62 => ⟨S2x300x1, .f32⟩
  | 63 => ⟨S2x300x1, .f32⟩
  | 64 => ⟨S2x300x256, .f32⟩
  | 65 => ⟨S2x300x256, .f32⟩
  | 66 => ⟨S1x1x256, .f32⟩
  | 67 => ⟨S2x300x256, .f32⟩
  | 68 => ⟨S2x300x256, .f32⟩
  | 69 => ⟨S1x1x256, .f32⟩
  | 70 => ⟨S2x300x256, .f32⟩
  | 71 => ⟨S2x300x256, .f32⟩
  | 72 => ⟨S2x4096x256, .bf16⟩
  | 73 => ⟨S2x4096x256, .f32⟩
  | 74 => ⟨S2x4096x256, .bf16⟩
  | 75 => ⟨S2x4096x256, .f32⟩
  | 76 => ⟨S2x300x256, .f32⟩
  | 77 => ⟨S256x256, .f32⟩
  | 78 => ⟨S2x300x256, .f32⟩
  | 79 => ⟨S256, .f32⟩
  | 80 => ⟨S1x1x256, .f32⟩
  | 81 => ⟨S2x300x256, .f32⟩
  | 82 => ⟨S2x300x256, .f32⟩
  | 83 => ⟨S2x300x8x32, .f32⟩
  | 84 => ⟨S2x8x300x32, .f32⟩
  | 85 => ⟨S2x4096x8x32, .f32⟩
  | 86 => ⟨S2x8x4096x32, .f32⟩
  | 87 => ⟨S2x4096x8x32, .f32⟩
  | 88 => ⟨S2x8x4096x32, .f32⟩
  | 89 => ⟨S2x8x300x4096, .f32⟩
  | 90 => ⟨S_, .f32⟩
  | 91 => ⟨S_, .f32⟩
  | 92 => ⟨S_, .f32⟩
  | 93 => ⟨S2x8x300x4096, .f32⟩
  | 94 => ⟨S2x8x300x4096, .f32⟩
  | 95 => ⟨S_, .f32⟩
  | 96 => ⟨S2x8x300, .f32⟩
  | 97 => ⟨S2x8x300x1, .f32⟩
  | 98 => ⟨S2x8x300x4096, .f32⟩
  | 99 => ⟨S2x8x300x4096, .f32⟩
  | 100 => ⟨S2x8x300x4096, .f32⟩
  | 101 => ⟨S_, .f32⟩
  | 102 => ⟨S2x8x300, .f32⟩
  | 103 => ⟨S2x8x300x1, .f32⟩
  | 104 => ⟨S_, .f32⟩
  | 105 => ⟨S2x8x300x1, .f32⟩
  | 106 => ⟨S2x8x300x1, .f32⟩
  | 107 => ⟨S2x8x300x4096, .f32⟩
  | 108 => ⟨S2x8x300x4096, .f32⟩
  | 109 => ⟨S2x8x300x32, .f32⟩
  | 110 => ⟨S2x300x8x32, .f32⟩
  | 111 => ⟨S2x300x256, .f32⟩
  | 112 => ⟨S256x256, .f32⟩
  | 113 => ⟨S2x300x256, .f32⟩
  | 114 => ⟨S256, .f32⟩
  | 115 => ⟨S1x1x256, .f32⟩
  | 116 => ⟨S2x300x256, .f32⟩
  | 117 => ⟨S2x300x256, .f32⟩
  | 118 => ⟨S2x300x256, .f32⟩
  | 119 => ⟨S256, .f32⟩
  | 120 => ⟨S256, .f32⟩
  | 121 => ⟨S_, .f32⟩
  | 122 => ⟨S2x300, .f32⟩
  | 123 => ⟨S2x300x1, .f32⟩
  | 124 => ⟨S_, .f32⟩
  | 125 => ⟨S2x300x1, .f32⟩
  | 126 => ⟨S2x300x1, .f32⟩
  | 127 => ⟨S2x300x256, .f32⟩
  | _ => ⟨S2x300x4, .f32⟩

abbrev hbmTy0_3 (i : Nat) : BufTy := match i % 128 with
  | 0 => ⟨S2x300x256, .f32⟩
  | 1 => ⟨S2x300x256, .f32⟩
  | 2 => ⟨S_, .f32⟩
  | 3 => ⟨S2x300, .f32⟩
  | 4 => ⟨S2x300x1, .f32⟩
  | 5 => ⟨S_, .f32⟩
  | 6 => ⟨S2x300x1, .f32⟩
  | 7 => ⟨S2x300x1, .f32⟩
  | 8 => ⟨S2x300x256, .f32⟩
  | 9 => ⟨S2x300x256, .f32⟩
  | 10 => ⟨S_, .f32⟩
  | 11 => ⟨S2x300x1, .f32⟩
  | 12 => ⟨S2x300x1, .f32⟩
  | 13 => ⟨S2x300x1, .f32⟩
  | 14 => ⟨S2x300x256, .f32⟩
  | 15 => ⟨S2x300x256, .f32⟩
  | 16 => ⟨S1x1x256, .f32⟩
  | 17 => ⟨S2x300x256, .f32⟩
  | 18 => ⟨S2x300x256, .f32⟩
  | 19 => ⟨S1x1x256, .f32⟩
  | 20 => ⟨S2x300x256, .f32⟩
  | 21 => ⟨S2x300x256, .f32⟩
  | 22 => ⟨S256x2048, .f32⟩
  | 23 => ⟨S2x300x2048, .f32⟩
  | 24 => ⟨S2048, .f32⟩
  | 25 => ⟨S1x1x2048, .f32⟩
  | 26 => ⟨S2x300x2048, .f32⟩
  | 27 => ⟨S2x300x2048, .f32⟩
  | 28 => ⟨S_, .f32⟩
  | 29 => ⟨S2x300x2048, .f32⟩
  | 30 => ⟨S2x300x2048, .f32⟩
  | 31 => ⟨S2048x256, .f32⟩
  | 32 => ⟨S2x300x256, .f32⟩
  | 33 => ⟨S256, .f32⟩
  | 34 => ⟨S1x1x256, .f32⟩
  | 35 => ⟨S2x300x256, .f32⟩
  | 36 => ⟨S2x300x256, .f32⟩
  | 37 => ⟨S2x300x256, .f32⟩
  | 38 => ⟨S256, .f32⟩
  | 39 => ⟨S256, .f32⟩
  | 40 => ⟨S_, .f32⟩
  | 41 => ⟨S2x300, .f32⟩
  | 42 => ⟨S2x300x1, .f32⟩
  | 43 => ⟨S_, .f32⟩
  | 44 => ⟨S2x300x1, .f32⟩
  | 45 => ⟨S2x300x1, .f32⟩
  | 46 => ⟨S2x300x256, .f32⟩
  | 47 => ⟨S2x300x256, .f32⟩
  | 48 => ⟨S2x300x256, .f32⟩
  | 49 => ⟨S_, .f32⟩
  | 50 => ⟨S2x300, .f32⟩
  | 51 => ⟨S2x300x1, .f32⟩
  | 52 => ⟨S_, .f32⟩
  | 53 => ⟨S2x300x1, .f32⟩
  | 54 => ⟨S2x300x1, .f32⟩
  | 55 => ⟨S2x300x256, .f32⟩
  | 56 => ⟨S2x300x256, .f32⟩
  | 57 => ⟨S_, .f32⟩
  | 58 => ⟨S2x300x1, .f32⟩
  | 59 => ⟨S2x300x1, .f32⟩
  | 60 => ⟨S2x300x1, .f32⟩
  | 61 => ⟨S2x300x256, .f32⟩
  | 62 => ⟨S2x300x256, .f32⟩
  | 63 => ⟨S1x1x256, .f32⟩
  | 64 => ⟨S2x300x256, .f32⟩
  | 65 => ⟨S2x300x256, .f32⟩
  | 66 => ⟨S1x1x256, .f32⟩
  | 67 => ⟨S2x300x256, .f32⟩
  | 68 => ⟨S2x300x256, .f32⟩
  | _ => ⟨S2x300x4, .f32⟩

abbrev hbmTy (i : Nat) : BufTy := match i / 128 with
  | 0 => hbmTy0_0 i
  | 1 => hbmTy0_1 i
  | 2 => hbmTy0_2 i
  | 3 => hbmTy0_3 i
  | _ => ⟨S2x300x4, .f32⟩

abbrev bufTy : (tb : Table) → Fin (tcTables nBuf tb) → BufTy
  | .hbm, ⟨i, _⟩ => hbmTy i
  | _, _ => ⟨S2x300x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_cst_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_3 : Ref sig .tc := ⟨.hbm, 58, rfl⟩
abbrev main_v26 : Ref sig .tc := ⟨.hbm, 59, rfl⟩
abbrev main_v27 : Ref sig .tc := ⟨.hbm, 60, rfl⟩
abbrev main_cst_4 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_8 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_9 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_10 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_11 : Ref sig .tc := ⟨.hbm, 96, rfl⟩
abbrev main_v56 : Ref sig .tc := ⟨.hbm, 97, rfl⟩
abbrev main_v57 : Ref sig .tc := ⟨.hbm, 98, rfl⟩
abbrev main_cst_12 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_13 : Ref sig .tc := ⟨.hbm, 107, rfl⟩
abbrev main_v65 : Ref sig .tc := ⟨.hbm, 108, rfl⟩
abbrev main_v66 : Ref sig .tc := ⟨.hbm, 109, rfl⟩
abbrev main_cst_14 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_15 : Ref sig .tc := ⟨.hbm, 118, rfl⟩
abbrev main_v74 : Ref sig .tc := ⟨.hbm, 119, rfl⟩
abbrev main_v75 : Ref sig .tc := ⟨.hbm, 120, rfl⟩
abbrev main_cst_16 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_17 : Ref sig .tc := ⟨.hbm, 129, rfl⟩
abbrev main_v83 : Ref sig .tc := ⟨.hbm, 130, rfl⟩
abbrev main_v84 : Ref sig .tc := ⟨.hbm, 131, rfl⟩
abbrev main_cst_18 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_19 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_20 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_21 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_22 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_23 : Ref sig .tc := ⟨.hbm, 159, rfl⟩
abbrev main_call0_v0 : Ref sig .tc := ⟨.hbm, 160, rfl⟩
abbrev main_call0_v1 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_24 : Ref sig .tc := ⟨.hbm, 170, rfl⟩
abbrev main_call1_v0 : Ref sig .tc := ⟨.hbm, 171, rfl⟩
abbrev main_call1_v1 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_25 : Ref sig .tc := ⟨.hbm, 192, rfl⟩
abbrev main_call2_v0 : Ref sig .tc := ⟨.hbm, 193, rfl⟩
abbrev main_call2_v1 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_26 : Ref sig .tc := ⟨.hbm, 203, rfl⟩
abbrev main_call3_v0 : Ref sig .tc := ⟨.hbm, 204, rfl⟩
abbrev main_call3_v1 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_cst_27 : Ref sig .tc := ⟨.hbm, 212, rfl⟩
abbrev main_v148 : Ref sig .tc := ⟨.hbm, 213, rfl⟩
abbrev main_v149 : Ref sig .tc := ⟨.hbm, 214, rfl⟩
abbrev main_call4_v0 : Ref sig .tc := ⟨.hbm, 215, rfl⟩
abbrev main_call4_v1_0 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_c : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_cst_28 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_cst_29 : Ref sig .tc := ⟨.hbm, 262, rfl⟩
abbrev main_v193 : Ref sig .tc := ⟨.hbm, 263, rfl⟩
abbrev main_v194 : Ref sig .tc := ⟨.hbm, 264, rfl⟩
abbrev main_cst_30 : Ref sig .tc := ⟨.hbm, 265, rfl⟩
abbrev main_call5_v0 : Ref sig .tc := ⟨.hbm, 266, rfl⟩
abbrev main_call5_v1 : Ref sig .tc := ⟨.hbm, 267, rfl⟩
abbrev main_call5_v2 : Ref sig .tc := ⟨.hbm, 268, rfl⟩
abbrev main_v195 : Ref sig .tc := ⟨.hbm, 269, rfl⟩
abbrev main_cst_31 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_32 : Ref sig .tc := ⟨.hbm, 276, rfl⟩
abbrev main_v201 : Ref sig .tc := ⟨.hbm, 277, rfl⟩
abbrev main_v202 : Ref sig .tc := ⟨.hbm, 278, rfl⟩
abbrev main_cst_33 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_cst_34 : Ref sig .tc := ⟨.hbm, 291, rfl⟩
abbrev main_v214 : Ref sig .tc := ⟨.hbm, 292, rfl⟩
abbrev main_cst_35 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_cst_36 : Ref sig .tc := ⟨.hbm, 299, rfl⟩
abbrev main_v220 : Ref sig .tc := ⟨.hbm, 300, rfl⟩
abbrev main_v221 : Ref sig .tc := ⟨.hbm, 301, rfl⟩
abbrev main_cst_37 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_cst_38 : Ref sig .tc := ⟨.hbm, 308, rfl⟩
abbrev main_v227 : Ref sig .tc := ⟨.hbm, 309, rfl⟩
abbrev main_v228 : Ref sig .tc := ⟨.hbm, 310, rfl⟩
abbrev main_cst_39 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_cst_40 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_cst_41 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_cst_42 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_cst_43 : Ref sig .tc := ⟨.hbm, 357, rfl⟩
abbrev main_v271 : Ref sig .tc := ⟨.hbm, 358, rfl⟩
abbrev main_v272 : Ref sig .tc := ⟨.hbm, 359, rfl⟩
abbrev main_cst_44 : Ref sig .tc := ⟨.hbm, 360, rfl⟩
abbrev main_v273 : Ref sig .tc := ⟨.hbm, 361, rfl⟩
abbrev main_v274 : Ref sig .tc := ⟨.hbm, 362, rfl⟩
abbrev main_v275 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_v287 : Ref sig .tc := ⟨.hbm, 375, rfl⟩
abbrev main_v288 : Ref sig .tc := ⟨.hbm, 376, rfl⟩
abbrev main_cst_45 : Ref sig .tc := ⟨.hbm, 377, rfl⟩
abbrev main_v289 : Ref sig .tc := ⟨.hbm, 378, rfl⟩
abbrev main_v290 : Ref sig .tc := ⟨.hbm, 379, rfl⟩
abbrev main_cst_46 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_v295 : Ref sig .tc := ⟨.hbm, 385, rfl⟩
abbrev main_cst_47 : Ref sig .tc := ⟨.hbm, 386, rfl⟩
abbrev main_v296 : Ref sig .tc := ⟨.hbm, 387, rfl⟩
abbrev main_v297 : Ref sig .tc := ⟨.hbm, 388, rfl⟩
abbrev main_cst_48 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_cst_49 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_v308 : Ref sig .tc := ⟨.hbm, 401, rfl⟩
abbrev main_v309 : Ref sig .tc := ⟨.hbm, 402, rfl⟩
abbrev main_v310 : Ref sig .tc := ⟨.hbm, 403, rfl⟩
abbrev main_v311 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_call6_cst : Ref sig .tc := ⟨.hbm, 412, rfl⟩
abbrev main_call6_v0 : Ref sig .tc := ⟨.hbm, 413, rfl⟩
abbrev main_v319 : Ref sig .tc := ⟨.hbm, 414, rfl⟩
abbrev main_v320 : Ref sig .tc := ⟨.hbm, 415, rfl⟩
abbrev main_v321 : Ref sig .tc := ⟨.hbm, 416, rfl⟩
abbrev main_v322 : Ref sig .tc := ⟨.hbm, 417, rfl⟩
abbrev main_v323 : Ref sig .tc := ⟨.hbm, 418, rfl⟩
abbrev main_v324 : Ref sig .tc := ⟨.hbm, 419, rfl⟩
abbrev main_v325 : Ref sig .tc := ⟨.hbm, 420, rfl⟩
abbrev main_v326 : Ref sig .tc := ⟨.hbm, 421, rfl⟩
abbrev main_v327 : Ref sig .tc := ⟨.hbm, 422, rfl⟩
abbrev main_v328 : Ref sig .tc := ⟨.hbm, 423, rfl⟩
abbrev main_cst_50 : Ref sig .tc := ⟨.hbm, 424, rfl⟩
abbrev main_v329 : Ref sig .tc := ⟨.hbm, 425, rfl⟩
abbrev main_v330 : Ref sig .tc := ⟨.hbm, 426, rfl⟩
abbrev main_cst_51 : Ref sig .tc := ⟨.hbm, 427, rfl⟩
abbrev main_v331 : Ref sig .tc := ⟨.hbm, 428, rfl⟩
abbrev main_v332 : Ref sig .tc := ⟨.hbm, 429, rfl⟩
abbrev main_v333 : Ref sig .tc := ⟨.hbm, 430, rfl⟩
abbrev main_v334 : Ref sig .tc := ⟨.hbm, 431, rfl⟩
abbrev main_v335 : Ref sig .tc := ⟨.hbm, 432, rfl⟩
abbrev main_cst_52 : Ref sig .tc := ⟨.hbm, 433, rfl⟩
abbrev main_v336 : Ref sig .tc := ⟨.hbm, 434, rfl⟩
abbrev main_v337 : Ref sig .tc := ⟨.hbm, 435, rfl⟩
abbrev main_cst_53 : Ref sig .tc := ⟨.hbm, 436, rfl⟩
abbrev main_v338 : Ref sig .tc := ⟨.hbm, 437, rfl⟩
abbrev main_v339 : Ref sig .tc := ⟨.hbm, 438, rfl⟩
abbrev main_v340 : Ref sig .tc := ⟨.hbm, 439, rfl⟩
abbrev main_v341 : Ref sig .tc := ⟨.hbm, 440, rfl⟩
abbrev main_cst_54 : Ref sig .tc := ⟨.hbm, 441, rfl⟩
abbrev main_v342 : Ref sig .tc := ⟨.hbm, 442, rfl⟩
abbrev main_v343 : Ref sig .tc := ⟨.hbm, 443, rfl⟩
abbrev main_v344 : Ref sig .tc := ⟨.hbm, 444, rfl⟩
abbrev main_v345 : Ref sig .tc := ⟨.hbm, 445, rfl⟩
abbrev main_v346 : Ref sig .tc := ⟨.hbm, 446, rfl⟩
abbrev main_v347 : Ref sig .tc := ⟨.hbm, 447, rfl⟩
abbrev main_v348 : Ref sig .tc := ⟨.hbm, 448, rfl⟩
abbrev main_v349 : Ref sig .tc := ⟨.hbm, 449, rfl⟩
abbrev main_v350 : Ref sig .tc := ⟨.hbm, 450, rfl⟩
abbrev main_v351 : Ref sig .tc := ⟨.hbm, 451, rfl⟩
abbrev main_v352 : Ref sig .tc := ⟨.hbm, 452, rfl⟩

abbrev nD : Nat := 1
abbrev τ : Topo := Topo.v7x

variable {F : FTy → Type} [FloatOps F]
-- ==== Proof.KernelIdeal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! # The layer call: what its body leaves in its blocks, and its obligation at every grid point -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The kernel body on any staging memrefs: a subtype the run finds -/

/-- One staging buffer of output window 28, through which its contents are stated (`View.read_writes_of_cover`: the
    choice does not matter). -/
abbrev VO1_28 : View sig .tc .vmem S1x300x256 .f32 := (Memref.whole cc1_stg28_0 : Memref sig .tc .vmem S1x300x256 .f32).view
/-- One staging buffer of output window 29, through which its contents are stated (`View.read_writes_of_cover`: the
    choice does not matter). -/
abbrev VO1_29 : View sig .tc .vmem S1x300x300 .f32 := (Memref.whole cc1_stg29_0 : Memref sig .tc .vmem S1x300x300 .f32).view
/-- Each window's current staging memref at point `t`, spelled as the pipeline passes it (`bodyAt1`), and its wholeness. -/
abbrev ms1_0 (t : Fin cfg1.N) : Memref sig .tc .vmem S1x300x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4x300 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S300x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S300x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4096x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x256 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x256 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x256 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x256 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x256 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x256 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S256x256 .bf16 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x256 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S256x256 .bf16 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x256 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S256x2048 .bf16 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S1x2048 .f32 := win1_19.stage (cfg1.slots t 19)
abbrev hs1_19 (t : Fin cfg1.N) : (ms1_19 t).IsWhole := hstage1_19 ((cfg1.slots t 19).cast nbuf1_19)
abbrev ms1_20 (t : Fin cfg1.N) : Memref sig .tc .vmem S2048x256 .bf16 := win1_20.stage (cfg1.slots t 20)
abbrev hs1_20 (t : Fin cfg1.N) : (ms1_20 t).IsWhole := hstage1_20 ((cfg1.slots t 20).cast nbuf1_20)
abbrev ms1_21 (t : Fin cfg1.N) : Memref sig .tc .vmem S1x256 .f32 := win1_21.stage (cfg1.slots t 21)
abbrev hs1_21 (t : Fin cfg1.N) : (ms1_21 t).IsWhole := hstage1_21 ((cfg1.slots t 21).cast nbuf1_21)
abbrev ms1_22 (t : Fin cfg1.N) : Memref sig .tc .vmem S1x256 .f32 := win1_22.stage (cfg1.slots t 22)
abbrev hs1_22 (t : Fin cfg1.N) : (ms1_22 t).IsWhole := hstage1_22 ((cfg1.slots t 22).cast nbuf1_22)
abbrev ms1_23 (t : Fin cfg1.N) : Memref sig .tc .vmem S1x256 .f32 := win1_23.stage (cfg1.slots t 23)
abbrev hs1_23 (t : Fin cfg1.N) : (ms1_23 t).IsWhole := hstage1_23 ((cfg1.slots t 23).cast nbuf1_23)
abbrev ms1_24 (t : Fin cfg1.N) : Memref sig .tc .vmem S1x256 .f32 := win1_24.stage (cfg1.slots t 24)
abbrev hs1_24 (t : Fin cfg1.N) : (ms1_24 t).IsWhole := hstage1_24 ((cfg1.slots t 24).cast nbuf1_24)
abbrev ms1_25 (t : Fin cfg1.N) : Memref sig .tc .vmem S1x256 .f32 := win1_25.stage (cfg1.slots t 25)
abbrev hs1_25 (t : Fin cfg1.N) : (ms1_25 t).IsWhole := hstage1_25 ((cfg1.slots t 25).cast nbuf1_25)
abbrev ms1_26 (t : Fin cfg1.N) : Memref sig .tc .vmem S1x256 .f32 := win1_26.stage (cfg1.slots t 26)
abbrev hs1_26 (t : Fin cfg1.N) : (ms1_26 t).IsWhole := hstage1_26 ((cfg1.slots t 26).cast nbuf1_26)
abbrev ms1_27 (t : Fin cfg1.N) : Memref sig .tc .vmem S1x256 .f32 := win1_27.stage (cfg1.slots t 27)
abbrev hs1_27 (t : Fin cfg1.N) : (ms1_27 t).IsWhole := hstage1_27 ((cfg1.slots t 27).cast nbuf1_27)
abbrev ms1_28 (t : Fin cfg1.N) : Memref sig .tc .vmem S1x300x256 .f32 := win1_28.stage (cfg1.slots t 28)
abbrev hs1_28 (t : Fin cfg1.N) : (ms1_28 t).IsWhole := hstage1_28 ((cfg1.slots t 28).cast nbuf1_28)
abbrev ms1_29 (t : Fin cfg1.N) : Memref sig .tc .vmem S1x300x300 .f32 := win1_29.stage (cfg1.slots t 29)
abbrev hs1_29 (t : Fin cfg1.N) : (ms1_29 t).IsWhole := hstage1_29 ((cfg1.slots t 29).cast nbuf1_29)

set_option maxHeartbeats 16000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S1x300x4 .f32) (harg1 : arg1.IsWhole) (arg2 : Memref sig .tc .vmem S1x4x300 .f32) (harg2 : arg2.IsWhole) (arg3 : Memref sig .tc .vmem S300x256 .f32) (harg3 : arg3.IsWhole) (arg4 : Memref sig .tc .vmem S300x256 .f32) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S256x256 .bf16) (harg13 : arg13.IsWhole) (arg14 : Memref sig .tc .vmem S1x256 .f32) (harg14 : arg14.IsWhole) (arg15 : Memref sig .tc .vmem S256x256 .bf16) (harg15 : arg15.IsWhole) (arg16 : Memref sig .tc .vmem S1x256 .f32) (harg16 : arg16.IsWhole) (arg17 : Memref sig .tc .vmem S256x256 .bf16) (harg17 : arg17.IsWhole) (arg18 : Memref sig .tc .vmem S1x256 .f32) (harg18 : arg18.IsWhole) (arg19 : Memref sig .tc .vmem S256x2048 .bf16) (harg19 : arg19.IsWhole) (arg20 : Memref sig .tc .vmem S1x2048 .f32) (harg20 : arg20.IsWhole) (arg21 : Memref sig .tc .vmem S2048x256 .bf16) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S1x300x256 .f32) (harg29 : arg29.IsWhole) (arg30 : Memref sig .tc .vmem S1x300x300 .f32) (harg30 : arg30.IsWhole)
    (x0 : Vec F S1x300x4 .f32) (x1 : Vec F S1x4x300 .f32) (x2 : Vec F S300x256 .f32) (x3 : Vec F S300x256 .f32) (x4 : Vec F S1x4096x256 .bf16) (x5 : Vec F S1x4096x256 .bf16) (x6 : Vec F S256x256 .bf16) (x7 : Vec F S1x256 .f32) (x8 : Vec F S256x256 .bf16) (x9 : Vec F S1x256 .f32) (x10 : Vec F S256x256 .bf16) (x11 : Vec F S1x256 .f32) (x12 : Vec F S256x256 .bf16) (x13 : Vec F S1x256 .f32) (x14 : Vec F S256x256 .bf16) (x15 : Vec F S1x256 .f32) (x16 : Vec F S256x256 .bf16) (x17 : Vec F S1x256 .f32) (x18 : Vec F S256x2048 .bf16) (x19 : Vec F S1x2048 .f32) (x20 : Vec F S2048x256 .bf16) (x21 : Vec F S1x256 .f32) (x22 : Vec F S1x256 .f32) (x23 : Vec F S1x256 .f32) (x24 : Vec F S1x256 .f32) (x25 : Vec F S1x256 .f32) (x26 : Vec F S1x256 .f32) (x27 : Vec F S1x256 .f32) :
    Σ' (L28 : List (View.Piece (Elt F) S1x300x256 .f32)), { L29 : List (View.Piece (Elt F) S1x300x300 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29)) -∗ K ⟨⟩))
          ⊢ wp frame (wpE (defs₀ (F := F)) Variants.none c none) E (cc1__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, fun E K => ?run⟩
  case run =>
    simp only [cc1__layer_kernel_eq_skeleton]; unfold cc1__layer_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%d29, %f29, -, H29⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]; · iexists _; iexact H28
    iexists _; iexact H29

section Body
variable (c : Dev nD) (i : grid1.Coords) (arg1 : Memref sig .tc .vmem S1x300x4 .f32) (harg1 : arg1.IsWhole) (arg2 : Memref sig .tc .vmem S1x4x300 .f32) (harg2 : arg2.IsWhole) (arg3 : Memref sig .tc .vmem S300x256 .f32) (harg3 : arg3.IsWhole) (arg4 : Memref sig .tc .vmem S300x256 .f32) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S256x256 .bf16) (harg13 : arg13.IsWhole) (arg14 : Memref sig .tc .vmem S1x256 .f32) (harg14 : arg14.IsWhole) (arg15 : Memref sig .tc .vmem S256x256 .bf16) (harg15 : arg15.IsWhole) (arg16 : Memref sig .tc .vmem S1x256 .f32) (harg16 : arg16.IsWhole) (arg17 : Memref sig .tc .vmem S256x256 .bf16) (harg17 : arg17.IsWhole) (arg18 : Memref sig .tc .vmem S1x256 .f32) (harg18 : arg18.IsWhole) (arg19 : Memref sig .tc .vmem S256x2048 .bf16) (harg19 : arg19.IsWhole) (arg20 : Memref sig .tc .vmem S1x2048 .f32) (harg20 : arg20.IsWhole) (arg21 : Memref sig .tc .vmem S2048x256 .bf16) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S1x300x256 .f32) (harg29 : arg29.IsWhole) (arg30 : Memref sig .tc .vmem S1x300x300 .f32) (harg30 : arg30.IsWhole)
    (x0 : Vec F S1x300x4 .f32) (x1 : Vec F S1x4x300 .f32) (x2 : Vec F S300x256 .f32) (x3 : Vec F S300x256 .f32) (x4 : Vec F S1x4096x256 .bf16) (x5 : Vec F S1x4096x256 .bf16) (x6 : Vec F S256x256 .bf16) (x7 : Vec F S1x256 .f32) (x8 : Vec F S256x256 .bf16) (x9 : Vec F S1x256 .f32) (x10 : Vec F S256x256 .bf16) (x11 : Vec F S1x256 .f32) (x12 : Vec F S256x256 .bf16) (x13 : Vec F S1x256 .f32) (x14 : Vec F S256x256 .bf16) (x15 : Vec F S1x256 .f32) (x16 : Vec F S256x256 .bf16) (x17 : Vec F S1x256 .f32) (x18 : Vec F S256x2048 .bf16) (x19 : Vec F S1x2048 .f32) (x20 : Vec F S2048x256 .bf16) (x21 : Vec F S1x256 .f32) (x22 : Vec F S1x256 .f32) (x23 : Vec F S1x256 .f32) (x24 : Vec F S1x256 .f32) (x25 : Vec F S1x256 .f32) (x26 : Vec F S1x256 .f32) (x27 : Vec F S1x256 .f32)

theorem cover1_A_28 (y : S1x300x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).1, y ∈ pc.1.set :=
  View.cover_of_tiledL _ S1x300x256.size (by sl_kernel_rfl) y

/-- What the run leaves in output 28's staging buffer: its pieces read back over junk. -/
def out1_A_28 : Vec F S1x300x256 .f32 :=
  VO1_28.read (Elt F) (VO1_28.writes (Elt F) VO1_28.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).1)

theorem cover1_A_29 (y : S1x300x300.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).2.1, y ∈ pc.1.set :=
  View.cover_of_tiledL _ S1x300x300.size (by sl_kernel_rfl) y

/-- What the run leaves in output 29's staging buffer: its pieces read back over junk. -/
def out1_A_29 : Vec F S1x300x300 .f32 :=
  VO1_29.read (Elt F) (VO1_29.writes (Elt F) VO1_29.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).2.1)

end Body

/-! ## What the outputs hold after each point -/

/-- What the outputs' staging buffers hold after the body at point `t` (as a tuple, in window order): the run's contents at
    the point's memrefs and input blocks. -/
def outsAt1 (c : Dev nD) (t : Fin cfg1.N) : Vec F S1x300x256 .f32 × Vec F S1x300x300 .f32 :=
  (out1_A_28 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) (ms1_21 t) (hs1_21 t) (ms1_22 t) (hs1_22 t) (ms1_23 t) (hs1_23 t) (ms1_24 t) (hs1_24 t) (ms1_25 t) (hs1_25 t) (ms1_26 t) (hs1_26 t) (ms1_27 t) (hs1_27 t) (ms1_28 t) (hs1_28 t) (ms1_29 t) (hs1_29 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t), out1_A_29 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) (ms1_21 t) (hs1_21 t) (ms1_22 t) (hs1_22 t) (ms1_23 t) (hs1_23 t) (ms1_24 t) (hs1_24 t) (ms1_25 t) (hs1_25 t) (ms1_26 t) (hs1_26 t) (ms1_27 t) (hs1_27 t) (ms1_28 t) (hs1_28 t) (ms1_29 t) (hs1_29 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => iblk1 V c 26 t
    | ⟨27, _⟩ => iblk1 V c 27 t
    | ⟨28, _⟩ => (outsAt1 V c t).1
    | ⟨29, _⟩ => (outsAt1 V c t).2
    | ⟨_ + 30, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = iblk1 V c 25 t := by dsimp only [dat1]
theorem after1_26 (c : Dev nD) (t : Fin cfg1.N) : (dat1 V c).after 26 t = iblk1 V c 26 t := by dsimp only [dat1]
theorem after1_27 (c : Dev nD) (t : Fin cfg1.N) : (dat1 V c).after 27 t = iblk1 V c 27 t := by dsimp only [dat1]
theorem after1_28 (c : Dev nD) (t : Fin cfg1.N) : (dat1 V c).after 28 t = (outsAt1 V c t).1 := by dsimp only [dat1]
theorem after1_29 (c : Dev nD) (t : Fin cfg1.N) : (dat1 V c).after 29 t = (outsAt1 V c t).2 := by dsimp only [dat1]

/-- Each input's current staging buffer holds its block at every point, fetched there or not: where it is not fetched the index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl
theorem before1_9 (c : Dev nD) (t : Fin cfg1.N) (d) : (dat1 V c).before 9 t d = iblk1 V c 9 t :=
  ((dat1 V c).before_in_eq_fetched 9 rfl (fun _ => rfl) (fun _ _ _ => rfl) (fun _ => rfl) t d).trans rfl
theorem before1_10 (c : Dev nD) (t : Fin cfg1.N) (d) : (dat1 V c).before 10 t d = iblk1 V c 10 t :=
  ((dat1 V c).before_in_eq_fetched 10 rfl (fun _ => rfl) (fun _ _ _ => rfl) (fun _ => rfl) t d).trans rfl
theorem before1_11 (c : Dev nD) (t : Fin cfg1.N) (d) : (dat1 V c).before 11 t d = iblk1 V c 11 t :=
  ((dat1 V c).before_in_eq_fetched 11 rfl (fun _ => rfl) (fun _ _ _ => rfl) (fun _ => rfl) t d).trans rfl
theorem before1_12 (c : Dev nD) (t : Fin cfg1.N) (d) : (dat1 V c).before 12 t d = iblk1 V c 12 t :=
  ((dat1 V c).before_in_eq_fetched 12 rfl (fun _ => rfl) (fun _ _ _ => rfl) (fun _ => rfl) t d).trans rfl
theorem before1_13 (c : Dev nD) (t : Fin cfg1.N) (d) : (dat1 V c).before 13 t d = iblk1 V c 13 t :=
  ((dat1 V c).before_in_eq_fetched 13 rfl (fun _ => rfl) (fun _ _ _ => rfl) (fun _ => rfl) t d).trans rfl
theorem before1_14 (c : Dev nD) (t : Fin cfg1.N) (d) : (dat1 V c).before 14 t d = iblk1 V c 14 t :=
  ((dat1 V c).before_in_eq_fetched 14 rfl (fun _ => rfl) (fun _ _ _ => rfl) (fun _ => rfl) t d).trans rfl
theorem before1_15 (c : Dev nD) (t : Fin cfg1.N) (d) : (dat1 V c).before 15 t d = iblk1 V c 15 t :=
  ((dat1 V c).before_in_eq_fetched 15 rfl (fun _ => rfl) (fun _ _ _ => rfl) (fun _ => rfl) t d).trans rfl
theorem before1_16 (c : Dev nD) (t : Fin cfg1.N) (d) : (dat1 V c).before 16 t d = iblk1 V c 16 t :=
  ((dat1 V c).before_in_eq_fetched 16 rfl (fun _ => rfl) (fun _ _ _ => rfl) (fun _ => rfl) t d).trans rfl
theorem before1_17 (c : Dev nD) (t : Fin cfg1.N) (d) : (dat1 V c).before 17 t d = iblk1 V c 17 t :=
  ((dat1 V c).before_in_eq_fetched 17 rfl (fun _ => rfl) (fun _ _ _ => rfl) (fun _ => rfl) t d).trans rfl
theorem before1_18 (c : Dev nD) (t : Fin cfg1.N) (d) : (dat1 V c).before 18 t d = iblk1 V c 18 t :=
  ((dat1 V c).before_in_eq_fetched 18 rfl (fun _ => rfl) (fun _ _ _ => rfl) (fun _ => rfl) t d).trans rfl
theorem before1_19 (c : Dev nD) (t : Fin cfg1.N) (d) : (dat1 V c).before 19 t d = iblk1 V c 19 t :=
  ((dat1 V c).before_in_eq_fetched 19 rfl (fun _ => rfl) (fun _ _ _ => rfl) (fun _ => rfl) t d).trans rfl
theorem before1_20 (c : Dev nD) (t : Fin cfg1.N) (d) : (dat1 V c).before 20 t d = iblk1 V c 20 t :=
  ((dat1 V c).before_in_eq_fetched 20 rfl (fun _ => rfl) (fun _ _ _ => rfl) (fun _ => rfl) t d).trans rfl
theorem before1_21 (c : Dev nD) (t : Fin cfg1.N) (d) : (dat1 V c).before 21 t d = iblk1 V c 21 t :=
  ((dat1 V c).before_in_eq_fetched 21 rfl (fun _ => rfl) (fun _ _ _ => rfl) (fun _ => rfl) t d).trans rfl
theorem before1_22 (c : Dev nD) (t : Fin cfg1.N) (d) : (dat1 V c).before 22 t d = iblk1 V c 22 t :=
  ((dat1 V c).before_in_eq_fetched 22 rfl (fun _ => rfl) (fun _ _ _ => rfl) (fun _ => rfl) t d).trans rfl
theorem before1_23 (c : Dev nD) (t : Fin cfg1.N) (d) : (dat1 V c).before 23 t d = iblk1 V c 23 t :=
  ((dat1 V c).before_in_eq_fetched 23 rfl (fun _ => rfl) (fun _ _ _ => rfl) (fun _ => rfl) t d).trans rfl
theorem before1_24 (c : Dev nD) (t : Fin cfg1.N) (d) : (dat1 V c).before 24 t d = iblk1 V c 24 t :=
  ((dat1 V c).before_in_eq_fetched 24 rfl (fun _ => rfl) (fun _ _ _ => rfl) (fun _ => rfl) t d).trans rfl
theorem before1_25 (c : Dev nD) (t : Fin cfg1.N) (d) : (dat1 V c).before 25 t d = iblk1 V c 25 t :=
  ((dat1 V c).before_in_eq_fetched 25 rfl (fun _ => rfl) (fun _ _ _ => rfl) (fun _ => rfl) t d).trans rfl
theorem before1_26 (c : Dev nD) (t : Fin cfg1.N) (d) : (dat1 V c).before 26 t d = iblk1 V c 26 t :=
  ((dat1 V c).before_in_eq_fetched 26 rfl (fun _ => rfl) (fun _ _ _ => rfl) (fun _ => rfl) t d).trans rfl
theorem before1_27 (c : Dev nD) (t : Fin cfg1.N) (d) : (dat1 V c).before 27 t d = iblk1 V c 27 t :=
  ((dat1 V c).before_in_eq_fetched 27 rfl (fun _ => rfl) (fun _ _ _ => rfl) (fun _ => rfl) t d).trans rfl

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d))
    ∗ (∃ d, owns (c : Thread nD τ) (ms1_21 t) fullShare ((dat1 V c).before 21 t d))
    ∗ (∃ d, owns (c : Thread nD τ) (ms1_22 t) fullShare ((dat1 V c).before 22 t d))
    ∗ (∃ d, owns (c : Thread nD τ) (ms1_23 t) fullShare ((dat1 V c).before 23 t d))
    ∗ (∃ d, owns (c : Thread nD τ) (ms1_24 t) fullShare ((dat1 V c).before 24 t d))
    ∗ (∃ d, owns (c : Thread nD τ) (ms1_25 t) fullShare ((dat1 V c).before 25 t d))
    ∗ (∃ d, owns (c : Thread nD τ) (ms1_26 t) fullShare ((dat1 V c).before 26 t d))
    ∗ (∃ d, owns (c : Thread nD τ) (ms1_27 t) fullShare ((dat1 V c).before 27 t d))
    ∗ (∃ d, owns (c : Thread nD τ) (ms1_28 t) fullShare ((dat1 V c).before 28 t d))
    ∗ (∃ d, owns (c : Thread nD τ) (ms1_29 t) fullShare ((dat1 V c).before 29 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t)
    ∗ owns (c : Thread nD τ) (ms1_20 t) fullShare ((dat1 V c).after 20 t)
    ∗ owns (c : Thread nD τ) (ms1_21 t) fullShare ((dat1 V c).after 21 t)
    ∗ owns (c : Thread nD τ) (ms1_22 t) fullShare ((dat1 V c).after 22 t)
    ∗ owns (c : Thread nD τ) (ms1_23 t) fullShare ((dat1 V c).after 23 t)
    ∗ owns (c : Thread nD τ) (ms1_24 t) fullShare ((dat1 V c).after 24 t)
    ∗ owns (c : Thread nD τ) (ms1_25 t) fullShare ((dat1 V c).after 25 t)
    ∗ owns (c : Thread nD τ) (ms1_26 t) fullShare ((dat1 V c).after 26 t)
    ∗ owns (c : Thread nD τ) (ms1_27 t) fullShare ((dat1 V c).after 27 t)
    ∗ owns (c : Thread nD τ) (ms1_28 t) fullShare ((dat1 V c).after 28 t)
    ∗ owns (c : Thread nD τ) (ms1_29 t) fullShare ((dat1 V c).after 29 t))

set_option maxHeartbeats 16000000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25, before1_26, before1_27]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27, after1_28, after1_29]
  unfold outsAt1
  unfold out1_A_28 out1_A_29; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((kernelRun1_A c (grid1.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, ⟨%e28, H28⟩, ⟨%e29, H29⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]
  · unfold owns; iexists _; isplitr
    swap; · iexact H28
    ipureintro; exact View.read_writes_of_cover _ _ _ _ _ (cover1_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H29
  ipureintro; exact View.read_writes_of_cover _ _ _ _ _ (cover1_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 4000000 in
/-- The body meets its obligation at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdeal.State.lean ====
module

public import proofs.«01_k».proof.Proof.Gen.KernelIdeal.Frame.Region0
public import proofs.«01_k».proof.Proof.KernelIdeal.Region1
public import proofs.«01_k».proof.Proof.Gen.KernelIdeal.Frame.Region2
public import proofs.«01_k».proof.Proof.Gen.KernelIdeal.Frame.Region3
public import proofs.«01_k».proof.Proof.Gen.KernelIdeal.Frame.Region4
public import proofs.«01_k».proof.Proof.Gen.KernelIdeal.Frame.Hosts0

/-! # The contents of every buffer between the calls, and the proof data of the five pipelines -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! The same for the later regions, in region 0's words. -/

/-- After `hostOps1` (region 1's entry). -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5`. -/
abbrev W11 : Dev nD → Valuation τ sig (Elt F) := fun c => StableHlo.after hostOps5 (W10 m ρ c)
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h
theorem W11_args (c : Dev nD) : ∀ a ∈ argRefs, W11 m ρ c (Proc.devRef .tc a) = m ((c : Thread nD τ).loc a) :=
  fun a ha => (W11_of m ρ c a (hostOps5_args a ha)).trans (W10_args m ρ c a ha)

/-! ## The proof data family and the thread state -/

/-- The prefetched tables' admissible contents: no pipeline has a table. -/
abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

end Cert.KernelIdeal.Gen

end
-- ==== Proof.KernelIdeal.Run.lean ====
module

public import proofs.«01_k».proof.Proof.KernelIdeal.State

/-! # The calls as segments, the whole run, and the frame -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state, entered at `W3` and left at `W4`: as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state, entered at `W5` and left at `W6`: as region 0. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state, entered at `W7` and left at `W8`: as region 0. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state, entered at `W9` and left at `W10`: as region 0. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters every execution ends without fault, every buffer of the core holding what
    the chain of contents says at its end (`W11`), and every semaphore counter at zero. -/
theorem run_state : θ_run defs (onTc (τ := τ) (main (F := F))) ⟨m, fun _ => 0, ρ⟩ (fun r =>
      (∀ c : Dev nD, ∀ b ∈ Pipeline.ucRefs τ sig, r.2.mem (((c : Thread nD τ)).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

/-- No argument is scoped: the run states the contents of each. -/
theorem args_uc : ∀ a ∈ argRefs, ¬ (Proc.devRef .tc a : DevRef τ sig).isScoped :=
  ListAll.forall_mem_of_all_decide (by decide +kernel)

/-- No host stretch writes an argument and no region changes one, so the contents at the end have it as launched. -/
theorem kept (c : Dev nD) {μ : (ℓ : Loc nD τ sig) → Buf (Elt F) ℓ} (h : ∀ b ∈ Pipeline.ucRefs τ sig, μ (((c : Thread nD τ)).1, b) = W11 m ρ c b)
    (a : Ref sig .tc) (ha : a ∈ argRefs) : μ ((c.tc : Thread nD τ).loc a) = m ((c.tc : Thread nD τ).loc a) :=
  (h _ (mem_uc a (args_uc a ha))).trans (W11_args m ρ c a ha)

/-- THE FRAME: the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32))
      ∧ r.2.sem = fun _ => 0) :=
  (θ_run defs _ _).mono (fun _ hr => by
    obtain ⟨h, hz⟩ := hr
    refine ⟨fun c => ?_, hz⟩
    have k := kept m ρ c (h c)
    exact ⟨k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide), k main_arg17 (by decide), k main_arg18 (by decide), k main_arg19 (by decide), k main_arg20 (by decide), k main_arg21 (by decide), k main_arg22 (by decide), k main_arg23 (by decide), k main_arg24 (by decide), k main_arg25 (by decide), k main_arg26 (by decide), k main_arg27 (by decide), k main_arg28 (by decide), k main_arg29 (by decide), k main_arg30 (by decide), k main_arg31 (by decide), k main_arg32 (by decide)⟩) (run_state m ρ)

end Cert.KernelIdeal.Gen

end
-- ==== Proof.Spec.lean ====
module

public import Idealize.ShloMosaic.Lib.Pointwise

/-!
# The decoder's mathematics over matrices of extended reals

The functions both programs are read as: a matrix is a function of two indices, and nothing here mentions a program.
-/

@[expose] public section

noncomputable section

namespace Cert.Spec

open Idealize.ShloMosaic

/-- An `n` by `m` matrix of extended reals. -/
abbrev M (n m : ℕ) := Fin n → Fin m → EReal

/-- Page `b` of an array of two pages. -/
abbrev page {n k : ℕ} (x : (⟨3, ![2, n, k]⟩ : Shape).Idx → EReal) (b : Fin 2) : M n k := fun i j => x (ix3 b i j)

/-- An array of two pages by its pages. -/
theorem eq_of_page {n k : ℕ} {x y : (⟨3, ![2, n, k]⟩ : Shape).Idx → EReal} (h : ∀ p i j, page x p i j = page y p i j) : x = y := by
  funext z
  have e : z = ix3 (z 0) (z 1) (z 2) := by
    funext a
    fin_cases a <;> rfl
  rw [e]
  exact h _ _ _

/-- The number one. -/
def one : EReal := 1
/-- The f32 number `-1e9`, a hidden score. -/
def hidden : EReal := Ideal.ofBits .f32 0xCE6E6B28#32
/-- The f32 number `256.0`, a row's length. -/
def width : EReal := Ideal.ofBits .f32 0x43800000#32
/-- The f32 number nearest `1e-5`. -/
def eps : EReal := Ideal.ofBits .f32 0x3727C5AC#32
/-- The number zero. -/
def zero : EReal := 0

/-- One eighth, the f32 word. -/
def eighth : EReal := Ideal.ofBits .f32 0x3E000000#32
/-- One over the root of a head's width. -/
def scale : EReal := ((√32)⁻¹ : ℝ)

/-- `x W + b`. -/
def lin {n k m : ℕ} (x : M n k) (W : M k m) (b : Fin m → EReal) : M n m :=
  fun i j => (∑ t, x i t * W t j) + b j

/-- A row's mean. -/
def mean {n : ℕ} (x : M n 256) (i : Fin n) : EReal := Ideal.div (∑ t, x i t) width

/-- A row's variance. -/
def var {n : ℕ} (x : M n 256) (i : Fin n) : EReal :=
  Ideal.div (∑ t, (x i t - mean x i) * (x i t - mean x i)) width

/-- Layer normalisation of every row. -/
def ln {n : ℕ} (x : M n 256) (g b : Fin 256 → EReal) : M n 256 :=
  fun i j => Ideal.div (x i j - mean x i) (Ideal.sqrt (var x i + eps)) * g j + b j

/-- A row's greatest score. -/
def rowMax {n k : ℕ} (s : M n k) (i : Fin n) : EReal :=
  (Finset.univ : Finset (Fin k)).fold max (Ideal.ofBits .f32 0xFF800000#32) (s i)

/-- The exponentials of the scores less their row's greatest. -/
def ex {n k : ℕ} (s : M n k) : M n k := fun i j => Ideal.exp (s i j - rowMax s i)

/-- One over the sum of a row's exponentials. -/
def rinv {n k : ℕ} (s : M n k) (i : Fin n) : EReal := Ideal.div one (∑ j, ex s i j)

/-- Column `d` of head `h`. -/
def col (h : Fin 8) (d : Fin 32) : Fin 256 := ⟨32 * h.val + d.val, by omega⟩
/-- The head of a column. -/
def hd (c : Fin 256) : Fin 8 := ⟨c.val / 32, by omega⟩
/-- A column's place in its head. -/
def wi (c : Fin 256) : Fin 32 := ⟨c.val % 32, by omega⟩

/-- The products of head `h`'s queries and keys. -/
def dots {n k : ℕ} (q : M n 256) (kk : M k 256) (h : Fin 8) : M n k :=
  fun i j => ∑ d, q i (col h d) * kk j (col h d)

/-- Scores with the ones outside the mask hidden. -/
def masked {n k : ℕ} (b : Fin n → Fin k → BitVec 1) (s : M n k) : M n k :=
  fun i j => Scalar.select (b i j) (s i j) hidden

/-- The attention's weighted values, column by column, normalised at the end: `f` makes a head's scores from its products. -/
def att {n k : ℕ} (f : M n k → M n k) (q : M n 256) (kk v : M k 256) : M n 256 :=
  fun i c => (∑ j, ex (f (dots q kk (hd c))) i j * v j c) * rinv (f (dots q kk (hd c))) i

/-- The feed-forward part. -/
def ffn {n : ℕ} (x : M n 256) (W1 : M 256 2048) (b1 : Fin 2048 → EReal) (W2 : M 2048 256) (b2 : Fin 256 → EReal) : M n 256 :=
  lin (fun i j => max (lin x W1 b1 i j) zero) W2 b2

/-- Two matrices added. -/
def add {n k : ℕ} (x y : M n k) : M n k := fun i j => x i j + y i j

/-- The scaled queries. -/
def queries {n : ℕ} (x qp : M n 256) (wq : M 256 256) (bq : Fin 256 → EReal) : M n 256 := fun i j => lin (add x qp) wq bq i j * scale

/-- The self-attention part of a layer: keys and values from the rows themselves, scores outside the mask hidden, residual, normalisation. -/
def saBlock {n : ℕ} (mk : Fin n → Fin n → BitVec 1) (x qp : M n 256) (wq : M 256 256) (bq : Fin 256 → EReal) (wk : M 256 256) (bk : Fin 256 → EReal)
    (wv : M 256 256) (bv : Fin 256 → EReal) (wo : M 256 256) (bo g b : Fin 256 → EReal) : M n 256 :=
  ln (add (lin (att (masked mk) (queries x qp wq bq) (lin (add x qp) wk bk) (lin x wv bv)) wo bo) x) g b

/-- The cross-attention part of a layer. -/
def caBlock {n k : ℕ} (x qp : M n 256) (kk v : M k 256) (wq : M 256 256) (bq : Fin 256 → EReal) (wo : M 256 256) (bo g b : Fin 256 → EReal) : M n 256 :=
  ln (add (lin (att id (queries x qp wq bq) kk v) wo bo) x) g b

/-- The attention weights averaged over the heads. -/
def avgBlock {n k : ℕ} (x qp : M n 256) (kk : M k 256) (wq : M 256 256) (bq : Fin 256 → EReal) : M n k :=
  fun i j => ∑ h : Fin 8, ex (dots (queries x qp wq bq) kk h) i j * (rinv (dots (queries x qp wq bq) kk h) i * eighth)

/-- The feed-forward part of a layer. -/
def ffnBlock {n : ℕ} (x : M n 256) (W1 : M 256 2048) (b1 : Fin 2048 → EReal) (W2 : M 2048 256) (b2 g b : Fin 256 → EReal) : M n 256 :=
  ln (add (ffn x W1 b1 W2 b2) x) g b

end Cert.Spec

end
end
-- ==== Proof.Bridge.lean ====
module

public import proofs.«01_k».proof.Proof.Spec
public import Idealize.ShloMosaic.Lib.IdealHost

/-! # Attention normalised at the end, and attention by its weights -/

@[expose] public section

noncomputable section

namespace Cert.Spec

open Idealize.ShloMosaic

/-- The f32 number `8.0`. -/
def eight : EReal := Ideal.ofBits .f32 0x41000000#32
/-- The f32 number `32.0`. -/
def thirtytwo : EReal := Ideal.ofBits .f32 0x42000000#32

theorem eight_eq : eight = ((8 : ℝ) : EReal) := by simp [eight, Ideal.ofBits, Ideal.ieee, -EReal.coe_mul]; norm_num
theorem eighth_eq : eighth = ((1 / 8 : ℝ) : EReal) := by simp [eighth, Ideal.ofBits, Ideal.ieee, -EReal.coe_mul]; norm_num
theorem thirtytwo_eq : thirtytwo = ((32 : ℝ) : EReal) := by simp [thirtytwo, Ideal.ofBits, Ideal.ieee, -EReal.coe_mul]; norm_num

theorem div_eight (x : EReal) : Ideal.div x eight = x * eighth := by
  rw [eight_eq, eighth_eq, Ideal.div_coe (by norm_num)]

theorem div_root (x : EReal) : Ideal.div x (Ideal.sqrt thirtytwo) = x * scale := by
  have h : Ideal.sqrt ((32 : ℝ) : EReal) = ((√32 : ℝ) : EReal) := by
    show (if (32 : ℝ) < 0 then (⊥ : EReal) else _) = _
    rw [if_neg (by norm_num)]
  rw [thirtytwo_eq, h, Ideal.div_coe (by positivity), scale, one_div]

/-- A nonnegative finite number times a sum. -/
theorem sum_mul_of_nonneg {ι : Type*} (s : Finset ι) (f : ι → EReal) (r : EReal) (h0 : 0 ≤ r) (h1 : r ≠ ⊤) : (∑ i ∈ s, f i) * r = ∑ i ∈ s, f i * r := by
  classical
  induction s using Finset.induction_on with
  | empty => simp
  | insert a s ha ih => rw [Finset.sum_insert ha, Finset.sum_insert ha, EReal.right_distrib_of_nonneg_of_ne_top h0 h1, ih]

theorem scale_nonneg : 0 ≤ scale := by rw [scale]; exact_mod_cast (by positivity : (0 : ℝ) ≤ (√32)⁻¹)
theorem scale_ne_top : scale ≠ ⊤ := EReal.coe_ne_top _
theorem eighth_nonneg : 0 ≤ eighth := by rw [eighth_eq]; exact_mod_cast (by norm_num : (0 : ℝ) ≤ 1 / 8)
theorem eighth_ne_top : eighth ≠ ⊤ := by rw [eighth_eq]; exact EReal.coe_ne_top _

theorem exp_nonneg (x : EReal) : 0 ≤ Ideal.exp x := by
  induction x with
  | bot => exact le_refl _
  | top => exact le_top
  | coe r => show (0 : EReal) ≤ ((Real.exp r : ℝ) : EReal); exact_mod_cast (Real.exp_pos r).le

/-- The queries' scale taken out of the products. -/
theorem dots_scale {n k : ℕ} (q : M n 256) (kk : M k 256) (h : Fin 8) :
    dots (fun i j => q i j * scale) kk h = fun i j => Ideal.div (dots q kk h i j) (Ideal.sqrt thirtytwo) := by
  funext i j
  rw [div_root]
  simp only [dots]
  rw [sum_mul_of_nonneg _ _ _ scale_nonneg scale_ne_top]
  exact Finset.sum_congr rfl fun d _ => by rw [mul_right_comm]

/-- A row's weights: its exponentials over their sum. -/
def weights {n k : ℕ} (s : M n k) : M n k := fun i j => ex s i j * rinv s i

/-- Attention by its weights. -/
def watt {n k : ℕ} (f : M n k → M n k) (q : M n 256) (kk v : M k 256) : M n 256 :=
  fun i c => ∑ j, weights (f (dots q kk (hd c))) i j * v j c

theorem weights_sum {n k : ℕ} (s : M n k) (w : Fin k → EReal) (i : Fin n) : (∑ j, ex s i j * w j) * rinv s i = ∑ j, weights s i j * w j := by
  have e0 (j) : 0 ≤ ex s i j := exp_nonneg _
  by_cases hs : ∑ j, ex s i j = 0
  · have hz (j) : ex s i j = 0 := (Finset.sum_eq_zero_iff_of_nonneg fun j _ => e0 j).1 hs j (Finset.mem_univ j)
    simp [weights, hz]
  · have hr : rinv s i = (∑ j, ex s i j)⁻¹ := by rw [rinv, Ideal.div, if_neg hs, one, one_mul]
    have hp : 0 < ∑ j, ex s i j := lt_of_le_of_ne (Finset.sum_nonneg fun j _ => e0 j) (Ne.symm hs)
    have h0 : 0 ≤ rinv s i := by rw [hr]; exact EReal.inv_nonneg_of_nonneg hp.le
    have h1 : rinv s i ≠ ⊤ := by
      rw [hr]
      intro h
      generalize ∑ j, ex s i j = S at *
      induction S with
      | bot => simp at hp
      | top => simp at h
      | coe r => rw [← EReal.coe_inv] at h; exact EReal.coe_ne_top _ h
    rw [sum_mul_of_nonneg _ _ _ h0 h1]
    exact Finset.sum_congr rfl fun j _ => by rw [weights, mul_right_comm]

theorem att_eq {n k : ℕ} (f : M n k → M n k) (q : M n 256) (kk v : M k 256) : att f q kk v = watt f q kk v := by
  funext i c
  exact weights_sum _ (fun j => v j c) i

/-- The weights' mean over the heads. -/
theorem avg_eq {n k : ℕ} (s : Fin 8 → M n k) (i : Fin n) (j : Fin k) :
    ∑ h, ex (s h) i j * (rinv (s h) i * eighth) = Ideal.div (∑ h, weights (s h) i j) eight := by
  rw [div_eight, sum_mul_of_nonneg _ _ _ eighth_nonneg eighth_ne_top]
  exact Finset.sum_congr rfl fun h _ => by rw [weights, mul_assoc]

theorem add_comm' {n k : ℕ} (x y : M n k) : add x y = add y x := by
  funext i j
  exact add_comm _ _

/-- Scores from the unscaled queries' products. -/
def rooted {n k : ℕ} (s : M n k) : M n k := fun i j => Ideal.div (s i j) (Ideal.sqrt thirtytwo)

/-- The self-attention part by its weights. -/
theorem saBlock_eq {n : ℕ} (mk : Fin n → Fin n → BitVec 1) (x qp : M n 256) (wq bq wk bk wv bv wo bo g b) :
    saBlock mk x qp wq bq wk bk wv bv wo bo g b
      = ln (add x (lin (watt (fun s => masked mk (rooted s)) (lin (add x qp) wq bq) (lin (add x qp) wk bk) (lin x wv bv)) wo bo)) g b := by
  rw [saBlock, add_comm', att_eq]
  have h : watt (masked mk) (queries x qp wq bq) (lin (add x qp) wk bk) (lin x wv bv)
      = watt (fun s => masked mk (rooted s)) (lin (add x qp) wq bq) (lin (add x qp) wk bk) (lin x wv bv) := by
    funext i c
    simp only [watt]
    rw [show dots (queries x qp wq bq) (lin (add x qp) wk bk) (hd c) = rooted (dots (lin (add x qp) wq bq) (lin (add x qp) wk bk) (hd c)) from dots_scale _ _ _]
  rw [h]

/-- The cross-attention part by its weights. -/
theorem caBlock_eq {n k : ℕ} (x qp : M n 256) (kk v : M k 256) (wq bq wo bo g b) :
    caBlock x qp kk v wq bq wo bo g b = ln (add x (lin (watt rooted (lin (add x qp) wq bq) kk v) wo bo)) g b := by
  rw [caBlock, add_comm', att_eq]
  have h : watt id (queries x qp wq bq) kk v = watt rooted (lin (add x qp) wq bq) kk v := by
    funext i c
    simp only [watt]
    rw [show dots (queries x qp wq bq) kk (hd c) = rooted (dots (lin (add x qp) wq bq) kk (hd c)) from dots_scale _ _ _]
    rfl
  rw [h]

/-- The averaged weights. -/
theorem avgBlock_eq {n k : ℕ} (x qp : M n 256) (kk : M k 256) (wq bq) :
    avgBlock x qp kk wq bq = fun i j => Ideal.div (∑ h, weights (rooted (dots (lin (add x qp) wq bq) kk h)) i j) eight := by
  funext i j
  rw [avgBlock, avg_eq (fun h => dots (queries x qp wq bq) kk h)]
  have h (h : Fin 8) : dots (queries x qp wq bq) kk h = rooted (dots (lin (add x qp) wq bq) kk h) := dots_scale _ _ _
  simp only [h]

end Cert.Spec

end
end
-- ==== Proof.Heads.lean ====
module

public import proofs.«01_k».proof.Proof.Spec
public import proofs.«01_k».proof.Proof.Gen.KernelIdeal.Skeleton
public import Idealize.ShloMosaic.Lib.ValueIdx
public import Idealize.ShloMosaic.Lib.Pipeline.ValueKit

/-! # Eight heads laid side by side, read at a column -/

@[expose] public section

set_option maxRecDepth 16384

noncomputable section

namespace Cert.KernelIdeal.Vec

open Idealize.ShloMosaic Cert.KernelIdeal Cert.KernelIdeal.Gen Cert.Spec

/-- Eight pieces of 32 columns side by side. -/
def cat8 (a0 a1 a2 a3 a4 a5 a6 a7 : FVec Ideal S300x32 .f32) : FVec Ideal S300x256 .f32 :=
  concatenate S300x256 1 [⟨S300x32, a0⟩, ⟨S300x32, a1⟩, ⟨S300x32, a2⟩, ⟨S300x32, a3⟩, ⟨S300x32, a4⟩, ⟨S300x32, a5⟩, ⟨S300x32, a6⟩, ⟨S300x32, a7⟩]
      concatenates_S300x32_S300x32_S300x32_S300x32_S300x32_S300x32_S300x32_S300x32_S300x256_d1

/-- The printed concatenation of eight heads, under its name. -/
theorem cat8_of (a0 a1 a2 a3 a4 a5 a6 a7 : FVec Ideal S300x32 .f32) (h) :
    concatenate S300x256 1 [⟨S300x32, a0⟩, ⟨S300x32, a1⟩, ⟨S300x32, a2⟩, ⟨S300x32, a3⟩, ⟨S300x32, a4⟩, ⟨S300x32, a5⟩, ⟨S300x32, a6⟩, ⟨S300x32, a7⟩] h = cat8 a0 a1 a2 a3 a4 a5 a6 a7 := rfl

/-- Eight pieces of 32 columns side by side: column `c` is the piece of its head at its place in the head. -/
theorem heads_at {α : Type} (f : Fin 8 → (S300x32.Idx → α)) (i : Fin 300) (c : Fin 256) :
    concatenate S300x256 1 [⟨S300x32, f 0⟩, ⟨S300x32, f 1⟩, ⟨S300x32, f 2⟩, ⟨S300x32, f 3⟩, ⟨S300x32, f 4⟩, ⟨S300x32, f 5⟩, ⟨S300x32, f 6⟩, ⟨S300x32, f 7⟩]
      concatenates_S300x32_S300x32_S300x32_S300x32_S300x32_S300x32_S300x32_S300x32_S300x256_d1 (ix2 i c) = f (hd c) (ix2 i (wi c)) := by
  refine concatenate_ofFn_apply (t := S300x256) (s₁ := S300x32) 1 f _ rfl 32 rfl (ix2 i c) (hd c) rfl (ix2 i (wi c)) rfl ?_
  intro b hb
  have : b = 0 := by
    match b, hb with
    | 0, _ => rfl
    | 1, hb => exact absurd rfl hb
  subst this; rfl

/-- The head of a head's column. -/
theorem hd_col (h : Fin 8) (d : Fin 32) : hd (col h d) = h := by apply Fin.ext; simp only [hd, col]; omega
/-- A column is its head's at its place. -/
theorem col_hd (c : Fin 256) : col (hd c) (wi c) = c := by apply Fin.ext; simp only [hd, wi, col]; omega

end Cert.KernelIdeal.Vec

end
end
-- ==== Proof.Host.lean ====
module

public import proofs.«01_k».proof.Proof.Bridge
public import proofs.«01_k».proof.Proof.Heads
public import proofs.«01_k».proof.Proof.Gen.Reference4Ideal

/-! # The references' operations, over the host's arrays -/

@[expose] public section

set_option maxRecDepth 16384

noncomputable section

namespace Cert.Host

open Idealize.ShloMosaic Cert.Reference4Ideal Cert.Reference4Ideal.Gen Cert.Spec

/-- Head `h` of page `b`. -/
abbrev leaf {n k : ℕ} (x : (⟨4, ![2, 8, n, k]⟩ : Shape).Idx → EReal) (b : Fin 2) (h : Fin 8) : M n k := fun i j => x (ix4 b h i j)

theorem page_add (x y : FVec Ideal S2x300x256 .f32) (p) : page (addf x y) p = add (page x p) (page y p) := rfl

/-- A row's mean. -/
def hmean (x : FVec Ideal S2x300x256 .f32) : FVec Ideal S2x300x1 .f32 :=
  Host.divf (broadcastInDim S2x300x1 ![0, 1] bcast_S2x300_S2x300x1_0_1 (Host.reduceAdd x (constant S_ .f32 0x00000000#32) reducesTo_S2x300x256_S2x300_d2 h_S_))
    (broadcastInDim S2x300x1 ![] bcast_S_S2x300x1 (constant S_ .f32 0x43800000#32))

/-- The rows less their means. -/
def hcen (x : FVec Ideal S2x300x256 .f32) : FVec Ideal S2x300x256 .f32 := subf x (broadcastInDim S2x300x256 ![0, 1, 2] bcast_S2x300x1_S2x300x256_0_1_2 (hmean x))

/-- A row of numbers at every row of both pages. -/
def hrow (x : FVec Ideal S1x256 .f32) : FVec Ideal S2x300x256 .f32 :=
  broadcastInDim S2x300x256 ![0, 1, 2] bcast_S1x1x256_S2x300x256_0_1_2 (broadcastInDim S1x1x256 ![2] bcast_S256_S1x1x256_2 (shapeCast S256 x shapeCasts_S1x256_S256))

/-- Layer normalisation. -/
def hln (x : FVec Ideal S2x300x256 .f32) (g b : FVec Ideal S1x256 .f32) : FVec Ideal S2x300x256 .f32 :=
  addf (mulf (Host.divf (hcen x) (broadcastInDim S2x300x256 ![0, 1, 2] bcast_S2x300x1_S2x300x256_0_1_2 (Host.sqrt (addf (hmean (mulf (hcen x) (hcen x)))
    (broadcastInDim S2x300x1 ![] bcast_S_S2x300x1 (constant S_ .f32 0x3727C5AC#32)))))) (hrow g)) (hrow b)

theorem hrow_apply (x) (p i j) : hrow x (ix3 p i j) = x (ix2 0 j) := by
  unfold hrow
  pointwise

theorem hmean_apply (x) (p i k) : hmean x (ix3 p i k) = mean (page x p) i := by
  simp only [hmean, mean, page]
  pointwise
  rfl

theorem hcen_apply (x) (p i j) : hcen x (ix3 p i j) = x (ix3 p i j) - mean (page x p) i := by
  rw [← hmean_apply x p i 0, hcen]
  pointwise

theorem hln_eq (x g b p) : page (hln x g b) p = ln (page x p) (fun j => g (ix2 0 j)) (fun j => b (ix2 0 j)) := by
  funext i j
  have h : mean (page (mulf (hcen x) (hcen x)) p) i = var (page x p) i := by
    rw [mean, var]
    congr 1
    refine Finset.sum_congr rfl fun k _ => ?_
    show hcen x (ix3 p i k) * hcen x (ix3 p i k) = _
    rw [hcen_apply]
  rw [ln, ← h, ← hcen_apply, ← hmean_apply _ _ _ 0, ← hrow_apply g p i j, ← hrow_apply b p i j]
  simp only [page, hln]
  pointwise
  rfl

/-- `x W + b` of every row. -/
def hlin (x : FVec Ideal S2x300x256 .f32) (w : FVec Ideal S256x256 .bf16) (b : FVec Ideal S1x256 .f32) : FVec Ideal S2x300x256 .f32 :=
  addf (Host.dotGeneral dot_S2x300x256_S256x256_S2x300x256_2_0_01_1_n_n none x (extf .f32 w bitsLt_bf16_f32)) (hrow b)

theorem hlin_eq (x w b p) : page (hlin x w b) p = lin (page x p) (fun i j => w (ix2 i j)) (fun j => b (ix2 0 j)) := by
  funext i j
  rw [lin, ← hrow_apply b p i j]
  simp only [page, hlin]
  pointwise

/-- The query positions of both pages. -/
def hqp (x : FVec Ideal S300x512 .f32) : FVec Ideal S2x300x256 .f32 :=
  transpose S2x300x256 [1, 0, 2] (shapeCast S300x2x256 x shapeCasts_S300x512_S300x2x256) transposes_S300x2x256_S2x300x256_1_0_2

theorem hqp_apply (x) (p i j) : hqp x (ix3 p i j) = x (ix2 i (⟨256 * p.val + j.val, by omega⟩ : Fin 512)) := by
  unfold hqp
  pointwise
  exact congrArg (fun k => x (ix2 i k)) (Fin.ext (by show p.val * 256 + j.val = 256 * p.val + j.val; omega))

/-- The heads of 300 rows. -/
def hsplit (x : FVec Ideal S2x300x256 .f32) : FVec Ideal S2x8x300x32 .f32 :=
  transpose S2x8x300x32 [0, 2, 1, 3] (shapeCast S2x300x8x32 x shapeCasts_S2x300x256_S2x300x8x32) transposes_S2x300x8x32_S2x8x300x32_0_2_1_3
/-- The heads of 4096 rows. -/
def hsplitK (x : FVec Ideal S2x4096x256 .f32) : FVec Ideal S2x8x4096x32 .f32 :=
  transpose S2x8x4096x32 [0, 2, 1, 3] (shapeCast S2x4096x8x32 x shapeCasts_S2x4096x256_S2x4096x8x32) transposes_S2x4096x8x32_S2x8x4096x32_0_2_1_3

theorem hsplit_apply (x) (p h i d) : hsplit x (ix4 p h i d) = x (ix3 p i (col h d)) := by
  unfold hsplit
  pointwise
  exact congrArg (fun k => x (ix3 p i k)) (Fin.ext (by show h.val * 32 + d.val = 32 * h.val + d.val; omega))

theorem hsplitK_apply (x) (p h i d) : hsplitK x (ix4 p h i d) = x (ix3 p i (col h d)) := by
  unfold hsplitK
  pointwise
  exact congrArg (fun k => x (ix3 p i k)) (Fin.ext (by show h.val * 32 + d.val = 32 * h.val + d.val; omega))

/-- The products of the heads' queries and keys, over the root of 32. -/
def hdots (q : FVec Ideal S2x8x300x32 .f32) (k : FVec Ideal S2x8x4096x32 .f32) : FVec Ideal S2x8x300x4096 .f32 :=
  Host.divf (Host.dotGeneral dot_S2x8x300x32_S2x8x4096x32_S2x8x300x4096_3_3_2_2_01_01 none q k)
    (broadcastInDim S2x8x300x4096 ![] bcast_S_S2x8x300x4096 (id (Host.sqrt (constant S_ .f32 0x42000000#32))))

theorem hdots_eq (q k p h) : leaf (hdots (hsplit q) (hsplitK k)) p h = rooted (dots (page q p) (page k p) h) := by
  funext i j
  have e : dots (page q p) (page k p) h i j = ∑ d : Fin 32, hsplit q (ix4 p h i d) * hsplitK k (ix4 p h j d) := by
    rw [dots]
    exact Finset.sum_congr rfl fun d _ => by rw [hsplit_apply, hsplitK_apply]
  rw [rooted, e]
  generalize hsplit q = q'
  generalize hsplitK k = k'
  simp only [leaf, hdots]
  pointwise
  rfl

/-- The rows' exponentials. -/
def hex (s : FVec Ideal S2x8x300x4096 .f32) : FVec Ideal S2x8x300x4096 .f32 :=
  Host.exp (subf s (broadcastInDim S2x8x300x4096 ![0, 1, 2, 3] bcast_S2x8x300x1_S2x8x300x4096_0_1_2_3 (broadcastInDim S2x8x300x1 ![0, 1, 2] bcast_S2x8x300_S2x8x300x1_0_1_2
    (Host.reduce FloatOps.maximumf s (constant S_ .f32 0xFF800000#32) reducesTo_S2x8x300x4096_S2x8x300_d3 h_S_))))

/-- The rows' weights. -/
def hweights (s : FVec Ideal S2x8x300x4096 .f32) : FVec Ideal S2x8x300x4096 .f32 :=
  mulf (hex s) (broadcastInDim S2x8x300x4096 ![0, 1, 2, 3] bcast_S2x8x300x1_S2x8x300x4096_0_1_2_3 (Host.divf (broadcastInDim S2x8x300x1 ![] bcast_S_S2x8x300x1 (constant S_ .f32 0x3F800000#32))
    (broadcastInDim S2x8x300x1 ![0, 1, 2] bcast_S2x8x300_S2x8x300x1_0_1_2 (Host.reduceAdd (hex s) (constant S_ .f32 0x00000000#32) reducesTo_S2x8x300x4096_S2x8x300_d3 h_S_))))

theorem hex_apply (s p h i j) : hex s (ix4 p h i j) = ex (leaf s p h) i j := by
  simp only [hex, ex, rowMax, leaf]
  pointwise

theorem hweights_eq (s p h) : leaf (hweights s) p h = weights (leaf s p h) := by
  funext i j
  have e : rinv (leaf s p h) i = Ideal.div one (∑ j, hex s (ix4 p h i j)) := by
    rw [rinv]
    exact congrArg _ (Finset.sum_congr rfl fun d _ => (hex_apply s p h i d).symm)
  rw [weights, e, ← hex_apply]
  simp only [leaf, hweights]
  generalize hex s = t
  pointwise
  rfl

/-- The weighted values, heads side by side. -/
def hctx (w : FVec Ideal S2x8x300x4096 .f32) (v : FVec Ideal S2x8x4096x32 .f32) : FVec Ideal S2x300x256 .f32 :=
  shapeCast S2x300x256 (transpose S2x300x8x32 [0, 2, 1, 3] (Host.dotGeneral dot_S2x8x300x4096_S2x8x4096x32_S2x8x300x32_3_2_2_3_01_01 none w v) transposes_S2x8x300x32_S2x300x8x32_0_2_1_3)
    shapeCasts_S2x300x8x32_S2x300x256

theorem hctx_apply (w v p i c) : hctx w v (ix3 p i c) = ∑ j : Fin 4096, w (ix4 p (hd c) i j) * v (ix4 p (hd c) j (wi c)) := by
  unfold hctx
  pointwise
  rfl

theorem watt_eq (q k v p) : page (hctx (hweights (hdots (hsplit q) (hsplitK k))) (hsplitK v)) p = watt rooted (page q p) (page k p) (page v p) := by
  funext i c
  refine (hctx_apply _ _ p i c).trans ?_
  rw [watt]
  refine Finset.sum_congr rfl fun j _ => ?_
  rw [hsplitK_apply, Cert.KernelIdeal.Vec.col_hd, ← hdots_eq, ← hweights_eq]

/-- The weights' mean over the heads. -/
def havg (w : FVec Ideal S2x8x300x4096 .f32) : FVec Ideal S2x300x4096 .f32 :=
  Host.divf (Host.reduceAdd w (constant S_ .f32 0x00000000#32) reducesTo_S2x8x300x4096_S2x300x4096_d1 h_S_) (broadcastInDim S2x300x4096 ![] bcast_S_S2x300x4096 (constant S_ .f32 0x41000000#32))

theorem havg_eq (w p) : page (havg w) p = fun i j => Ideal.div (∑ h : Fin 8, leaf w p h i j) eight := by
  funext i j
  simp only [page, leaf, havg]
  pointwise
  rfl

end Cert.Host

end
end
-- ==== Proof.Vec.lean ====
module

public import proofs.«01_k».proof.Proof.Heads
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.ValueKit

@[expose] public section

set_option maxRecDepth 16384

noncomputable section

namespace Cert.KernelIdeal.Vec

open Idealize.ShloMosaic Cert.KernelIdeal Cert.KernelIdeal.Gen Cert.Spec

/-- A vector as a matrix. -/
abbrev toM {n m : ℕ} (x : (⟨2, ![n, m]⟩ : Shape).Idx → EReal) : M n m := fun i j => x (ix2 i j)
/-- A one-row vector as a row. -/
abbrev toR {m : ℕ} (x : (⟨2, ![1, m]⟩ : Shape).Idx → EReal) : Fin m → EReal := fun j => x (ix2 0 j)

/-- `x W + b` for 300 rows of 256. -/
def vlin (x : FVec Ideal S300x256 .f32) (w : FVec Ideal S256x256 .bf16) (b : FVec Ideal S1x256 .f32) : FVec Ideal S300x256 .f32 :=
  addf (matmul dot_S300x256_S256x256_S300x256_1_0_0_1_n_n none (truncf .bf16 x bitsLt_bf16_f32) (shapeCast S256x256 w shapeCasts_S256x256_S256x256) (constant S300x256 .f32 0x00000000#32))
    (broadcastTo S300x256 (shapeCast S1x256 b shapeCasts_S1x256_S1x256) broadcasts_S1x256_S300x256)

theorem vlin_eq (x w b) : toM (vlin x w b) = lin (toM x) (toM w) (toR b) := by
  funext i j
  simp only [toM, vlin, lin, toR]
  pointwise

/-- Masked scores of the head at column `o`. -/
def saScore (o : ℕ) (h : S300x256.Slices ![0, o] S300x32) (mk : IVec S300x300 1) (q k : FVec Ideal S300x256 .f32) : FVec Ideal S300x300 .f32 :=
  select mk (matmul dot_S300x32_S300x32_S300x300_1_1_0_0_n_n none
    (truncf .bf16 (extractStridedSlice S300x32 ![0, o] q h) bitsLt_bf16_f32)
    (truncf .bf16 (extractStridedSlice S300x32 ![0, o] k h) bitsLt_bf16_f32) (constant S300x300 .f32 0x00000000#32))
    (broadcast S300x300 (Scalar.ofBits .f32 0xCE6E6B28#32))

/-- The exponentials of a row's scores. -/
def saEx (s : FVec Ideal S300x300 .f32) : FVec Ideal S300x300 .f32 :=
  exp (subf s (broadcastTo S300x300 (shapeCast S300x1 (multiReduction .maximumf [1] S300 s 0xFF800000#32 reduces_S300x300_S300 (.inl rfl) rfl) shapeCasts_S300_S300x1) broadcasts_S300x1_S300x300))

/-- One over each row's sum. -/
def saInv (e : FVec Ideal S300x300 .f32) : FVec Ideal S300x1 .f32 :=
  divf (broadcast S300x1 (Scalar.ofBits .f32 0x3F800000#32)) (shapeCast S300x1 (multiReduction .add [1] S300 e 0x00000000#32 reduces_S300x300_S300 (.inl rfl) rfl) shapeCasts_S300_S300x1)

/-- The head's context. -/
def saCtx (e : FVec Ideal S300x300 .f32) (v : FVec Ideal S300x32 .f32) : FVec Ideal S300x32 .f32 :=
  mulf (matmul dot_S300x300_S300x32_S300x32_1_0_0_1_n_n none (truncf .bf16 e bitsLt_bf16_f32) (truncf .bf16 v bitsLt_bf16_f32) (constant S300x32 .f32 0x00000000#32))
    (broadcastTo S300x32 (saInv e) broadcasts_S300x1_S300x32)

/-- A self-attention head. -/
def saHead (o : ℕ) (h : S300x256.Slices ![0, o] S300x32) (mk : IVec S300x300 1) (q k v : FVec Ideal S300x256 .f32) : FVec Ideal S300x32 .f32 :=
  saCtx (saEx (saScore o h mk q k)) (extractStridedSlice S300x32 ![0, o] v h)

theorem saScore_eq (h8 : Fin 8) (h : S300x256.Slices ![0, 32 * h8.val] S300x32) (mk : IVec S300x300 1) (q k : FVec Ideal S300x256 .f32) :
    toM (saScore (32 * h8.val) h mk q k) = masked (fun i j => mk (ix2 i j)) (dots (toM q) (toM k) h8) := by
  funext i j
  simp only [toM, saScore, masked, dots]
  pointwise
  first | rfl | done

theorem saEx_eq (s) : toM (saEx s) = ex (toM s) := by
  funext i j
  simp only [toM, saEx, ex, rowMax]
  pointwise
  first | rfl | done

theorem saInv_eq (s) (i : Fin 300) : saInv (saEx s) (ix2 i 0) = rinv (toM s) i := by
  rw [rinv, ← saEx_eq]
  simp only [toM, saInv, one]
  pointwise
  first | rfl | done

theorem saCtx_eq (s v) (i : Fin 300) (d : Fin 32) : saCtx (saEx s) v (ix2 i d) = (∑ j, ex (toM s) i j * v (ix2 j d)) * rinv (toM s) i := by
  rw [← saInv_eq, ← saEx_eq]
  simp only [toM, saCtx]
  pointwise
  first | rfl | done

/-- The eight heads side by side. -/
def saHeads (mk : IVec S300x300 1) (q k v : FVec Ideal S300x256 .f32) : FVec Ideal S300x256 .f32 :=
  concatenate S300x256 1 [⟨S300x32, saHead 0 slices_S300x256_o0_0_S300x32 mk q k v⟩, ⟨S300x32, saHead 32 slices_S300x256_o0_32_S300x32 mk q k v⟩, ⟨S300x32, saHead 64 slices_S300x256_o0_64_S300x32 mk q k v⟩, ⟨S300x32, saHead 96 slices_S300x256_o0_96_S300x32 mk q k v⟩, ⟨S300x32, saHead 128 slices_S300x256_o0_128_S300x32 mk q k v⟩, ⟨S300x32, saHead 160 slices_S300x256_o0_160_S300x32 mk q k v⟩, ⟨S300x32, saHead 192 slices_S300x256_o0_192_S300x32 mk q k v⟩, ⟨S300x32, saHead 224 slices_S300x256_o0_224_S300x32 mk q k v⟩] concatenates_S300x32_S300x32_S300x32_S300x32_S300x32_S300x32_S300x32_S300x32_S300x256_d1

theorem saHead_eq (h8 : Fin 8) (h : S300x256.Slices ![0, 32 * h8.val] S300x32) (mk : IVec S300x300 1) (q k v : FVec Ideal S300x256 .f32) (i : Fin 300) (d : Fin 32) :
    saHead (32 * h8.val) h mk q k v (ix2 i d) = att (masked fun i j => mk (ix2 i j)) (toM q) (toM k) (toM v) i (col h8 d) := by
  rw [saHead, saCtx_eq, saScore_eq, att, hd_col]
  have e (j : Fin 300) : extractStridedSlice S300x32 ![0, 32 * h8.val] v h (ix2 j d) = toM v j (col h8 d) := by
    simp only [toM]; pointwise; first | rfl | done
  simp only [e]

/-- Where a head's columns start, there are 32 columns left. -/
theorem slices_head (h : Fin 8) : S300x256.Slices ![0, 32 * h.val] S300x32 := by revert h; decide

theorem saHeads_eq (mk : IVec S300x300 1) (q k v : FVec Ideal S300x256 .f32) :
    toM (saHeads mk q k v) = att (masked fun i j => mk (ix2 i j)) (toM q) (toM k) (toM v) := by
  funext i c
  have key : toM (saHeads mk q k v) i c = saHead (32 * (hd c).val) (slices_head (hd c)) mk q k v (ix2 i (wi c)) :=
    heads_at (fun h => saHead (32 * h.val) (slices_head h) mk q k v) i c
  rw [key, saHead_eq, col_hd]

/-- The scaled queries. -/
def vscale (x : FVec Ideal S300x256 .f32) : FVec Ideal S300x256 .f32 := mulf x (broadcast S300x256 (Named.named κ "s" 0x3E3504F3#32))

/-- Layer normalisation. -/
def vmean (x : FVec Ideal S300x256 .f32) : FVec Ideal S300x1 .f32 :=
  divf (shapeCast S300x1 (multiReduction .add [1] S300 x 0x00000000#32 reduces_S300x256_S300 (.inl rfl) rfl) shapeCasts_S300_S300x1) (broadcast S300x1 (Scalar.ofBits .f32 0x43800000#32))
def vcen (x : FVec Ideal S300x256 .f32) : FVec Ideal S300x256 .f32 := subf x (broadcastTo S300x256 (vmean x) broadcasts_S300x1_S300x256)
def vln (x : FVec Ideal S300x256 .f32) (g b : FVec Ideal S1x256 .f32) : FVec Ideal S300x256 .f32 :=
  addf (mulf (divf (vcen x) (broadcastTo S300x256 (sqrt (addf (vmean (mulf (vcen x) (vcen x))) (broadcast S300x1 (Scalar.ofBits .f32 0x3727C5AC#32)))) broadcasts_S300x1_S300x256))
    (broadcastTo S300x256 (shapeCast S1x256 g shapeCasts_S1x256_S1x256) broadcasts_S1x256_S300x256)) (broadcastTo S300x256 (shapeCast S1x256 b shapeCasts_S1x256_S1x256) broadcasts_S1x256_S300x256)

theorem vln_eq (x g b) : toM (vln x g b) = ln (toM x) (toR g) (toR b) := by
  funext i j
  simp only [toM, toR, vln, vcen, vmean, ln, mean, var]
  pointwise
  first | rfl | done

/-- The self-attention half of a layer: masked attention over `x + qp`, its output product, the residual and the normalisation. -/
def vsa (mk : IVec S300x300 1) (x qp : FVec Ideal S300x256 .f32) (wq : FVec Ideal S256x256 .bf16) (bq : FVec Ideal S1x256 .f32) (wk : FVec Ideal S256x256 .bf16) (bk : FVec Ideal S1x256 .f32)
    (wv : FVec Ideal S256x256 .bf16) (bv : FVec Ideal S1x256 .f32) (wo : FVec Ideal S256x256 .bf16) (bo g b : FVec Ideal S1x256 .f32) : FVec Ideal S300x256 .f32 :=
  vln (addf (vlin (saHeads mk (vscale (vlin (addf x qp) wq bq)) (vlin (addf x qp) wk bk) (vlin x wv bv)) wo bo) x) g b

end Cert.KernelIdeal.Vec

end
end
-- ==== Proof.Cross.lean ====
module

public import proofs.«01_k».proof.Proof.Vec

/-! # Cross-attention over 4096 keys, and the feed-forward part, as the kernels print them -/

@[expose] public section

set_option maxRecDepth 16384

noncomputable section

namespace Cert.KernelIdeal.Vec

open Idealize.ShloMosaic Cert.KernelIdeal Cert.KernelIdeal.Gen Cert.Spec

/-- Scores of the head at column `o` against every key. -/
def caScore (o : ℕ) (h : S300x256.Slices ![0, o] S300x32) (h' : S4096x256.Slices ![0, o] S4096x32) (q : FVec Ideal S300x256 .f32) (k : FVec Ideal S4096x256 .bf16) : FVec Ideal S300x4096 .f32 :=
  matmul dot_S300x32_S4096x32_S300x4096_1_1_0_0_n_n none
    (truncf .bf16 (extractStridedSlice S300x32 ![0, o] q h) bitsLt_bf16_f32)
    (extractStridedSlice S4096x32 ![0, o] k h') (constant S300x4096 .f32 0x00000000#32)

/-- The exponentials of a row's scores. -/
def caEx (s : FVec Ideal S300x4096 .f32) : FVec Ideal S300x4096 .f32 :=
  exp (subf s (broadcastTo S300x4096 (shapeCast S300x1 (multiReduction .maximumf [1] S300 s 0xFF800000#32 reduces_S300x4096_S300 (.inl rfl) rfl) shapeCasts_S300_S300x1) broadcasts_S300x1_S300x4096))

/-- One over each row's sum. -/
def caInv (e : FVec Ideal S300x4096 .f32) : FVec Ideal S300x1 .f32 :=
  divf (broadcast S300x1 (Scalar.ofBits .f32 0x3F800000#32)) (shapeCast S300x1 (multiReduction .add [1] S300 e 0x00000000#32 reduces_S300x4096_S300 (.inl rfl) rfl) shapeCasts_S300_S300x1)

/-- A head's share of the averaged weights. -/
def caShare (e : FVec Ideal S300x4096 .f32) : FVec Ideal S300x4096 .f32 :=
  mulf e (broadcastTo S300x4096 (mulf (caInv e) (broadcast S300x1 (Scalar.ofBits .f32 0x3E000000#32))) broadcasts_S300x1_S300x4096)

/-- The head's context. -/
def caCtx (e : FVec Ideal S300x4096 .f32) (v : FVec Ideal S4096x32 .bf16) : FVec Ideal S300x32 .f32 :=
  mulf (matmul dot_S300x4096_S4096x32_S300x32_1_0_0_1_n_n none (truncf .bf16 e bitsLt_bf16_f32) v (constant S300x32 .f32 0x00000000#32))
    (broadcastTo S300x32 (caInv e) broadcasts_S300x1_S300x32)

/-- A cross-attention head. -/
def caHead (o : ℕ) (h : S300x256.Slices ![0, o] S300x32) (h' : S4096x256.Slices ![0, o] S4096x32) (q : FVec Ideal S300x256 .f32) (k v : FVec Ideal S4096x256 .bf16) : FVec Ideal S300x32 .f32 :=
  caCtx (caEx (caScore o h h' q k)) (extractStridedSlice S4096x32 ![0, o] v h')

theorem caScore_eq (h8 : Fin 8) (h : S300x256.Slices ![0, 32 * h8.val] S300x32) (h' : S4096x256.Slices ![0, 32 * h8.val] S4096x32) (q : FVec Ideal S300x256 .f32) (k : FVec Ideal S4096x256 .bf16) :
    toM (caScore (32 * h8.val) h h' q k) = dots (toM q) (toM k) h8 := by
  funext i j
  simp only [toM, caScore, dots]
  pointwise
  first | rfl | done

theorem caEx_eq (s) : toM (caEx s) = ex (toM s) := by
  funext i j
  simp only [toM, caEx, ex, rowMax]
  pointwise
  first | rfl | done

theorem caInv_eq (s) (i : Fin 300) : caInv (caEx s) (ix2 i 0) = rinv (toM s) i := by
  rw [rinv, ← caEx_eq]
  simp only [toM, caInv, one]
  pointwise
  first | rfl | done

theorem caShare_eq (s) : toM (caShare (caEx s)) = fun i j => ex (toM s) i j * (rinv (toM s) i * eighth) := by
  funext i j
  rw [← caInv_eq, ← caEx_eq]
  simp only [toM, caShare, eighth]
  pointwise
  first | rfl | done

theorem caCtx_eq (s v) (i : Fin 300) (d : Fin 32) : caCtx (caEx s) v (ix2 i d) = (∑ j, ex (toM s) i j * v (ix2 j d)) * rinv (toM s) i := by
  rw [← caInv_eq, ← caEx_eq]
  simp only [toM, caCtx]
  pointwise
  first | rfl | done

theorem caHead_eq (h8 : Fin 8) (h : S300x256.Slices ![0, 32 * h8.val] S300x32) (h' : S4096x256.Slices ![0, 32 * h8.val] S4096x32) (q : FVec Ideal S300x256 .f32) (k v : FVec Ideal S4096x256 .bf16) (i : Fin 300) (d : Fin 32) :
    caHead (32 * h8.val) h h' q k v (ix2 i d) = att id (toM q) (toM k) (toM v) i (col h8 d) := by
  rw [caHead, caCtx_eq, caScore_eq, att, hd_col]
  have e (j : Fin 4096) : extractStridedSlice S4096x32 ![0, 32 * h8.val] v h' (ix2 j d) = toM v j (col h8 d) := by
    simp only [toM]; pointwise; first | rfl | done
  simp only [e, id]

/-- Where a head's columns start, there are 32 columns left. -/
theorem slices_head' (h : Fin 8) : S4096x256.Slices ![0, 32 * h.val] S4096x32 := by revert h; decide

/-- The eight heads side by side. -/
def caHeads (q : FVec Ideal S300x256 .f32) (k v : FVec Ideal S4096x256 .bf16) : FVec Ideal S300x256 .f32 :=
  concatenate S300x256 1 [⟨S300x32, caHead 0 slices_S300x256_o0_0_S300x32 slices_S4096x256_o0_0_S4096x32 q k v⟩, ⟨S300x32, caHead 32 slices_S300x256_o0_32_S300x32 slices_S4096x256_o0_32_S4096x32 q k v⟩,
    ⟨S300x32, caHead 64 slices_S300x256_o0_64_S300x32 slices_S4096x256_o0_64_S4096x32 q k v⟩, ⟨S300x32, caHead 96 slices_S300x256_o0_96_S300x32 slices_S4096x256_o0_96_S4096x32 q k v⟩,
    ⟨S300x32, caHead 128 slices_S300x256_o0_128_S300x32 slices_S4096x256_o0_128_S4096x32 q k v⟩, ⟨S300x32, caHead 160 slices_S300x256_o0_160_S300x32 slices_S4096x256_o0_160_S4096x32 q k v⟩,
    ⟨S300x32, caHead 192 slices_S300x256_o0_192_S300x32 slices_S4096x256_o0_192_S4096x32 q k v⟩, ⟨S300x32, caHead 224 slices_S300x256_o0_224_S300x32 slices_S4096x256_o0_224_S4096x32 q k v⟩]
    concatenates_S300x32_S300x32_S300x32_S300x32_S300x32_S300x32_S300x32_S300x32_S300x256_d1

theorem caHeads_eq (q : FVec Ideal S300x256 .f32) (k v : FVec Ideal S4096x256 .bf16) :
    toM (caHeads q k v) = att id (toM q) (toM k) (toM v) := by
  funext i c
  have key : toM (caHeads q k v) i c = caHead (32 * (hd c).val) (slices_head (hd c)) (slices_head' (hd c)) q k v (ix2 i (wi c)) :=
    heads_at (fun h => caHead (32 * h.val) (slices_head h) (slices_head' h) q k v) i c
  rw [key, caHead_eq, col_hd]

/-- The cross-attention half of a layer. -/
def vca (x qp : FVec Ideal S300x256 .f32) (k v : FVec Ideal S4096x256 .bf16) (wq : FVec Ideal S256x256 .bf16) (bq : FVec Ideal S1x256 .f32)
    (wo : FVec Ideal S256x256 .bf16) (bo g b : FVec Ideal S1x256 .f32) : FVec Ideal S300x256 .f32 :=
  vln (addf (vlin (caHeads (vscale (vlin (addf x qp) wq bq)) k v) wo bo) x) g b

/-- The scaled queries, as a matrix. -/
theorem vscale_eq (x) : toM (vscale x) = fun i j => toM x i j * scale := by
  funext i j
  simp only [toM, vscale, scale]
  pointwise
  first | rfl | done

theorem add_eq (x y : FVec Ideal S300x256 .f32) : toM (addf x y) = add (toM x) (toM y) := by
  funext i j
  simp only [toM, add]
  pointwise

/-- The feed-forward part with its residual. -/
def vhid (x : FVec Ideal S300x256 .f32) (w1 : FVec Ideal S256x2048 .bf16) (b1 : FVec Ideal S1x2048 .f32) : FVec Ideal S300x2048 .f32 :=
  maximumf (addf (matmul dot_S300x256_S256x2048_S300x2048_1_0_0_1_n_n none (truncf .bf16 x bitsLt_bf16_f32) (shapeCast S256x2048 w1 shapeCasts_S256x2048_S256x2048) (constant S300x2048 .f32 0x00000000#32))
    (broadcastTo S300x2048 (shapeCast S1x2048 b1 shapeCasts_S1x2048_S1x2048) broadcasts_S1x2048_S300x2048)) (broadcast S300x2048 (Scalar.ofBits .f32 0x00000000#32))
def vffn (x : FVec Ideal S300x256 .f32) (w1 : FVec Ideal S256x2048 .bf16) (b1 : FVec Ideal S1x2048 .f32) (w2 : FVec Ideal S2048x256 .bf16) (b2 : FVec Ideal S1x256 .f32) : FVec Ideal S300x256 .f32 :=
  addf (matmul dot_S300x2048_S2048x256_S300x256_1_0_0_1_n_n none (truncf .bf16 (vhid x w1 b1) bitsLt_bf16_f32) (shapeCast S2048x256 w2 shapeCasts_S2048x256_S2048x256) (constant S300x256 .f32 0x00000000#32))
    (broadcastTo S300x256 (shapeCast S1x256 b2 shapeCasts_S1x256_S1x256) broadcasts_S1x256_S300x256)

theorem vhid_eq (x w1 b1) : toM (vhid x w1 b1) = fun i j => max (lin (toM x) (toM w1) (toR b1) i j) zero := by
  funext i j
  simp only [toM, toR, vhid, lin, zero]
  pointwise
  first | rfl | done
theorem vffn_eq (x w1 b1 w2 b2) : toM (vffn x w1 b1 w2 b2) = ffn (toM x) (toM w1) (toR b1) (toM w2) (toR b2) := by
  rw [ffn, ← vhid_eq]
  funext i j
  simp only [toM, toR, vffn, lin]
  pointwise

/-- A layer's last part. -/
def vff (x : FVec Ideal S300x256 .f32) (w1 : FVec Ideal S256x2048 .bf16) (b1 : FVec Ideal S1x2048 .f32) (w2 : FVec Ideal S2048x256 .bf16) (b2 g b : FVec Ideal S1x256 .f32) : FVec Ideal S300x256 .f32 :=
  vln (addf (vffn x w1 b1 w2 b2) x) g b

theorem vff_eq (x w1 b1 w2 b2 g b) : toM (vff x w1 b1 w2 b2 g b) = ffnBlock (toM x) (toM w1) (toR b1) (toM w2) (toR b2) (toR g) (toR b) := by
  rw [vff, vln_eq, add_eq, vffn_eq, ffnBlock]

theorem vca_eq (x qp k v wq bq wo bo g b) : toM (vca x qp k v wq bq wo bo g b)
    = caBlock (toM x) (toM qp) (toM k) (toM v) (toM wq) (toR bq) (toM wo) (toR bo) (toR g) (toR b) := by
  rw [vca, vln_eq, add_eq, vlin_eq, caHeads_eq, vscale_eq, vlin_eq, add_eq, caBlock]
  rfl

theorem vsa_eq (mk x qp wq bq wk bk wv bv wo bo g b) : toM (vsa mk x qp wq bq wk bk wv bv wo bo g b)
    = saBlock (fun i j => mk (ix2 i j)) (toM x) (toM qp) (toM wq) (toR bq) (toM wk) (toR bk) (toM wv) (toR bv) (toM wo) (toR bo) (toR g) (toR b) := by
  rw [vsa, vln_eq, add_eq, vlin_eq, saHeads_eq, vscale_eq, vlin_eq, vlin_eq, vlin_eq, add_eq, saBlock]
  rfl

/-- The shares of the eight heads added up, in the heads' order. -/
def caAvg (q : FVec Ideal S300x256 .f32) (k : FVec Ideal S4096x256 .bf16) : FVec Ideal S300x4096 .f32 :=
  addf (addf (addf (addf (addf (addf (addf
    (caShare (caEx (caScore 0 slices_S300x256_o0_0_S300x32 slices_S4096x256_o0_0_S4096x32 q k)))
    (caShare (caEx (caScore 32 slices_S300x256_o0_32_S300x32 slices_S4096x256_o0_32_S4096x32 q k))))
    (caShare (caEx (caScore 64 slices_S300x256_o0_64_S300x32 slices_S4096x256_o0_64_S4096x32 q k))))
    (caShare (caEx (caScore 96 slices_S300x256_o0_96_S300x32 slices_S4096x256_o0_96_S4096x32 q k))))
    (caShare (caEx (caScore 128 slices_S300x256_o0_128_S300x32 slices_S4096x256_o0_128_S4096x32 q k))))
    (caShare (caEx (caScore 160 slices_S300x256_o0_160_S300x32 slices_S4096x256_o0_160_S4096x32 q k))))
    (caShare (caEx (caScore 192 slices_S300x256_o0_192_S300x32 slices_S4096x256_o0_192_S4096x32 q k))))
    (caShare (caEx (caScore 224 slices_S300x256_o0_224_S300x32 slices_S4096x256_o0_224_S4096x32 q k)))

theorem caAvg_eq (q : FVec Ideal S300x256 .f32) (k : FVec Ideal S4096x256 .bf16) :
    toM (caAvg q k) = fun i j => ∑ h : Fin 8, ex (dots (toM q) (toM k) h) i j * (rinv (dots (toM q) (toM k) h) i * eighth) := by
  have e (h : Fin 8) (a b) : toM (caShare (caEx (caScore (32 * h.val) a b q k)))
      = fun i j => ex (dots (toM q) (toM k) h) i j * (rinv (dots (toM q) (toM k) h) i * eighth) := by
    rw [caShare_eq, caScore_eq]
  funext i j
  have e' (h : Fin 8) : _ = _ := congrFun (congrFun (e h (slices_head h) (slices_head' h)) i) j
  rw [Fin.sum_univ_eight, ← e' 0, ← e' 1, ← e' 2, ← e' 3, ← e' 4, ← e' 5, ← e' 6, ← e' 7]
  rfl

abbrev qs (x0 : Vec Ideal S1x300x256 .f32) (x1 : Vec Ideal S300x256 .f32) (x4 : Vec Ideal S256x256 .bf16) (x5 : Vec Ideal S1x256 .f32) : FVec Ideal S300x256 .f32 :=
  vscale (vlin (addf (shapeCast S300x256 x0 shapeCasts_S1x300x256_S300x256) x1) x4 x5)
abbrev ks (x2 : Vec Ideal S1x4096x256 .bf16) : FVec Ideal S4096x256 .bf16 := shapeCast S4096x256 x2 shapeCasts_S1x4096x256_S4096x256

end Cert.KernelIdeal.Vec

end
end
-- ==== Proof.Pages.lean ====
module

public import proofs.«01_k».proof.Proof.Cross

/-! # Pages of an array of two, and a block of one page -/

@[expose] public section

set_option maxRecDepth 16384

noncomputable section

namespace Cert.KernelIdeal.Vec

open Idealize.ShloMosaic Cert.KernelIdeal Cert.Spec

/-- Columns `256 b` on of an array of 512. -/
abbrev half {n : ℕ} (x : (⟨2, ![n, 512]⟩ : Shape).Idx → EReal) (b : Fin 2) : M n 256 := fun i j => x (ix2 i (⟨256 * b.val + j.val, by omega⟩ : Fin 512))

theorem rows_of_page (x : Vec Ideal S1x300x256 .f32) (h) : toM (shapeCast S300x256 x h : Vec Ideal S300x256 .f32) = fun i j => x (ix3 0 i j) := by
  funext i j
  simp only [toM]
  pointwise

theorem page_of_rows (x : Vec Ideal S300x256 .f32) (h) (y) : shapeCast S1x300x256 x h y = toM x (y 1) (y 2) := by
  simp only [toM]
  pointwise

end Cert.KernelIdeal.Vec

end
end
-- ==== Proof.K2.lean ====
module

public import proofs.«01_k».proof.Proof.Pages
public import proofs.«01_k».proof.Proof.Gen.Kernel2Ideal.Value

/-! # What the key and value projection's arrays hold -/

@[expose] public section

set_option maxRecDepth 16384

noncomputable section

namespace Cert.Kernel2Ideal.Arr

open Idealize.ShloMosaic Idealize.ShloMosaic.TcCoe Cert.Kernel2Ideal Cert.Kernel2Ideal.Gen Cert.KernelIdeal.Vec Cert.Spec
open Idealize.ShloMosaic.Pipeline (Dat)

variable (m : (ℓ : Loc nD τ sig) → Buf (Elt Ideal) ℓ) (c : Dev nD) (t : Fin cfg0.N)

/-- `x W + b` for 1024 rows and 512 columns. -/
def vkv (x : FVec Ideal S1024x256 .f32) (w : FVec Ideal S256x512 .bf16) (b : FVec Ideal S1x512 .f32) : FVec Ideal S1024x512 .bf16 :=
  truncf .bf16 (addf (matmul dot_S1024x256_S256x512_S1024x512_1_0_0_1_n_n none (truncf .bf16 x bitsLt_bf16_f32) w (constant S1024x512 .f32 0x00000000#32))
    (broadcastTo S1024x512 b broadcasts_S1x512_S1024x512)) bitsLt_bf16_f32

theorem vkv_eq (x w b) : toM (vkv x w b) = lin (toM x) (toM w) (toR b) := by
  funext i j
  simp only [toM, vkv, lin, toR]
  pointwise

theorem out6_eq (x0 x1 : Vec Ideal S1024x256 .f32) (x2 : Vec Ideal S256x512 .bf16) (x3 : Vec Ideal S1x512 .f32) (x4 : Vec Ideal S256x512 .bf16) (x5 : Vec Ideal S1x512 .f32) :
    out0_6 x0 x1 x2 x3 x4 x5 = shapeCast S1x1024x512 (vkv (addf x0 x1) x2 x3) shapeCasts_S1024x512_S1x1024x512 := by
  frame_out
  simp only [k0_pay1, vkv]

theorem out7_eq (x0 x1 : Vec Ideal S1024x256 .f32) (x2 : Vec Ideal S256x512 .bf16) (x3 : Vec Ideal S1x512 .f32) (x4 : Vec Ideal S256x512 .bf16) (x5 : Vec Ideal S1x512 .f32) :
    out0_7 x0 x1 x2 x3 x4 x5 = shapeCast S1x1024x512 (vkv x0 x4 x5) shapeCasts_S1024x512_S1x1024x512 := by
  frame_out
  simp only [k0_pay2, vkv]

/-- The page of a grid point. -/
def pg : Fin 2 := ⟨t.val / 4, Nat.div_lt_of_lt_mul t.isLt⟩
/-- Row `i` of a grid point's block, in the page. -/
def row (i : Fin 1024) : Fin 4096 := ⟨1024 * (t.val % 4) + i.val, by omega⟩

theorem idx_in : ∀ t : Fin cfg0.N, win0_0.index t = ![t.val % 4, t.val / 4] ∧ win0_1.index t = ![t.val % 4, t.val / 4] := (by decide +kernel : ∀ t : Fin grid0.N, _)
theorem idx_out : ∀ t : Fin cfg0.N, win0_6.index t = ![t.val / 4, t.val % 4, 0] ∧ win0_7.index t = ![t.val / 4, t.val % 4, 0] := (by decide +kernel : ∀ t : Fin grid0.N, _)
theorem idx_whole : ∀ t : Fin cfg0.N, win0_2.index t = ![0, 0] ∧ win0_3.index t = ![0, 0] ∧ win0_4.index t = ![0, 0] ∧ win0_5.index t = ![0, 0] := (by decide +kernel : ∀ t : Fin grid0.N, _)
theorem emb6 (y : S1x1024x512.Idx) : (win0_6.blk t).view.emb y = ix3 (pg t) (row t (y 1)) (y 2) := by blk_ext [idx_out t, pg, row]
theorem emb7 (y : S1x1024x512.Idx) : (win0_7.blk t).view.emb y = ix3 (pg t) (row t (y 1)) (y 2) := by blk_ext [idx_out t, pg, row]

/-- The weights' blocks are whole arrays. -/
theorem whole : (iblk m c 2 t : Vec Ideal S256x512 .bf16) = V m c main_arg2 ∧ (iblk m c 3 t : Vec Ideal S1x512 .f32) = V m c main_arg3
    ∧ (iblk m c 4 t : Vec Ideal S256x512 .bf16) = V m c main_arg4 ∧ (iblk m c 5 t : Vec Ideal S1x512 .f32) = V m c main_arg5 := by
  refine ⟨?_, ?_, ?_, ?_⟩ <;> funext y <;> blk_ext [iblk, idx_whole t]

theorem rows_in : toM (iblk m c 0 t : Vec Ideal S1024x256 .f32) = fun i => half (V m c main_arg0 : Vec Ideal S4096x512 .f32) (pg t) (row t i) := by
  funext i j
  show iblk m c 0 t (ix2 i j) = _
  blk_ext [iblk, idx_in t, pg, row]

theorem pos_in : toM (iblk m c 1 t : Vec Ideal S1024x256 .f32) = fun i => half (V m c main_arg1 : Vec Ideal S4096x512 .f32) (pg t) (row t i) := by
  funext i j
  show iblk m c 1 t (ix2 i j) = _
  blk_ext [iblk, idx_in t, pg, row]

/-- What the call computes, index by index: the keys, from the rows with their positions … -/
def K (x p : S4096x512.Idx → EReal) (w : M 256 512) (b : Fin 512 → EReal) (y : S2x4096x512.Idx) : EReal :=
  lin (add (half x (y 0)) (half p (y 0))) w b (y 1) (y 2)
/-- … and the values, from the rows. -/
def W (x : S4096x512.Idx → EReal) (w : M 256 512) (b : Fin 512 → EReal) (y : S2x4096x512.Idx) : EReal :=
  lin (half x (y 0)) w b (y 1) (y 2)

/-- The call's keys from its arguments. -/
def R6 : S2x4096x512.Idx → EReal := K (V m c main_arg0) (V m c main_arg1) (toM (V m c main_arg2 : Vec Ideal S256x512 .bf16)) (toR (V m c main_arg3 : Vec Ideal S1x512 .f32))
/-- The call's values from its arguments. -/
def R7 : S2x4096x512.Idx → EReal := W (V m c main_arg0) (toM (V m c main_arg4 : Vec Ideal S256x512 .bf16)) (toR (V m c main_arg5 : Vec Ideal S1x512 .f32))

theorem page_of (x : FVec Ideal S1024x512 .bf16) (y) : shapeCast S1x1024x512 x shapeCasts_S1024x512_S1x1024x512 y = toM x (y 1) (y 2) := by
  simp only [toM]
  pointwise

theorem toM_add (x y : FVec Ideal S1024x256 .f32) : toM (addf x y) = add (toM x) (toM y) := rfl

theorem point6 (y : S1x1024x512.Idx) : out0_6 (iblk m c 0 t) (iblk m c 1 t) (iblk m c 2 t) (iblk m c 3 t) (iblk m c 4 t) (iblk m c 5 t) y = R6 m c (ix3 (pg t) (row t (y 1)) (y 2)) := by
  obtain ⟨h2, h3, -, -⟩ := whole m c t
  rw [out6_eq, h2, h3]
  refine (page_of _ y).trans ?_
  rw [vkv_eq]
  rw [toM_add, rows_in, pos_in]
  rfl

theorem point7 (y : S1x1024x512.Idx) : out0_7 (iblk m c 0 t) (iblk m c 1 t) (iblk m c 2 t) (iblk m c 3 t) (iblk m c 4 t) (iblk m c 5 t) y = R7 m c (ix3 (pg t) (row t (y 1)) (y 2)) := by
  obtain ⟨-, -, h4, h5⟩ := whole m c t
  rw [out7_eq, h4, h5]
  refine (page_of _ y).trans ?_
  rw [vkv_eq, rows_in]
  rfl

/-- The call's keys. -/
theorem arr6 : ((dats m 0 c).arrAt 6 cfg0.N : Vec Ideal S2x4096x512 .bf16) = R6 m c := by
  refine (dats m 0 c).arrAt_eq_of_covers 6 _ (by decide +kernel) fun t _ y => ?_
  blk_simp
  rw [after0_6]
  exact (point6 m c t y).trans (congrArg (R6 m c) (emb6 t y).symm)

/-- The call's values. -/
theorem arr7 : ((dats m 0 c).arrAt 7 cfg0.N : Vec Ideal S2x4096x512 .bf16) = R7 m c := by
  refine (dats m 0 c).arrAt_eq_of_covers 7 _ (by decide +kernel) fun t _ y => ?_
  blk_simp
  rw [after0_7]
  exact (point7 m c t y).trans (congrArg (R7 m c) (emb7 t y).symm)

end Cert.Kernel2Ideal.Arr

end
end
-- ==== Proof.R2.lean ====
module

public import proofs.«01_k».proof.Proof.Host
public import proofs.«01_k».proof.Proof.K2
public import proofs.«01_k».proof.Proof.Gen.Reference2Ideal.Read
public import proofs.«01_k».proof.Defs

/-! # The key and value projection's reference, and the claim about that call -/

@[expose] public section

set_option maxRecDepth 16384

noncomputable section

namespace Cert.Reference2Ideal.Arr

open Idealize.ShloMosaic Idealize.ShloMosaic.TcCoe Cert.Reference2Ideal Cert.Reference2Ideal.Gen Cert.Host Cert.Spec Cert.KernelIdeal.Vec Idealize.SL.Sem

/-- The rows of both pages, from their columns side by side. -/
def hrows (x : FVec Ideal S4096x512 .f32) : FVec Ideal S2x4096x256 .f32 :=
  transpose S2x4096x256 [1, 0, 2] (shapeCast S4096x2x256 x shapeCasts_S4096x512_S4096x2x256) transposes_S4096x2x256_S2x4096x256_1_0_2

theorem hrows_eq (x p) : page (hrows x) p = half x p := by
  funext i j
  simp only [page, hrows]
  pointwise
  exact congrArg (fun k => x (ix2 i k)) (Fin.ext (by show p.val * 256 + j.val = 256 * p.val + j.val; omega))

/-- `x W + b` of every row. -/
def hproj (x : FVec Ideal S2x4096x256 .f32) (w : FVec Ideal S256x512 .bf16) (b : FVec Ideal S1x512 .f32) : FVec Ideal S2x4096x512 .bf16 :=
  truncf .bf16 (addf (Host.dotGeneral dot_S2x4096x256_S256x512_S2x4096x512_2_0_01_1_n_n none x (extf .f32 w bitsLt_bf16_f32))
    (broadcastInDim S2x4096x512 ![0, 1, 2] bcast_S1x1x512_S2x4096x512_0_1_2 (broadcastInDim S1x1x512 ![2] bcast_S512_S1x1x512_2 (shapeCast S512 b shapeCasts_S1x512_S512)))) bitsLt_bf16_f32

theorem hproj_eq (x w b p) : page (hproj x w b) p = lin (page x p) (toM w) (toR b) := by
  funext i j
  simp only [page, hproj, lin, toM, toR]
  pointwise

theorem hrows_add (x y : FVec Ideal S2x4096x256 .f32) (p) : page (addf x y) p = add (page x p) (page y p) := rfl

theorem res_K (x0 x1 x2 x3) : (Read.val_main_v17 (F := Ideal) x0 x1 x2 x3 : S2x4096x512.Idx → EReal) = Cert.Kernel2Ideal.Arr.K x0 x1 (toM x2) (toR x3) := by
  have h : Read.val_main_v17 (F := Ideal) x0 x1 x2 x3 = hproj (addf (hrows x0) (hrows x1)) x2 x3 := rfl
  refine eq_of_page fun p i j => ?_
  rw [h, hproj_eq, hrows_add, hrows_eq, hrows_eq]
  rfl

theorem res_W (x0 x4 x5) : (Read.val_main_v18 (F := Ideal) x0 x4 x5 : S2x4096x512.Idx → EReal) = Cert.Kernel2Ideal.Arr.W x0 (toM x4) (toR x5) := by
  have h : Read.val_main_v18 (F := Ideal) x0 x4 x5 = hproj (hrows x0) x4 x5 := rfl
  refine eq_of_page fun p i j => ?_
  rw [h, hproj_eq, hrows_eq]
  rfl

theorem claim : Cert.algebraic_Kernel2Ideal_Reference2Ideal := by
  intro m g m' g' _ hm
  refine ⟨fun c => Cert.Kernel2Ideal.Arr.R6 m c, fun c => Cert.Kernel2Ideal.Arr.R7 m c,
    (θ_run _ _ _).mono (fun r h c => ⟨(h c).1.trans (Cert.Kernel2Ideal.Arr.arr6 m c), (h c).2.1.trans (Cert.Kernel2Ideal.Arr.arr7 m c), (h c).2.2⟩) (Cert.Kernel2Ideal.Value.run_blocks m g),
    (θ_run _ _ _).mono (fun r h c => ⟨(h c).1.trans ?_, (h c).2.1.trans ?_, (h c).2.2⟩) (Value.run m' g')⟩
  · obtain ⟨h0, h1, h2, h3, -, -⟩ := hm c
    refine (Read.val_main_v17_eq _ _ _ _).trans ?_
    rw [h0, h1, h2, h3]
    exact res_K _ _ _ _
  · obtain ⟨h0, -, -, -, h4, h5⟩ := hm c
    refine (Read.val_main_v18_eq _ _ _).trans ?_
    rw [h0, h4, h5]
    exact res_W _ _ _

end Cert.Reference2Ideal.Arr

end
end
-- ==== Proof.K3.lean ====
module

public import proofs.«01_k».proof.Proof.Pages
public import proofs.«01_k».proof.Proof.Gen.Kernel3Ideal.Value

/-! # What the self-attention call's array holds -/

@[expose] public section

set_option maxRecDepth 16384

noncomputable section

namespace Cert.Kernel3Ideal.Arr

open Idealize.ShloMosaic Idealize.ShloMosaic.TcCoe Cert.Kernel3Ideal Cert.Kernel3Ideal.Gen Cert.KernelIdeal.Vec Cert.Spec
open Idealize.ShloMosaic.Pipeline (Dat)

variable (m : (ℓ : Loc nD τ sig) → Buf (Elt Ideal) ℓ) (c : Dev nD) (t : Fin cfg0.N)

theorem dot1 : Cert.Kernel3Ideal.dot_S300x256_S256x256_S300x256_1_0_0_1_n_n = Cert.KernelIdeal.dot_S300x256_S256x256_S300x256_1_0_0_1_n_n := rfl
theorem dot2 : Cert.Kernel3Ideal.dot_S300x32_S300x32_S300x300_1_1_0_0_n_n = Cert.KernelIdeal.dot_S300x32_S300x32_S300x300_1_1_0_0_n_n := rfl
theorem dot3 : Cert.Kernel3Ideal.dot_S300x300_S300x32_S300x32_1_0_0_1_n_n = Cert.KernelIdeal.dot_S300x300_S300x32_S300x32_1_0_0_1_n_n := rfl
theorem named_eq : (Named.named Cert.Kernel3Ideal.κ "s" 0x3E3504F3#32 : Ideal .f32) = Named.named Cert.KernelIdeal.κ "s" 0x3E3504F3#32 := rfl

section Block
variable (x0 : Vec Ideal S1x300x256 .f32) (x1 : Vec Ideal S300x256 .f32) (x2 : Vec Ideal S1x300x300 .f32) (x3 : Vec Ideal S256x256 .bf16) (x4 : Vec Ideal S1x256 .f32) (x5 : Vec Ideal S256x256 .bf16) (x6 : Vec Ideal S1x256 .f32) (x7 : Vec Ideal S256x256 .bf16) (x8 : Vec Ideal S1x256 .f32) (x9 : Vec Ideal S256x256 .bf16) (x10 : Vec Ideal S1x256 .f32) (x11 : Vec Ideal S1x256 .f32) (x12 : Vec Ideal S1x256 .f32)

theorem q_eq : k0_pay5 (F := Ideal) x0 x1 x3 x4 = vscale (vlin (addf (shapeCast S300x256 x0 shapeCasts_S1x300x256_S300x256) x1) x3 x4) := by
  simp only [k0_pay5, k0_pay4, k0_pay2, vscale, vlin, shapeCast_self, dot1, named_eq]
theorem k_eq : k0_pay6 (F := Ideal) x0 x1 x5 x6 = vlin (addf (shapeCast S300x256 x0 shapeCasts_S1x300x256_S300x256) x1) x5 x6 := by
  simp only [k0_pay6, k0_pay4, k0_pay2, vlin, shapeCast_self, dot1]
theorem v_eq : k0_pay7 (F := Ideal) x0 x7 x8 = vlin (shapeCast S300x256 x0 shapeCasts_S1x300x256_S300x256) x7 x8 := by
  simp only [k0_pay7, k0_pay2, vlin, shapeCast_self, dot1]

set_option maxHeartbeats 1000000 in
/-- One block: the self-attention part of its rows. -/
theorem out_eq : out0_13 x0 x1 x2 x3 x4 x5 x6 x7 x8 x9 x10 x11 x12
    = shapeCast S1x300x256 (vsa (k0_pay3 x2) (shapeCast S300x256 x0 shapeCasts_S1x300x256_S300x256) x1 x3 x4 x5 x6 x7 x8 x9 x10 x11 x12) shapeCasts_S300x256_S1x300x256 := by
  unfold out0_13 k0_pay33 k0_pay32 k0_pay31 k0_pay30 k0_pay29 k0_pay28 k0_pay27 k0_pay26 k0_pay25 k0_pay24 k0_pay23 k0_pay22 k0_pay21
  frame_out
  rw [vsa, ← q_eq, ← k_eq, ← v_eq]
  simp only [k0_pay8]
  generalize k0_pay5 (F := Ideal) x0 x1 x3 x4 = q
  generalize k0_pay6 (F := Ideal) x0 x1 x5 x6 = k
  generalize k0_pay7 (F := Ideal) x0 x7 x8 = v
  generalize k0_pay3 (F := Ideal) x2 = mk
  simp only [saHeads, cat8_of, k0_pay1, k0_pay2, k0_pay9, k0_pay10, k0_pay11, k0_pay12, k0_pay13, k0_pay14, k0_pay15, k0_pay16, k0_pay17, k0_pay18, k0_pay19, k0_pay20]
  simp only [saHead, saCtx, saInv, saEx, saScore, vlin, vln, vcen, vmean, shapeCast_self, dot1, dot2, dot3]
end Block

theorem idx_page : ∀ t : Fin cfg0.N, win0_0.index t = ![t.val, 0, 0] ∧ win0_1.index t = ![0, t.val] ∧ win0_2.index t = ![t.val, 0, 0] ∧ win0_13.index t = ![t.val, 0, 0] := (by decide +kernel : ∀ t : Fin grid0.N, _)
theorem idx_whole : ∀ t : Fin cfg0.N, win0_3.index t = ![0, 0] ∧ win0_4.index t = ![0, 0] ∧ win0_5.index t = ![0, 0] ∧ win0_6.index t = ![0, 0] ∧ win0_7.index t = ![0, 0] := (by decide +kernel : ∀ t : Fin grid0.N, _)
theorem idx_whole' : ∀ t : Fin cfg0.N, win0_8.index t = ![0, 0] ∧ win0_9.index t = ![0, 0] ∧ win0_10.index t = ![0, 0] ∧ win0_11.index t = ![0, 0] ∧ win0_12.index t = ![0, 0] := (by decide +kernel : ∀ t : Fin grid0.N, _)
theorem emb_page (y : S1x300x256.Idx) : (win0_13.blk t).view.emb y = ix3 ⟨t.val, t.isLt⟩ (y 1) (y 2) := by blk_ext [idx_page t]

set_option maxHeartbeats 2000000 in
/-- The weights' blocks are whole arrays. -/
theorem whole : (iblk m c 3 t : Vec Ideal S256x256 .bf16) = V m c main_arg3 ∧ (iblk m c 4 t : Vec Ideal S1x256 .f32) = V m c main_arg4
    ∧ (iblk m c 5 t : Vec Ideal S256x256 .bf16) = V m c main_arg5 ∧ (iblk m c 6 t : Vec Ideal S1x256 .f32) = V m c main_arg6
    ∧ (iblk m c 7 t : Vec Ideal S256x256 .bf16) = V m c main_arg7 := by
  refine ⟨?_, ?_, ?_, ?_, ?_⟩ <;> funext y <;> blk_ext [iblk, idx_whole t]

set_option maxHeartbeats 2000000 in
/-- … the rest of them. -/
theorem whole' : (iblk m c 8 t : Vec Ideal S1x256 .f32) = V m c main_arg8
    ∧ (iblk m c 9 t : Vec Ideal S256x256 .bf16) = V m c main_arg9 ∧ (iblk m c 10 t : Vec Ideal S1x256 .f32) = V m c main_arg10
    ∧ (iblk m c 11 t : Vec Ideal S1x256 .f32) = V m c main_arg11 ∧ (iblk m c 12 t : Vec Ideal S1x256 .f32) = V m c main_arg12 := by
  refine ⟨?_, ?_, ?_, ?_, ?_⟩ <;> funext y <;> blk_ext [iblk, idx_whole' t]

/-- The rows' block is a page. -/
theorem rows_in : toM (shapeCast S300x256 (iblk m c 0 t) shapeCasts_S1x300x256_S300x256 : Vec Ideal S300x256 .f32) = page (V m c main_arg0) ⟨t.val, t.isLt⟩ := by
  refine (rows_of_page _ _).trans ?_
  funext i j
  blk_ext [iblk, idx_page t]

/-- The positions' block is half the columns. -/
theorem qp_in : toM (iblk m c 1 t : Vec Ideal S300x256 .f32) = half (V m c main_arg1 : Vec Ideal S300x512 .f32) ⟨t.val, t.isLt⟩ := by
  funext i j
  show iblk m c 1 t (ix2 i j) = _
  blk_ext [iblk, idx_page t]

/-- Where the mask's number is above zero. -/
def shown (x : S2x300x300.Idx → EReal) (b : Fin 2) (i j : Fin 300) : BitVec 1 := FloatOps.cmpf (F := Ideal) (φ := .f32) .ogt (x (ix3 b i j)) (Ideal.ofBits .f32 0x00000000#32)

theorem mask_of (x : Vec Ideal S1x300x300 .f32) (i j) : k0_pay3 x (ix2 i j) = FloatOps.cmpf (F := Ideal) (φ := .f32) .ogt (x (ix3 0 i j)) (Ideal.ofBits .f32 0x00000000#32) := by
  simp only [k0_pay3]
  pointwise

theorem mask_in : (fun i j => k0_pay3 (iblk m c 2 t) (ix2 i j)) = shown (V m c main_arg2) ⟨t.val, t.isLt⟩ := by
  funext i j
  have e : iblk m c 2 t (ix3 0 i j) = V m c main_arg2 (ix3 ⟨t.val, t.isLt⟩ i j) := by blk_ext [iblk, idx_page t]
  rw [mask_of, shown, e]

/-- What the call computes, index by index. -/
def G (x : S2x300x256.Idx → EReal) (qp : S300x512.Idx → EReal) (mk : S2x300x300.Idx → EReal) (wq : M 256 256) (bq : Fin 256 → EReal) (wk : M 256 256) (bk : Fin 256 → EReal) (wv : M 256 256) (bv : Fin 256 → EReal)
    (wo : M 256 256) (bo g b : Fin 256 → EReal) (y : S2x300x256.Idx) : EReal :=
  saBlock (shown mk (y 0)) (page x (y 0)) (half qp (y 0)) wq bq wk bk wv bv wo bo g b (y 1) (y 2)

/-- The call's result from its arguments. -/
def R : S2x300x256.Idx → EReal := G (V m c main_arg0) (V m c main_arg1) (V m c main_arg2) (toM (V m c main_arg3 : Vec Ideal S256x256 .bf16)) (toR (V m c main_arg4 : Vec Ideal S1x256 .f32))
  (toM (V m c main_arg5 : Vec Ideal S256x256 .bf16)) (toR (V m c main_arg6 : Vec Ideal S1x256 .f32)) (toM (V m c main_arg7 : Vec Ideal S256x256 .bf16)) (toR (V m c main_arg8 : Vec Ideal S1x256 .f32))
  (toM (V m c main_arg9 : Vec Ideal S256x256 .bf16)) (toR (V m c main_arg10 : Vec Ideal S1x256 .f32)) (toR (V m c main_arg11 : Vec Ideal S1x256 .f32)) (toR (V m c main_arg12 : Vec Ideal S1x256 .f32))

theorem point (y : S1x300x256.Idx) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = R m c (ix3 ⟨t.val, t.isLt⟩ (y 1) (y 2)) := by
  obtain ⟨h3, h4, h5, h6, h7⟩ := whole m c t
  obtain ⟨h8, h9, h10, h11, h12⟩ := whole' m c t
  rw [out_eq, h3, h4, h5, h6, h7, h8, h9, h10, h11, h12]
  refine (page_of_rows _ _ y).trans ?_
  refine (congrFun (congrFun (vsa_eq _ _ _ _ _ _ _ _ _ _ _ _ _) _) _).trans ?_
  rw [rows_in, qp_in, mask_in]
  rfl

/-- The call's array: the self-attention part of every page of the rows. -/
theorem arr : ((dats m 0 c).arrAt 13 cfg0.N : Vec Ideal S2x300x256 .f32) = R m c := by
  refine (dats m 0 c).arrAt_eq_of_covers 13 _ (by decide +kernel) fun t _ y => ?_
  blk_simp
  rw [after0_13]
  exact (point m c t y).trans (congrArg (R m c) (emb_page t y).symm)

end Cert.Kernel3Ideal.Arr

end
end
-- ==== Proof.R3.lean ====
module

public import proofs.«01_k».proof.Proof.Host
public import proofs.«01_k».proof.Proof.K3
public import proofs.«01_k».proof.Proof.Gen.Reference3Ideal.Read
public import proofs.«01_k».proof.Defs

/-! # The self-attention reference, and the claim about the self-attention call -/

@[expose] public section

set_option maxRecDepth 16384

noncomputable section

namespace Cert.Reference3Ideal.Arr

open Idealize.ShloMosaic Idealize.ShloMosaic.TcCoe Cert.Reference3Ideal Cert.Reference3Ideal.Gen Cert.Host Cert.Spec Cert.KernelIdeal.Vec Idealize.SL.Sem

/-- The products of the heads' queries and keys, over the root of 32, hidden outside the mask. -/
def sdots (mk : FVec Ideal S2x300x300 .f32) (q k : FVec Ideal S2x8x300x32 .f32) : FVec Ideal S2x8x300x300 .f32 :=
  select (broadcastInDim S2x8x300x300 ![0, 1, 2, 3] bcast_S2x1x300x300_S2x8x300x300_0_1_2_3 (cmpf .ogt (broadcastInDim S2x1x300x300 ![0, 2, 3] bcast_S2x300x300_S2x1x300x300_0_2_3 mk)
      (broadcastInDim S2x1x300x300 ![] bcast_S_S2x1x300x300 (constant S_ .f32 0x00000000#32))))
    (Host.divf (Host.dotGeneral dot_S2x8x300x32_S2x8x300x32_S2x8x300x300_3_3_2_2_01_01 none q k)
      (broadcastInDim S2x8x300x300 ![] bcast_S_S2x8x300x300 (id (Host.sqrt (constant S_ .f32 0x42000000#32)))))
    (broadcastInDim S2x8x300x300 ![] bcast_S_S2x8x300x300 (id (constant S_ .f32 0xCE6E6B28#32)))

theorem sdots_eq (mk q k p h) : leaf (sdots mk (hsplit q) (hsplit k)) p h = masked (Cert.Kernel3Ideal.Arr.shown mk p) (rooted (dots (page q p) (page k p) h)) := by
  funext i j
  have e : dots (page q p) (page k p) h i j = ∑ d : Fin 32, hsplit q (ix4 p h i d) * hsplit k (ix4 p h j d) := by
    rw [dots]
    exact Finset.sum_congr rfl fun d _ => by rw [hsplit_apply, hsplit_apply]
  rw [masked, rooted, e]
  generalize hsplit q = q'
  generalize hsplit k = k'
  simp only [leaf, sdots, Cert.Kernel3Ideal.Arr.shown]
  pointwise
  rfl

/-- The rows' exponentials. -/
def sex (s : FVec Ideal S2x8x300x300 .f32) : FVec Ideal S2x8x300x300 .f32 :=
  Host.exp (subf s (broadcastInDim S2x8x300x300 ![0, 1, 2, 3] bcast_S2x8x300x1_S2x8x300x300_0_1_2_3 (broadcastInDim S2x8x300x1 ![0, 1, 2] bcast_S2x8x300_S2x8x300x1_0_1_2
    (Host.reduce FloatOps.maximumf s (constant S_ .f32 0xFF800000#32) reducesTo_S2x8x300x300_S2x8x300_d3 h_S_))))

/-- The rows' weights. -/
def sweights (s : FVec Ideal S2x8x300x300 .f32) : FVec Ideal S2x8x300x300 .f32 :=
  mulf (sex s) (broadcastInDim S2x8x300x300 ![0, 1, 2, 3] bcast_S2x8x300x1_S2x8x300x300_0_1_2_3 (Host.divf (broadcastInDim S2x8x300x1 ![] bcast_S_S2x8x300x1 (constant S_ .f32 0x3F800000#32))
    (broadcastInDim S2x8x300x1 ![0, 1, 2] bcast_S2x8x300_S2x8x300x1_0_1_2 (Host.reduceAdd (sex s) (constant S_ .f32 0x00000000#32) reducesTo_S2x8x300x300_S2x8x300_d3 h_S_))))

theorem sex_apply (s p h i j) : sex s (ix4 p h i j) = ex (leaf s p h) i j := by
  simp only [sex, ex, rowMax, leaf]
  pointwise

theorem sweights_eq (s p h) : leaf (sweights s) p h = weights (leaf s p h) := by
  funext i j
  have e : rinv (leaf s p h) i = Ideal.div one (∑ j, sex s (ix4 p h i j)) := by
    rw [rinv]
    exact congrArg _ (Finset.sum_congr rfl fun d _ => (sex_apply s p h i d).symm)
  rw [weights, e, ← sex_apply]
  simp only [leaf, sweights]
  generalize sex s = t
  pointwise
  rfl

/-- The weighted values, heads side by side. -/
def sctx (w : FVec Ideal S2x8x300x300 .f32) (v : FVec Ideal S2x8x300x32 .f32) : FVec Ideal S2x300x256 .f32 :=
  shapeCast S2x300x256 (transpose S2x300x8x32 [0, 2, 1, 3] (Host.dotGeneral dot_S2x8x300x300_S2x8x300x32_S2x8x300x32_3_2_2_3_01_01 none w v) transposes_S2x8x300x32_S2x300x8x32_0_2_1_3)
    shapeCasts_S2x300x8x32_S2x300x256

theorem sctx_apply (w v p i c) : sctx w v (ix3 p i c) = ∑ j : Fin 300, w (ix4 p (hd c) i j) * v (ix4 p (hd c) j (wi c)) := by
  unfold sctx
  pointwise
  rfl

theorem swatt_eq (mk q k v p) : page (sctx (sweights (sdots mk (hsplit q) (hsplit k))) (hsplit v)) p
    = watt (fun s => masked (Cert.Kernel3Ideal.Arr.shown mk p) (rooted s)) (page q p) (page k p) (page v p) := by
  funext i c
  refine (sctx_apply _ _ p i c).trans ?_
  rw [watt]
  refine Finset.sum_congr rfl fun j _ => ?_
  rw [hsplit_apply, col_hd, ← sdots_eq, ← sweights_eq]

/-- The projected queries, and the projected keys. -/
def hq (x0 : FVec Ideal S2x300x256 .f32) (x1 : FVec Ideal S300x512 .f32) (w : FVec Ideal S256x256 .bf16) (b : FVec Ideal S1x256 .f32) : FVec Ideal S2x300x256 .f32 :=
  hlin (addf x0 (hqp x1)) w b

theorem hq_eq (x0 x1 w b p) : page (hq x0 x1 w b) p = lin (add (page x0 p) (half x1 p)) (toM w) (toR b) := by
  rw [hq, hlin_eq, page_add]
  have e : page (hqp x1) p = half x1 p := by
    funext i j
    exact hqp_apply x1 p i j
  rw [e]

theorem res_eq (x0 x1 x2 x3 x4 x5 x6 x7 x8 x9 x10 x11 x12) : Read.val_main_v85 (F := Ideal) x0 x1 x2 x3 x4 x5 x6 x7 x8 x9 x10 x11 x12
    = hln (addf x0 (hlin (sctx (sweights (sdots x2 (hsplit (hq x0 x1 x3 x4)) (hsplit (hq x0 x1 x5 x6)))) (hsplit (hlin x0 x7 x8))) x9 x10)) x11 x12 := rfl

/-- The reference's result, and the call's. -/
theorem res_G (x0 x1 x2 x3 x4 x5 x6 x7 x8 x9 x10 x11 x12) : (Read.val_main_v85 (F := Ideal) x0 x1 x2 x3 x4 x5 x6 x7 x8 x9 x10 x11 x12 : S2x300x256.Idx → EReal)
    = Cert.Kernel3Ideal.Arr.G x0 x1 x2 (toM x3) (toR x4) (toM x5) (toR x6) (toM x7) (toR x8) (toM x9) (toR x10) (toR x11) (toR x12) := by
  refine eq_of_page fun p i j => ?_
  rw [res_eq, hln_eq, page_add, hlin_eq, swatt_eq, hq_eq, hq_eq, hlin_eq, ← saBlock_eq]
  rfl

theorem claim : Cert.algebraic_Kernel3Ideal_Reference3Ideal := by
  intro m g m' g' _ hm
  refine ⟨fun c => Cert.Kernel3Ideal.Arr.R m c, (θ_run _ _ _).mono (fun r h c => ⟨(h c).1.trans (Cert.Kernel3Ideal.Arr.arr m c), (h c).2⟩) (Cert.Kernel3Ideal.Value.run_blocks m g),
    (θ_run _ _ _).mono (fun r h c => ⟨(h c).1.trans ?_, (h c).2⟩) (Value.run m' g')⟩
  obtain ⟨h0, h1, h2, h3, h4, h5, h6, h7, h8, h9, h10, h11, h12⟩ := hm c
  refine (Read.val_main_v85_eq m' c).trans ?_
  rw [h0, h1, h2, h3, h4, h5, h6, h7, h8, h9, h10, h11, h12]
  exact res_G _ _ _ _ _ _ _ _ _ _ _ _ _

end Cert.Reference3Ideal.Arr

end
end
-- ==== Proof.K4.lean ====
module

public import proofs.«01_k».proof.Proof.Pages
public import proofs.«01_k».proof.Proof.Gen.Kernel4Ideal.Value

/-! # What the cross-attention call's two arrays hold -/

@[expose] public section

set_option maxRecDepth 16384

noncomputable section

namespace Cert.Kernel4Ideal.Arr

open Idealize.ShloMosaic Idealize.ShloMosaic.TcCoe Cert.Kernel4Ideal Cert.Kernel4Ideal.Gen Cert.KernelIdeal.Vec Cert.Spec
open Idealize.ShloMosaic.Pipeline (Dat)

variable (m : (ℓ : Loc nD τ sig) → Buf (Elt Ideal) ℓ) (c : Dev nD) (t : Fin cfg0.N)

theorem dot1 : Cert.Kernel4Ideal.dot_S300x256_S256x256_S300x256_1_0_0_1_n_n = Cert.KernelIdeal.dot_S300x256_S256x256_S300x256_1_0_0_1_n_n := rfl
theorem dot2 : Cert.Kernel4Ideal.dot_S300x32_S4096x32_S300x4096_1_1_0_0_n_n = Cert.KernelIdeal.dot_S300x32_S4096x32_S300x4096_1_1_0_0_n_n := rfl
theorem dot3 : Cert.Kernel4Ideal.dot_S300x4096_S4096x32_S300x32_1_0_0_1_n_n = Cert.KernelIdeal.dot_S300x4096_S4096x32_S300x32_1_0_0_1_n_n := rfl
theorem named_eq : (Named.named Cert.Kernel4Ideal.κ "s" 0x3E3504F3#32 : Ideal .f32) = Named.named Cert.KernelIdeal.κ "s" 0x3E3504F3#32 := rfl

theorem cast_back (x : FVec Ideal S300x4096 .f32) : shapeCast S300x4096 (shapeCast S1x300x4096 x shapeCasts_S300x4096_S1x300x4096) shapeCasts_S1x300x4096_S300x4096 = x := by
  funext j
  pointwise

theorem qs_eq (x0 x1 x4 x5) : k0_pay3 (F := Ideal) x0 x1 x4 x5 = qs x0 x1 x4 x5 := by
  simp only [k0_pay3, k0_pay2, qs, vscale, vlin, shapeCast_self, dot1, named_eq]
theorem ks_eq (x2) : k0_pay4 (F := Ideal) x2 = ks x2 := by simp only [k0_pay4, ks]
theorem ks_eq' (x2) : k0_pay5 (F := Ideal) x2 = ks x2 := by simp only [k0_pay5, ks]

/-- The averaged weights a block of the call holds. -/
theorem out11_eq : (outsAt0 (F := Ideal) m c t).2 = shapeCast S1x300x4096 (caAvg (qs (iblk m c 0 t) (iblk m c 1 t) (iblk m c 4 t) (iblk m c 5 t)) (ks (iblk m c 2 t))) shapeCasts_S300x4096_S1x300x4096 := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread]
  rw [← qs_eq, ← ks_eq]
  simp only [cast_back, k0_pay8, k0_pay7, k0_pay6]
  generalize k0_pay3 (iblk m c 0 t) (iblk m c 1 t) (iblk m c 4 t) (iblk m c 5 t) = q
  generalize k0_pay4 (iblk m c 2 t) = k
  simp only [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]
  simp only [cast_back, caAvg, caShare, caEx, caInv, caScore, dot2]

/-- The rows a block of the call holds. -/
theorem out10_eq : (outsAt0 (F := Ideal) m c t).1 = shapeCast S1x300x256 (vca (shapeCast S300x256 (iblk m c 0 t) shapeCasts_S1x300x256_S300x256) (iblk m c 1 t) (ks (iblk m c 2 t)) (ks (iblk m c 3 t))
    (iblk m c 4 t) (iblk m c 5 t) (iblk m c 6 t) (iblk m c 7 t) (iblk m c 8 t) (iblk m c 9 t)) shapeCasts_S300x256_S1x300x256 := by
  unfold outsAt0
  frame_open
  simp only [cat8_of]
  simp (disch := decide) only [View.read_writes_junk_eq_canon, View.canon_cons_unit_lit',
        View.ld_unit_lit', View.readCov_unit_lit', View.readCov_cons_unit_lit', View.readAt_eq_ld,
        Memref.IsWhole.read_unread]
  rw [vca, ← ks_eq, ← ks_eq']
  change _ = shapeCast S1x300x256 (vln (addf (vlin (caHeads (qs (iblk m c 0 t) (iblk m c 1 t) (iblk m c 4 t) (iblk m c 5 t)) _ _) _ _) _) _ _) _
  rw [← qs_eq]
  simp only [k0_pay7, k0_pay6]
  generalize k0_pay3 (iblk m c 0 t) (iblk m c 1 t) (iblk m c 4 t) (iblk m c 5 t) = q
  generalize k0_pay4 (iblk m c 2 t) = k
  generalize k0_pay5 (iblk m c 3 t) = v
  simp only [caHeads, cat8_of, k0_pay1, k0_pay2, k0_pay42]
  simp only [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]
  simp only [caHead, caCtx, caEx, caInv, caScore, vlin, vln, vcen, vmean, shapeCast_self, dot1, dot2, dot3]

theorem idx_page : ∀ t : Fin cfg0.N, win0_0.index t = ![t.val, 0, 0] ∧ win0_1.index t = ![0, t.val] ∧ win0_10.index t = ![t.val, 0, 0] ∧ win0_11.index t = ![t.val, 0, 0] := (by decide +kernel : ∀ t : Fin grid0.N, _)
theorem idx_keys : ∀ t : Fin cfg0.N, win0_2.index t = ![t.val, 0, 1] ∧ win0_3.index t = ![t.val, 0, 1] := (by decide +kernel : ∀ t : Fin grid0.N, _)
theorem idx_whole : ∀ t : Fin cfg0.N, win0_4.index t = ![0, 0] ∧ win0_5.index t = ![0, 0] ∧ win0_6.index t = ![0, 0] ∧ win0_7.index t = ![0, 0]
    ∧ win0_8.index t = ![0, 0] ∧ win0_9.index t = ![0, 0] := (by decide +kernel : ∀ t : Fin grid0.N, _)
theorem emb10 (y : S1x300x256.Idx) : (win0_10.blk t).view.emb y = ix3 ⟨t.val, t.isLt⟩ (y 1) (y 2) := by blk_ext [idx_page t]
theorem emb11 (y : S1x300x4096.Idx) : (win0_11.blk t).view.emb y = ix3 ⟨t.val, t.isLt⟩ (y 1) (y 2) := by blk_ext [idx_page t]

set_option maxHeartbeats 2000000 in
/-- The weights' blocks are whole arrays. -/
theorem whole : (iblk m c 4 t : Vec Ideal S256x256 .bf16) = V m c main_arg4 ∧ (iblk m c 5 t : Vec Ideal S1x256 .f32) = V m c main_arg5
    ∧ (iblk m c 6 t : Vec Ideal S256x256 .bf16) = V m c main_arg6 ∧ (iblk m c 7 t : Vec Ideal S1x256 .f32) = V m c main_arg7
    ∧ (iblk m c 8 t : Vec Ideal S1x256 .f32) = V m c main_arg8 ∧ (iblk m c 9 t : Vec Ideal S1x256 .f32) = V m c main_arg9 := by
  refine ⟨?_, ?_, ?_, ?_, ?_, ?_⟩ <;> funext y <;> blk_ext [iblk, idx_whole t]

/-- The rows' block is a page. -/
theorem rows_in : toM (shapeCast S300x256 (iblk m c 0 t) shapeCasts_S1x300x256_S300x256 : Vec Ideal S300x256 .f32) = page (V m c main_arg0) ⟨t.val, t.isLt⟩ := by
  refine (rows_of_page _ _).trans ?_
  funext i j
  blk_ext [iblk, idx_page t]

/-- The positions' block is half the columns. -/
theorem qp_in : toM (iblk m c 1 t : Vec Ideal S300x256 .f32) = half (V m c main_arg1 : Vec Ideal S300x512 .f32) ⟨t.val, t.isLt⟩ := by
  funext i j
  show iblk m c 1 t (ix2 i j) = _
  blk_ext [iblk, idx_page t]

/-- The second half of a page of keys or values. -/
abbrev upper (x : S2x4096x512.Idx → EReal) (b : Fin 2) : M 4096 256 := fun i j => x (ix3 b i (⟨256 + j.val, by omega⟩ : Fin 512))

theorem keys_of (x : Vec Ideal S1x4096x256 .bf16) : toM (ks x) = fun i j => x (ix3 0 i j) := by
  funext i j
  simp only [toM, ks]
  pointwise

theorem keys_in : toM (ks (iblk m c 2 t)) = upper (V m c main_arg2) ⟨t.val, t.isLt⟩ := by
  rw [keys_of]
  funext i j
  blk_ext [iblk, idx_keys t]

theorem values_in : toM (ks (iblk m c 3 t)) = upper (V m c main_arg3) ⟨t.val, t.isLt⟩ := by
  rw [keys_of]
  funext i j
  blk_ext [iblk, idx_keys t]

/-- What the call computes, index by index: the rows. -/
def G (x : S2x300x256.Idx → EReal) (qp : S300x512.Idx → EReal) (k v : S2x4096x512.Idx → EReal) (wq : M 256 256) (bq : Fin 256 → EReal) (wo : M 256 256) (bo g b : Fin 256 → EReal) (y : S2x300x256.Idx) : EReal :=
  caBlock (page x (y 0)) (half qp (y 0)) (upper k (y 0)) (upper v (y 0)) wq bq wo bo g b (y 1) (y 2)

/-- … and the averaged weights. -/
def H (x : S2x300x256.Idx → EReal) (qp : S300x512.Idx → EReal) (k : S2x4096x512.Idx → EReal) (wq : M 256 256) (bq : Fin 256 → EReal) (y : S2x300x4096.Idx) : EReal :=
  avgBlock (page x (y 0)) (half qp (y 0)) (upper k (y 0)) wq bq (y 1) (y 2)

/-- The call's rows from its arguments. -/
def R : S2x300x256.Idx → EReal := G (V m c main_arg0) (V m c main_arg1) (V m c main_arg2) (V m c main_arg3) (toM (V m c main_arg4 : Vec Ideal S256x256 .bf16)) (toR (V m c main_arg5 : Vec Ideal S1x256 .f32))
  (toM (V m c main_arg6 : Vec Ideal S256x256 .bf16)) (toR (V m c main_arg7 : Vec Ideal S1x256 .f32)) (toR (V m c main_arg8 : Vec Ideal S1x256 .f32)) (toR (V m c main_arg9 : Vec Ideal S1x256 .f32))

/-- The call's averaged weights from its arguments. -/
def A : S2x300x4096.Idx → EReal := H (V m c main_arg0) (V m c main_arg1) (V m c main_arg2) (toM (V m c main_arg4 : Vec Ideal S256x256 .bf16)) (toR (V m c main_arg5 : Vec Ideal S1x256 .f32))

theorem point10 (y : S1x300x256.Idx) : (outsAt0 (F := Ideal) m c t).1 y = R m c (ix3 ⟨t.val, t.isLt⟩ (y 1) (y 2)) := by
  obtain ⟨h4, h5, h6, h7, h8, h9⟩ := whole m c t
  rw [out10_eq, h4, h5, h6, h7, h8, h9]
  refine (page_of_rows _ _ y).trans ?_
  refine (congrFun (congrFun (vca_eq _ _ _ _ _ _ _ _ _ _) _) _).trans ?_
  rw [rows_in, qp_in, keys_in, values_in]
  rfl

theorem point11 (y : S1x300x4096.Idx) : (outsAt0 (F := Ideal) m c t).2 y = A m c (ix3 ⟨t.val, t.isLt⟩ (y 1) (y 2)) := by
  obtain ⟨h4, h5, -, -, -, -⟩ := whole m c t
  rw [out11_eq, h4, h5]
  have e (x : FVec Ideal S300x4096 .f32) : shapeCast S1x300x4096 x shapeCasts_S300x4096_S1x300x4096 y = toM x (y 1) (y 2) := by
    simp only [toM]
    pointwise
  refine (e _).trans ?_
  rw [caAvg_eq, qs, vscale_eq, vlin_eq, add_eq, rows_in, qp_in, keys_in]
  rfl

/-- The call's rows. -/
theorem arr10 : ((dats m 0 c).arrAt 10 cfg0.N : Vec Ideal S2x300x256 .f32) = R m c := by
  refine (dats m 0 c).arrAt_eq_of_covers 10 _ (by decide +kernel) fun t _ y => ?_
  blk_simp
  rw [after0_10]
  exact (point10 m c t y).trans (congrArg (R m c) (emb10 t y).symm)

/-- The call's averaged weights. -/
theorem arr11 : ((dats m 0 c).arrAt 11 cfg0.N : Vec Ideal S2x300x4096 .f32) = A m c := by
  refine (dats m 0 c).arrAt_eq_of_covers 11 _ (by decide +kernel) fun t _ y => ?_
  blk_simp
  rw [after0_11]
  exact (point11 m c t y).trans (congrArg (A m c) (emb11 t y).symm)

end Cert.Kernel4Ideal.Arr

end
end
-- ==== Proof.R4.lean ====
module

public import proofs.«01_k».proof.Proof.Host
public import proofs.«01_k».proof.Proof.K4
public import proofs.«01_k».proof.Proof.Gen.Reference4Ideal.Read
public import proofs.«01_k».proof.Defs

/-! # The cross-attention reference, and the claim about the cross-attention call -/

@[expose] public section

set_option maxRecDepth 16384

noncomputable section

namespace Cert.Reference4Ideal.Arr

open Idealize.ShloMosaic Idealize.ShloMosaic.TcCoe Cert.Reference4Ideal Cert.Reference4Ideal.Gen Cert.Host Cert.Spec Cert.KernelIdeal.Vec Idealize.SL.Sem

/-- The second half of the keys' or the values' columns. -/
def hupper (x : FVec Ideal S2x4096x512 .bf16) : FVec Ideal S2x4096x256 .f32 :=
  extf .f32 (extractStridedSlice S2x4096x256 ![0, 0, 256] x slices_S2x4096x512_S2x4096x256_0_0_256) bitsLt_bf16_f32

theorem hupper_eq (x p) : page (hupper x) p = Cert.Kernel4Ideal.Arr.upper x p := by
  funext i j
  simp only [page, hupper]
  pointwise

theorem hqp_eq (x p) : page (hqp x) p = half x p := by
  funext i j
  exact hqp_apply x p i j

/-- The projected queries. -/
def hq (x0 : FVec Ideal S2x300x256 .f32) (x1 : FVec Ideal S300x512 .f32) (x4 : FVec Ideal S256x256 .bf16) (x5 : FVec Ideal S1x256 .f32) : FVec Ideal S2x300x256 .f32 :=
  hlin (addf x0 (hqp x1)) x4 x5

theorem hq_eq (x0 x1 x4 x5 p) : page (hq x0 x1 x4 x5) p = lin (add (page x0 p) (half x1 p)) (toM x4) (toR x5) := by
  rw [hq, hlin_eq, ← hqp_eq]
  rfl

theorem res_eq (x0 x1 x2 x3 x4 x5 x6 x7 x8 x9) : Read.val_main_v70 (F := Ideal) x0 x1 x2 x3 x4 x5 x6 x7 x8 x9
    = hln (addf x0 (hlin (hctx (hweights (hdots (hsplit (hq x0 x1 x4 x5)) (hsplitK (hupper x2)))) (hsplitK (hupper x3))) x6 x7)) x8 x9 := rfl

theorem avg_res_eq (x0 x1 x2 x4 x5) : Read.val_main_v73 (F := Ideal) x0 x1 x2 x4 x5
    = havg (hweights (hdots (hsplit (hq x0 x1 x4 x5)) (hsplitK (hupper x2)))) := rfl

/-- The reference's rows, and the call's. -/
theorem res_G (x0 x1 x2 x3 x4 x5 x6 x7 x8 x9) : (Read.val_main_v70 (F := Ideal) x0 x1 x2 x3 x4 x5 x6 x7 x8 x9 : S2x300x256.Idx → EReal)
    = Cert.Kernel4Ideal.Arr.G x0 x1 x2 x3 (toM x4) (toR x5) (toM x6) (toR x7) (toR x8) (toR x9) := by
  refine eq_of_page fun p i j => ?_
  rw [res_eq, hln_eq, page_add, hlin_eq, watt_eq, hq_eq, hupper_eq, hupper_eq, ← caBlock_eq]
  rfl

/-- The reference's averaged weights, and the call's. -/
theorem res_H (x0 x1 x2 x4 x5) : (Read.val_main_v73 (F := Ideal) x0 x1 x2 x4 x5 : S2x300x4096.Idx → EReal) = Cert.Kernel4Ideal.Arr.H x0 x1 x2 (toM x4) (toR x5) := by
  refine eq_of_page fun p i j => ?_
  rw [avg_res_eq, havg_eq]
  have e (h : Fin 8) : leaf (hweights (hdots (hsplit (hq x0 x1 x4 x5)) (hsplitK (hupper x2)))) p h
      = weights (rooted (dots (lin (add (page x0 p) (half x1 p)) (toM x4) (toR x5)) (Cert.Kernel4Ideal.Arr.upper x2 p) h)) := by
    rw [hweights_eq, hdots_eq, hq_eq, hupper_eq]
  rw [page, Cert.Kernel4Ideal.Arr.H, avgBlock_eq]
  exact congrArg (fun s => Ideal.div s eight) (Finset.sum_congr rfl fun h _ => congrFun (congrFun (e h) i) j)

theorem claim : Cert.algebraic_Kernel4Ideal_Reference4Ideal := by
  intro m g m' g' _ hm
  refine ⟨fun c => Cert.Kernel4Ideal.Arr.R m c, fun c => Cert.Kernel4Ideal.Arr.A m c,
    (θ_run _ _ _).mono (fun r h c => ⟨(h c).1.trans (Cert.Kernel4Ideal.Arr.arr10 m c), (h c).2.1.trans (Cert.Kernel4Ideal.Arr.arr11 m c), (h c).2.2⟩) (Cert.Kernel4Ideal.Value.run_blocks m g),
    (θ_run _ _ _).mono (fun r h c => ⟨(h c).1.trans ?_, (h c).2.1.trans ?_, (h c).2.2⟩) (Value.run m' g')⟩
  · obtain ⟨h0, h1, h2, h3, h4, h5, h6, h7, h8, h9⟩ := hm c
    refine (Read.val_main_v70_eq m' c).trans ?_
    rw [h0, h1, h2, h3, h4, h5, h6, h7, h8, h9]
    exact res_G _ _ _ _ _ _ _ _ _ _
  · obtain ⟨h0, h1, h2, -, h4, h5, -⟩ := hm c
    refine (Read.val_main_v73_eq m' c).trans ?_
    rw [h0, h1, h2, h4, h5]
    exact res_H _ _ _ _ _

end Cert.Reference4Ideal.Arr

end
end
-- ==== Proof.K5.lean ====
module

public import proofs.«01_k».proof.Proof.Pages
public import proofs.«01_k».proof.Proof.Gen.Kernel5Ideal.Value

/-! # What the last call's array holds -/

@[expose] public section

set_option maxRecDepth 16384

noncomputable section

namespace Cert.Kernel5Ideal.Arr

open Idealize.ShloMosaic Idealize.ShloMosaic.TcCoe Cert.Kernel5Ideal Cert.Kernel5Ideal.Gen Cert.KernelIdeal.Vec Cert.Spec
open Idealize.ShloMosaic.Pipeline (Dat)

variable (m : (ℓ : Loc nD τ sig) → Buf (Elt Ideal) ℓ) (c : Dev nD)

theorem dot1 : Cert.Kernel5Ideal.dot_S300x256_S256x2048_S300x2048_1_0_0_1_n_n = Cert.KernelIdeal.dot_S300x256_S256x2048_S300x2048_1_0_0_1_n_n := rfl
theorem dot2 : Cert.Kernel5Ideal.dot_S300x2048_S2048x256_S300x256_1_0_0_1_n_n = Cert.KernelIdeal.dot_S300x2048_S2048x256_S300x256_1_0_0_1_n_n := rfl

/-- One block: the feed-forward part and the final normalisation of its rows. -/
theorem out_eq (x0 : Vec Ideal S1x300x256 .f32) (x1 : Vec Ideal S256x2048 .bf16) (x2 : Vec Ideal S1x2048 .f32) (x3 : Vec Ideal S2048x256 .bf16) (x4 x5 x6 x7 x8 : Vec Ideal S1x256 .f32) :
    out0_9 x0 x1 x2 x3 x4 x5 x6 x7 x8 = shapeCast S1x300x256 (vln (vff (shapeCast S300x256 x0 shapeCasts_S1x300x256_S300x256) x1 x2 x3 x4 x5 x6) x7 x8) shapeCasts_S300x256_S1x300x256 := by
  frame_out
  simp only [k0_pay1, k0_pay2, k0_pay3, k0_pay4, k0_pay5, dot1, dot2, vff, shapeCast_self, vffn, vhid, vln, vcen, vmean]

theorem idx_page : ∀ t : Fin cfg0.N, win0_0.index t = ![t.val, 0, 0] ∧ win0_9.index t = ![t.val, 0, 0] := (by decide +kernel : ∀ t : Fin grid0.N, _)
theorem idx_whole : ∀ t : Fin cfg0.N, win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] := (by decide +kernel : ∀ t : Fin grid0.N, _)
theorem emb_page (t : Fin cfg0.N) (y : S1x300x256.Idx) : (win0_9.blk t).view.emb y = ix3 ⟨t.val, t.isLt⟩ (y 1) (y 2) := by blk_ext [idx_page t]

set_option maxHeartbeats 2000000 in
/-- The weights' blocks are whole arrays. -/
theorem whole (t : Fin cfg0.N) : (iblk m c 1 t : Vec Ideal S256x2048 .bf16) = V m c main_arg1 ∧ (iblk m c 2 t : Vec Ideal S1x2048 .f32) = V m c main_arg2
    ∧ (iblk m c 3 t : Vec Ideal S2048x256 .bf16) = V m c main_arg3 ∧ (iblk m c 4 t : Vec Ideal S1x256 .f32) = V m c main_arg4 ∧ (iblk m c 5 t : Vec Ideal S1x256 .f32) = V m c main_arg5
    ∧ (iblk m c 6 t : Vec Ideal S1x256 .f32) = V m c main_arg6 ∧ (iblk m c 7 t : Vec Ideal S1x256 .f32) = V m c main_arg7 ∧ (iblk m c 8 t : Vec Ideal S1x256 .f32) = V m c main_arg8 := by
  refine ⟨?_, ?_, ?_, ?_, ?_, ?_, ?_, ?_⟩ <;> funext y <;> blk_ext [iblk, idx_whole t]

/-- The rows' block is a page. -/
theorem page_in (t : Fin cfg0.N) : toM (shapeCast S300x256 (iblk m c 0 t) shapeCasts_S1x300x256_S300x256 : Vec Ideal S300x256 .f32) = page (V m c main_arg0) ⟨t.val, t.isLt⟩ := by
  refine (rows_of_page _ _).trans ?_
  funext i j
  blk_ext [iblk, idx_page t]

/-- What the call computes, index by index. -/
def G (x : S2x300x256.Idx → EReal) (W1 : M 256 2048) (b1 : Fin 2048 → EReal) (W2 : M 2048 256) (b2 g b ng nb : Fin 256 → EReal) (y : S2x300x256.Idx) : EReal :=
  ln (ffnBlock (page x (y 0)) W1 b1 W2 b2 g b) ng nb (y 1) (y 2)

/-- The call's result from its arguments. -/
def R : S2x300x256.Idx → EReal := G (V m c main_arg0) (toM (V m c main_arg1 : Vec Ideal S256x2048 .bf16)) (toR (V m c main_arg2 : Vec Ideal S1x2048 .f32)) (toM (V m c main_arg3 : Vec Ideal S2048x256 .bf16))
        (toR (V m c main_arg4 : Vec Ideal S1x256 .f32)) (toR (V m c main_arg5 : Vec Ideal S1x256 .f32)) (toR (V m c main_arg6 : Vec Ideal S1x256 .f32))
        (toR (V m c main_arg7 : Vec Ideal S1x256 .f32)) (toR (V m c main_arg8 : Vec Ideal S1x256 .f32))

theorem point (t : Fin cfg0.N) (y : S1x300x256.Idx) : out0_9 (iblk m c 0 t) (iblk m c 1 t) (iblk m c 2 t) (iblk m c 3 t) (iblk m c 4 t) (iblk m c 5 t) (iblk m c 6 t) (iblk m c 7 t) (iblk m c 8 t) y
    = R m c (ix3 ⟨t.val, t.isLt⟩ (y 1) (y 2)) := by
  obtain ⟨h1, h2, h3, h4, h5, h6, h7, h8⟩ := whole m c t
  rw [out_eq, h1, h2, h3, h4, h5, h6, h7, h8]
  refine (page_of_rows _ _ y).trans ?_
  refine (congrFun (congrFun (vln_eq _ _ _) _) _).trans ?_
  rw [vff_eq, page_in]
  rfl

/-- The call's array: the feed-forward part and the final normalisation of every page of the rows. -/
theorem arr : ((dats m 0 c).arrAt 9 cfg0.N : Vec Ideal S2x300x256 .f32) = R m c := by
  refine (dats m 0 c).arrAt_eq_of_covers 9 _ (by decide +kernel) fun t _ y => ?_
  blk_simp
  rw [after0_9]
  exact (point m c t y).trans (congrArg (R m c) (emb_page t y).symm)

end Cert.Kernel5Ideal.Arr

end
end
-- ==== Proof.R5.lean ====
module

public import proofs.«01_k».proof.Proof.Host
public import proofs.«01_k».proof.Proof.K5
public import proofs.«01_k».proof.Proof.Gen.Reference5Ideal.Read
public import proofs.«01_k».proof.Defs

/-! # The feed-forward reference, and the claim about the last call -/

@[expose] public section

set_option maxRecDepth 16384

noncomputable section

namespace Cert.Reference5Ideal.Arr

open Idealize.ShloMosaic Idealize.ShloMosaic.TcCoe Cert.Reference5Ideal Cert.Reference5Ideal.Gen Cert.Host Cert.Spec Cert.KernelIdeal.Vec Idealize.SL.Sem

/-- The hidden rows. -/
def hhid (x : FVec Ideal S2x300x256 .f32) (w : FVec Ideal S256x2048 .bf16) (b : FVec Ideal S1x2048 .f32) : FVec Ideal S2x300x2048 .f32 :=
  maximumf (addf (Host.dotGeneral dot_S2x300x256_S256x2048_S2x300x2048_2_0_01_1_n_n none x (extf .f32 w bitsLt_bf16_f32))
    (broadcastInDim S2x300x2048 ![0, 1, 2] bcast_S1x1x2048_S2x300x2048_0_1_2 (broadcastInDim S1x1x2048 ![2] bcast_S2048_S1x1x2048_2 (shapeCast S2048 b shapeCasts_S1x2048_S2048))))
    (broadcastInDim S2x300x2048 ![] bcast_S_S2x300x2048 (constant S_ .f32 0x00000000#32))

theorem hhid_apply (x w b p i j) : hhid x w b (ix3 p i j) = max (lin (page x p) (fun i j => w (ix2 i j)) (fun j => b (ix2 0 j)) i j) zero := by
  simp only [hhid, lin, page, zero]
  pointwise

/-- The feed-forward part, before its residual. -/
def hffn (x : FVec Ideal S2x300x256 .f32) (w1 : FVec Ideal S256x2048 .bf16) (b1 : FVec Ideal S1x2048 .f32) (w2 : FVec Ideal S2048x256 .bf16) (b2 : FVec Ideal S1x256 .f32) : FVec Ideal S2x300x256 .f32 :=
  addf (Host.dotGeneral dot_S2x300x2048_S2048x256_S2x300x256_2_0_01_1_n_n none (hhid x w1 b1) (extf .f32 w2 bitsLt_bf16_f32)) (hrow b2)

theorem hffn_eq (x w1 b1 w2 b2 p) : page (hffn x w1 b1 w2 b2) p = ffn (page x p) (fun i j => w1 (ix2 i j)) (fun j => b1 (ix2 0 j)) (fun i j => w2 (ix2 i j)) (fun j => b2 (ix2 0 j)) := by
  funext i j
  have e : (∑ t, max (lin (page x p) (fun i j => w1 (ix2 i j)) (fun j => b1 (ix2 0 j)) i t) zero * w2 (ix2 t j)) = ∑ t : Fin 2048, hhid x w1 b1 (ix3 p i t) * w2 (ix2 t j) :=
    Finset.sum_congr rfl fun t _ => by rw [hhid_apply]
  rw [ffn, lin, e, ← hrow_apply b2 p i j]
  simp only [page, hffn]
  generalize hhid x w1 b1 = y
  pointwise

theorem res_eq (x0 x1 x2 x3 x4 x5 x6 x7 x8) : Read.val_main_v65 (F := Ideal) x0 x1 x2 x3 x4 x5 x6 x7 x8 = hln (hln (addf x0 (hffn x0 x1 x2 x3 x4)) x5 x6) x7 x8 := rfl

/-- The reference's result, and the call's. -/
theorem res_G (x0 x1 x2 x3 x4 x5 x6 x7 x8) : (Read.val_main_v65 (F := Ideal) x0 x1 x2 x3 x4 x5 x6 x7 x8 : S2x300x256.Idx → EReal)
    = Cert.Kernel5Ideal.Arr.G x0 (toM x1) (toR x2) (toM x3) (toR x4) (toR x5) (toR x6) (toR x7) (toR x8) := by
  refine eq_of_page fun p i j => ?_
  rw [res_eq, hln_eq, hln_eq]
  rw [page_add, hffn_eq, add_comm']
  rfl

theorem claim : Cert.algebraic_Kernel5Ideal_Reference5Ideal := by
  intro m g m' g' _ hm
  refine ⟨fun c => Cert.Kernel5Ideal.Arr.R m c, (θ_run _ _ _).mono (fun r h c => ⟨(h c).1.trans (Cert.Kernel5Ideal.Arr.arr m c), (h c).2⟩) (Cert.Kernel5Ideal.Value.run_blocks m g),
    (θ_run _ _ _).mono (fun r h c => ⟨(h c).1.trans ?_, (h c).2⟩) (Value.run m' g')⟩
  obtain ⟨h0, h1, h2, h3, h4, h5, h6, h7, h8⟩ := hm c
  refine (Read.val_main_v65_eq m' c).trans ?_
  rw [h0, h1, h2, h3, h4, h5, h6, h7, h8]
  exact res_G _ _ _ _ _ _ _ _ _

end Cert.Reference5Ideal.Arr

end
end
-- ==== Proof.Rank.lean ====
module

public import Idealize.ShloMosaic.Lib.SortFacts
public import Mathlib.Data.Fin.Basic
public import Mathlib.Order.Fin.Basic
public import Mathlib.Data.Fintype.Card
public import Mathlib.Order.Hom.Set
public import Mathlib.Order.Interval.Finset.Fin
public import Mathlib.Data.Set.Finite.Basic
public import Mathlib.Order.WellFounded
public import Mathlib.Data.Fintype.Basic

/-! # Places in a sorted row, and a threshold found by halving

`rank s j` is the number of entries of a row `s` that come before entry `j` when the row is sorted ascending, equal
entries by position. A stable sort puts entry `j` at place `rank s j` (`rank_sortedFrom`), and a threshold on the counts of
smaller entries tells the entries of small rank (`rank_lt_iff`). -/

@[expose] public section

namespace Cert.Rank

open Idealize.ShloMosaic Finset

variable {n : ℕ} {α : Type} [LinearOrder α] (s : Fin n → α)

/-- The entries that come before entry `j`. -/
def firsts (j : Fin n) : Finset (Fin n) := univ.filter fun k => s k < s j ∨ (s k = s j ∧ k < j)

/-- How many entries come before entry `j`. -/
def rank (j : Fin n) : ℕ := (firsts s j).card

/-- How many entries are smaller than entry `j`. -/
def key (j : Fin n) : ℕ := (univ.filter fun k => s k < s j).card

theorem rank_lt_of {a b : Fin n} (h : s a < s b ∨ (s a = s b ∧ a < b)) : rank s a < rank s b := by
  refine card_lt_card (Finset.ssubset_iff_of_subset ?_ |>.2 ⟨a, ?_, ?_⟩)
  · intro k hk
    simp only [firsts, mem_filter, mem_univ, true_and] at hk ⊢
    rcases hk with hk | ⟨hk, hka⟩ <;> rcases h with h | ⟨h, hab⟩
    · exact .inl (hk.trans h)
    · exact .inl (h ▸ hk)
    · exact .inl (hk ▸ h)
    · exact .inr ⟨hk.trans h, hka.trans hab⟩
  · simpa [firsts] using h
  · simp [firsts]

theorem rank_lt_iff_before (a b : Fin n) : rank s a < rank s b ↔ (s a < s b ∨ (s a = s b ∧ a < b)) := by
  refine ⟨fun h => ?_, rank_lt_of s⟩
  by_contra hc
  rcases lt_trichotomy (s a) (s b) with h1 | h1 | h1
  · exact hc (.inl h1)
  · rcases lt_trichotomy a b with h2 | h2 | h2
    · exact hc (.inr ⟨h1, h2⟩)
    · subst h2
      exact lt_irrefl _ h
    · exact absurd (rank_lt_of s (.inr ⟨h1.symm, h2⟩)) (not_lt_of_gt h)
  · exact absurd (rank_lt_of s (.inl h1)) (not_lt_of_gt h)

theorem rank_injective : Function.Injective (rank s) := by
  intro a b h
  by_contra hab
  rcases lt_trichotomy (s a) (s b) with h1 | h1 | h1
  · exact absurd h (rank_lt_of s (.inl h1)).ne
  · rcases lt_or_gt_of_ne hab with h2 | h2
    · exact absurd h (rank_lt_of s (.inr ⟨h1, h2⟩)).ne
    · exact absurd h (rank_lt_of s (.inr ⟨h1.symm, h2⟩)).ne'
  · exact absurd h (rank_lt_of s (.inl h1)).ne'

theorem rank_lt_size (j : Fin n) : rank s j < n := by
  have h : firsts s j ⊂ univ := Finset.ssubset_univ_iff.2 fun e => by
    have : j ∈ firsts s j := e ▸ mem_univ j
    simp [firsts] at this
  have := card_lt_card h
  rwa [card_univ, Fintype.card_fin] at this

/-- On an ascending list of positions the sort by the entries alone is the sort by rank. -/
theorem stableSort_eq (l : List (Fin n)) (hl : l.Pairwise (· < ·)) :
    stableSort (fun a b => decide (s a < s b)) l = stableSort (fun a b => decide (rank s a < rank s b)) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.1 hb)
    refine decide_eq_decide.2 ?_
    rw [rank_lt_iff_before]
    exact ⟨.inl, fun h => h.resolve_right fun h => absurd h.2 (not_lt_of_gt hab)⟩

theorem sortedFrom_eq : sortedFrom (fun a b => decide (s a < s b)) = sortedFrom (fun a b => decide (rank s a < rank s b)) := by
  funext p
  unfold sortedFrom
  rw [List.get_of_eq (show sortPositions n (fun a b => decide (s a < s b)) = sortPositions n (fun a b => decide (rank s a < rank s b)) from
    stableSort_eq s _ (List.pairwise_lt_finRange n))]
  rfl

/-- What a stable sort puts at place `p` has rank `p`. -/
theorem rank_sortedFrom (p : Fin n) : rank s (sortedFrom (fun a b => decide (s a < s b)) p) = p.val := by
  rw [sortedFrom_eq]
  let g : Fin n → Fin n := fun p => ⟨rank s (sortedFrom (fun a b => decide (rank s a < rank s b)) p), rank_lt_size s _⟩
  have hinj : Function.Injective g := fun a b h => sortedFrom_injective _ (rank_injective s (Fin.mk.inj h))
  have hmono : StrictMono g := fun a b hab => by
    have h := sortedFrom_noInversion (fun a b => decide (rank s a < rank s b)) (fun a b => decide (rank s a < rank s b))
      (by simp only [decide_eq_true_eq, decide_eq_false_iff_not]; intros; omega)
      (by simp only [decide_eq_true_eq]; intros; omega)
      (by simp only [decide_eq_false_iff_not]; intros; omega) a b hab
    simp only [decide_eq_false_iff_not, not_lt] at h
    exact lt_of_le_of_ne h (fun e => hab.ne (hinj e))
  have hid : g = id := by
    have e := Subsingleton.elim (hmono.orderIsoOfSurjective g (Finite.injective_iff_surjective.1 hinj)) (OrderIso.refl _)
    funext p
    exact congrArg (fun f : Fin n ≃o Fin n => f p) e
  exact congrArg Fin.val (congrFun hid p)

/-- An entry is among the first `T` of the sorted row exactly when its rank is below `T`. -/
theorem exists_sortedFrom_iff (T : ℕ) (j : Fin n) :
    (∃ p : Fin n, p.val < T ∧ sortedFrom (fun a b => decide (s a < s b)) p = j) ↔ rank s j < T := by
  constructor
  · rintro ⟨p, hp, rfl⟩
    rwa [rank_sortedFrom]
  · intro h
    obtain ⟨p, hp⟩ := sortedFrom_surjective (fun a b => decide (s a < s b)) j
    refine ⟨p, ?_, hp⟩
    rw [← rank_sortedFrom s p, hp]
    exact h

/-! ## The counts of smaller entries, and a threshold on them -/

theorem key_lt_of {a b : Fin n} (h : s a < s b) : key s a < key s b := by
  refine card_lt_card (Finset.ssubset_iff_of_subset ?_ |>.2 ⟨a, ?_, ?_⟩)
  · intro k hk
    simp only [mem_filter, mem_univ, true_and] at hk ⊢
    exact hk.trans h
  · simpa using h
  · simp

theorem key_eq_of {a b : Fin n} (h : s a = s b) : key s a = key s b := by rw [key, key, h]

theorem key_lt_iff (a b : Fin n) : key s a < key s b ↔ s a < s b := by
  refine ⟨fun h => ?_, key_lt_of s⟩
  by_contra hc
  rcases eq_or_lt_of_le (not_lt.1 hc) with e | e
  · exact absurd h (by rw [key_eq_of s e]; exact lt_irrefl _)
  · exact absurd h (not_lt_of_gt (key_lt_of s e))

theorem key_eq_iff (a b : Fin n) : key s a = key s b ↔ s a = s b := by
  refine ⟨fun h => ?_, key_eq_of s⟩
  rcases lt_trichotomy (s a) (s b) with e | e | e
  · exact absurd h (key_lt_of s e).ne
  · exact e
  · exact absurd h (key_lt_of s e).ne'

theorem key_le (j : Fin n) : key s j ≤ n := by
  have := card_le_univ (univ.filter fun k => s k < s j)
  rwa [Fintype.card_fin] at this

/-- The number of entries whose count of smaller entries is below `c`. -/
def below (c : ℕ) : ℕ := (univ.filter fun k => key s k < c).card

/-- The number of entries at the threshold up to entry `j`. -/
def ties (th : ℕ) (j : Fin n) : ℕ := (univ.filter fun k => k ≤ j ∧ key s k = th).card

theorem rank_eq (j : Fin n) : rank s j = (univ.filter fun k => key s k < key s j ∨ (key s k = key s j ∧ k < j)).card := by
  simp only [key_lt_iff, key_eq_iff]
  rfl

/-- Below the threshold, or at it and among the first of the ties: exactly the entries of rank below `T`. -/
theorem rank_lt_iff (T th : ℕ) (h1 : below s th < T) (h2 : T ≤ below s (th + 1)) (j : Fin n) :
    rank s j < T ↔ (key s j < th ∨ (key s j = th ∧ below s th + ties s th j ≤ T)) := by
  rw [rank_eq]
  rcases lt_trichotomy (key s j) th with h | h | h
  · refine iff_of_true (lt_of_le_of_lt (card_le_card fun k hk => ?_) h1) (.inl h)
    simp only [mem_filter, mem_univ, true_and] at hk ⊢
    omega
  · have e : (univ.filter fun k => key s k < key s j ∨ (key s k = key s j ∧ k < j)).card + 1 = below s th + ties s th j := by
      have e1 : (univ.filter fun k => k ≤ j ∧ key s k = th) = insert j (univ.filter fun k => key s k = key s j ∧ k < j) := by
        ext k
        simp only [mem_filter, mem_univ, true_and, mem_insert]
        constructor
        · rintro ⟨hk, hk'⟩
          rcases eq_or_lt_of_le hk with e | e
          · exact .inl e
          · exact .inr ⟨hk'.trans h.symm, e⟩
        · rintro (rfl | ⟨hk, hk'⟩)
          · exact ⟨le_refl _, h⟩
          · exact ⟨hk'.le, hk.trans h⟩
      rw [below, ties, e1, card_insert_of_notMem (by simp), ← add_assoc, filter_or, card_union_of_disjoint, h]
      rw [Finset.disjoint_filter]
      intro k _ hk
      omega
    constructor
    · intro hlt
      exact .inr ⟨h, by omega⟩
    · rintro (hlt | ⟨_, hle⟩) <;> omega
  · refine iff_of_false (not_lt.2 (h2.trans (card_le_card fun k hk => ?_))) (by omega)
    simp only [mem_filter, mem_univ, true_and] at hk ⊢
    omega

/-- One halving step keeps the bracket around the threshold and halves its width. -/
def Bracket (T t : ℕ) (lo hi : BitVec 32) : Prop :=
  lo.toNat < hi.toNat ∧ hi.toNat ≤ 2130706432 ∧ hi.toNat - lo.toNat ≤ 2 ^ (31 - t) ∧ below s lo.toNat < T ∧ T ≤ below s hi.toNat

/-- The middle of a bracket. -/
def mid (lo hi : BitVec 32) : BitVec 32 := IntOp.addi lo (IntOp.shrsi .vector (IntOp.subi hi lo) 1#32)

theorem below_zero : below s 0 = 0 := by simp [below]

theorem below_top (c : ℕ) (hc : n < c) : below s c = n := by
  rw [below, filter_true_of_mem fun k _ => lt_of_le_of_lt (key_le s k) hc]
  simp

theorem bracket_start (T : ℕ) (h0 : 0 < T) (hn : T ≤ n) (hn' : n < 2130706432) : Bracket s T 0 0#32 2130706432#32 := by
  refine ⟨by decide, by decide, by decide, ?_, ?_⟩
  · rw [show (0#32 : BitVec 32).toNat = 0 from rfl, below_zero]
    exact h0
  · rw [show (2130706432#32 : BitVec 32).toNat = 2130706432 from rfl, below_top s _ hn']
    exact hn

theorem mid_toNat (lo hi : BitVec 32) (h : lo.toNat < hi.toNat) (hh : hi.toNat ≤ 2130706432) :
    (mid lo hi).toNat = lo.toNat + (hi.toNat - lo.toNat) / 2 := by
  have hs : (hi - lo).toNat = hi.toNat - lo.toNat := by
    rw [BitVec.toNat_sub_of_le (by rw [BitVec.le_def]; omega)]
  have hm : (hi - lo).msb = false := by
    rw [BitVec.msb_eq_false_iff_two_mul_lt, hs]
    omega
  show (lo + IntOp.shrsi .vector (hi - lo) 1#32).toNat = _
  have hr : (IntOp.shrsi .vector (hi - lo) 1#32).toNat = (hi.toNat - lo.toNat) / 2 := by
    show ((hi - lo).sshiftRight (1#32 : BitVec 32).toNat).toNat = _
    rw [BitVec.toNat_sshiftRight_of_msb_false hm, hs, Nat.shiftRight_eq_div_pow]
    rfl
  rw [BitVec.toNat_add, hr]
  apply Nat.mod_eq_of_lt
  omega

theorem bracket_step (T t : ℕ) (ht : t < 31) (lo hi : BitVec 32) (h : Bracket s T t lo hi) :
    Bracket s T (t + 1) (if T ≤ below s (mid lo hi).toNat then lo else mid lo hi) (if T ≤ below s (mid lo hi).toNat then mid lo hi else hi) := by
  obtain ⟨h1, h2, h3, h4, h5⟩ := h
  have hm := mid_toNat lo hi h1 h2
  have hp : 2 ^ (31 - t) = 2 * 2 ^ (31 - (t + 1)) := by
    rw [← pow_succ']
    congr 1
    omega
  by_cases hc : T ≤ below s (mid lo hi).toNat
  · rw [if_pos hc, if_pos hc]
    have hne : (mid lo hi).toNat ≠ lo.toNat := fun e => by rw [e] at hc; omega
    exact ⟨by omega, by omega, by omega, h4, hc⟩
  · rw [if_neg hc, if_neg hc]
    exact ⟨by omega, by omega, by omega, by omega, h5⟩

theorem bracket_end (T : ℕ) (lo hi : BitVec 32) (h : Bracket s T 31 lo hi) :
    below s lo.toNat < T ∧ T ≤ below s (lo.toNat + 1) := by
  obtain ⟨h1, h2, h3, h4, h5⟩ := h
  have : hi.toNat = lo.toNat + 1 := by
    have : (2 : ℕ) ^ (31 - 31) = 1 := rfl
    omega
  exact ⟨h4, this ▸ h5⟩

end Cert.Rank
-- ==== Proof.Mask.lean ====
module

public import proofs.«01_k».proof.Proof.Rank
public import proofs.«01_k».proof.Proof.Cross
public import proofs.«01_k».proof.Proof.Gen.Kernel6Ideal.Skeleton
public import Idealize.ShloMosaic.Lib.WordSum
public import Idealize.ShloMosaic.Lib.IndicatorCount
public import Idealize.ShloMosaic.Lib.WordCmp

@[expose] public section

set_option maxRecDepth 16384

noncomputable section

namespace Cert.Kernel6Ideal.Mask

open Idealize.ShloMosaic Cert.Kernel6Ideal Cert.Kernel6Ideal.Gen Cert.KernelIdeal.Vec Cert.Spec

/-- How many entries of a row fulfil `p`. -/
def vcount (p : IVec S300x300 1) : IVec S300x1 32 :=
  shapeCast S300x1 (multiReductionI .add [1] S300 (extui 32 p natLt_1_32) 0#32 reduces_S300x300_S300 rfl) shapeCasts_S300_S300x1

theorem vcount_eq (p : IVec S300x300 1) (i : Fin 300) :
    vcount p (ix2 i 0) = BitVec.ofNat 32 (Finset.univ.filter fun k : Fin 300 => p (ix2 i k) = 1#1).card := by
  simp only [vcount]
  pointwise
  exact IndicatorCount.fold_addi_setWidth_eq_card (fun k : Fin 300 => p (ix2 i k)) _

/-- Entry `k` of each row, in that row. -/
def vpick (sc : FVec Ideal S300x300 .f32) (k : ℕ) : FVec Ideal S300x1 .f32 :=
  shapeCast S300x1 (multiReduction .add [1] S300 (select (cmpi .eq (iota .tc S300x300 32 [1] iota_S300x300_d1_w32) (broadcast S300x300 (Scf.iv 0#32 1#32 k))) sc
    (broadcast S300x300 (Scalar.ofBits .f32 0x00000000#32))) 0x00000000#32 reduces_S300x300_S300 (.inl rfl) rfl) shapeCasts_S300_S300x1

theorem vpick_eq (sc : FVec Ideal S300x300 .f32) (k i : Fin 300) : vpick sc k.val (ix2 i 0) = sc (ix2 i k) := by
  simp only [vpick]
  pointwise
  have e (x : Fin 300) : Scalar.select (IntOp.cmpi CmpIPredicate.eq (BitVec.ofNat 32 x.val) (Scf.iv 0#32 1#32 k.val)) (sc (ix2 i x)) (0 : EReal)
      = if x = k then sc (ix2 i x) else 0 := by
    have hk : Scf.iv 0#32 1#32 k.val = BitVec.ofNat 32 k.val := by simp [Scf.iv]
    rw [hk, WordCmp.cmpi_eq_eq]
    by_cases h : x = k
    · subst h
      simp [Scalar.select]
    · have : ¬ BitVec.ofNat 32 x.val = BitVec.ofNat 32 k.val := by
        rw [WordCmp.ofNat_eq_ofNat_iff (by omega) (by omega)]
        exact fun e => h (Fin.ext e)
      simp [Scalar.select, h, this]
  simp only [e]
  rw [Finset.sum_ite_eq' Finset.univ k]
  simp

theorem trips1 : k0_t1_loop.trips = 300 := by decide
theorem trips2 : k0_t2_loop.trips = 31 := by decide

/-- A loop that adds an indicator in each of its trips counts the trips where it is set. -/
theorem fold_count {s : Shape} {N n : ℕ} (h : N = n) (p : Fin n → s.Idx → BitVec 1) (g : Fin N → IVec s 32 → IVec s 32)
    (init : IVec s 32) (i : s.Idx) (h0 : init i = 0#32) (hg : ∀ k acc, g k acc i = acc i + (p (k.cast h) i).setWidth 32) :
    Scf.fold g init i = BitVec.ofNat 32 (Finset.univ.filter fun k => p k i = 1#1).card := by
  subst h
  have key (l : List (Fin N)) (a : IVec s 32) : (l.foldl (fun acc k => g k acc) a) i = a i + BitVec.ofNat 32 (l.filter fun k => p k i = 1#1).length := by
    induction l generalizing a with
    | nil => simp
    | cons k l ih =>
      rw [List.foldl_cons, ih, hg]
      rcases (by decide +revert : ∀ b : BitVec 1, b = 0#1 ∨ b = 1#1) (p k i) with e | e
      · rw [List.filter_cons_of_neg (by simp [e])]
        simp [e]
      · rw [List.filter_cons_of_pos (by simp [e]), List.length_cons, Nat.add_comm, BitVec.ofNat_add, ← BitVec.add_assoc]
        simp [e]
  rw [Scf.fold_eq, key, h0, BitVec.zero_add]
  rfl

/-- A relation that the start has and every trip keeps holds at the end. -/
theorem fold_keeps {σ : Type} {N : ℕ} (P : ℕ → σ → Prop) (g : Fin N → σ → σ) (init : σ) (h0 : P 0 init)
    (hg : ∀ (k : Fin N) x, P k.val x → P (k.val + 1) (g k x)) : P N (Scf.fold g init) := by
  rw [Scf.fold_eq]
  have key : ∀ (d t : ℕ) (ht : t + d = N) (x : σ), P t x → P N (((List.finRange N).drop t).foldl (fun acc k => g k acc) x) := by
    intro d
    induction d with
    | zero =>
      intro t ht x hx
      rw [List.drop_eq_nil_of_le (by rw [List.length_finRange]; omega)]
      obtain rfl : t = N := by omega
      exact hx
    | succ d ih =>
      intro t ht x hx
      rw [List.drop_eq_getElem_cons (by rw [List.length_finRange]; omega), List.foldl_cons, List.getElem_finRange]
      exact ih (t + 1) (by omega) _ (hg ⟨t, by omega⟩ x hx)
  exact key N 0 (by omega) init h0

/-- A row of the scores. -/
abbrev row (sc : FVec Ideal S300x300 .f32) (i : Fin 300) : Fin 300 → EReal := fun j => sc (ix2 i j)

/-- One trip of the counting loop. -/
def kstep (sc : FVec Ideal S300x300 .f32) (k : ℕ) (acc : IVec S300x300 32) : IVec S300x300 32 :=
  addi acc (extui 32 (cmpf .olt (broadcastTo S300x300 (vpick sc k) broadcasts_S300x1_S300x300) sc) natLt_1_32)

/-- For every entry of every row, how many entries of the row are smaller. -/
def keys (sc : FVec Ideal S300x300 .f32) : IVec S300x300 32 :=
  Scf.fold (fun (k : Fin k0_t1_loop.trips) acc => kstep sc k.val acc) k0_pay22

theorem keys_eq (sc : FVec Ideal S300x300 .f32) (i j : Fin 300) : keys sc (ix2 i j) = BitVec.ofNat 32 (Rank.key (row sc i) j) := by
  refine (fold_count trips1 (fun (k : Fin 300) (x : S300x300.Idx) => BitVec.ofBool (decide (sc (ix2 (x 0) k) < sc x))) _ _ (ix2 i j) rfl ?_).trans ?_
  · intro k acc
    have e := vpick_eq sc (k.cast trips1) i
    change vpick sc k.val (ix2 i 0) = _ at e
    have e' : kstep sc k.val acc (ix2 i j) = IntOp.addi (acc (ix2 i j)) (BitVec.setWidth 32 (BitVec.ofBool (decide (vpick sc k.val (ix2 i 0) < sc (ix2 i j))))) := by
      simp only [kstep]
      pointwise
    refine e'.trans ?_
    rw [e]
    rfl
  · rw [Rank.key]
    congr 2
    ext k
    rw [Finset.mem_filter, Finset.mem_filter, WordCmp.ofBool_decide_eq_one_iff]
    rfl

theorem key_word (sc : FVec Ideal S300x300 .f32) (i j : Fin 300) : (keys sc (ix2 i j)).toNat = Rank.key (row sc i) j := by
  rw [keys_eq]
  exact WordCmp.toNat_ofNat_of_lt (lt_of_le_of_lt (Rank.key_le _ _) (by decide))

/-- One trip of the halving loop. -/
def hstep (kk : IVec S300x300 32) (x : IVec S300x1 32 × IVec S300x1 32) : IVec S300x1 32 × IVec S300x1 32 :=
  (k0_pay28 kk x.1 x.2, k0_pay29 kk x.1 x.2)

/-- The threshold of each row. -/
def kth (kk : IVec S300x300 32) : IVec S300x1 32 :=
  (Scf.fold (fun (_ : Fin k0_t2_loop.trips) x => hstep kk x) (k0_pay24, k0_pay25)).1

theorem slt_iff (x y : BitVec 32) (hx : x.toNat < 2 ^ 31) (hy : y.toNat < 2 ^ 31) : IntOp.cmpi .slt x y = 1#1 ↔ x.toNat < y.toNat := by
  rw [WordCmp.cmpi_slt_of_lt hx hy, WordCmp.ofBool_decide_eq_one_iff]

theorem key_small (sc : FVec Ideal S300x300 .f32) (i j : Fin 300) : (keys sc (ix2 i j)).toNat < 2 ^ 31 := by
  rw [key_word]
  exact lt_of_le_of_lt (Rank.key_le _ _) (by decide)

/-- The count of the entries below a threshold, as a word. -/
theorem count_below (sc : FVec Ideal S300x300 .f32) (i : Fin 300) (c : BitVec 32) (hc : c.toNat < 2 ^ 31) (y : IVec S300x1 32) (hy : y (ix2 i 0) = c) :
    vcount (cmpi .slt (keys sc) (broadcastTo S300x300 y broadcasts_S300x1_S300x300)) (ix2 i 0) = BitVec.ofNat 32 (Rank.below (row sc i) c.toNat) := by
  rw [vcount_eq, Rank.below]
  congr 2
  ext k
  have e : cmpi .slt (keys sc) (broadcastTo S300x300 y broadcasts_S300x1_S300x300) (ix2 i k) = IntOp.cmpi .slt (keys sc (ix2 i k)) (y (ix2 i 0)) := by
    pointwise
  rw [Finset.mem_filter, Finset.mem_filter, e, hy, slt_iff _ _ (key_small sc i k) hc, key_word]

theorem below_le (s : Fin 300 → EReal) (c : ℕ) : Rank.below s c ≤ 300 := by
  have := Finset.card_le_univ (Finset.univ.filter fun k => Rank.key s k < c)
  rwa [Fintype.card_fin] at this

theorem hstep_eq (sc : FVec Ideal S300x300 .f32) (i : Fin 300) (x : IVec S300x1 32 × IVec S300x1 32)
    (h : Rank.Bracket (row sc i) 100 0 (x.1 (ix2 i 0)) (x.2 (ix2 i 0)) ∨ (Rank.mid (x.1 (ix2 i 0)) (x.2 (ix2 i 0))).toNat < 2 ^ 31) :
    ((hstep (keys sc) x).1 (ix2 i 0), (hstep (keys sc) x).2 (ix2 i 0))
      = (if 100 ≤ Rank.below (row sc i) (Rank.mid (x.1 (ix2 i 0)) (x.2 (ix2 i 0))).toNat then x.1 (ix2 i 0) else Rank.mid (x.1 (ix2 i 0)) (x.2 (ix2 i 0)),
         if 100 ≤ Rank.below (row sc i) (Rank.mid (x.1 (ix2 i 0)) (x.2 (ix2 i 0))).toNat then Rank.mid (x.1 (ix2 i 0)) (x.2 (ix2 i 0)) else x.2 (ix2 i 0)) := by
  have hm : (Rank.mid (x.1 (ix2 i 0)) (x.2 (ix2 i 0))).toNat < 2 ^ 31 := by
    rcases h with h | h
    · rw [Rank.mid_toNat _ _ h.1 h.2.1]
      have := h.1
      have := h.2.1
      omega
    · exact h
  have hp : k0_pay26 x.1 x.2 (ix2 i 0) = Rank.mid (x.1 (ix2 i 0)) (x.2 (ix2 i 0)) := rfl
  have hc := count_below sc i _ hm (k0_pay26 x.1 x.2) hp
  have hb : k0_pay27 (keys sc) x.1 x.2 (ix2 i 0) = BitVec.ofBool (decide (100 ≤ Rank.below (row sc i) (Rank.mid (x.1 (ix2 i 0)) (x.2 (ix2 i 0))).toNat)) := by
    show IntOp.cmpi .sge (vcount (cmpi .slt (keys sc) (broadcastTo S300x300 (k0_pay26 x.1 x.2) broadcasts_S300x1_S300x300)) (ix2 i 0)) 100#32 = _
    refine (congrArg (fun w => IntOp.cmpi .sge w 100#32) hc).trans ?_
    have := below_le (row sc i) (Rank.mid (x.1 (ix2 i 0)) (x.2 (ix2 i 0))).toNat
    rw [show (100#32 : BitVec 32) = BitVec.ofNat 32 100 from rfl, WordCmp.cmpi_sge_ofNat (by omega) (by decide)]
  have e1 : (hstep (keys sc) x).1 (ix2 i 0) = Scalar.select (k0_pay27 (keys sc) x.1 x.2 (ix2 i 0)) (x.1 (ix2 i 0)) (k0_pay26 x.1 x.2 (ix2 i 0)) := by
    simp only [hstep, k0_pay28]
    rfl
  have e2 : (hstep (keys sc) x).2 (ix2 i 0) = Scalar.select (k0_pay27 (keys sc) x.1 x.2 (ix2 i 0)) (k0_pay26 x.1 x.2 (ix2 i 0)) (x.2 (ix2 i 0)) := by
    simp only [hstep, k0_pay29]
    rfl
  rw [e1, e2, hb, hp]
  generalize Rank.mid (x.1 (ix2 i 0)) (x.2 (ix2 i 0)) = w
  generalize x.1 (ix2 i 0) = lo
  generalize x.2 (ix2 i 0) = hi
  by_cases h : 100 ≤ Rank.below (row sc i) w.toNat
  · rw [decide_eq_true h, if_pos h, if_pos h]
    rfl
  · rw [decide_eq_false h, if_neg h, if_neg h]
    rfl

theorem kth_bracket (sc : FVec Ideal S300x300 .f32) (i : Fin 300) :
    (kth (keys sc) (ix2 i 0)).toNat < 2130706432 ∧ Rank.below (row sc i) (kth (keys sc) (ix2 i 0)).toNat < 100
      ∧ 100 ≤ Rank.below (row sc i) ((kth (keys sc) (ix2 i 0)).toNat + 1) := by
  have h := fold_keeps (fun t (x : IVec S300x1 32 × IVec S300x1 32) => Rank.Bracket (row sc i) 100 t (x.1 (ix2 i 0)) (x.2 (ix2 i 0)))
    (fun (_ : Fin k0_t2_loop.trips) x => hstep (keys sc) x) (k0_pay24, k0_pay25)
    (Rank.bracket_start (row sc i) 100 (by decide) (by decide) (by decide))
    (by
      intro k x hx
      have hk : k.val < 31 := lt_of_lt_of_eq k.isLt trips2
      have hm : (Rank.mid (x.1 (ix2 i 0)) (x.2 (ix2 i 0))).toNat < 2 ^ 31 := by
        rw [Rank.mid_toNat _ _ hx.1 hx.2.1]
        have := hx.1
        have := hx.2.1
        omega
      have e := Prod.mk.inj (hstep_eq sc i x (.inr hm))
      show Rank.Bracket _ _ _ ((hstep (keys sc) x).1 (ix2 i 0)) ((hstep (keys sc) x).2 (ix2 i 0))
      rw [e.1, e.2]
      exact Rank.bracket_step _ _ _ hk _ _ hx)
  rw [trips2] at h
  refine ⟨lt_of_lt_of_le h.1 h.2.1, Rank.bracket_end _ _ _ _ h⟩

/-- Which entries of each row are among the hundred smallest. -/
def vmask (sc : FVec Ideal S300x300 .f32) : IVec S300x300 1 :=
  k0_pay34 (F := Ideal) (keys sc) (k0_pay30 (F := Ideal) (keys sc) (kth (keys sc))) (k0_pay31 (F := Ideal) (keys sc) (kth (keys sc)))
    (k0_pay32 (F := Ideal) (keys sc) (kth (keys sc))) (k0_pay33 (kth (keys sc)))

theorem eq_iff (x y : BitVec 32) : IntOp.cmpi .eq x y = 1#1 ↔ x.toNat = y.toNat := by
  rw [WordCmp.cmpi_eq_eq_toNat, WordCmp.ofBool_decide_eq_one_iff]

theorem word_bit (b : BitVec 1) : (((b.setWidth 32).toInt : ℝ) : EReal) = if b = 1#1 then 1 else 0 := by
  rcases (by decide +revert : ∀ b : BitVec 1, b = 0#1 ∨ b = 1#1) b with rfl | rfl <;> simp

/-- The number an equality test leaves. -/
theorem tie_eq (sc : FVec Ideal S300x300 .f32) (i j : Fin 300) :
    (FloatOps.sitofp (F := Ideal) FTy.f32 (BitVec.setWidth 32 (IntOp.cmpi CmpIPredicate.eq (keys sc (ix2 i j)) (kth (keys sc) (ix2 i 0)))) : EReal)
      = if Rank.key (row sc i) j = (kth (keys sc) (ix2 i 0)).toNat then 1 else 0 := by
  refine (word_bit _).trans (if_congr ?_ rfl rfl)
  rw [eq_iff, key_word]

theorem before_eq (x j : Fin 300) :
    (FloatOps.sitofp (F := Ideal) FTy.f32 (BitVec.setWidth 32 (IntOp.cmpi CmpIPredicate.sle (BitVec.ofNat 32 x.val) (BitVec.ofNat 32 j.val))) : EReal)
      = if x ≤ j then 1 else 0 := by
  refine (word_bit _).trans (if_congr ?_ rfl rfl)
  rw [WordCmp.cmpi_sle_ofNat (by omega) (by omega), WordCmp.ofBool_decide_eq_one_iff]
  rfl

/-- The running count of ties, as the product with the triangle gives it. -/
theorem ties_eq (sc : FVec Ideal S300x300 .f32) (i j : Fin 300) :
    k0_pay32 (F := Ideal) (keys sc) (kth (keys sc)) (ix2 i j) = ((Rank.ties (row sc i) (kth (keys sc) (ix2 i 0)).toNat j : ℝ) : EReal) := by
  simp only [k0_pay32, k0_pay31]
  pointwise
  simp only [tie_eq, before_eq]
  have e (x : Fin 300) : ((if Rank.key (row sc i) x = (kth (keys sc) (ix2 i 0)).toNat then 1 else 0) * (if x ≤ j then 1 else 0) : EReal)
      = ((if x ≤ j ∧ Rank.key (row sc i) x = (kth (keys sc) (ix2 i 0)).toNat then 1 else 0 : ℕ) : EReal) := by
    by_cases h1 : Rank.key (row sc i) x = (kth (keys sc) (ix2 i 0)).toNat <;> by_cases h2 : x ≤ j <;> simp [h1, h2]
  simp only [e]
  rw [Rank.ties, Finset.card_filter, ← Nat.cast_sum]
  rfl

theorem cmpf_ogt (x y : EReal) : FloatOps.cmpf (F := Ideal) (φ := .f32) .ogt x y = BitVec.ofBool (decide (y < x)) := rfl
theorem cmpf_ole (x y : EReal) : FloatOps.cmpf (F := Ideal) (φ := .f32) .ole x y = BitVec.ofBool (decide (x ≤ y)) := rfl

theorem vmask_eq (sc : FVec Ideal S300x300 .f32) (i j : Fin 300) : vmask sc (ix2 i j) = 1#1 ↔ Rank.rank (row sc i) j < 100 := by
  obtain ⟨h0, h1, h2⟩ := kth_bracket sc i
  rw [Rank.rank_lt_iff (row sc i) 100 _ h1 h2 j]
  have hneed : k0_pay30 (F := Ideal) (keys sc) (kth (keys sc)) (ix2 i 0)
      = (((100 - Rank.below (row sc i) (kth (keys sc) (ix2 i 0)).toNat : ℕ) : ℝ) : EReal) := by
    show (((100#32 - vcount (cmpi .slt (keys sc) (broadcastTo S300x300 (kth (keys sc)) broadcasts_S300x1_S300x300)) (ix2 i 0)).toInt : ℝ) : EReal) = _
    rw [count_below sc i _ (by omega) _ rfl]
    generalize Rank.below (row sc i) (kth (keys sc) (ix2 i 0)).toNat = c at h1
    have : (100#32 - BitVec.ofNat 32 c) = BitVec.ofNat 32 (100 - c) := by
      apply BitVec.eq_of_toNat_eq
      rw [BitVec.toNat_sub_of_le (by rw [BitVec.le_def]; simp; omega)]
      simp
      omega
    rw [this, WordCmp.toInt_ofNat_of_lt (by omega)]
    norm_cast
  have ht := ties_eq sc i j
  have hk : k0_pay31 (F := Ideal) (keys sc) (kth (keys sc)) (ix2 i j) = if Rank.key (row sc i) j = (kth (keys sc) (ix2 i 0)).toNat then 1 else 0 := by
    refine Eq.trans ?_ (tie_eq sc i j)
    simp only [k0_pay31]
    pointwise
  have hl : vmask sc (ix2 i j) = IntOp.ori (IntOp.cmpi .slt (keys sc (ix2 i j)) (kth (keys sc) (ix2 i 0)))
      (IntOp.andi (FloatOps.cmpf (F := Ideal) (φ := .f32) .ogt (k0_pay31 (F := Ideal) (keys sc) (kth (keys sc)) (ix2 i j)) 0)
        (FloatOps.cmpf (F := Ideal) (φ := .f32) .ole (k0_pay32 (F := Ideal) (keys sc) (kth (keys sc)) (ix2 i j)) (k0_pay30 (F := Ideal) (keys sc) (kth (keys sc)) (ix2 i 0)))) := by
    rw [vmask]
    generalize k0_pay30 (F := Ideal) (keys sc) (kth (keys sc)) = a
    generalize k0_pay31 (F := Ideal) (keys sc) (kth (keys sc)) = b
    generalize k0_pay32 (F := Ideal) (keys sc) (kth (keys sc)) = d
    simp only [k0_pay33, k0_pay34]
    pointwise
  rw [hl, hk, ht, hneed, cmpf_ogt, cmpf_ole, WordCmp.andi_ofBool, WordCmp.cmpi_slt_of_lt (key_small sc i j) (by omega), WordCmp.ori_ofBool, WordCmp.ofBool_eq_one_iff,
    key_word]
  simp only [Bool.or_eq_true, Bool.and_eq_true, decide_eq_true_eq]
  refine or_congr Iff.rfl (and_congr ?_ ?_)
  · by_cases h : Rank.key (row sc i) j = (kth (keys sc) (ix2 i 0)).toNat <;> simp [h]
  · rw [EReal.coe_le_coe_iff, Nat.cast_le]
    omega

end Cert.Kernel6Ideal.Mask
-- ==== Proof.Score.lean ====
module

public import proofs.«01_k».proof.Proof.Mask
public import proofs.«01_k».proof.Proof.Host
public import proofs.«01_k».proof.Proof.Gen.Reference6Ideal.Read

/-! # The distance of two boxes, as the layer-0 call and its reference compute it

The boxes are given by the logits of their centres and sizes; the distance is one less the generalised overlap. -/

@[expose] public section

set_option maxRecDepth 16384

noncomputable section

namespace Cert.Score

open Idealize.ShloMosaic Cert.Spec

/-- One half. -/
def half1 : EReal := (Scalar.ofBits .f32 0x3F000000#32 : Ideal .f32)

/-- The lower end of a side of centre `x` and size `w`, and its upper end. -/
def lower (x w : EReal) : EReal := Ideal.logistic x - half1 * Ideal.logistic w
def upper (x w : EReal) : EReal := Ideal.logistic x + half1 * Ideal.logistic w

/-- The length two sides share, and the length they span. -/
def shared (x w u v : EReal) : EReal := max zero (min (upper x w) (upper u v) - max (lower x w) (lower u v))
def spanned (x w u v : EReal) : EReal := max zero (max (upper x w) (upper u v) - min (lower x w) (lower u v))

/-- The area of a box. -/
def area (x y w h : EReal) : EReal := (upper x w - lower x w) * (upper y h - lower y h)

/-- The area two boxes share, the area they cover, and the area of the box around them. -/
def inter (x y w h x' y' w' h' : EReal) : EReal := shared x w x' w' * shared y h y' h'
def union (x y w h x' y' w' h' : EReal) : EReal := area x y w h + area x' y' w' h' - inter x y w h x' y' w' h'
def hull (x y w h x' y' w' h' : EReal) : EReal := spanned x w x' w' * spanned y h y' h'

/-- The distance of two boxes. -/
def score (x y w h x' y' w' h' : EReal) : EReal :=
  one - (Ideal.div (inter x y w h x' y' w' h') (union x y w h x' y' w' h')
    - Ideal.div (hull x y w h x' y' w' h' - union x y w h x' y' w' h') (hull x y w h x' y' w' h'))

/-- The distances of the boxes of two lists. -/
def scores (a : Fin 300 → Fin 4 → EReal) (b : Fin 4 → Fin 300 → EReal) : M 300 300 := fun i j =>
  score (a i 0) (a i 1) (a i 2) (a i 3) (b 0 j) (b 1 j) (b 2 j) (b 3 j)

/-- Whether a box is among the hundred nearest ones. -/
abbrev near (a : Fin 300 → Fin 4 → EReal) (b : Fin 4 → Fin 300 → EReal) (i j : Fin 300) : Prop := Rank.rank (scores a b i) j < 100

/-- The mask: one where the box is among the hundred nearest ones, zero elsewhere. -/
def mask (a : Fin 300 → Fin 4 → EReal) (b : Fin 4 → Fin 300 → EReal) : M 300 300 := fun i j => if near a b i j then 1 else 0

end Cert.Score

namespace Cert.Kernel6Ideal.Mask

open Idealize.ShloMosaic Cert.Kernel6Ideal Cert.Kernel6Ideal.Gen Cert.KernelIdeal.Vec Cert.Spec Cert.Score

/-- The distances as the call computes them from the eight rows it loads. -/
def vscore (v0 v3 v6 v9 : Vec Ideal S1x300x1 .f32) (v24 v27 v30 v33 : Vec Ideal S1x1x300 .f32) : FVec Ideal S300x300 .f32 :=
  let v76 := k0_pay19 (F := Ideal) (k0_pay6 v0 v6) (k0_pay7 v3 v9) (k0_pay8 v0 v6) (k0_pay9 v3 v9) (k0_pay10 v24) (k0_pay11 v27) (k0_pay12 v30) v33
  let v77 := k0_pay20 (F := Ideal) (k0_pay6 v0 v6) (k0_pay7 v3 v9) (k0_pay8 v0 v6) (k0_pay9 v3 v9) (k0_pay10 v24) (k0_pay11 v27) (k0_pay12 v30) v33
  let v84 := k0_pay21 (F := Ideal) (k0_pay6 v0 v6) (k0_pay8 v0 v6) (k0_pay10 v24) (k0_pay12 v30)
  let v86 := maximumf (broadcast S300x300 (Scalar.ofBits .f32 0x00000000#32)) v84
  let v89 := maximumf (broadcastTo S300x300 (k0_pay9 (F := Ideal) v3 v9) broadcasts_S300x1_S300x300) (broadcastTo S300x300 (k0_pay17 (F := Ideal) (k0_pay11 v27) v33) broadcasts_S1x300_S300x300)
  let v92 := minimumf (broadcastTo S300x300 (k0_pay7 (F := Ideal) v3 v9) broadcasts_S300x1_S300x300) (broadcastTo S300x300 (k0_pay15 (F := Ideal) (k0_pay11 v27) v33) broadcasts_S1x300_S300x300)
  let v96 := mulf v86 (maximumf (broadcast S300x300 (Scalar.ofBits .f32 0x00000000#32)) (subf v89 v92))
  subf (broadcast S300x300 (Scalar.ofBits .f32 0x3F800000#32)) (subf v77 (divf (subf v96 v76) v96))

theorem step_eq (v0 v3 v6 v9 v24 v27 v30 v33 k acc) : k0_pay23 (F := Ideal) (k0_pay7 v3 v9) (k0_pay9 v3 v9) (k0_pay15 (k0_pay11 v27) v33) (k0_pay17 (k0_pay11 v27) v33)
    (k0_pay19 (k0_pay6 v0 v6) (k0_pay7 v3 v9) (k0_pay8 v0 v6) (k0_pay9 v3 v9) (k0_pay10 v24) (k0_pay11 v27) (k0_pay12 v30) v33)
    (k0_pay20 (k0_pay6 v0 v6) (k0_pay7 v3 v9) (k0_pay8 v0 v6) (k0_pay9 v3 v9) (k0_pay10 v24) (k0_pay11 v27) (k0_pay12 v30) v33)
    (k0_pay21 (k0_pay6 v0 v6) (k0_pay8 v0 v6) (k0_pay10 v24) (k0_pay12 v30)) k acc
    = kstep (vscore v0 v3 v6 v9 v24 v27 v30 v33) k.val acc := rfl

theorem vscore_eq (v0 v3 v6 v9 v24 v27 v30 v33) (i j : Fin 300) : vscore v0 v3 v6 v9 v24 v27 v30 v33 (ix2 i j)
    = score (v0 (ix3 0 i 0)) (v3 (ix3 0 i 0)) (v6 (ix3 0 i 0)) (v9 (ix3 0 i 0)) (v24 (ix3 0 0 j)) (v27 (ix3 0 0 j)) (v30 (ix3 0 0 j)) (v33 (ix3 0 0 j)) := by
  simp only [vscore, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21,
    score, inter, union, hull, area, shared, spanned, lower, upper, half1, zero, one]
  pointwise

theorem word_unit (b : BitVec 1) : (FloatOps.sitofp (F := Ideal) .f32 (b.setWidth 32) : EReal) = if b = 1#1 then 1 else 0 := by
  rcases (by revert b; decide : ∀ b : BitVec 1, b = 0#1 ∨ b = 1#1) b with h | h <;> subst h
  · rw [if_neg (by decide)]
    show (((BitVec.setWidth 32 0#1).toInt : ℝ) : EReal) = 0
    rw [show (BitVec.setWidth 32 0#1).toInt = 0 by decide]
    simp
  · rw [if_pos rfl]
    show (((BitVec.setWidth 32 1#1).toInt : ℝ) : EReal) = 1
    rw [show (BitVec.setWidth 32 1#1).toInt = 1 by decide]
    simp

end Cert.Kernel6Ideal.Mask
-- ==== Proof.HostMask.lean ====
module

public import proofs.«01_k».proof.Proof.Score
public import proofs.«01_k».proof.Proof.Gen.Reference6Ideal.Read

/-! # The reference's mask: which boxes are among the hundred nearest -/

@[expose] public section

set_option maxRecDepth 16384

noncomputable section

namespace Cert.Reference6Ideal.HostMask

open Idealize.ShloMosaic Cert.Reference6Ideal Cert.Reference6Ideal.Gen Cert.Reference6Ideal.Read Cert.Spec Cert.Score

/-- The logits of page `p` of the boxes given row by row, and of those given column by column. -/
def rowsOf (x : FVec Ideal S2x300x4 .f32) (p : Fin 2) : Fin 300 → Fin 4 → EReal := fun i k => x (ix3 p i k)
def colsOf (x : FVec Ideal S2x4x300 .f32) (p : Fin 2) : Fin 4 → Fin 300 → EReal := fun k j => x (ix3 p k j)

variable (x0 : FVec Ideal S2x300x4 .f32) (x1 : FVec Ideal S2x4x300 .f32) (p : Fin 2) (i j : Fin 300)

/-! ## The ends of the boxes, and their distances -/

theorem v42_eq (k : Fin 1) : val_main_v42 (F := Ideal) x0 (ix3 p i k) = lower (x0 (ix3 p i 0)) (x0 (ix3 p i 2)) := by
  simp only [val_main_v42, val_main_v41, val_main_v30, val_main_v29, val_main_v27, val_main_v25, val_main_v24, val_main_v23, val_main_v22, val_main_v26, val_main_cst_3, val_main_v28, val_main_cst_4, val_main_v40, val_main_cst_7, val_main_v12, val_main_v11, val_main_v9, val_main_v7, val_main_v6, val_main_v5, val_main_v4, val_main_v8, val_main_cst, val_main_v10, val_main_cst_0, lower, upper, half1, Ideal.logistic]
  pointwise

theorem v45_eq (k : Fin 1) : val_main_v45 (F := Ideal) x0 (ix3 p i k) = lower (x0 (ix3 p i 1)) (x0 (ix3 p i 3)) := by
  simp only [val_main_v45, val_main_v44, val_main_v39, val_main_v38, val_main_v36, val_main_v34, val_main_v33, val_main_v32, val_main_v31, val_main_v35, val_main_cst_5, val_main_v37, val_main_cst_6, val_main_v43, val_main_cst_8, val_main_v21, val_main_v20, val_main_v18, val_main_v16, val_main_v15, val_main_v14, val_main_v13, val_main_v17, val_main_cst_1, val_main_v19, val_main_cst_2, lower, upper, half1, Ideal.logistic]
  pointwise

theorem v48_eq (k : Fin 1) : val_main_v48 (F := Ideal) x0 (ix3 p i k) = upper (x0 (ix3 p i 0)) (x0 (ix3 p i 2)) := by
  simp only [val_main_v48, val_main_v47, val_main_v30, val_main_v29, val_main_v27, val_main_v25, val_main_v24, val_main_v23, val_main_v22, val_main_v26, val_main_cst_3, val_main_v28, val_main_cst_4, val_main_v46, val_main_cst_9, val_main_v12, val_main_v11, val_main_v9, val_main_v7, val_main_v6, val_main_v5, val_main_v4, val_main_v8, val_main_cst, val_main_v10, val_main_cst_0, lower, upper, half1, Ideal.logistic]
  pointwise

theorem v51_eq (k : Fin 1) : val_main_v51 (F := Ideal) x0 (ix3 p i k) = upper (x0 (ix3 p i 1)) (x0 (ix3 p i 3)) := by
  simp only [val_main_v51, val_main_v50, val_main_v39, val_main_v38, val_main_v36, val_main_v34, val_main_v33, val_main_v32, val_main_v31, val_main_v35, val_main_cst_5, val_main_v37, val_main_cst_6, val_main_v49, val_main_cst_10, val_main_v21, val_main_v20, val_main_v18, val_main_v16, val_main_v15, val_main_v14, val_main_v13, val_main_v17, val_main_cst_1, val_main_v19, val_main_cst_2, lower, upper, half1, Ideal.logistic]
  pointwise

theorem v90_eq (k : Fin 1) : val_main_v90 (F := Ideal) x1 (ix3 p k j) = lower (x1 (ix3 p 0 j)) (x1 (ix3 p 2 j)) := by
  simp only [val_main_v90, val_main_v89, val_main_v78, val_main_v77, val_main_v75, val_main_v73, val_main_v72, val_main_v71, val_main_v70, val_main_v74, val_main_cst_15, val_main_v76, val_main_cst_16, val_main_v88, val_main_cst_19, val_main_v60, val_main_v59, val_main_v57, val_main_v55, val_main_v54, val_main_v53, val_main_v52, val_main_v56, val_main_cst_11, val_main_v58, val_main_cst_12, lower, upper, half1, Ideal.logistic]
  pointwise

theorem v93_eq (k : Fin 1) : val_main_v93 (F := Ideal) x1 (ix3 p k j) = lower (x1 (ix3 p 1 j)) (x1 (ix3 p 3 j)) := by
  simp only [val_main_v93, val_main_v92, val_main_v87, val_main_v86, val_main_v84, val_main_v82, val_main_v81, val_main_v80, val_main_v79, val_main_v83, val_main_cst_17, val_main_v85, val_main_cst_18, val_main_v91, val_main_cst_20, val_main_v69, val_main_v68, val_main_v66, val_main_v64, val_main_v63, val_main_v62, val_main_v61, val_main_v65, val_main_cst_13, val_main_v67, val_main_cst_14, lower, upper, half1, Ideal.logistic]
  pointwise

theorem v96_eq (k : Fin 1) : val_main_v96 (F := Ideal) x1 (ix3 p k j) = upper (x1 (ix3 p 0 j)) (x1 (ix3 p 2 j)) := by
  simp only [val_main_v96, val_main_v95, val_main_v78, val_main_v77, val_main_v75, val_main_v73, val_main_v72, val_main_v71, val_main_v70, val_main_v74, val_main_cst_15, val_main_v76, val_main_cst_16, val_main_v94, val_main_cst_21, val_main_v60, val_main_v59, val_main_v57, val_main_v55, val_main_v54, val_main_v53, val_main_v52, val_main_v56, val_main_cst_11, val_main_v58, val_main_cst_12, lower, upper, half1, Ideal.logistic]
  pointwise

theorem v99_eq (k : Fin 1) : val_main_v99 (F := Ideal) x1 (ix3 p k j) = upper (x1 (ix3 p 1 j)) (x1 (ix3 p 3 j)) := by
  simp only [val_main_v99, val_main_v98, val_main_v87, val_main_v86, val_main_v84, val_main_v82, val_main_v81, val_main_v80, val_main_v79, val_main_v83, val_main_cst_17, val_main_v85, val_main_cst_18, val_main_v97, val_main_cst_22, val_main_v69, val_main_v68, val_main_v66, val_main_v64, val_main_v63, val_main_v62, val_main_v61, val_main_v65, val_main_cst_13, val_main_v67, val_main_cst_14, lower, upper, half1, Ideal.logistic]
  pointwise

theorem v149_eq : val_main_v149 (F := Ideal) x0 x1 (ix3 p i j) = scores (rowsOf x0 p) (colsOf x1 p) i j := by
  simp only [val_main_v149, val_main_v147, val_main_v146, val_main_v143, val_main_v142, val_main_v141, val_main_v140, val_main_v139, val_main_v138, val_main_v137, val_main_v136, val_main_v135, val_main_call3_v1, val_main_call3_v0, val_main_cst_26, val_main_v134, val_main_v133, val_main_v132, val_main_v131, val_main_v130, val_main_v129, val_main_v128, val_main_v127, val_main_call2_v1, val_main_call2_v0, val_main_cst_25, val_main_v145, val_main_v126, val_main_v116, val_main_v115, val_main_v114, val_main_v113, val_main_v112, val_main_v111, val_main_v110, val_main_v109, val_main_v108, val_main_call1_v1, val_main_call1_v0, val_main_cst_24, val_main_v107, val_main_v106, val_main_v105, val_main_v104, val_main_v103, val_main_v102, val_main_v101, val_main_v100, val_main_call0_v1, val_main_call0_v0, val_main_cst_23, val_main_v125, val_main_v124, val_main_v122, val_main_v121, val_main_v120, val_main_v123, val_main_v119, val_main_v118, val_main_v117, val_main_v144, val_main_v148, val_main_cst_27]
  pointwise
  simp only [v42_eq, v45_eq, v48_eq, v51_eq, v90_eq, v93_eq, v96_eq, v99_eq]
  have z : id (constant S_ .f32 0x00000000#32 : FVec Ideal S_ .f32) ix0 = (0 : EReal) := by
    rw [id]
    pointwise
  rw [z]
  rfl

/-- The sort's comparator is the order of the numbers. -/
theorem settled (x : Ideal .f32) : Scalar.select (FloatOps.cmpf .une x x) (FloatOps.ofBits .f32 0x7FC00000#32)
    (Scalar.select (FloatOps.cmpf .oeq x (FloatOps.ofBits .f32 0x00000000#32)) (FloatOps.ofBits .f32 0x00000000#32) x) = x := by
  have h1 : FloatOps.cmpf .une x x = BitVec.ofBool (decide (x ≠ x)) := rfl
  have h2 : FloatOps.cmpf .oeq x (FloatOps.ofBits .f32 0x00000000#32) = BitVec.ofBool (decide (x = (FloatOps.ofBits (F := Ideal) .f32 0x00000000#32))) := rfl
  rw [h1, h2]
  simp only [Scalar.select]
  rw [if_neg (by simp)]
  split
  · next h => exact ((WordCmp.ofBool_decide_eq_one_iff _).mp h).symm
  · rfl

theorem cmp_eq (l r : Ideal .f32 × BitVec 32) : comparator_f32_i32_d2 (F := Ideal) l r = BitVec.ofBool (decide (l.1 < r.1)) := by
  unfold comparator_f32_i32_d2
  simp only [settled]
  rfl

/-- Some word of a list is one exactly when their disjunction is. -/
theorem fold_ori {n : ℕ} (f : Fin n → BitVec 1) : Finset.fold IntOp.ori 0#1 f Finset.univ = 1#1 ↔ ∃ q, f q = 1#1 := by
  have e (s : Finset (Fin n)) : Finset.fold IntOp.ori 0#1 f s = 1#1 ↔ ∃ q ∈ s, f q = 1#1 := by
    induction s using Finset.induction_on with
    | empty => simp
    | insert a s ha ih =>
      have h (x y : BitVec 1) : IntOp.ori x y = 1#1 ↔ x = 1#1 ∨ y = 1#1 := by
        revert x y
        decide
      rw [Finset.fold_insert ha, h, ih]
      simp
  rw [e]
  simp

/-- The sorted positions: place `q` of row `i` holds the position whose number comes there. -/
theorem v150_eq (q : Fin 300) : val_main_v150 (F := Ideal) x0 x1 (ix3 p i q)
    = BitVec.ofNat 32 (sortedFrom (fun a b => decide ((val_main_v149 (F := Ideal) x0 x1 (ix3 p i a) : EReal) < val_main_v149 (F := Ideal) x0 x1 (ix3 p i b))) q).val := by
  have along (h : 2 < S2x300x300.rank) (k : Fin 300) : (ix3 p i q : S2x300x300.Idx).along ⟨2, h⟩ k = ix3 p i k := by
    funext a
    fin_cases a <;> rfl
  rw [val_main_v150, val_main_call4_v0]
  generalize val_main_v149 (F := Ideal) x0 x1 = s
  have cmp (k k' : Fin 300) : (comparator_f32_i32_d2 (F := Ideal) (s (ix3 p i k), iotaInDim S2x300x300 32 2 (ix3 p i k)) (s (ix3 p i k'), iotaInDim S2x300x300 32 2 (ix3 p i k')) == 1#1)
      = decide ((s (ix3 p i k) : EReal) < s (ix3 p i k')) := by
    rw [cmp_eq]
    by_cases h : (s (ix3 p i k) : EReal) < s (ix3 p i k') <;> simp [h]
  rw [Host.sort2, dif_pos (by decide)]
  refine (congrArg (iotaInDim S2x300x300 32 2) (along (by decide) _)).trans ?_
  refine congrArg (fun b => BitVec.ofNat 32 (sortedFrom b q).val) (funext fun k => funext fun k' => ?_)
  exact (congrArg₂ (fun u v : S2x300x300.Idx => comparator_f32_i32_d2 (F := Ideal) (s u, iotaInDim S2x300x300 32 2 u) (s v, iotaInDim S2x300x300 32 2 v) == 1#1)
    (along (by decide) k) (along (by decide) k')).trans (cmp k k')

theorem v158_eq : val_main_v158 (F := Ideal) x0 x1 (ix3 p i j) = 1#1 ↔ Rank.rank (fun k => (val_main_v149 (F := Ideal) x0 x1 (ix3 p i k) : EReal)) j < 100 := by
  rw [← Rank.exists_sortedFrom_iff]
  simp only [val_main_v158, val_main_c, val_main_v157, val_main_v156, val_main_v154, val_main_v153, val_main_v155, val_main_v152, val_main_v151]
  pointwise
  rw [fold_ori]
  simp only [v150_eq]
  generalize (fun a b : Fin 300 => decide ((val_main_v149 (F := Ideal) x0 x1 (ix3 p i a) : EReal) < val_main_v149 (F := Ideal) x0 x1 (ix3 p i b))) = lt
  have e (a b : Fin 300) : IntOp.cmpi .eq (BitVec.ofNat 32 a.val) (BitVec.ofNat 32 b.val) = 1#1 ↔ a = b :=
    (WordCmp.cmpi_eq_ofNat_eq_one_iff (by omega) (by omega)).trans Fin.ext_iff.symm
  simp only [e]
  constructor
  · rintro ⟨q, h⟩
    exact ⟨⟨q.val, by omega⟩, q.isLt, h⟩
  · rintro ⟨q, hq, h⟩
    exact ⟨⟨q.val, hq⟩, h⟩

theorem word_unit (b : BitVec 1) : (FloatOps.uitofp (F := Ideal) .f32 b : EReal) = if b = 1#1 then 1 else 0 := by
  rcases (by revert b; decide : ∀ b : BitVec 1, b = 0#1 ∨ b = 1#1) b with h | h <;> subst h
  · rw [if_neg (by decide)]
    show (((0#1 : BitVec 1).toNat : ℝ) : EReal) = 0
    simp
  · rw [if_pos rfl]
    show (((1#1 : BitVec 1).toNat : ℝ) : EReal) = 1
    simp

/-- The mask: one where the box is among the hundred nearest ones, zero elsewhere. -/
theorem v159_eq : (val_main_v159 (F := Ideal) x0 x1 (ix3 p i j) : EReal) = mask (rowsOf x0 p) (colsOf x1 p) i j := by
  have h : val_main_v158 (F := Ideal) x0 x1 (ix3 p i j) = 1#1 ↔ near (rowsOf x0 p) (colsOf x1 p) i j := by
    rw [v158_eq, near]
    simp only [v149_eq]
  rw [mask, ← if_congr h rfl rfl]
  exact word_unit _

end Cert.Reference6Ideal.HostMask
-- ==== Proof.Layer.lean ====
module

public import proofs.«01_k».proof.Proof.Score
public import proofs.«01_k».proof.Proof.Pages

/-! # The layer-0 call's values, one after the other: its three parts on the rows of a block -/

@[expose] public section

set_option maxRecDepth 16384

noncomputable section

namespace Cert.Kernel6Ideal.Layer

open Idealize.ShloMosaic Idealize.ShloMosaic.TcCoe Cert.Kernel6Ideal Cert.Kernel6Ideal.Gen Cert.KernelIdeal.Vec Cert.Spec

theorem dot1 : Cert.Kernel6Ideal.dot_S300x256_S256x256_S300x256_1_0_0_1_n_n = Cert.KernelIdeal.dot_S300x256_S256x256_S300x256_1_0_0_1_n_n := rfl
theorem dot2 : Cert.Kernel6Ideal.dot_S300x32_S300x32_S300x300_1_1_0_0_n_n = Cert.KernelIdeal.dot_S300x32_S300x32_S300x300_1_1_0_0_n_n := rfl
theorem dot3 : Cert.Kernel6Ideal.dot_S300x300_S300x32_S300x32_1_0_0_1_n_n = Cert.KernelIdeal.dot_S300x300_S300x32_S300x32_1_0_0_1_n_n := rfl
theorem dot4 : Cert.Kernel6Ideal.dot_S300x32_S4096x32_S300x4096_1_1_0_0_n_n = Cert.KernelIdeal.dot_S300x32_S4096x32_S300x4096_1_1_0_0_n_n := rfl
theorem dot5 : Cert.Kernel6Ideal.dot_S300x4096_S4096x32_S300x32_1_0_0_1_n_n = Cert.KernelIdeal.dot_S300x4096_S4096x32_S300x32_1_0_0_1_n_n := rfl
theorem dot6 : Cert.Kernel6Ideal.dot_S300x256_S256x2048_S300x2048_1_0_0_1_n_n = Cert.KernelIdeal.dot_S300x256_S256x2048_S300x2048_1_0_0_1_n_n := rfl
theorem dot7 : Cert.Kernel6Ideal.dot_S300x2048_S2048x256_S300x256_1_0_0_1_n_n = Cert.KernelIdeal.dot_S300x2048_S2048x256_S300x256_1_0_0_1_n_n := rfl
theorem named_eq : (Named.named Cert.Kernel6Ideal.κ "s" 0x3E3504F3#32 : Ideal .f32) = Named.named Cert.KernelIdeal.κ "s" 0x3E3504F3#32 := rfl

theorem q_eq (x qp wq bq) : k0_pay37 (F := Ideal) x qp wq bq = vscale (vlin (addf x qp) wq bq) := by
  simp only [k0_pay37, k0_pay36, vscale, vlin, shapeCast_self, dot1, named_eq]
theorem k_eq (x qp wk bk) : k0_pay38 (F := Ideal) x qp wk bk = vlin (addf x qp) wk bk := by
  simp only [k0_pay38, k0_pay36, vlin, shapeCast_self, dot1]
theorem v_eq (x wv bv) : k0_pay39 (F := Ideal) x wv bv = vlin x wv bv := by
  simp only [k0_pay39, vlin, shapeCast_self, dot1]

set_option maxHeartbeats 1000000 in
/-- The self-attention heads, put together, through the output layer, and the rows added. -/
theorem sa_eq (mk x q k v wo bo) :
    k0_pay52 (F := Ideal) mk x q k v (k0_pay40 mk q k v) (k0_pay41 mk q k v) (k0_pay44 mk v (k0_pay42 q) (k0_pay43 k)) (k0_pay45 mk q k v)
      (k0_pay48 mk v (k0_pay46 q k) (k0_pay47 (F := Ideal))) (k0_pay49 mk q k v) (k0_pay50 mk q k) (k0_pay51 mk q k) wo bo
    = addf (vlin (saHeads mk q k v) wo bo) x := by
  simp only [saHeads, k0_pay52, k0_pay51, k0_pay50, k0_pay49, k0_pay48, k0_pay47, k0_pay46, k0_pay45, k0_pay44, k0_pay43, k0_pay42, k0_pay41, k0_pay40]
  simp only [saHead, saCtx, saInv, saEx, saScore, vlin, shapeCast_self, dot1, dot2, dot3]

theorem ln1_eq (y g b) : k0_pay53 (F := Ideal) y g b = vln y g b := by
  simp only [k0_pay53, vln, vcen, vmean, shapeCast_self]

theorem qs_eq (qp y g b wq bq) : k0_pay54 (F := Ideal) qp y g b wq bq = vscale (vlin (addf (vln y g b) qp) wq bq) := by
  simp only [k0_pay54, ln1_eq, vscale, vlin, shapeCast_self, dot1, named_eq]
theorem ks_eq (x) : k0_pay55 (F := Ideal) x = ks x := by simp only [k0_pay55, ks]
theorem vs_eq (x) : k0_pay56 (F := Ideal) x = ks x := by simp only [k0_pay56, ks]
theorem first_eq (qp y g b wq bq x) : k0_pay57 (F := Ideal) qp y g b wq bq x
    = caScore 0 slices_S300x256_o0_0_S300x32 slices_S4096x256_o0_0_S4096x32 (k0_pay54 (F := Ideal) qp y g b wq bq) (k0_pay55 (F := Ideal) x) := by
  simp only [k0_pay57, caScore, dot4]

set_option maxHeartbeats 1000000 in
/-- The cross-attention heads, put together. -/
theorem ca_eq (q k v) :
    k0_pay68 (F := Ideal) q k v (k0_pay58 v (caScore 0 slices_S300x256_o0_0_S300x32 slices_S4096x256_o0_0_S4096x32 q k)) (k0_pay59 q k v) (k0_pay64 (k0_pay61 q k) (k0_pay62 v) (k0_pay63 q k))
      (k0_pay65 q k v) (k0_pay66 q k v) (k0_pay67 q k)
    = caHeads q k v := by
  simp only [caHeads, k0_pay68, k0_pay67, k0_pay66, k0_pay65, k0_pay64, k0_pay63, k0_pay62, k0_pay61, k0_pay60, k0_pay59, k0_pay58]
  simp only [caHead, caCtx, caEx, caInv, caScore, dot4, dot5]

theorem ln2_eq (x h wo bo g b) : k0_pay69 (F := Ideal) x h wo bo g b = vln (addf (vlin h wo bo) x) g b := by
  simp only [k0_pay69, vln, vcen, vmean, vlin, shapeCast_self, dot1]

theorem ff_eq (x h wo bo g b w1 b1 w2 b2 g3 c3) : k0_pay71 (F := Ideal) (k0_pay69 x h wo bo g b) (k0_pay70 x h wo bo g b w1 b1) w2 b2 g3 c3 = vff (k0_pay69 (F := Ideal) x h wo bo g b) w1 b1 w2 b2 g3 c3 := by
  simp only [k0_pay71, k0_pay70]
  generalize k0_pay69 (F := Ideal) x h wo bo g b = y
  simp only [vff, vffn, vhid, vln, vcen, vmean, shapeCast_self, dot6, dot7]

end Cert.Kernel6Ideal.Layer
-- ==== Proof.Kernel6Ideal.RunA.lean ====
module

public import proofs.«01_k».proof.Proof.Gen.Kernel6Ideal.Frame.Runs

/-! # The layer-0 call: its body, run once -/

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 12000000 in
noncomputable def kernelRun0_A (c : Dev nD) (i : grid0.Coords) (arg1 : Memref sig .tc .vmem S1x300x4 .f32) (harg1 : arg1.IsWhole) (arg2 : Memref sig .tc .vmem S1x4x300 .f32) (harg2 : arg2.IsWhole) (arg3 : Memref sig .tc .vmem S300x256 .f32) (harg3 : arg3.IsWhole) (arg4 : Memref sig .tc .vmem S300x256 .f32) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S256x256 .bf16) (harg13 : arg13.IsWhole) (arg14 : Memref sig .tc .vmem S1x256 .f32) (harg14 : arg14.IsWhole) (arg15 : Memref sig .tc .vmem S256x256 .bf16) (harg15 : arg15.IsWhole) (arg16 : Memref sig .tc .vmem S1x256 .f32) (harg16 : arg16.IsWhole) (arg17 : Memref sig .tc .vmem S256x256 .bf16) (harg17 : arg17.IsWhole) (arg18 : Memref sig .tc .vmem S1x256 .f32) (harg18 : arg18.IsWhole) (arg19 : Memref sig .tc .vmem S256x2048 .bf16) (harg19 : arg19.IsWhole) (arg20 : Memref sig .tc .vmem S1x2048 .f32) (harg20 : arg20.IsWhole) (arg21 : Memref sig .tc .vmem S2048x256 .bf16) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S1x300x256 .f32) (harg29 : arg29.IsWhole) (arg30 : Memref sig .tc .vmem S1x300x300 .f32) (harg30 : arg30.IsWhole)
    (x0 : Vec F S1x300x4 .f32) (x1 : Vec F S1x4x300 .f32) (x2 : Vec F S300x256 .f32) (x3 : Vec F S300x256 .f32) (x4 : Vec F S1x4096x256 .bf16) (x5 : Vec F S1x4096x256 .bf16) (x6 : Vec F S256x256 .bf16) (x7 : Vec F S1x256 .f32) (x8 : Vec F S256x256 .bf16) (x9 : Vec F S1x256 .f32) (x10 : Vec F S256x256 .bf16) (x11 : Vec F S1x256 .f32) (x12 : Vec F S256x256 .bf16) (x13 : Vec F S1x256 .f32) (x14 : Vec F S256x256 .bf16) (x15 : Vec F S1x256 .f32) (x16 : Vec F S256x256 .bf16) (x17 : Vec F S1x256 .f32) (x18 : Vec F S256x2048 .bf16) (x19 : Vec F S1x2048 .f32) (x20 : Vec F S2048x256 .bf16) (x21 : Vec F S1x256 .f32) (x22 : Vec F S1x256 .f32) (x23 : Vec F S1x256 .f32) (x24 : Vec F S1x256 .f32) (x25 : Vec F S1x256 .f32) (x26 : Vec F S1x256 .f32) (x27 : Vec F S1x256 .f32) :
    Σ' (L28 : List (View.Piece (Elt F) S1x300x256 .f32)), { L29 : List (View.Piece (Elt F) S1x300x300 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29)) -∗ K ⟨⟩))
          ⊢ wp frame (wpE (defs₀ (F := F)) Variants.none c none) E (cc0__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, fun E K => ?run⟩
  case run =>
    simp only [cc0__layer_kernel_eq_skeleton]; unfold cc0__layer_kernel_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%d29, %f29, -, H29⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]; · iexists _; iexact H28
    iexists _; iexact H29

end Cert.Kernel6Ideal.Gen

end
-- ==== Proof.Kernel6Ideal.Frame.lean ====
module

public import proofs.«01_k».proof.Proof.Kernel6Ideal.RunA
public import Idealize.ShloMosaic.Lib.Claim

/-! # The layer-0 call: what it leaves point by point, its run, and the frame -/

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Body
variable (c : Dev nD) (i : grid0.Coords) (arg1 : Memref sig .tc .vmem S1x300x4 .f32) (harg1 : arg1.IsWhole) (arg2 : Memref sig .tc .vmem S1x4x300 .f32) (harg2 : arg2.IsWhole) (arg3 : Memref sig .tc .vmem S300x256 .f32) (harg3 : arg3.IsWhole) (arg4 : Memref sig .tc .vmem S300x256 .f32) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S256x256 .bf16) (harg13 : arg13.IsWhole) (arg14 : Memref sig .tc .vmem S1x256 .f32) (harg14 : arg14.IsWhole) (arg15 : Memref sig .tc .vmem S256x256 .bf16) (harg15 : arg15.IsWhole) (arg16 : Memref sig .tc .vmem S1x256 .f32) (harg16 : arg16.IsWhole) (arg17 : Memref sig .tc .vmem S256x256 .bf16) (harg17 : arg17.IsWhole) (arg18 : Memref sig .tc .vmem S1x256 .f32) (harg18 : arg18.IsWhole) (arg19 : Memref sig .tc .vmem S256x2048 .bf16) (harg19 : arg19.IsWhole) (arg20 : Memref sig .tc .vmem S1x2048 .f32) (harg20 : arg20.IsWhole) (arg21 : Memref sig .tc .vmem S2048x256 .bf16) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S1x300x256 .f32) (harg29 : arg29.IsWhole) (arg30 : Memref sig .tc .vmem S1x300x300 .f32) (harg30 : arg30.IsWhole)
    (x0 : Vec F S1x300x4 .f32) (x1 : Vec F S1x4x300 .f32) (x2 : Vec F S300x256 .f32) (x3 : Vec F S300x256 .f32) (x4 : Vec F S1x4096x256 .bf16) (x5 : Vec F S1x4096x256 .bf16) (x6 : Vec F S256x256 .bf16) (x7 : Vec F S1x256 .f32) (x8 : Vec F S256x256 .bf16) (x9 : Vec F S1x256 .f32) (x10 : Vec F S256x256 .bf16) (x11 : Vec F S1x256 .f32) (x12 : Vec F S256x256 .bf16) (x13 : Vec F S1x256 .f32) (x14 : Vec F S256x256 .bf16) (x15 : Vec F S1x256 .f32) (x16 : Vec F S256x256 .bf16) (x17 : Vec F S1x256 .f32) (x18 : Vec F S256x2048 .bf16) (x19 : Vec F S1x2048 .f32) (x20 : Vec F S2048x256 .bf16) (x21 : Vec F S1x256 .f32) (x22 : Vec F S1x256 .f32) (x23 : Vec F S1x256 .f32) (x24 : Vec F S1x256 .f32) (x25 : Vec F S1x256 .f32) (x26 : Vec F S1x256 .f32) (x27 : Vec F S1x256 .f32)

theorem cover0_A_28 (y : S1x300x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).1, y ∈ pc.1.set :=
  View.cover_of_tiledL _ S1x300x256.size (by sl_kernel_rfl) y

/-- What the run leaves in output 28's staging buffer: its pieces read back over junk. -/
def out0_A_28 : Vec F S1x300x256 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).1)

theorem cover0_A_29 (y : S1x300x300.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).2.1, y ∈ pc.1.set :=
  View.cover_of_tiledL _ S1x300x300.size (by sl_kernel_rfl) y

/-- What the run leaves in output 29's staging buffer: its pieces read back over junk. -/
def out0_A_29 : Vec F S1x300x300 .f32 :=
  VO0_29.read (Elt F) (VO0_29.writes (Elt F) VO0_29.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).2.1)

end Body

/-! ## What the outputs hold after each point -/

def outsAt0 (c : Dev nD) (t : Fin cfg0.N) : Vec F S1x300x256 .f32 × Vec F S1x300x300 .f32 :=
  (out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => (outsAt0 m c t).1
    | ⟨29, _⟩ => (outsAt0 m c t).2
    | ⟨_ + 30, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = (outsAt0 m c t).1 := by dsimp only [dats]
theorem after0_29 (c : Dev nD) (t : Fin cfg0.N) : (dats m 0 c).after 29 t = (outsAt0 m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 2800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  unfold outsAt0
  unfold out0_A_28 out0_A_29; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, ⟨%e28, H28⟩, ⟨%e29, H29⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H29
  ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 8000000 in
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))
      ∧ r.2.sem = fun _ => 0) :=
  θ_run_and (unchanged m ρ) ((θ_run defs _ _).mono (fun _ h => h.2) (run_main_quiescent m ρ))

end Cert.Kernel6Ideal.Gen

end
-- ==== Proof.Kernel6Ideal.Value.lean ====
module

public import proofs.«01_k».proof.Proof.Kernel6Ideal.Frame
public import Idealize.ShloMosaic.Lib.Pipeline.Value

/-! # The layer-0 call: its output arrays, block by block -/

@[expose] public section

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## What the call leaves -/

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v0_0) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v0_1) = (dats m 0 c).arrAt 29 cfg0.N :=
  (h c).1 29

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 16).trans (((dats m 0 c).arrAt_in 16 rfl _).trans ((A_eq m c 16).trans (V_main_arg16 m c)))

theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).1 17).trans (((dats m 0 c).arrAt_in 17 rfl _).trans ((A_eq m c 17).trans (V_main_arg17 m c)))

theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 18).trans (((dats m 0 c).arrAt_in 18 rfl _).trans ((A_eq m c 18).trans (V_main_arg18 m c)))

theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).1 19).trans (((dats m 0 c).arrAt_in 19 rfl _).trans ((A_eq m c 19).trans (V_main_arg19 m c)))

theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).1 20).trans (((dats m 0 c).arrAt_in 20 rfl _).trans ((A_eq m c 20).trans (V_main_arg20 m c)))

theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).1 21).trans (((dats m 0 c).arrAt_in 21 rfl _).trans ((A_eq m c 21).trans (V_main_arg21 m c)))

theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).1 22).trans (((dats m 0 c).arrAt_in 22 rfl _).trans ((A_eq m c 22).trans (V_main_arg22 m c)))

theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).1 23).trans (((dats m 0 c).arrAt_in 23 rfl _).trans ((A_eq m c 23).trans (V_main_arg23 m c)))

theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).1 24).trans (((dats m 0 c).arrAt_in 24 rfl _).trans ((A_eq m c 24).trans (V_main_arg24 m c)))

theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).1 25).trans (((dats m 0 c).arrAt_in 25 rfl _).trans ((A_eq m c 25).trans (V_main_arg25 m c)))

theorem kept_main_arg26 (r : PUnit × MemSt nD τ sig (Elt F)) (h : Pipeline.FramePost cfgs (dats m) 0 (V m) r) (c : Dev nD) :
    r.2.mem ((c : Thread nD τ).loc main_arg26) = m ((c : Thread nD τ).loc main_arg26) :=
  ((h c).1 26).trans (((dats m 0 c).arrAt_in 26 rfl _).trans ((A_eq m c 26).trans (V_main_arg26 m c)))

theorem kept_main_arg27 (r : PUnit × MemSt nD τ sig (Elt F)) (h : Pipeline.FramePost cfgs (dats m) 0 (V m) r) (c : Dev nD) :
    r.2.mem ((c : Thread nD τ).loc main_arg27) = m ((c : Thread nD τ).loc main_arg27) :=
  ((h c).1 27).trans (((dats m 0 c).arrAt_in 27 rfl _).trans ((A_eq m c 27).trans (V_main_arg27 m c)))

theorem run_blocks : θ_run defs (onTc (τ := τ) (main (F := F))) ⟨m, fun _ => 0, ρ⟩ fun r => ∀ c : Dev nD,
      r.2.mem ((c : Thread nD τ).loc main_v0_0) = (dats m 0 c).arrAt 28 cfg0.N
      ∧ r.2.mem ((c : Thread nD τ).loc main_v0_1) = (dats m 0 c).arrAt 29 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27) :=
  (θ_run defs _ _).mono (fun r h c => ⟨post28 m r h c,
      post29 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c,
      kept_main_arg27 m r h c⟩)
    (run_main m ρ)

end Cert.Kernel6Ideal.Value

end
-- ==== Proof.K6.lean ====
module

public import proofs.«01_k».proof.Proof.Layer
public import proofs.«01_k».proof.Proof.Kernel6Ideal.Value

/-! # What the layer-0 call's two arrays hold -/

@[expose] public section

set_option maxRecDepth 16384

noncomputable section

namespace Cert.Kernel6Ideal.Arr

open Idealize.ShloMosaic Idealize.ShloMosaic.TcCoe Cert.Kernel6Ideal Cert.Kernel6Ideal.Gen Cert.Kernel6Ideal.Layer Cert.Kernel6Ideal.Mask Cert.KernelIdeal.Vec Cert.Spec Cert.Score
open Idealize.ShloMosaic.Pipeline (Dat)

variable (m : (ℓ : Loc nD τ sig) → Buf (Elt Ideal) ℓ) (c : Dev nD) (t : Fin cfg0.N)

section Words
variable (a1 : Memref sig .tc .vmem S1x300x4 .f32) (h1 : a1.IsWhole) (a2 : Memref sig .tc .vmem S1x4x300 .f32) (h2 : a2.IsWhole) (x0 : Vec Ideal S1x300x4 .f32) (x1 : Vec Ideal S1x4x300 .f32)

/-- The distances of the boxes of two blocks. -/
def dist : FVec Ideal S300x300 .f32 :=
  vscore (View.ld x0 (Rect.unit ![0, 0, 0] S1x300x1.size inb_S1x300x4_S1x300x1_0_0_0)) (View.ld x0 (Rect.unit ![0, 0, 1] S1x300x1.size inb_S1x300x4_S1x300x1_0_0_1))
    (View.ld x0 (Rect.unit ![0, 0, 2] S1x300x1.size inb_S1x300x4_S1x300x1_0_0_2)) (View.ld x0 (Rect.unit ![0, 0, 3] S1x300x1.size inb_S1x300x4_S1x300x1_0_0_3))
    (View.ld x1 (Rect.unit ![0, 0, 0] S1x1x300.size inb_S1x4x300_S1x1x300_0_0_0)) (View.ld x1 (Rect.unit ![0, 1, 0] S1x1x300.size inb_S1x4x300_S1x1x300_0_1_0))
    (View.ld x1 (Rect.unit ![0, 2, 0] S1x1x300.size inb_S1x4x300_S1x1x300_0_2_0)) (View.ld x1 (Rect.unit ![0, 3, 0] S1x1x300.size inb_S1x4x300_S1x1x300_0_3_0))

theorem score_at : kernelRun0_A.sl.v101 (F := Ideal) c a1 h1 a2 h2 x0 x1 = dist x0 x1 := by
  have e : kernelRun0_A.sl.v101 (F := Ideal) c a1 h1 a2 h2 x0 x1 = vscore
    (View.readAt (Elt Ideal) a1.view (Rect.unit (s := S1x300x4) ![0, 0, 0] S1x300x1.size inb_S1x300x4_S1x300x1_0_0_0).toLoadRect (h1.unread x0))
    (View.readAt (Elt Ideal) a1.view (Rect.unit (s := S1x300x4) ![0, 0, 1] S1x300x1.size inb_S1x300x4_S1x300x1_0_0_1).toLoadRect (h1.unread x0))
    (View.readAt (Elt Ideal) a1.view (Rect.unit (s := S1x300x4) ![0, 0, 2] S1x300x1.size inb_S1x300x4_S1x300x1_0_0_2).toLoadRect (h1.unread x0))
    (View.readAt (Elt Ideal) a1.view (Rect.unit (s := S1x300x4) ![0, 0, 3] S1x300x1.size inb_S1x300x4_S1x300x1_0_0_3).toLoadRect (h1.unread x0))
    (View.readAt (Elt Ideal) a2.view (Rect.unit (s := S1x4x300) ![0, 0, 0] S1x1x300.size inb_S1x4x300_S1x1x300_0_0_0).toLoadRect (h2.unread x1))
    (View.readAt (Elt Ideal) a2.view (Rect.unit (s := S1x4x300) ![0, 1, 0] S1x1x300.size inb_S1x4x300_S1x1x300_0_1_0).toLoadRect (h2.unread x1))
    (View.readAt (Elt Ideal) a2.view (Rect.unit (s := S1x4x300) ![0, 2, 0] S1x1x300.size inb_S1x4x300_S1x1x300_0_2_0).toLoadRect (h2.unread x1))
    (View.readAt (Elt Ideal) a2.view (Rect.unit (s := S1x4x300) ![0, 3, 0] S1x1x300.size inb_S1x4x300_S1x1x300_0_3_0).toLoadRect (h2.unread x1)) := rfl
  rw [e]
  simp only [View.readAt_eq_ld, Memref.IsWhole.read_unread]
  rfl

theorem keys_at : kernelRun0_A.sl.r (F := Ideal) c a1 h1 a2 h2 x0 x1 = keys (dist x0 x1) := by
  have e : kernelRun0_A.sl.r (F := Ideal) c a1 h1 a2 h2 x0 x1 = keys (kernelRun0_A.sl.v101 (F := Ideal) c a1 h1 a2 h2 x0 x1) := rfl
  rw [e, score_at]

theorem kth_at : (kernelRun0_A.sl.r_1 (F := Ideal) c a1 h1 a2 h2 x0 x1).1 = kth (keys (dist x0 x1)) := by
  have e : (kernelRun0_A.sl.r_1 (F := Ideal) c a1 h1 a2 h2 x0 x1).1 = kth (kernelRun0_A.sl.r (F := Ideal) c a1 h1 a2 h2 x0 x1) := rfl
  rw [e, keys_at]

theorem mask_at : kernelRun0_A.sl.r_2 (F := Ideal) c a1 h1 a2 h2 x0 x1 = vmask (dist x0 x1) := by
  have e : kernelRun0_A.sl.r_2 (F := Ideal) c a1 h1 a2 h2 x0 x1
    = k0_pay34 (kernelRun0_A.sl.r (F := Ideal) c a1 h1 a2 h2 x0 x1) (k0_pay30 (kernelRun0_A.sl.r (F := Ideal) c a1 h1 a2 h2 x0 x1) (kernelRun0_A.sl.r_1 (F := Ideal) c a1 h1 a2 h2 x0 x1).1)
      (k0_pay31 (kernelRun0_A.sl.r (F := Ideal) c a1 h1 a2 h2 x0 x1) (kernelRun0_A.sl.r_1 (F := Ideal) c a1 h1 a2 h2 x0 x1).1)
      (k0_pay32 (kernelRun0_A.sl.r (F := Ideal) c a1 h1 a2 h2 x0 x1) (kernelRun0_A.sl.r_1 (F := Ideal) c a1 h1 a2 h2 x0 x1).1) (k0_pay33 (kernelRun0_A.sl.r_1 (F := Ideal) c a1 h1 a2 h2 x0 x1).1) := rfl
  rw [e, keys_at, kth_at]
  rfl

end Words

section Rows
variable (a1 : Memref sig .tc .vmem S1x300x4 .f32) (h1 : a1.IsWhole) (x0 : Vec Ideal S1x300x4 .f32) (a2 : Memref sig .tc .vmem S1x4x300 .f32) (h2 : a2.IsWhole) (x1 : Vec Ideal S1x4x300 .f32) (a3 : Memref sig .tc .vmem S300x256 .f32) (h3 : a3.IsWhole) (x2 : Vec Ideal S300x256 .f32) (a4 : Memref sig .tc .vmem S300x256 .f32) (h4 : a4.IsWhole) (x3 : Vec Ideal S300x256 .f32) (a5 : Memref sig .tc .vmem S1x4096x256 .bf16) (h5 : a5.IsWhole) (x4 : Vec Ideal S1x4096x256 .bf16) (a6 : Memref sig .tc .vmem S1x4096x256 .bf16) (h6 : a6.IsWhole) (x5 : Vec Ideal S1x4096x256 .bf16) (a7 : Memref sig .tc .vmem S256x256 .bf16) (h7 : a7.IsWhole) (x6 : Vec Ideal S256x256 .bf16) (a8 : Memref sig .tc .vmem S1x256 .f32) (h8 : a8.IsWhole) (x7 : Vec Ideal S1x256 .f32) (a9 : Memref sig .tc .vmem S256x256 .bf16) (h9 : a9.IsWhole) (x8 : Vec Ideal S256x256 .bf16) (a10 : Memref sig .tc .vmem S1x256 .f32) (h10 : a10.IsWhole) (x9 : Vec Ideal S1x256 .f32) (a11 : Memref sig .tc .vmem S256x256 .bf16) (h11 : a11.IsWhole) (x10 : Vec Ideal S256x256 .bf16) (a12 : Memref sig .tc .vmem S1x256 .f32) (h12 : a12.IsWhole) (x11 : Vec Ideal S1x256 .f32) (a13 : Memref sig .tc .vmem S256x256 .bf16) (h13 : a13.IsWhole) (x12 : Vec Ideal S256x256 .bf16) (a14 : Memref sig .tc .vmem S1x256 .f32) (h14 : a14.IsWhole) (x13 : Vec Ideal S1x256 .f32) (a15 : Memref sig .tc .vmem S256x256 .bf16) (h15 : a15.IsWhole) (x14 : Vec Ideal S256x256 .bf16) (a16 : Memref sig .tc .vmem S1x256 .f32) (h16 : a16.IsWhole) (x15 : Vec Ideal S1x256 .f32) (a17 : Memref sig .tc .vmem S256x256 .bf16) (h17 : a17.IsWhole) (x16 : Vec Ideal S256x256 .bf16) (a18 : Memref sig .tc .vmem S1x256 .f32) (h18 : a18.IsWhole) (x17 : Vec Ideal S1x256 .f32) (a19 : Memref sig .tc .vmem S256x2048 .bf16) (h19 : a19.IsWhole) (x18 : Vec Ideal S256x2048 .bf16) (a20 : Memref sig .tc .vmem S1x2048 .f32) (h20 : a20.IsWhole) (x19 : Vec Ideal S1x2048 .f32) (a21 : Memref sig .tc .vmem S2048x256 .bf16) (h21 : a21.IsWhole) (x20 : Vec Ideal S2048x256 .bf16) (a22 : Memref sig .tc .vmem S1x256 .f32) (h22 : a22.IsWhole) (x21 : Vec Ideal S1x256 .f32) (a23 : Memref sig .tc .vmem S1x256 .f32) (h23 : a23.IsWhole) (x22 : Vec Ideal S1x256 .f32) (a24 : Memref sig .tc .vmem S1x256 .f32) (h24 : a24.IsWhole) (x23 : Vec Ideal S1x256 .f32) (a25 : Memref sig .tc .vmem S1x256 .f32) (h25 : a25.IsWhole) (x24 : Vec Ideal S1x256 .f32) (a26 : Memref sig .tc .vmem S1x256 .f32) (h26 : a26.IsWhole) (x25 : Vec Ideal S1x256 .f32) (a27 : Memref sig .tc .vmem S1x256 .f32) (h27 : a27.IsWhole) (x26 : Vec Ideal S1x256 .f32) (a28 : Memref sig .tc .vmem S1x256 .f32) (h28 : a28.IsWhole) (x27 : Vec Ideal S1x256 .f32)

/-! ## The rows, one value after the other -/

/-- A load of a whole block is the block. -/
theorem ld_S1x2048_f32 (a : Memref sig .tc .vmem S1x2048 .f32) (h : a.IsWhole) (x : Vec Ideal S1x2048 .f32) : View.readAt (Elt Ideal) a.view (Rect.unit (s := S1x2048) ![0, 0] S1x2048.size inb_S1x2048_S1x2048_0_0).toLoadRect (h.unread x) = x := by
  simp (disch := decide) only [View.readAt_eq_ld, Memref.IsWhole.read_unread, View.ld_unit_lit']
theorem ld_S1x256_f32 (a : Memref sig .tc .vmem S1x256 .f32) (h : a.IsWhole) (x : Vec Ideal S1x256 .f32) : View.readAt (Elt Ideal) a.view (Rect.unit (s := S1x256) ![0, 0] S1x256.size inb_S1x256_S1x256_0_0).toLoadRect (h.unread x) = x := by
  simp (disch := decide) only [View.readAt_eq_ld, Memref.IsWhole.read_unread, View.ld_unit_lit']
theorem ld_S1x4096x256_bf16 (a : Memref sig .tc .vmem S1x4096x256 .bf16) (h : a.IsWhole) (x : Vec Ideal S1x4096x256 .bf16) : View.readAt (Elt Ideal) a.view (Rect.unit (s := S1x4096x256) ![0, 0, 0] S1x4096x256.size inb_S1x4096x256_S1x4096x256_0_0_0).toLoadRect (h.unread x) = x := by
  simp (disch := decide) only [View.readAt_eq_ld, Memref.IsWhole.read_unread, View.ld_unit_lit']
theorem ld_S2048x256_bf16 (a : Memref sig .tc .vmem S2048x256 .bf16) (h : a.IsWhole) (x : Vec Ideal S2048x256 .bf16) : View.readAt (Elt Ideal) a.view (Rect.unit (s := S2048x256) ![0, 0] S2048x256.size inb_S2048x256_S2048x256_0_0).toLoadRect (h.unread x) = x := by
  simp (disch := decide) only [View.readAt_eq_ld, Memref.IsWhole.read_unread, View.ld_unit_lit']
theorem ld_S256x2048_bf16 (a : Memref sig .tc .vmem S256x2048 .bf16) (h : a.IsWhole) (x : Vec Ideal S256x2048 .bf16) : View.readAt (Elt Ideal) a.view (Rect.unit (s := S256x2048) ![0, 0] S256x2048.size inb_S256x2048_S256x2048_0_0).toLoadRect (h.unread x) = x := by
  simp (disch := decide) only [View.readAt_eq_ld, Memref.IsWhole.read_unread, View.ld_unit_lit']
theorem ld_S256x256_bf16 (a : Memref sig .tc .vmem S256x256 .bf16) (h : a.IsWhole) (x : Vec Ideal S256x256 .bf16) : View.readAt (Elt Ideal) a.view (Rect.unit (s := S256x256) ![0, 0] S256x256.size inb_S256x256_S256x256_0_0).toLoadRect (h.unread x) = x := by
  simp (disch := decide) only [View.readAt_eq_ld, Memref.IsWhole.read_unread, View.ld_unit_lit']
theorem ld_S300x256_f32 (a : Memref sig .tc .vmem S300x256 .f32) (h : a.IsWhole) (x : Vec Ideal S300x256 .f32) : View.readAt (Elt Ideal) a.view (Rect.unit (s := S300x256) ![0, 0] S300x256.size inb_S300x256_S300x256_0_0).toLoadRect (h.unread x) = x := by
  simp (disch := decide) only [View.readAt_eq_ld, Memref.IsWhole.read_unread, View.ld_unit_lit']

theorem r3_at : (kernelRun0_A.sl.r_3 (F := Ideal) c a3 h3 x2) = x2 := ld_S300x256_f32 a3 h3 x2
theorem r4_at : (kernelRun0_A.sl.r_4 (F := Ideal) c a4 h4 x3) = x3 := ld_S300x256_f32 a4 h4 x3
theorem r8_at : (kernelRun0_A.sl.r_8 (F := Ideal) c a23 h23 x22) = x22 := ld_S1x256_f32 a23 h23 x22
theorem r5_at : (kernelRun0_A.sl.r_5 (F := Ideal) c a3 h3 a4 h4 a7 h7 a8 h8 x2 x3 x6 x7) = vscale (vlin (addf x2 x3) x6 x7) := by
  rw [kernelRun0_A.sl.r_5]
  simp (disch := decide) only [View.readAt_eq_ld, Memref.IsWhole.read_unread, View.ld_unit_lit']
  exact q_eq _ _ _ _
theorem r6_at : (kernelRun0_A.sl.r_6 (F := Ideal) c a3 h3 a4 h4 a9 h9 a10 h10 x2 x3 x8 x9) = vlin (addf x2 x3) x8 x9 := by
  rw [kernelRun0_A.sl.r_6]
  simp (disch := decide) only [View.readAt_eq_ld, Memref.IsWhole.read_unread, View.ld_unit_lit']
  exact k_eq _ _ _ _
theorem r7_at : (kernelRun0_A.sl.r_7 (F := Ideal) c a3 h3 a11 h11 a12 h12 x2 x10 x11) = vlin x2 x10 x11 := by
  rw [kernelRun0_A.sl.r_7]
  simp (disch := decide) only [View.readAt_eq_ld, Memref.IsWhole.read_unread, View.ld_unit_lit']
  exact v_eq _ _ _

/-- The rows after the self-attention part. -/
abbrev afterSa : FVec Ideal S300x256 .f32 := vsa (vmask (dist x0 x1)) x2 x3 x6 x7 x8 x9 x10 x11 x12 x13 x22 x23

set_option maxHeartbeats 2000000 in
theorem v347_step (mk q k v) (hm : (kernelRun0_A.sl.r_2 (F := Ideal) c a1 h1 a2 h2 x0 x1) = mk) (hq : (kernelRun0_A.sl.r_5 (F := Ideal) c a3 h3 a4 h4 a7 h7 a8 h8 x2 x3 x6 x7) = q) (hk : (kernelRun0_A.sl.r_6 (F := Ideal) c a3 h3 a4 h4 a9 h9 a10 h10 x2 x3 x8 x9) = k) (hv : (kernelRun0_A.sl.r_7 (F := Ideal) c a3 h3 a11 h11 a12 h12 x2 x10 x11) = v) :
    (kernelRun0_A.sl.v347 (F := Ideal) c a1 h1 a2 h2 a3 h3 a4 h4 a7 h7 a8 h8 a9 h9 a10 h10 a11 h11 a12 h12 a13 h13 a14 h14 x0 x1 x2 x3 x6 x7 x8 x9 x10 x11 x12 x13)
    = k0_pay52 (F := Ideal) mk (kernelRun0_A.sl.r_3 (F := Ideal) c a3 h3 x2) q k v (k0_pay40 mk q k v) (k0_pay41 mk q k v) (k0_pay44 mk v (k0_pay42 q) (k0_pay43 k)) (k0_pay45 mk q k v)
      (k0_pay48 mk v (k0_pay46 q k) (k0_pay47 (F := Ideal))) (k0_pay49 mk q k v) (k0_pay50 mk q k) (k0_pay51 mk q k) (View.readAt (Elt Ideal) a13.view (Rect.unit (s := S256x256) ![0, 0] S256x256.size inb_S256x256_S256x256_0_0).toLoadRect (h13.unread x12)) (View.readAt (Elt Ideal) a14.view (Rect.unit (s := S1x256) ![0, 0] S1x256.size inb_S1x256_S1x256_0_0).toLoadRect (h14.unread x13)) := by
  subst hm hq hk hv
  rfl

theorem v347_at : (kernelRun0_A.sl.v347 (F := Ideal) c a1 h1 a2 h2 a3 h3 a4 h4 a7 h7 a8 h8 a9 h9 a10 h10 a11 h11 a12 h12 a13 h13 a14 h14 x0 x1 x2 x3 x6 x7 x8 x9 x10 x11 x12 x13)
    = addf (vlin (saHeads (vmask (dist x0 x1)) (vscale (vlin (addf x2 x3) x6 x7)) (vlin (addf x2 x3) x8 x9) (vlin x2 x10 x11)) x12 x13) x2 := by
  rw [v347_step (hm := mask_at ..) (hq := r5_at ..) (hk := r6_at ..) (hv := r7_at ..), r3_at]
  simp (disch := decide) only [View.readAt_eq_ld, Memref.IsWhole.read_unread, View.ld_unit_lit']
  exact sa_eq _ _ _ _ _ _ _

theorem r9_at : (kernelRun0_A.sl.r_9 (F := Ideal) c a1 h1 a2 h2 a3 h3 a4 h4 a7 h7 a8 h8 a9 h9 a10 h10 a11 h11 a12 h12 a13 h13 a14 h14 a23 h23 a24 h24 x0 x1 x2 x3 x6 x7 x8 x9 x10 x11 x12 x13 x22 x23) = afterSa x0 x1 x2 x3 x6 x7 x8 x9 x10 x11 x12 x13 x22 x23 := by
  rw [kernelRun0_A.sl.r_9, v347_at, r8_at]
  simp (disch := decide) only [View.readAt_eq_ld, Memref.IsWhole.read_unread, View.ld_unit_lit']
  exact ln1_eq _ _ _

theorem r10_at : (kernelRun0_A.sl.r_10 (F := Ideal) c a1 h1 a2 h2 a3 h3 a4 h4 a7 h7 a8 h8 a9 h9 a10 h10 a11 h11 a12 h12 a13 h13 a14 h14 a15 h15 a16 h16 a23 h23 a24 h24 x0 x1 x2 x3 x6 x7 x8 x9 x10 x11 x12 x13 x14 x15 x22 x23) = vscale (vlin (addf (afterSa x0 x1 x2 x3 x6 x7 x8 x9 x10 x11 x12 x13 x22 x23) x3) x14 x15) := by
  rw [kernelRun0_A.sl.r_10, v347_at, r8_at, r4_at]
  simp (disch := decide) only [View.readAt_eq_ld, Memref.IsWhole.read_unread, View.ld_unit_lit']
  exact qs_eq _ _ _ _ _ _
theorem r11_at : (kernelRun0_A.sl.r_11 (F := Ideal) c a5 h5 x4) = ks x4 := by
  rw [kernelRun0_A.sl.r_11]
  simp (disch := decide) only [View.readAt_eq_ld, Memref.IsWhole.read_unread, View.ld_unit_lit']
  exact ks_eq _
theorem r12_at : (kernelRun0_A.sl.r_12 (F := Ideal) c a6 h6 x5) = ks x5 := by
  rw [kernelRun0_A.sl.r_12]
  simp (disch := decide) only [View.readAt_eq_ld, Memref.IsWhole.read_unread, View.ld_unit_lit']
  exact vs_eq _
theorem r13_at : (kernelRun0_A.sl.r_13 (F := Ideal) c a1 h1 a2 h2 a3 h3 a4 h4 a5 h5 a7 h7 a8 h8 a9 h9 a10 h10 a11 h11 a12 h12 a13 h13 a14 h14 a15 h15 a16 h16 a23 h23 a24 h24 x0 x1 x2 x3 x4 x6 x7 x8 x9 x10 x11 x12 x13 x14 x15 x22 x23) = caScore 0 slices_S300x256_o0_0_S300x32 slices_S4096x256_o0_0_S4096x32
    (vscale (vlin (addf (afterSa x0 x1 x2 x3 x6 x7 x8 x9 x10 x11 x12 x13 x22 x23) x3) x14 x15)) (ks x4) := by
  rw [kernelRun0_A.sl.r_13, v347_at, r8_at, r4_at]
  simp (disch := decide) only [View.readAt_eq_ld, Memref.IsWhole.read_unread, View.ld_unit_lit']
  rw [first_eq, qs_eq, ks_eq]
  rfl

set_option maxHeartbeats 2000000 in
theorem v529_step (q k v s) (hq : (kernelRun0_A.sl.r_10 (F := Ideal) c a1 h1 a2 h2 a3 h3 a4 h4 a7 h7 a8 h8 a9 h9 a10 h10 a11 h11 a12 h12 a13 h13 a14 h14 a15 h15 a16 h16 a23 h23 a24 h24 x0 x1 x2 x3 x6 x7 x8 x9 x10 x11 x12 x13 x14 x15 x22 x23) = q) (hk : (kernelRun0_A.sl.r_11 (F := Ideal) c a5 h5 x4) = k) (hv : (kernelRun0_A.sl.r_12 (F := Ideal) c a6 h6 x5) = v) (hs : (kernelRun0_A.sl.r_13 (F := Ideal) c a1 h1 a2 h2 a3 h3 a4 h4 a5 h5 a7 h7 a8 h8 a9 h9 a10 h10 a11 h11 a12 h12 a13 h13 a14 h14 a15 h15 a16 h16 a23 h23 a24 h24 x0 x1 x2 x3 x4 x6 x7 x8 x9 x10 x11 x12 x13 x14 x15 x22 x23) = s) :
    (kernelRun0_A.sl.v529 (F := Ideal) c a1 h1 a2 h2 a3 h3 a4 h4 a5 h5 a6 h6 a7 h7 a8 h8 a9 h9 a10 h10 a11 h11 a12 h12 a13 h13 a14 h14 a15 h15 a16 h16 a23 h23 a24 h24 x0 x1 x2 x3 x4 x5 x6 x7 x8 x9 x10 x11 x12 x13 x14 x15 x22 x23)
    = k0_pay68 (F := Ideal) q k v (k0_pay58 v s) (k0_pay59 q k v) (k0_pay64 (k0_pay61 q k) (k0_pay62 v) (k0_pay63 q k)) (k0_pay65 q k v) (k0_pay66 q k v) (k0_pay67 q k) := by
  subst hq hk hv hs
  rfl

theorem v529_at : (kernelRun0_A.sl.v529 (F := Ideal) c a1 h1 a2 h2 a3 h3 a4 h4 a5 h5 a6 h6 a7 h7 a8 h8 a9 h9 a10 h10 a11 h11 a12 h12 a13 h13 a14 h14 a15 h15 a16 h16 a23 h23 a24 h24 x0 x1 x2 x3 x4 x5 x6 x7 x8 x9 x10 x11 x12 x13 x14 x15 x22 x23)
    = caHeads (vscale (vlin (addf (afterSa x0 x1 x2 x3 x6 x7 x8 x9 x10 x11 x12 x13 x22 x23) x3) x14 x15)) (ks x4) (ks x5) := by
  rw [v529_step (hq := r10_at ..) (hk := r11_at ..) (hv := r12_at ..) (hs := r13_at ..)]
  exact ca_eq _ _ _

theorem v560_at : (kernelRun0_A.sl.v560 (F := Ideal) c a1 h1 a2 h2 a3 h3 a4 h4 a5 h5 a6 h6 a7 h7 a8 h8 a9 h9 a10 h10 a11 h11 a12 h12 a13 h13 a14 h14 a15 h15 a16 h16 a17 h17 a18 h18 a23 h23 a24 h24 a25 h25 a26 h26 x0 x1 x2 x3 x4 x5 x6 x7 x8 x9 x10 x11 x12 x13 x14 x15 x16 x17 x22 x23 x24 x25) = k0_pay69 (F := Ideal) (afterSa x0 x1 x2 x3 x6 x7 x8 x9 x10 x11 x12 x13 x22 x23)
    (caHeads (vscale (vlin (addf (afterSa x0 x1 x2 x3 x6 x7 x8 x9 x10 x11 x12 x13 x22 x23) x3) x14 x15)) (ks x4) (ks x5)) x16 x17 x24 x25 := by
  have e : (kernelRun0_A.sl.v560 (F := Ideal) c a1 h1 a2 h2 a3 h3 a4 h4 a5 h5 a6 h6 a7 h7 a8 h8 a9 h9 a10 h10 a11 h11 a12 h12 a13 h13 a14 h14 a15 h15 a16 h16 a17 h17 a18 h18 a23 h23 a24 h24 a25 h25 a26 h26 x0 x1 x2 x3 x4 x5 x6 x7 x8 x9 x10 x11 x12 x13 x14 x15 x16 x17 x22 x23 x24 x25) = k0_pay69 (F := Ideal) (kernelRun0_A.sl.r_9 (F := Ideal) c a1 h1 a2 h2 a3 h3 a4 h4 a7 h7 a8 h8 a9 h9 a10 h10 a11 h11 a12 h12 a13 h13 a14 h14 a23 h23 a24 h24 x0 x1 x2 x3 x6 x7 x8 x9 x10 x11 x12 x13 x22 x23) (kernelRun0_A.sl.v529 (F := Ideal) c a1 h1 a2 h2 a3 h3 a4 h4 a5 h5 a6 h6 a7 h7 a8 h8 a9 h9 a10 h10 a11 h11 a12 h12 a13 h13 a14 h14 a15 h15 a16 h16 a23 h23 a24 h24 x0 x1 x2 x3 x4 x5 x6 x7 x8 x9 x10 x11 x12 x13 x14 x15 x22 x23) (View.readAt (Elt Ideal) a17.view (Rect.unit (s := S256x256) ![0, 0] S256x256.size inb_S256x256_S256x256_0_0).toLoadRect (h17.unread x16)) (View.readAt (Elt Ideal) a18.view (Rect.unit (s := S1x256) ![0, 0] S1x256.size inb_S1x256_S1x256_0_0).toLoadRect (h18.unread x17)) (View.readAt (Elt Ideal) a25.view (Rect.unit (s := S1x256) ![0, 0] S1x256.size inb_S1x256_S1x256_0_0).toLoadRect (h25.unread x24)) (View.readAt (Elt Ideal) a26.view (Rect.unit (s := S1x256) ![0, 0] S1x256.size inb_S1x256_S1x256_0_0).toLoadRect (h26.unread x25)) := rfl
  rw [e, v529_at, r9_at]
  simp (disch := decide) only [View.readAt_eq_ld, Memref.IsWhole.read_unread, View.ld_unit_lit']

theorem v568_at : (kernelRun0_A.sl.v568 (F := Ideal) c a1 h1 a2 h2 a3 h3 a4 h4 a5 h5 a6 h6 a7 h7 a8 h8 a9 h9 a10 h10 a11 h11 a12 h12 a13 h13 a14 h14 a15 h15 a16 h16 a17 h17 a18 h18 a19 h19 a20 h20 a23 h23 a24 h24 a25 h25 a26 h26 x0 x1 x2 x3 x4 x5 x6 x7 x8 x9 x10 x11 x12 x13 x14 x15 x16 x17 x18 x19 x22 x23 x24 x25) = k0_pay70 (F := Ideal) (afterSa x0 x1 x2 x3 x6 x7 x8 x9 x10 x11 x12 x13 x22 x23)
    (caHeads (vscale (vlin (addf (afterSa x0 x1 x2 x3 x6 x7 x8 x9 x10 x11 x12 x13 x22 x23) x3) x14 x15)) (ks x4) (ks x5)) x16 x17 x24 x25 x18 x19 := by
  have e : (kernelRun0_A.sl.v568 (F := Ideal) c a1 h1 a2 h2 a3 h3 a4 h4 a5 h5 a6 h6 a7 h7 a8 h8 a9 h9 a10 h10 a11 h11 a12 h12 a13 h13 a14 h14 a15 h15 a16 h16 a17 h17 a18 h18 a19 h19 a20 h20 a23 h23 a24 h24 a25 h25 a26 h26 x0 x1 x2 x3 x4 x5 x6 x7 x8 x9 x10 x11 x12 x13 x14 x15 x16 x17 x18 x19 x22 x23 x24 x25) = k0_pay70 (F := Ideal) (kernelRun0_A.sl.r_9 (F := Ideal) c a1 h1 a2 h2 a3 h3 a4 h4 a7 h7 a8 h8 a9 h9 a10 h10 a11 h11 a12 h12 a13 h13 a14 h14 a23 h23 a24 h24 x0 x1 x2 x3 x6 x7 x8 x9 x10 x11 x12 x13 x22 x23) (kernelRun0_A.sl.v529 (F := Ideal) c a1 h1 a2 h2 a3 h3 a4 h4 a5 h5 a6 h6 a7 h7 a8 h8 a9 h9 a10 h10 a11 h11 a12 h12 a13 h13 a14 h14 a15 h15 a16 h16 a23 h23 a24 h24 x0 x1 x2 x3 x4 x5 x6 x7 x8 x9 x10 x11 x12 x13 x14 x15 x22 x23) (View.readAt (Elt Ideal) a17.view (Rect.unit (s := S256x256) ![0, 0] S256x256.size inb_S256x256_S256x256_0_0).toLoadRect (h17.unread x16)) (View.readAt (Elt Ideal) a18.view (Rect.unit (s := S1x256) ![0, 0] S1x256.size inb_S1x256_S1x256_0_0).toLoadRect (h18.unread x17)) (View.readAt (Elt Ideal) a25.view (Rect.unit (s := S1x256) ![0, 0] S1x256.size inb_S1x256_S1x256_0_0).toLoadRect (h25.unread x24)) (View.readAt (Elt Ideal) a26.view (Rect.unit (s := S1x256) ![0, 0] S1x256.size inb_S1x256_S1x256_0_0).toLoadRect (h26.unread x25)) (View.readAt (Elt Ideal) a19.view (Rect.unit (s := S256x2048) ![0, 0] S256x2048.size inb_S256x2048_S256x2048_0_0).toLoadRect (h19.unread x18)) (View.readAt (Elt Ideal) a20.view (Rect.unit (s := S1x2048) ![0, 0] S1x2048.size inb_S1x2048_S1x2048_0_0).toLoadRect (h20.unread x19)) := rfl
  rw [e, v529_at, r9_at]
  simp (disch := decide) only [View.readAt_eq_ld, Memref.IsWhole.read_unread, View.ld_unit_lit']

theorem r14_at : (kernelRun0_A.sl.r_14 (F := Ideal) c a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 x20 x21 x22 x23 x24 x25 x26 x27) = vff (vca (afterSa x0 x1 x2 x3 x6 x7 x8 x9 x10 x11 x12 x13 x22 x23) x3 (ks x4) (ks x5) x14 x15 x16 x17 x24 x25) x18 x19 x20 x21 x26 x27 := by
  rw [kernelRun0_A.sl.r_14, v560_at, v568_at]
  simp (disch := decide) only [View.readAt_eq_ld, Memref.IsWhole.read_unread, View.ld_unit_lit']
  rw [ff_eq, ln2_eq, vca]

end Rows

set_option maxHeartbeats 4000000 in
/-- The mask a block of the call holds. -/
theorem out29_eq : (outsAt0 (F := Ideal) m c t).2 = shapeCast S1x300x300 (sitofp .f32 (extui 32 (vmask (dist (iblk m c 0 t) (iblk m c 1 t))) natLt_1_32) : FVec Ideal S300x300 .f32) shapeCasts_S300x300_S1x300x300 := by
  rw [← mask_at c (ms0_0 t) (hs0_0 t) (ms0_1 t) (hs0_1 t), outsAt0]
  dsimp only
  rw [out0_A_29, kernelRun0_A]
  dsimp only
  simp (disch := decide) only [View.read_writes_junk_eq_canon, View.canon_cons_unit_lit']
  rfl

set_option maxHeartbeats 4000000 in
/-- The rows a block of the call holds. -/
theorem out28_eq : (outsAt0 (F := Ideal) m c t).1 = shapeCast S1x300x256 (vff (vca (afterSa (iblk m c 0 t) (iblk m c 1 t) (iblk m c 2 t) (iblk m c 3 t) (iblk m c 6 t) (iblk m c 7 t) (iblk m c 8 t) (iblk m c 9 t) (iblk m c 10 t) (iblk m c 11 t) (iblk m c 12 t) (iblk m c 13 t) (iblk m c 22 t) (iblk m c 23 t))
    (iblk m c 3 t) (ks (iblk m c 4 t)) (ks (iblk m c 5 t)) (iblk m c 14 t) (iblk m c 15 t) (iblk m c 16 t) (iblk m c 17 t) (iblk m c 24 t) (iblk m c 25 t))
    (iblk m c 18 t) (iblk m c 19 t) (iblk m c 20 t) (iblk m c 21 t) (iblk m c 26 t) (iblk m c 27 t)) shapeCasts_S300x256_S1x300x256 := by
  rw [outsAt0]
  dsimp only
  rw [out0_A_28, kernelRun0_A]
  dsimp only
  simp (disch := decide) only [View.read_writes_junk_eq_canon, View.canon_cons_unit_lit']
  rw [r14_at, k0_pay1]

end Cert.Kernel6Ideal.Arr
-- ==== Proof.K6Arr.lean ====
module

public import proofs.«01_k».proof.Proof.Pages
public import proofs.«01_k».proof.Proof.K6

/-! # What the layer-0 call's two arrays hold -/

@[expose] public section

set_option maxRecDepth 16384

noncomputable section

namespace Cert.Kernel6Ideal.Arr

open Idealize.ShloMosaic Idealize.ShloMosaic.TcCoe Cert.Kernel6Ideal Cert.Kernel6Ideal.Gen Cert.Kernel6Ideal.Layer Cert.Kernel6Ideal.Mask Cert.KernelIdeal.Vec Cert.Spec
open Idealize.ShloMosaic.Pipeline (Dat)

variable (m : (ℓ : Loc nD τ sig) → Buf (Elt Ideal) ℓ) (c : Dev nD) (t : Fin cfg0.N)

/-- Which boxes a box may look at, as bits. -/
def bits (a : Fin 300 → Fin 4 → EReal) (b : Fin 4 → Fin 300 → EReal) (i j : Fin 300) : BitVec 1 := if Score.near a b i j then 1#1 else 0#1

theorem bits_unit (a b i j) : (if bits a b i j = 1#1 then (1 : EReal) else 0) = Score.mask a b i j := by
  unfold bits Score.mask
  by_cases h : Score.near a b i j
  · rw [if_pos h, if_pos rfl, if_pos h]
  · rw [if_neg h, if_neg (by decide), if_neg h]

theorem ld_rows (x : Vec Ideal S1x300x4 .f32) (i : Fin 300) : View.ld x (Rect.unit ![0, 0, 0] S1x300x1.size inb_S1x300x4_S1x300x1_0_0_0) (ix3 0 i 0) = x (ix3 0 i 0)
    ∧ View.ld x (Rect.unit ![0, 0, 1] S1x300x1.size inb_S1x300x4_S1x300x1_0_0_1) (ix3 0 i 0) = x (ix3 0 i 1)
    ∧ View.ld x (Rect.unit ![0, 0, 2] S1x300x1.size inb_S1x300x4_S1x300x1_0_0_2) (ix3 0 i 0) = x (ix3 0 i 2)
    ∧ View.ld x (Rect.unit ![0, 0, 3] S1x300x1.size inb_S1x300x4_S1x300x1_0_0_3) (ix3 0 i 0) = x (ix3 0 i 3) := by
  refine ⟨?_, ?_, ?_, ?_⟩ <;> pointwise

theorem ld_cols (x : Vec Ideal S1x4x300 .f32) (j : Fin 300) : View.ld x (Rect.unit ![0, 0, 0] S1x1x300.size inb_S1x4x300_S1x1x300_0_0_0) (ix3 0 0 j) = x (ix3 0 0 j)
    ∧ View.ld x (Rect.unit ![0, 1, 0] S1x1x300.size inb_S1x4x300_S1x1x300_0_1_0) (ix3 0 0 j) = x (ix3 0 1 j)
    ∧ View.ld x (Rect.unit ![0, 2, 0] S1x1x300.size inb_S1x4x300_S1x1x300_0_2_0) (ix3 0 0 j) = x (ix3 0 2 j)
    ∧ View.ld x (Rect.unit ![0, 3, 0] S1x1x300.size inb_S1x4x300_S1x1x300_0_3_0) (ix3 0 0 j) = x (ix3 0 3 j) := by
  refine ⟨?_, ?_, ?_, ?_⟩ <;> pointwise

theorem dist_apply (x0 : Vec Ideal S1x300x4 .f32) (x1 : Vec Ideal S1x4x300 .f32) (i j : Fin 300) : dist x0 x1 (ix2 i j) = Score.scores (fun i k => x0 (ix3 0 i k)) (fun k j => x1 (ix3 0 k j)) i j := by
  obtain ⟨h0, h1, h2, h3⟩ := ld_rows x0 i
  obtain ⟨e0, e1, e2, e3⟩ := ld_cols x1 j
  rw [dist, vscore_eq, h0, h1, h2, h3, e0, e1, e2, e3]
  rfl

/-- The bits of the mask. -/
theorem vmask_bits (x0 : Vec Ideal S1x300x4 .f32) (x1 : Vec Ideal S1x4x300 .f32) (i j : Fin 300) : vmask (dist x0 x1) (ix2 i j) = bits (fun i k => x0 (ix3 0 i k)) (fun k j => x1 (ix3 0 k j)) i j := by
  have e : row (dist x0 x1) i = Score.scores (fun i k => x0 (ix3 0 i k)) (fun k j => x1 (ix3 0 k j)) i := funext fun j => dist_apply x0 x1 i j
  have h := vmask_eq (dist x0 x1) i j
  rw [e] at h
  rw [bits]
  by_cases hn : Score.near (fun i k => x0 (ix3 0 i k)) (fun k j => x1 (ix3 0 k j)) i j
  · rw [if_pos hn]
    exact h.2 hn
  · rw [if_neg hn]
    exact (by decide : ∀ b : BitVec 1, ¬ b = 1#1 → b = 0#1) _ fun hb => hn (h.1 hb)

theorem idx_page : ∀ t : Fin cfg0.N, win0_0.index t = ![t.val, 0, 0] ∧ win0_1.index t = ![t.val, 0, 0] ∧ win0_2.index t = ![0, t.val] ∧ win0_3.index t = ![0, t.val] := (by decide +kernel : ∀ t : Fin grid0.N, _)
theorem idx_keys : ∀ t : Fin cfg0.N, win0_4.index t = ![t.val, 0, 0] ∧ win0_5.index t = ![t.val, 0, 0] ∧ win0_28.index t = ![t.val, 0, 0] ∧ win0_29.index t = ![t.val, 0, 0] := (by decide +kernel : ∀ t : Fin grid0.N, _)
theorem idx_sa : ∀ t : Fin cfg0.N, win0_6.index t = ![0, 0] ∧ win0_7.index t = ![0, 0] ∧ win0_8.index t = ![0, 0] ∧ win0_9.index t = ![0, 0] ∧ win0_10.index t = ![0, 0] ∧ win0_11.index t = ![0, 0] := (by decide +kernel : ∀ t : Fin grid0.N, _)
theorem idx_mid : ∀ t : Fin cfg0.N, win0_12.index t = ![0, 0] ∧ win0_13.index t = ![0, 0] ∧ win0_14.index t = ![0, 0] ∧ win0_15.index t = ![0, 0] ∧ win0_16.index t = ![0, 0] ∧ win0_17.index t = ![0, 0] := (by decide +kernel : ∀ t : Fin grid0.N, _)
theorem idx_ff : ∀ t : Fin cfg0.N, win0_18.index t = ![0, 0] ∧ win0_19.index t = ![0, 0] ∧ win0_20.index t = ![0, 0] ∧ win0_21.index t = ![0, 0] ∧ win0_22.index t = ![0, 0] := (by decide +kernel : ∀ t : Fin grid0.N, _)
theorem idx_rest : ∀ t : Fin cfg0.N, win0_23.index t = ![0, 0] ∧ win0_24.index t = ![0, 0] ∧ win0_25.index t = ![0, 0] ∧ win0_26.index t = ![0, 0] ∧ win0_27.index t = ![0, 0] := (by decide +kernel : ∀ t : Fin grid0.N, _)

set_option maxHeartbeats 2000000 in
/-- Blocks that are whole arrays. -/
theorem whole_sa : (iblk m c 6 t : Vec Ideal S256x256 .bf16) = V m c main_arg6 ∧ (iblk m c 7 t : Vec Ideal S1x256 .f32) = V m c main_arg7 ∧ (iblk m c 8 t : Vec Ideal S256x256 .bf16) = V m c main_arg8 ∧ (iblk m c 9 t : Vec Ideal S1x256 .f32) = V m c main_arg9 ∧ (iblk m c 10 t : Vec Ideal S256x256 .bf16) = V m c main_arg10 ∧ (iblk m c 11 t : Vec Ideal S1x256 .f32) = V m c main_arg11 := by
  refine ⟨?_, ?_, ?_, ?_, ?_, ?_⟩ <;> funext y <;> blk_ext [iblk, idx_sa t]

set_option maxHeartbeats 2000000 in
/-- Blocks that are whole arrays. -/
theorem whole_mid : (iblk m c 12 t : Vec Ideal S256x256 .bf16) = V m c main_arg12 ∧ (iblk m c 13 t : Vec Ideal S1x256 .f32) = V m c main_arg13 ∧ (iblk m c 14 t : Vec Ideal S256x256 .bf16) = V m c main_arg14 ∧ (iblk m c 15 t : Vec Ideal S1x256 .f32) = V m c main_arg15 ∧ (iblk m c 16 t : Vec Ideal S256x256 .bf16) = V m c main_arg16 ∧ (iblk m c 17 t : Vec Ideal S1x256 .f32) = V m c main_arg17 := by
  refine ⟨?_, ?_, ?_, ?_, ?_, ?_⟩ <;> funext y <;> blk_ext [iblk, idx_mid t]

set_option maxHeartbeats 2000000 in
/-- Blocks that are whole arrays. -/
theorem whole_ff : (iblk m c 18 t : Vec Ideal S256x2048 .bf16) = V m c main_arg18 ∧ (iblk m c 19 t : Vec Ideal S1x2048 .f32) = V m c main_arg19 ∧ (iblk m c 20 t : Vec Ideal S2048x256 .bf16) = V m c main_arg20 ∧ (iblk m c 21 t : Vec Ideal S1x256 .f32) = V m c main_arg21 ∧ (iblk m c 22 t : Vec Ideal S1x256 .f32) = V m c main_arg22 := by
  refine ⟨?_, ?_, ?_, ?_, ?_⟩ <;> funext y <;> blk_ext [iblk, idx_ff t]

set_option maxHeartbeats 2000000 in
/-- Blocks that are whole arrays. -/
theorem whole_rest : (iblk m c 23 t : Vec Ideal S1x256 .f32) = V m c main_arg23 ∧ (iblk m c 24 t : Vec Ideal S1x256 .f32) = V m c main_arg24 ∧ (iblk m c 25 t : Vec Ideal S1x256 .f32) = V m c main_arg25 ∧ (iblk m c 26 t : Vec Ideal S1x256 .f32) = V m c main_arg26 ∧ (iblk m c 27 t : Vec Ideal S1x256 .f32) = V m c main_arg27 := by
  refine ⟨?_, ?_, ?_, ?_, ?_⟩ <;> funext y <;> blk_ext [iblk, idx_rest t]

theorem emb28 (y : S1x300x256.Idx) : (win0_28.blk t).view.emb y = ix3 ⟨t.val, t.isLt⟩ (y 1) (y 2) := by blk_ext [idx_keys t]
theorem emb29 (y : S1x300x300.Idx) : (win0_29.blk t).view.emb y = ix3 ⟨t.val, t.isLt⟩ (y 1) (y 2) := by blk_ext [idx_keys t]

/-- The boxes of a page, last … -/
abbrev boxes (x : S2x300x4.Idx → EReal) (p : Fin 2) : Fin 300 → Fin 4 → EReal := fun i k => x (ix3 p i k)

/-- … and second. -/
abbrev boxes' (x : S2x4x300.Idx → EReal) (p : Fin 2) : Fin 4 → Fin 300 → EReal := fun k j => x (ix3 p k j)

theorem boxes_in : (fun i k => (iblk m c 0 t : Vec Ideal S1x300x4 .f32) (ix3 0 i k)) = boxes (V m c main_arg0) ⟨t.val, t.isLt⟩ := by
  funext i k
  blk_ext [iblk, idx_page t]

theorem boxes_in' : (fun k j => (iblk m c 1 t : Vec Ideal S1x4x300 .f32) (ix3 0 k j)) = boxes' (V m c main_arg1) ⟨t.val, t.isLt⟩ := by
  funext k j
  blk_ext [iblk, idx_page t]

theorem bits_in : (fun i j => vmask (dist (iblk m c 0 t) (iblk m c 1 t)) (ix2 i j)) = bits (boxes (V m c main_arg0) ⟨t.val, t.isLt⟩) (boxes' (V m c main_arg1) ⟨t.val, t.isLt⟩) := by
  funext i j
  rw [vmask_bits, boxes_in, boxes_in']

/-- The rows' block is half the columns. -/
theorem rows_in : toM (iblk m c 2 t : Vec Ideal S300x256 .f32) = half (V m c main_arg2 : Vec Ideal S300x512 .f32) ⟨t.val, t.isLt⟩ := by
  funext i j
  show iblk m c 2 t (ix2 i j) = _
  blk_ext [iblk, idx_page t]

/-- The positions' block is half the columns. -/
theorem qp_in : toM (iblk m c 3 t : Vec Ideal S300x256 .f32) = half (V m c main_arg3 : Vec Ideal S300x512 .f32) ⟨t.val, t.isLt⟩ := by
  funext i j
  show iblk m c 3 t (ix2 i j) = _
  blk_ext [iblk, idx_page t]

/-- The first half of a page of keys or values. -/
abbrev first (x : S2x4096x512.Idx → EReal) (b : Fin 2) : M 4096 256 := fun i j => x (ix3 b i (⟨j.val, by omega⟩ : Fin 512))

theorem keys_of (x : Vec Ideal S1x4096x256 .bf16) : toM (ks x) = fun i j => x (ix3 0 i j) := by
  funext i j
  simp only [toM, ks]
  pointwise

theorem keys_in : toM (ks (iblk m c 4 t)) = first (V m c main_arg4) ⟨t.val, t.isLt⟩ := by
  rw [keys_of]
  funext i j
  blk_ext [iblk, idx_keys t]

theorem values_in : toM (ks (iblk m c 5 t)) = first (V m c main_arg5) ⟨t.val, t.isLt⟩ := by
  rw [keys_of]
  funext i j
  blk_ext [iblk, idx_keys t]

/-- What the call computes, index by index: the rows. -/
def G (a : S2x300x4.Idx → EReal) (b : S2x4x300.Idx → EReal) (x qp : S300x512.Idx → EReal) (k v : S2x4096x512.Idx → EReal) (wq : M 256 256) (bq : Fin 256 → EReal) (wk : M 256 256) (bk : Fin 256 → EReal) (wv : M 256 256) (bv : Fin 256 → EReal) (wo : M 256 256) (bo : Fin 256 → EReal)
    (cq : M 256 256) (dq : Fin 256 → EReal) (co : M 256 256) (d : Fin 256 → EReal) (w1 : M 256 2048) (b1 : Fin 2048 → EReal) (w2 : M 2048 256) (b2 g1 c1 g2 c2 g3 c3 : Fin 256 → EReal) (y : S2x300x256.Idx) : EReal :=
  ffnBlock (caBlock (saBlock (bits (boxes a (y 0)) (boxes' b (y 0))) (half x (y 0)) (half qp (y 0)) wq bq wk bk wv bv wo bo g1 c1)
    (half qp (y 0)) (first k (y 0)) (first v (y 0)) cq dq co d g2 c2) w1 b1 w2 b2 g3 c3 (y 1) (y 2)

/-- … and the mask. -/
def H (a : S2x300x4.Idx → EReal) (b : S2x4x300.Idx → EReal) (y : S2x300x300.Idx) : EReal := Score.mask (boxes a (y 0)) (boxes' b (y 0)) (y 1) (y 2)

/-- The call's rows from its arguments. -/
def R : S2x300x256.Idx → EReal := G (V m c main_arg0) (V m c main_arg1) (V m c main_arg2) (V m c main_arg3) (V m c main_arg4) (V m c main_arg5)
  (toM (V m c main_arg6 : Vec Ideal S256x256 .bf16)) (toR (V m c main_arg7 : Vec Ideal S1x256 .f32)) (toM (V m c main_arg8 : Vec Ideal S256x256 .bf16)) (toR (V m c main_arg9 : Vec Ideal S1x256 .f32)) (toM (V m c main_arg10 : Vec Ideal S256x256 .bf16)) (toR (V m c main_arg11 : Vec Ideal S1x256 .f32)) (toM (V m c main_arg12 : Vec Ideal S256x256 .bf16)) (toR (V m c main_arg13 : Vec Ideal S1x256 .f32)) (toM (V m c main_arg14 : Vec Ideal S256x256 .bf16)) (toR (V m c main_arg15 : Vec Ideal S1x256 .f32))
  (toM (V m c main_arg16 : Vec Ideal S256x256 .bf16)) (toR (V m c main_arg17 : Vec Ideal S1x256 .f32)) (toM (V m c main_arg18 : Vec Ideal S256x2048 .bf16)) (toR (V m c main_arg19 : Vec Ideal S1x2048 .f32)) (toM (V m c main_arg20 : Vec Ideal S2048x256 .bf16)) (toR (V m c main_arg21 : Vec Ideal S1x256 .f32)) (toR (V m c main_arg22 : Vec Ideal S1x256 .f32)) (toR (V m c main_arg23 : Vec Ideal S1x256 .f32)) (toR (V m c main_arg24 : Vec Ideal S1x256 .f32)) (toR (V m c main_arg25 : Vec Ideal S1x256 .f32)) (toR (V m c main_arg26 : Vec Ideal S1x256 .f32)) (toR (V m c main_arg27 : Vec Ideal S1x256 .f32))

/-- The call's mask from its arguments. -/
def K : S2x300x300.Idx → EReal := H (V m c main_arg0) (V m c main_arg1)

theorem point28 (y : S1x300x256.Idx) : (outsAt0 (F := Ideal) m c t).1 y = R m c (ix3 ⟨t.val, t.isLt⟩ (y 1) (y 2)) := by
  obtain ⟨h6, h7, h8, h9, h10, h11⟩ := whole_sa m c t
  obtain ⟨h12, h13, h14, h15, h16, h17⟩ := whole_mid m c t
  obtain ⟨h18, h19, h20, h21, h22⟩ := whole_ff m c t
  obtain ⟨h23, h24, h25, h26, h27⟩ := whole_rest m c t
  rw [out28_eq, h6, h7, h8, h9, h10, h11, h12, h13, h14, h15, h16, h17, h18, h19, h20, h21, h22, h23, h24, h25, h26, h27]
  refine (page_of_rows _ _ y).trans ?_
  refine (congrFun (congrFun (vff_eq _ _ _ _ _ _ _) _) _).trans ?_
  rw [vca_eq, vsa_eq, bits_in, rows_in, qp_in, keys_in, values_in]
  rfl

theorem point29 (y : S1x300x300.Idx) : (outsAt0 (F := Ideal) m c t).2 y = K m c (ix3 ⟨t.val, t.isLt⟩ (y 1) (y 2)) := by
  rw [out29_eq]
  have e (x : FVec Ideal S300x300 .f32) : shapeCast S1x300x300 x shapeCasts_S300x300_S1x300x300 y = x (ix2 (y 1) (y 2)) := by
    pointwise
  refine (e _).trans ((word_unit _).trans ?_)
  refine (congrArg (fun b : BitVec 1 => if b = 1#1 then (1 : EReal) else 0) (congrFun (congrFun (bits_in m c t) (y 1)) (y 2))).trans ?_
  exact bits_unit _ _ _ _

/-- The call's rows. -/
theorem arr28 : ((dats m 0 c).arrAt 28 cfg0.N : Vec Ideal S2x300x256 .f32) = R m c := by
  refine (dats m 0 c).arrAt_eq_of_covers 28 _ (by decide +kernel) fun t _ y => ?_
  blk_simp
  rw [after0_28]
  exact (point28 m c t y).trans (congrArg (R m c) (emb28 t y).symm)

/-- The call's mask. -/
theorem arr29 : ((dats m 0 c).arrAt 29 cfg0.N : Vec Ideal S2x300x300 .f32) = K m c := by
  refine (dats m 0 c).arrAt_eq_of_covers 29 _ (by decide +kernel) fun t _ y => ?_
  blk_simp
  rw [after0_29]
  exact (point29 m c t y).trans (congrArg (K m c) (emb29 t y).symm)

end Cert.Kernel6Ideal.Arr

end
end
-- ==== Proof.R6.lean ====
module

public import proofs.«01_k».proof.Proof.HostMask
public import proofs.«01_k».proof.Proof.R3
public import proofs.«01_k».proof.Proof.R4
public import proofs.«01_k».proof.Proof.R5
public import proofs.«01_k».proof.Proof.K6Arr
public import proofs.«01_k».proof.Proof.Gen.Reference6Ideal.Read
public import proofs.«01_k».proof.Defs

/-! # The layer-0 reference, and the claim about the layer-0 call -/

@[expose] public section

set_option maxRecDepth 16384

noncomputable section

namespace Cert.Reference6Ideal.Arr

open Idealize.ShloMosaic Idealize.ShloMosaic.TcCoe Cert.Reference6Ideal Cert.Reference6Ideal.Gen Cert.Host Cert.Spec Cert.KernelIdeal.Vec Idealize.SL.Sem
open Idealize.ShloMosaic.StableHlo (launchContents)
open Cert.Reference3Ideal.Arr (sdots sweights sctx swatt_eq)
open Cert.Reference4Ideal.Arr (hqp_eq)
open Cert.Reference5Ideal.Arr (hffn hffn_eq)
open Cert.Kernel6Ideal.Arr (bits boxes boxes' first)

/-- The first half of the keys' or the values' columns. -/
def hfirst (x : FVec Ideal S2x4096x512 .bf16) : FVec Ideal S2x4096x256 .f32 :=
  extf .f32 (extractStridedSlice S2x4096x256 ![0, 0, 0] x slices_S2x4096x512_S2x4096x256_0_0_0) bitsLt_bf16_f32

theorem hfirst_eq (x p) : page (hfirst x) p = first x p := by
  funext i j
  simp only [page, hfirst]
  pointwise

theorem above (b : Prop) [Decidable b] : FloatOps.cmpf (F := Ideal) (φ := .f32) .ogt (if b then (1 : EReal) else 0) (Ideal.ofBits .f32 0x00000000#32) = if b then 1#1 else 0#1 := by
  by_cases h : b
  · rw [if_pos h, if_pos h]
    pointwise
    simp
  · rw [if_neg h, if_neg h]
    pointwise
    simp

/-- Where the reference's mask is above zero. -/
theorem shown_eq (x0 x1 p) : Cert.Kernel3Ideal.Arr.shown (Read.val_main_v159 (F := Ideal) x0 x1) p = bits (boxes x0 p) (boxes' x1 p) := by
  funext i j
  rw [Cert.Kernel3Ideal.Arr.shown, HostMask.v159_eq]
  exact above _

/-- The rows with their positions, through a layer. -/
def hq (x : FVec Ideal S2x300x256 .f32) (qp : FVec Ideal S300x512 .f32) (w : FVec Ideal S256x256 .bf16) (b : FVec Ideal S1x256 .f32) : FVec Ideal S2x300x256 .f32 :=
  hlin (addf x (hqp qp)) w b

theorem hq_eq (x qp w b p) : page (hq x qp w b) p = lin (add (page x p) (half qp p)) (toM w) (toR b) := by
  rw [hq, hlin_eq, page_add, hqp_eq]

set_option maxHeartbeats 1000000 in
/-- The rows after the self-attention part. -/
theorem sa_res (x0 x1 x2 x3 x6 x7 x8 x9 x10 x11 x12 x13 x22 x23) : Read.val_main_v243 (F := Ideal) x0 x1 x2 x3 x6 x7 x8 x9 x10 x11 x12 x13 x22 x23
    = hln (addf (hqp x2) (hlin (sctx (sweights (sdots (Read.val_main_v159 (F := Ideal) x0 x1) (hsplit (hq (hqp x2) x3 x6 x7)) (hsplit (hq (hqp x2) x3 x8 x9)))) (hsplit (hlin (hqp x2) x10 x11))) x12 x13)) x22 x23 := rfl

theorem sa_eq (x0 x1 x2 x3 x6 x7 x8 x9 x10 x11 x12 x13 x22 x23 p) : page (Read.val_main_v243 (F := Ideal) x0 x1 x2 x3 x6 x7 x8 x9 x10 x11 x12 x13 x22 x23) p
    = saBlock (bits (boxes x0 p) (boxes' x1 p)) (half x2 p) (half x3 p) (toM x6) (toR x7) (toM x8) (toR x9) (toM x10) (toR x11) (toM x12) (toR x13) (toR x22) (toR x23) := by
  rw [sa_res, hln_eq, page_add, hlin_eq, swatt_eq, hq_eq, hq_eq, hlin_eq, hqp_eq, shown_eq, ← saBlock_eq]

set_option maxHeartbeats 1000000 in
/-- The rows after the cross-attention part. -/
theorem ca_res (x0 x1 x2 x3 x4 x5 x6 x7 x8 x9 x10 x11 x12 x13 x14 x15 x16 x17 x22 x23 x24 x25) : Read.val_main_v312 (F := Ideal) x0 x1 x2 x3 x4 x5 x6 x7 x8 x9 x10 x11 x12 x13 x14 x15 x16 x17 x22 x23 x24 x25
    = hln (addf (Read.val_main_v243 (F := Ideal) x0 x1 x2 x3 x6 x7 x8 x9 x10 x11 x12 x13 x22 x23) (hlin (hctx (hweights (hdots (hsplit (hq (Read.val_main_v243 (F := Ideal) x0 x1 x2 x3 x6 x7 x8 x9 x10 x11 x12 x13 x22 x23) x3 x14 x15)) (hsplitK (hfirst x4)))) (hsplitK (hfirst x5))) x16 x17)) x24 x25 := rfl

theorem ca_eq (x0 x1 x2 x3 x4 x5 x6 x7 x8 x9 x10 x11 x12 x13 x14 x15 x16 x17 x22 x23 x24 x25 p) : page (Read.val_main_v312 (F := Ideal) x0 x1 x2 x3 x4 x5 x6 x7 x8 x9 x10 x11 x12 x13 x14 x15 x16 x17 x22 x23 x24 x25) p
    = caBlock (page (Read.val_main_v243 (F := Ideal) x0 x1 x2 x3 x6 x7 x8 x9 x10 x11 x12 x13 x22 x23) p) (half x3 p) (first x4 p) (first x5 p) (toM x14) (toR x15) (toM x16) (toR x17) (toR x24) (toR x25) := by
  rw [ca_res, hln_eq, page_add, hlin_eq, watt_eq, hq_eq, hfirst_eq, hfirst_eq, ← caBlock_eq]

set_option maxHeartbeats 1000000 in
/-- The reference's rows. -/
theorem ff_res (x0 x1 x2 x3 x4 x5 x6 x7 x8 x9 x10 x11 x12 x13 x14 x15 x16 x17 x18 x19 x20 x21 x22 x23 x24 x25 x26 x27) : Read.val_main_v352 (F := Ideal) x0 x1 x2 x3 x4 x5 x6 x7 x8 x9 x10 x11 x12 x13 x14 x15 x16 x17 x18 x19 x20 x21 x22 x23 x24 x25 x26 x27
    = hln (addf (Read.val_main_v312 (F := Ideal) x0 x1 x2 x3 x4 x5 x6 x7 x8 x9 x10 x11 x12 x13 x14 x15 x16 x17 x22 x23 x24 x25) (hffn (Read.val_main_v312 (F := Ideal) x0 x1 x2 x3 x4 x5 x6 x7 x8 x9 x10 x11 x12 x13 x14 x15 x16 x17 x22 x23 x24 x25) x18 x19 x20 x21)) x26 x27 := rfl

/-- The reference's rows, and the call's. -/
theorem res_G (x0 x1 x2 x3 x4 x5 x6 x7 x8 x9 x10 x11 x12 x13 x14 x15 x16 x17 x18 x19 x20 x21 x22 x23 x24 x25 x26 x27) : (Read.val_main_v352 (F := Ideal) x0 x1 x2 x3 x4 x5 x6 x7 x8 x9 x10 x11 x12 x13 x14 x15 x16 x17 x18 x19 x20 x21 x22 x23 x24 x25 x26 x27 : S2x300x256.Idx → EReal)
    = Cert.Kernel6Ideal.Arr.G x0 x1 x2 x3 x4 x5 (toM x6) (toR x7) (toM x8) (toR x9) (toM x10) (toR x11) (toM x12) (toR x13) (toM x14) (toR x15) (toM x16) (toR x17)
      (toM x18) (toR x19) (toM x20) (toR x21) (toR x22) (toR x23) (toR x24) (toR x25) (toR x26) (toR x27) := by
  refine eq_of_page fun p i j => ?_
  rw [ff_res, hln_eq, page_add, hffn_eq, add_comm', ca_eq, sa_eq]
  rfl

/-- The reference's mask, and the call's. -/
theorem res_H (x0 x1) : (Read.val_main_v159 (F := Ideal) x0 x1 : S2x300x300.Idx → EReal) = Cert.Kernel6Ideal.Arr.H x0 x1 :=
  eq_of_page fun p i j => HostMask.v159_eq x0 x1 p i j

set_option maxHeartbeats 2000000 in
theorem claim : Cert.algebraic_Kernel6Ideal_Reference6Ideal := by
  intro m g m' g' _ hm
  refine ⟨fun c => Cert.Kernel6Ideal.Arr.R m c, fun c => Cert.Kernel6Ideal.Arr.K m c,
    (θ_run _ _ _).mono (fun r h c => ⟨(h c).1.trans (Cert.Kernel6Ideal.Arr.arr28 m c), (h c).2.1.trans (Cert.Kernel6Ideal.Arr.arr29 m c), (h c).2.2⟩) (Cert.Kernel6Ideal.Value.run_blocks m g),
    (θ_run _ _ _).mono (fun r h c => ⟨(h c).1.trans ?_, (h c).2.1.trans ?_, (h c).2.2⟩) (Value.run m' g')⟩
  · obtain ⟨h0, h1, h2, h3, h4, h5, h6, h7, h8, h9, h10, h11, h12, h13, h14, h15, h16, h17, h18, h19, h20, h21, h22, h23, h24, h25, h26, h27⟩ := hm c
    refine (Read.val_main_v352_eq (launchContents m' c)).trans ?_
    change Read.val_main_v352 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) (m' ((c.tc : Thread nD τ).loc main_arg26)) (m' ((c.tc : Thread nD τ).loc main_arg27)) = _
    rw [h0, h1, h2, h3, h4, h5, h6, h7, h8, h9, h10, h11, h12, h13, h14, h15, h16, h17, h18, h19, h20, h21, h22, h23, h24, h25, h26, h27]
    exact res_G _ _ _ _ _ _ _ _ _ _ _ _ _ _ _ _ _ _ _ _ _ _ _ _ _ _ _ _
  · obtain ⟨h0, h1, -⟩ := hm c
    refine (Read.val_main_v159_eq (launchContents m' c)).trans ?_
    change Read.val_main_v159 (F := Ideal) (m' ((c.tc : Thread nD τ).loc main_arg0)) (m' ((c.tc : Thread nD τ).loc main_arg1)) = _
    rw [h0, h1]
    exact res_H _ _

end Cert.Reference6Ideal.Arr

end
end
-- ==== Proof.Mid.lean ====
module

public import proofs.«01_k».proof.Proof.K6Arr

/-! # The two decoder layers, in numbers -/

@[expose] public section

set_option maxRecDepth 16384

noncomputable section

namespace Cert.Mid

open Idealize.ShloMosaic Cert.KernelIdeal Cert.Spec
open Cert.Kernel6Ideal.Arr (bits)

/-- The arguments of the whole computation, as arrays of numbers. -/
structure Args where
  tgt : S300x2x256.Idx → EReal
  mem : S4096x2x256.Idx → EReal
  pos : S4096x2x256.Idx → EReal
  qp : S300x2x256.Idx → EReal
  box : S300x2x4.Idx → EReal
  wq : S2x256x256.Idx → EReal
  bq : S2x256.Idx → EReal
  wk : S2x256x256.Idx → EReal
  bk : S2x256.Idx → EReal
  wv : S2x256x256.Idx → EReal
  bv : S2x256.Idx → EReal
  wo : S2x256x256.Idx → EReal
  bo : S2x256.Idx → EReal
  cwq : S2x256x256.Idx → EReal
  cbq : S2x256.Idx → EReal
  cwk : S2x256x256.Idx → EReal
  cbk : S2x256.Idx → EReal
  cwv : S2x256x256.Idx → EReal
  cbv : S2x256.Idx → EReal
  cwo : S2x256x256.Idx → EReal
  cbo : S2x256.Idx → EReal
  w1 : S2x256x2048.Idx → EReal
  b1 : S2x2048.Idx → EReal
  w2 : S2x2048x256.Idx → EReal
  b2 : S2x256.Idx → EReal
  g1 : S2x256.Idx → EReal
  c1 : S2x256.Idx → EReal
  g2 : S2x256.Idx → EReal
  c2 : S2x256.Idx → EReal
  g3 : S2x256.Idx → EReal
  c3 : S2x256.Idx → EReal
  ng : S256.Idx → EReal
  nb : S256.Idx → EReal

/-- Layer `l` of a stack of matrices, and of a stack of rows. -/
def wt {n k : ℕ} (l : Fin 2) (a : (⟨3, ![2, n, k]⟩ : Shape).Idx → EReal) : M n k := fun i j => a (ix3 l i j)
def rw {n : ℕ} (l : Fin 2) (a : (⟨2, ![2, n]⟩ : Shape).Idx → EReal) : Fin n → EReal := fun j => a (ix2 l j)
/-- Batch `p` of an array whose rows come first. -/
def pg {n k : ℕ} (x : (⟨3, ![n, 2, k]⟩ : Shape).Idx → EReal) (p : Fin 2) : M n k := fun i j => x (ix3 i p j)

variable (a : Args) (l : Fin 2) (p : Fin 2) (x : M 300 256)

/-- Which boxes a box of batch `p` may look at. -/
def near : Fin 300 → Fin 300 → BitVec 1 := bits (fun i k => a.box (ix3 i p k)) (fun k j => a.box (ix3 j p k))
/-- The keys and the values of layer `l`. -/
def keys : M 4096 256 := lin (add (pg a.mem p) (pg a.pos p)) (wt l a.cwk) (rw l a.cbk)
def vals : M 4096 256 := lin (pg a.mem p) (wt l a.cwv) (rw l a.cbv)
/-- The self-attention part of layer `l`, its cross-attention part, its feed-forward part, and the layer. -/
def sa : M 300 256 := saBlock (near a p) x (pg a.qp p) (wt l a.wq) (rw l a.bq) (wt l a.wk) (rw l a.bk) (wt l a.wv) (rw l a.bv) (wt l a.wo) (rw l a.bo) (rw l a.g1) (rw l a.c1)
def ca : M 300 256 := caBlock x (pg a.qp p) (keys a l p) (vals a l p) (wt l a.cwq) (rw l a.cbq) (wt l a.cwo) (rw l a.cbo) (rw l a.g2) (rw l a.c2)
def ff : M 300 256 := ffnBlock x (wt l a.w1) (rw l a.b1) (wt l a.w2) (rw l a.b2) (rw l a.g3) (rw l a.c3)
def layer : M 300 256 := ff a l (ca a l p (sa a l p x))

/-- The rows after both layers and the last normalisation. -/
def rows : M 300 256 := ln (layer a 1 p (layer a 0 p (pg a.tgt p))) (fun j => a.ng (ix1 j)) (fun j => a.nb (ix1 j))
/-- The second layer's cross-attention weights, averaged over the heads. -/
def avg : M 300 4096 := avgBlock (sa a 1 p (layer a 0 p (pg a.tgt p))) (pg a.qp p) (keys a 1 p) (wt 1 a.cwq) (rw 1 a.cbq)

/-- The two results. -/
def out (y : S300x2x256.Idx) : EReal := rows a (y 1) (y 0) (y 2)
def att (y : S2x300x4096.Idx) : EReal := avg a (y 0) (y 1) (y 2)

end Cert.Mid

end
end
-- ==== Proof.KvArr.lean ====
module

public import proofs.«01_k».proof.Proof.K2
public import proofs.«01_k».proof.Proof.KernelIdeal.State

/-! # The arrays of the key and value projection inside the whole program -/

@[expose] public section

set_option maxRecDepth 16384

noncomputable section

namespace Cert.KernelIdeal.Kv

open Idealize.ShloMosaic Idealize.ShloMosaic.TcCoe Cert.KernelIdeal Cert.KernelIdeal.Gen Cert.KernelIdeal.Vec Cert.Spec
open Idealize.ShloMosaic.Pipeline (Dat)
open Cert.Kernel2Ideal.Arr (vkv vkv_eq K W page_of toM_add)

variable (V : (c : Dev nD) → (b : Ref sig .tc) → Buf (Elt Ideal) ((c : Thread nD τ).loc b)) (c : Dev nD) (t : Fin cfg0.N)

theorem out6_eq (x0 x1 : Vec Ideal S1024x256 .f32) (x2 : Vec Ideal S256x512 .bf16) (x3 : Vec Ideal S1x512 .f32) (x4 : Vec Ideal S256x512 .bf16) (x5 : Vec Ideal S1x512 .f32) :
    out0_6 x0 x1 x2 x3 x4 x5 = shapeCast S1x1024x512 (vkv (addf x0 x1) x2 x3) shapeCasts_S1024x512_S1x1024x512 := by
  frame_out
  simp only [k0_pay1, k0_pay2, vkv, shapeCast_self]
  rfl

theorem out7_eq (x0 x1 : Vec Ideal S1024x256 .f32) (x2 : Vec Ideal S256x512 .bf16) (x3 : Vec Ideal S1x512 .f32) (x4 : Vec Ideal S256x512 .bf16) (x5 : Vec Ideal S1x512 .f32) :
    out0_7 x0 x1 x2 x3 x4 x5 = shapeCast S1x1024x512 (vkv x0 x4 x5) shapeCasts_S1024x512_S1x1024x512 := by
  frame_out
  simp only [k0_pay1, k0_pay3, vkv, shapeCast_self]
  rfl

/-- The page of a grid point. -/
def pg : Fin 2 := ⟨t.val / 4, Nat.div_lt_of_lt_mul t.isLt⟩
/-- Row `i` of a grid point's block, in the page. -/
def row (i : Fin 1024) : Fin 4096 := ⟨1024 * (t.val % 4) + i.val, by omega⟩

theorem idx_in : ∀ t : Fin cfg0.N, win0_0.index t = ![t.val % 4, t.val / 4] ∧ win0_1.index t = ![t.val % 4, t.val / 4] := (by decide +kernel : ∀ t : Fin grid0.N, _)
theorem idx_out : ∀ t : Fin cfg0.N, win0_6.index t = ![t.val / 4, t.val % 4, 0] ∧ win0_7.index t = ![t.val / 4, t.val % 4, 0] := (by decide +kernel : ∀ t : Fin grid0.N, _)
theorem idx_whole : ∀ t : Fin cfg0.N, win0_2.index t = ![0, 0] ∧ win0_3.index t = ![0, 0] ∧ win0_4.index t = ![0, 0] ∧ win0_5.index t = ![0, 0] := (by decide +kernel : ∀ t : Fin grid0.N, _)
theorem emb6 (y : S1x1024x512.Idx) : (win0_6.blk t).view.emb y = ix3 (pg t) (row t (y 1)) (y 2) := by blk_ext [idx_out t, pg, row]
theorem emb7 (y : S1x1024x512.Idx) : (win0_7.blk t).view.emb y = ix3 (pg t) (row t (y 1)) (y 2) := by blk_ext [idx_out t, pg, row]

/-- The weights' blocks are whole arrays. -/
theorem whole : (iblk0 V c 2 t : Vec Ideal S256x512 .bf16) = V c main_v11 ∧ (iblk0 V c 3 t : Vec Ideal S1x512 .f32) = V c main_v17
    ∧ (iblk0 V c 4 t : Vec Ideal S256x512 .bf16) = V c main_v23 ∧ (iblk0 V c 5 t : Vec Ideal S1x512 .f32) = V c main_v29 := by
  refine ⟨?_, ?_, ?_, ?_⟩ <;> funext y <;> blk_ext [iblk0, idx_whole t]

theorem rows_in : toM (iblk0 V c 0 t : Vec Ideal S1024x256 .f32) = fun i => half (V c main_v2 : Vec Ideal S4096x512 .f32) (pg t) (row t i) := by
  funext i j
  show iblk0 V c 0 t (ix2 i j) = _
  blk_ext [iblk0, idx_in t, pg, row]

theorem pos_in : toM (iblk0 V c 1 t : Vec Ideal S1024x256 .f32) = fun i => half (V c main_v3 : Vec Ideal S4096x512 .f32) (pg t) (row t i) := by
  funext i j
  show iblk0 V c 1 t (ix2 i j) = _
  blk_ext [iblk0, idx_in t, pg, row]

/-- The call's keys from its arguments. -/
def R6 : S2x4096x512.Idx → EReal := K (V c main_v2) (V c main_v3) (toM (V c main_v11 : Vec Ideal S256x512 .bf16)) (toR (V c main_v17 : Vec Ideal S1x512 .f32))
/-- The call's values from its arguments. -/
def R7 : S2x4096x512.Idx → EReal := W (V c main_v2) (toM (V c main_v23 : Vec Ideal S256x512 .bf16)) (toR (V c main_v29 : Vec Ideal S1x512 .f32))

theorem point6 (y : S1x1024x512.Idx) : out0_6 (iblk0 V c 0 t) (iblk0 V c 1 t) (iblk0 V c 2 t) (iblk0 V c 3 t) (iblk0 V c 4 t) (iblk0 V c 5 t) y = R6 V c (ix3 (pg t) (row t (y 1)) (y 2)) := by
  obtain ⟨h2, h3, -, -⟩ := whole V c t
  rw [out6_eq, h2, h3]
  refine (page_of _ y).trans ?_
  rw [vkv_eq]
  rw [toM_add, rows_in, pos_in]
  rfl

theorem point7 (y : S1x1024x512.Idx) : out0_7 (iblk0 V c 0 t) (iblk0 V c 1 t) (iblk0 V c 2 t) (iblk0 V c 3 t) (iblk0 V c 4 t) (iblk0 V c 5 t) y = R7 V c (ix3 (pg t) (row t (y 1)) (y 2)) := by
  obtain ⟨-, -, h4, h5⟩ := whole V c t
  rw [out7_eq, h4, h5]
  refine (page_of _ y).trans ?_
  rw [vkv_eq, rows_in]
  rfl

/-- The call's keys. -/
theorem arr6 : ((dat0 V c).arrAt 6 cfg0.N : Vec Ideal S2x4096x512 .bf16) = R6 V c := by
  refine (dat0 V c).arrAt_eq_of_covers 6 _ (by decide +kernel) fun t _ y => ?_
  blk_simp
  rw [after0_6]
  exact (point6 V c t y).trans (congrArg (R6 V c) (emb6 t y).symm)

/-- The call's values. -/
theorem arr7 : ((dat0 V c).arrAt 7 cfg0.N : Vec Ideal S2x4096x512 .bf16) = R7 V c := by
  refine (dat0 V c).arrAt_eq_of_covers 7 _ (by decide +kernel) fun t _ y => ?_
  blk_simp
  rw [after0_7]
  exact (point7 V c t y).trans (congrArg (R7 V c) (emb7 t y).symm)

end Cert.KernelIdeal.Kv

end
end
-- ==== Proof.One.lean ====
module

public import proofs.«01_k».proof.Proof.K6Arr
public import proofs.«01_k».proof.Proof.KernelIdeal.State

/-! # What the layer-0 call's two blocks hold inside the whole program -/

@[expose] public section

set_option maxRecDepth 16384

noncomputable section

namespace Cert.KernelIdeal.One

open Idealize.ShloMosaic Idealize.ShloMosaic.TcCoe Cert.KernelIdeal Cert.KernelIdeal.Gen Cert.KernelIdeal.Vec Cert.Spec
open Cert.Kernel6Ideal.Mask (keys kth vmask vscore)

open Cert.Kernel6Ideal.Arr (dist afterSa)
open Idealize.ShloMosaic.Pipeline (Dat)

/-! ## The values of the words -/

theorem q_eq (x qp wq bq) : k1_pay39 (F := Ideal) x qp wq bq = vscale (vlin (addf x qp) wq bq) := by
  simp only [k1_pay39, k1_pay38, k1_pay36, k1_pay37, vscale, vlin, shapeCast_self]
theorem k_eq (x qp wk bk) : k1_pay40 (F := Ideal) x qp wk bk = vlin (addf x qp) wk bk := by
  simp only [k1_pay40, k1_pay38, k1_pay36, k1_pay37, vlin, shapeCast_self]

/-- The self-attention heads side by side, through the output weights. -/
def saOut (mk : IVec S300x300 1) (q k x : FVec Ideal S300x256 .f32) (wv : FVec Ideal S256x256 .bf16) (bv : FVec Ideal S1x256 .f32) (wo : FVec Ideal S256x256 .bf16) : FVec Ideal S300x256 .f32 :=
  k1_pay56 (F := Ideal) mk q k (k1_pay43 (k1_pay41 wv) (k1_pay42 x) bv) (k1_pay44 mk q k (k1_pay41 wv) (k1_pay42 x) bv)
    (k1_pay49 (k1_pay46 mk q k) (k1_pay47 mk q k) (k1_pay48 (k1_pay41 wv) (k1_pay42 x) bv))
    (k1_pay50 mk q k (k1_pay43 (k1_pay41 wv) (k1_pay42 x) bv)) (k1_pay51 mk q k (k1_pay43 (k1_pay41 wv) (k1_pay42 x) bv))
    (k1_pay52 mk q k (k1_pay43 (k1_pay41 wv) (k1_pay42 x) bv)) (k1_pay53 mk q k (k1_pay43 (k1_pay41 wv) (k1_pay42 x) bv)) (k1_pay54 q) (k1_pay55 k) wo

theorem v_eq (x wv bv) : k1_pay43 (F := Ideal) (k1_pay41 wv) (k1_pay42 x) bv = vlin x wv bv := by
  simp only [k1_pay43, k1_pay42, k1_pay41, k1_pay36, vlin, shapeCast_self]

set_option maxHeartbeats 2000000 in
theorem saOut_eq (mk q k x wv bv wo) : saOut mk q k x wv bv wo
    = matmul dot_S300x256_S256x256_S300x256_1_0_0_1_n_n none (truncf .bf16 (saHeads mk q k (vlin x wv bv)) bitsLt_bf16_f32) (shapeCast S256x256 wo shapeCasts_S256x256_S256x256 : FVec Ideal S256x256 .bf16) (constant S300x256 .f32 0x00000000#32) := by
  unfold saOut
  simp only [k1_pay48, k1_pay44, v_eq]
  generalize vlin x wv bv = v
  simp only [saHeads, k1_pay56, k1_pay55, k1_pay54, k1_pay53, k1_pay52, k1_pay51, k1_pay50, k1_pay49, k1_pay47, k1_pay46, k1_pay45]
  simp only [saHead, saCtx, saInv, saEx, saScore, shapeCast_self]

theorem ln1_eq (mk q k x wv bv wo bo g b) : k1_pay57 (F := Ideal) (k1_pay36 x) (saOut mk q k x wv bv wo) bo g b
    = vln (addf (vlin (saHeads mk q k (vlin x wv bv)) wo bo) x) g b := by
  rw [saOut_eq]
  generalize saHeads mk q k (vlin x wv bv) = y
  simp only [k1_pay57, k1_pay36, vln, vcen, vmean, vlin, shapeCast_self]

theorem qs_eq (mk q k x wv bv wo bo g b qp wq bq) : k1_pay58 (F := Ideal) (k1_pay36 x) (k1_pay37 qp) (saOut mk q k x wv bv wo) bo g b wq bq
    = vscale (vlin (addf (vln (addf (vlin (saHeads mk q k (vlin x wv bv)) wo bo) x) g b) qp) wq bq) := by
  rw [← ln1_eq]
  simp only [k1_pay58, k1_pay37, vscale, vlin, shapeCast_self]

/-- Rows centred and divided by their deviation. -/
def vnorm (x : FVec Ideal S300x256 .f32) : FVec Ideal S300x256 .f32 :=
  divf (vcen x) (broadcastTo S300x256 (sqrt (addf (vmean (mulf (vcen x) (vcen x))) (broadcast S300x1 (Scalar.ofBits .f32 0x3727C5AC#32)))) broadcasts_S300x1_S300x256)

set_option maxHeartbeats 2000000 in
theorem ca_eq (x q kb vb wo bo) :
    k1_pay75 (F := Ideal) x (k1_pay60 vb) (k1_pay61 q kb vb) (k1_pay62 q kb vb) (k1_pay64 (k1_pay60 vb) (k1_pay63 q kb)) (k1_pay65 q (k1_pay59 kb) (k1_pay60 vb))
      (k1_pay70 (k1_pay67 q (k1_pay59 kb)) (k1_pay68 (k1_pay60 vb)) (k1_pay69 q (k1_pay59 kb))) (k1_pay71 q (k1_pay59 kb) (k1_pay60 vb)) (k1_pay72 q (k1_pay59 kb) (k1_pay60 vb))
      (k1_pay73 q (k1_pay59 kb)) wo bo
    = vnorm (addf (vlin (caHeads q (ks kb) (ks vb)) wo bo) x) := by
  simp only [caHeads, k1_pay75, k1_pay73, k1_pay72, k1_pay71, k1_pay70, k1_pay69, k1_pay68, k1_pay67, k1_pay66, k1_pay65, k1_pay64, k1_pay63, k1_pay62, k1_pay61, k1_pay60, k1_pay59]
  simp only [vnorm, vcen, vmean, caHead, caCtx, caEx, caInv, caScore, vlin, ks, shapeCast_self]

set_option maxHeartbeats 2000000 in
theorem ff_eq (y g b w1 b1 w2 b2 g3 c3) :
    k1_pay1 (F := Ideal) (k1_pay78 g3) (k1_pay79 c3) (k1_pay81 (k1_pay74 b) (vnorm y) (k1_pay76 g) w1 b1 w2 b2) (k1_pay82 (k1_pay74 b) (vnorm y) (k1_pay76 g) w1 b1 w2 b2) (k1_pay83 (F := Ideal))
    = shapeCast S1x300x256 (vff (vln y g b) w1 b1 w2 b2 g3 c3) shapeCasts_S300x256_S1x300x256 := by
  simp only [k1_pay1, k1_pay78, k1_pay79, k1_pay81, k1_pay82, k1_pay80, k1_pay83, k1_pay77, k1_pay76, k1_pay74]
  simp only [vff, vffn, vhid, vln, vnorm, vcen, vmean, shapeCast_self]

variable (V : (c : Dev nD) → (b : Ref sig .tc) → Buf (Elt Ideal) ((c : Thread nD τ).loc b)) (c : Dev nD) (t : Fin cfg1.N)

section Words
variable (a1 : Memref sig .tc .vmem S1x300x4 .f32) (h1 : a1.IsWhole) (a2 : Memref sig .tc .vmem S1x4x300 .f32) (h2 : a2.IsWhole) (x0 : Vec Ideal S1x300x4 .f32) (x1 : Vec Ideal S1x4x300 .f32)

theorem keys_at : kernelRun1_A.sl.r_12 (F := Ideal) c a1 h1 a2 h2 x0 x1 = keys (dist x0 x1) := by
  have e : kernelRun1_A.sl.r_12 (F := Ideal) c a1 h1 a2 h2 x0 x1 = keys (vscore
    (View.readAt (Elt Ideal) a1.view (Rect.unit (s := S1x300x4) ![0, 0, 0] S1x300x1.size inb_S1x300x4_S1x300x1_0_0_0).toLoadRect (h1.unread x0))
    (View.readAt (Elt Ideal) a1.view (Rect.unit (s := S1x300x4) ![0, 0, 1] S1x300x1.size inb_S1x300x4_S1x300x1_0_0_1).toLoadRect (h1.unread x0))
    (View.readAt (Elt Ideal) a1.view (Rect.unit (s := S1x300x4) ![0, 0, 2] S1x300x1.size inb_S1x300x4_S1x300x1_0_0_2).toLoadRect (h1.unread x0))
    (View.readAt (Elt Ideal) a1.view (Rect.unit (s := S1x300x4) ![0, 0, 3] S1x300x1.size inb_S1x300x4_S1x300x1_0_0_3).toLoadRect (h1.unread x0))
    (View.readAt (Elt Ideal) a2.view (Rect.unit (s := S1x4x300) ![0, 0, 0] S1x1x300.size inb_S1x4x300_S1x1x300_0_0_0).toLoadRect (h2.unread x1))
    (View.readAt (Elt Ideal) a2.view (Rect.unit (s := S1x4x300) ![0, 1, 0] S1x1x300.size inb_S1x4x300_S1x1x300_0_1_0).toLoadRect (h2.unread x1))
    (View.readAt (Elt Ideal) a2.view (Rect.unit (s := S1x4x300) ![0, 2, 0] S1x1x300.size inb_S1x4x300_S1x1x300_0_2_0).toLoadRect (h2.unread x1))
    (View.readAt (Elt Ideal) a2.view (Rect.unit (s := S1x4x300) ![0, 3, 0] S1x1x300.size inb_S1x4x300_S1x1x300_0_3_0).toLoadRect (h2.unread x1))
    ) := rfl
  rw [e]
  simp only [View.readAt_eq_ld, Memref.IsWhole.read_unread]
  rfl

theorem kth_at : (kernelRun1_A.sl.r_13 (F := Ideal) c a1 h1 a2 h2 x0 x1).1 = kth (keys (dist x0 x1)) := by
  have e : (kernelRun1_A.sl.r_13 (F := Ideal) c a1 h1 a2 h2 x0 x1).1 = kth (kernelRun1_A.sl.r_12 (F := Ideal) c a1 h1 a2 h2 x0 x1) := rfl
  rw [e, keys_at]

theorem mask_at : kernelRun1_A.sl.r_18 (F := Ideal) c a1 h1 a2 h2 x0 x1 = vmask (dist x0 x1) := by
  rw [kernelRun1_A.sl.r_18, kernelRun1_A.sl.r_14, kernelRun1_A.sl.r_15, kernelRun1_A.sl.r_16, kernelRun1_A.sl.r_17, keys_at, kth_at]
  rfl

end Words

section Rows
variable (a1 : Memref sig .tc .vmem S1x300x4 .f32) (h1 : a1.IsWhole) (x0 : Vec Ideal S1x300x4 .f32) (a2 : Memref sig .tc .vmem S1x4x300 .f32) (h2 : a2.IsWhole) (x1 : Vec Ideal S1x4x300 .f32) (a3 : Memref sig .tc .vmem S300x256 .f32) (h3 : a3.IsWhole) (x2 : Vec Ideal S300x256 .f32) (a4 : Memref sig .tc .vmem S300x256 .f32) (h4 : a4.IsWhole) (x3 : Vec Ideal S300x256 .f32) (a5 : Memref sig .tc .vmem S1x4096x256 .bf16) (h5 : a5.IsWhole) (x4 : Vec Ideal S1x4096x256 .bf16) (a6 : Memref sig .tc .vmem S1x4096x256 .bf16) (h6 : a6.IsWhole) (x5 : Vec Ideal S1x4096x256 .bf16) (a7 : Memref sig .tc .vmem S256x256 .bf16) (h7 : a7.IsWhole) (x6 : Vec Ideal S256x256 .bf16) (a8 : Memref sig .tc .vmem S1x256 .f32) (h8 : a8.IsWhole) (x7 : Vec Ideal S1x256 .f32) (a9 : Memref sig .tc .vmem S256x256 .bf16) (h9 : a9.IsWhole) (x8 : Vec Ideal S256x256 .bf16) (a10 : Memref sig .tc .vmem S1x256 .f32) (h10 : a10.IsWhole) (x9 : Vec Ideal S1x256 .f32) (a11 : Memref sig .tc .vmem S256x256 .bf16) (h11 : a11.IsWhole) (x10 : Vec Ideal S256x256 .bf16) (a12 : Memref sig .tc .vmem S1x256 .f32) (h12 : a12.IsWhole) (x11 : Vec Ideal S1x256 .f32) (a13 : Memref sig .tc .vmem S256x256 .bf16) (h13 : a13.IsWhole) (x12 : Vec Ideal S256x256 .bf16) (a14 : Memref sig .tc .vmem S1x256 .f32) (h14 : a14.IsWhole) (x13 : Vec Ideal S1x256 .f32) (a15 : Memref sig .tc .vmem S256x256 .bf16) (h15 : a15.IsWhole) (x14 : Vec Ideal S256x256 .bf16) (a16 : Memref sig .tc .vmem S1x256 .f32) (h16 : a16.IsWhole) (x15 : Vec Ideal S1x256 .f32) (a17 : Memref sig .tc .vmem S256x256 .bf16) (h17 : a17.IsWhole) (x16 : Vec Ideal S256x256 .bf16) (a18 : Memref sig .tc .vmem S1x256 .f32) (h18 : a18.IsWhole) (x17 : Vec Ideal S1x256 .f32) (a19 : Memref sig .tc .vmem S256x2048 .bf16) (h19 : a19.IsWhole) (x18 : Vec Ideal S256x2048 .bf16) (a20 : Memref sig .tc .vmem S1x2048 .f32) (h20 : a20.IsWhole) (x19 : Vec Ideal S1x2048 .f32) (a21 : Memref sig .tc .vmem S2048x256 .bf16) (h21 : a21.IsWhole) (x20 : Vec Ideal S2048x256 .bf16) (a22 : Memref sig .tc .vmem S1x256 .f32) (h22 : a22.IsWhole) (x21 : Vec Ideal S1x256 .f32) (a23 : Memref sig .tc .vmem S1x256 .f32) (h23 : a23.IsWhole) (x22 : Vec Ideal S1x256 .f32) (a24 : Memref sig .tc .vmem S1x256 .f32) (h24 : a24.IsWhole) (x23 : Vec Ideal S1x256 .f32) (a25 : Memref sig .tc .vmem S1x256 .f32) (h25 : a25.IsWhole) (x24 : Vec Ideal S1x256 .f32) (a26 : Memref sig .tc .vmem S1x256 .f32) (h26 : a26.IsWhole) (x25 : Vec Ideal S1x256 .f32) (a27 : Memref sig .tc .vmem S1x256 .f32) (h27 : a27.IsWhole) (x26 : Vec Ideal S1x256 .f32) (a28 : Memref sig .tc .vmem S1x256 .f32) (h28 : a28.IsWhole) (x27 : Vec Ideal S1x256 .f32)

/-! ## The rows, one value after the other -/

theorem ld_S1x2048_f32 (a : Memref sig .tc .vmem S1x2048 .f32) (h : a.IsWhole) (x : Vec Ideal S1x2048 .f32) : View.readAt (Elt Ideal) a.view (Rect.unit (s := S1x2048) ![0, 0] S1x2048.size inb_S1x2048_S1x2048_0_0).toLoadRect (h.unread x) = x := by
  simp (disch := decide) only [View.readAt_eq_ld, Memref.IsWhole.read_unread, View.ld_unit_lit']
theorem ld_S1x256_f32 (a : Memref sig .tc .vmem S1x256 .f32) (h : a.IsWhole) (x : Vec Ideal S1x256 .f32) : View.readAt (Elt Ideal) a.view (Rect.unit (s := S1x256) ![0, 0] S1x256.size inb_S1x256_S1x256_0_0).toLoadRect (h.unread x) = x := by
  simp (disch := decide) only [View.readAt_eq_ld, Memref.IsWhole.read_unread, View.ld_unit_lit']
theorem ld_S1x4096x256_bf16 (a : Memref sig .tc .vmem S1x4096x256 .bf16) (h : a.IsWhole) (x : Vec Ideal S1x4096x256 .bf16) : View.readAt (Elt Ideal) a.view (Rect.unit (s := S1x4096x256) ![0, 0, 0] S1x4096x256.size inb_S1x4096x256_S1x4096x256_0_0_0).toLoadRect (h.unread x) = x := by
  simp (disch := decide) only [View.readAt_eq_ld, Memref.IsWhole.read_unread, View.ld_unit_lit']
theorem ld_S2048x256_bf16 (a : Memref sig .tc .vmem S2048x256 .bf16) (h : a.IsWhole) (x : Vec Ideal S2048x256 .bf16) : View.readAt (Elt Ideal) a.view (Rect.unit (s := S2048x256) ![0, 0] S2048x256.size inb_S2048x256_S2048x256_0_0).toLoadRect (h.unread x) = x := by
  simp (disch := decide) only [View.readAt_eq_ld, Memref.IsWhole.read_unread, View.ld_unit_lit']
theorem ld_S256x2048_bf16 (a : Memref sig .tc .vmem S256x2048 .bf16) (h : a.IsWhole) (x : Vec Ideal S256x2048 .bf16) : View.readAt (Elt Ideal) a.view (Rect.unit (s := S256x2048) ![0, 0] S256x2048.size inb_S256x2048_S256x2048_0_0).toLoadRect (h.unread x) = x := by
  simp (disch := decide) only [View.readAt_eq_ld, Memref.IsWhole.read_unread, View.ld_unit_lit']
theorem ld_S256x256_bf16 (a : Memref sig .tc .vmem S256x256 .bf16) (h : a.IsWhole) (x : Vec Ideal S256x256 .bf16) : View.readAt (Elt Ideal) a.view (Rect.unit (s := S256x256) ![0, 0] S256x256.size inb_S256x256_S256x256_0_0).toLoadRect (h.unread x) = x := by
  simp (disch := decide) only [View.readAt_eq_ld, Memref.IsWhole.read_unread, View.ld_unit_lit']
theorem ld_S300x256_f32 (a : Memref sig .tc .vmem S300x256 .f32) (h : a.IsWhole) (x : Vec Ideal S300x256 .f32) : View.readAt (Elt Ideal) a.view (Rect.unit (s := S300x256) ![0, 0] S300x256.size inb_S300x256_S300x256_0_0).toLoadRect (h.unread x) = x := by
  simp (disch := decide) only [View.readAt_eq_ld, Memref.IsWhole.read_unread, View.ld_unit_lit']

theorem r21_at : (kernelRun1_A.sl.r_21 (F := Ideal) c a3 h3 a4 h4 a7 h7 a8 h8 x2 x3 x6 x7) = vscale (vlin (addf x2 x3) x6 x7) := by
  rw [kernelRun1_A.sl.r_21]
  simp (disch := decide) only [View.readAt_eq_ld, Memref.IsWhole.read_unread, View.ld_unit_lit']
  exact q_eq _ _ _ _
theorem r22_at : (kernelRun1_A.sl.r_22 (F := Ideal) c a3 h3 a4 h4 a9 h9 a10 h10 x2 x3 x8 x9) = vlin (addf x2 x3) x8 x9 := by
  rw [kernelRun1_A.sl.r_22]
  simp (disch := decide) only [View.readAt_eq_ld, Memref.IsWhole.read_unread, View.ld_unit_lit']
  exact k_eq _ _ _ _

theorem r37_at : (kernelRun1_A.sl.r_37 (F := Ideal) c a1 h1 a2 h2 a3 h3 a4 h4 a7 h7 a8 h8 a9 h9 a10 h10 a11 h11 a12 h12 a13 h13 x0 x1 x2 x3 x6 x7 x8 x9 x10 x11 x12) = saOut (vmask (dist x0 x1)) (vscale (vlin (addf x2 x3) x6 x7)) (vlin (addf x2 x3) x8 x9) x2 x10 x11 x12 := by
  simp only [kernelRun1_A.sl.r_37, kernelRun1_A.sl.r_36, kernelRun1_A.sl.r_35, kernelRun1_A.sl.r_34, kernelRun1_A.sl.r_33, kernelRun1_A.sl.r_32, kernelRun1_A.sl.r_31, kernelRun1_A.sl.r_30, kernelRun1_A.sl.r_29, kernelRun1_A.sl.r_28, kernelRun1_A.sl.r_27, kernelRun1_A.sl.r_26, kernelRun1_A.sl.r_25, kernelRun1_A.sl.r_24, kernelRun1_A.sl.r_23]
  simp only [mask_at, r21_at, r22_at]
  simp (disch := decide) only [View.readAt_eq_ld, Memref.IsWhole.read_unread, View.ld_unit_lit']
  rfl

theorem r38_at : (kernelRun1_A.sl.r_38 (F := Ideal) c a1 h1 a2 h2 a3 h3 a4 h4 a7 h7 a8 h8 a9 h9 a10 h10 a11 h11 a12 h12 a13 h13 a14 h14 a23 h23 a24 h24 x0 x1 x2 x3 x6 x7 x8 x9 x10 x11 x12 x13 x22 x23) = afterSa x0 x1 x2 x3 x6 x7 x8 x9 x10 x11 x12 x13 x22 x23 := by
  rw [kernelRun1_A.sl.r_38, r37_at, kernelRun1_A.sl.r_19]
  simp (disch := decide) only [View.readAt_eq_ld, Memref.IsWhole.read_unread, View.ld_unit_lit']
  exact ln1_eq _ _ _ _ _ _ _ _ _ _

theorem r39_at : (kernelRun1_A.sl.r_39 (F := Ideal) c a1 h1 a2 h2 a3 h3 a4 h4 a7 h7 a8 h8 a9 h9 a10 h10 a11 h11 a12 h12 a13 h13 a14 h14 a15 h15 a16 h16 a23 h23 a24 h24 x0 x1 x2 x3 x6 x7 x8 x9 x10 x11 x12 x13 x14 x15 x22 x23) = vscale (vlin (addf (afterSa x0 x1 x2 x3 x6 x7 x8 x9 x10 x11 x12 x13 x22 x23) x3) x14 x15) := by
  rw [kernelRun1_A.sl.r_39, r37_at, kernelRun1_A.sl.r_19, kernelRun1_A.sl.r_20]
  simp (disch := decide) only [View.readAt_eq_ld, Memref.IsWhole.read_unread, View.ld_unit_lit']
  exact qs_eq _ _ _ _ _ _ _ _ _ _ _ _ _

theorem r55_at : (kernelRun1_A.sl.r_55 (F := Ideal) c a1 h1 a2 h2 a3 h3 a4 h4 a5 h5 a6 h6 a7 h7 a8 h8 a9 h9 a10 h10 a11 h11 a12 h12 a13 h13 a14 h14 a15 h15 a16 h16 a17 h17 a18 h18 a23 h23 a24 h24 x0 x1 x2 x3 x4 x5 x6 x7 x8 x9 x10 x11 x12 x13 x14 x15 x16 x17 x22 x23) = vnorm (addf (vlin (caHeads (vscale (vlin (addf (afterSa x0 x1 x2 x3 x6 x7 x8 x9 x10 x11 x12 x13 x22 x23) x3) x14 x15)) (ks x4) (ks x5)) x16 x17) (afterSa x0 x1 x2 x3 x6 x7 x8 x9 x10 x11 x12 x13 x22 x23)) := by
  simp only [kernelRun1_A.sl.r_55, kernelRun1_A.sl.r_53, kernelRun1_A.sl.r_52, kernelRun1_A.sl.r_51, kernelRun1_A.sl.r_50, kernelRun1_A.sl.r_49, kernelRun1_A.sl.r_48, kernelRun1_A.sl.r_47, kernelRun1_A.sl.r_46, kernelRun1_A.sl.r_45, kernelRun1_A.sl.r_44, kernelRun1_A.sl.r_43, kernelRun1_A.sl.r_42, kernelRun1_A.sl.r_41, kernelRun1_A.sl.r_40]
  simp only [r39_at, r38_at]
  simp (disch := decide) only [View.readAt_eq_ld, Memref.IsWhole.read_unread, View.ld_unit_lit']
  exact ca_eq _ _ _ _ _ _

end Rows

set_option maxHeartbeats 4000000 in
/-- The mask a block of the call holds. -/
theorem out29_eq : (outsAt1 (F := Ideal) V c t).2 = shapeCast S1x300x300 (sitofp .f32 (extui 32 (vmask (dist (iblk1 V c 0 t) (iblk1 V c 1 t))) natLt_1_32) : FVec Ideal S300x300 .f32) shapeCasts_S300x300_S1x300x300 := by
  rw [← mask_at c (ms1_0 t) (hs1_0 t) (ms1_1 t) (hs1_1 t), outsAt1]
  dsimp only
  rw [out1_A_29, kernelRun1_A]
  dsimp only
  simp (disch := decide) only [View.read_writes_junk_eq_canon, View.canon_cons_unit_lit']
  rfl

set_option maxHeartbeats 4000000 in
/-- The rows a block of the call holds. -/
theorem out28_eq : (outsAt1 (F := Ideal) V c t).1 = shapeCast S1x300x256 (vff (vca (afterSa (iblk1 V c 0 t) (iblk1 V c 1 t) (iblk1 V c 2 t) (iblk1 V c 3 t) (iblk1 V c 6 t) (iblk1 V c 7 t) (iblk1 V c 8 t) (iblk1 V c 9 t) (iblk1 V c 10 t) (iblk1 V c 11 t) (iblk1 V c 12 t) (iblk1 V c 13 t) (iblk1 V c 22 t) (iblk1 V c 23 t))
    (iblk1 V c 3 t) (ks (iblk1 V c 4 t)) (ks (iblk1 V c 5 t)) (iblk1 V c 14 t) (iblk1 V c 15 t) (iblk1 V c 16 t) (iblk1 V c 17 t) (iblk1 V c 24 t) (iblk1 V c 25 t))
    (iblk1 V c 18 t) (iblk1 V c 19 t) (iblk1 V c 20 t) (iblk1 V c 21 t) (iblk1 V c 26 t) (iblk1 V c 27 t)) shapeCasts_S300x256_S1x300x256 := by
  rw [outsAt1]
  dsimp only
  rw [out1_A_28, kernelRun1_A]
  dsimp only
  simp (disch := decide) only [View.read_writes_junk_eq_canon, View.canon_cons_unit_lit']
  rw [kernelRun1_A.sl.r_59, kernelRun1_A.sl.r_60, kernelRun1_A.sl.r_54, kernelRun1_A.sl.r_56, kernelRun1_A.sl.r_57, kernelRun1_A.sl.r_58, r55_at]
  simp (disch := decide) only [View.readAt_eq_ld, Memref.IsWhole.read_unread, View.ld_unit_lit']
  exact ff_eq _ _ _ _ _ _ _ _ _

end Cert.KernelIdeal.One
-- ==== Proof.OneArr.lean ====
module

public import proofs.«01_k».proof.Proof.One
public import proofs.«01_k».proof.Proof.KernelIdeal.State

/-! # The arrays of the layer-0 call inside the whole program -/

@[expose] public section

set_option maxRecDepth 16384

noncomputable section

namespace Cert.KernelIdeal.One

open Idealize.ShloMosaic Idealize.ShloMosaic.TcCoe Cert.KernelIdeal Cert.KernelIdeal.Gen Cert.KernelIdeal.Vec Cert.Spec
open Idealize.ShloMosaic.Pipeline (Dat)
open Cert.Kernel6Ideal.Mask (vmask word_unit)
open Cert.Kernel6Ideal.Arr (dist afterSa bits bits_unit vmask_bits boxes boxes' first keys_of G H)

variable (V : (c : Dev nD) → (b : Ref sig .tc) → Buf (Elt Ideal) ((c : Thread nD τ).loc b)) (c : Dev nD) (t : Fin cfg1.N)

theorem idx_page : ∀ t : Fin cfg1.N, win1_0.index t = ![t.val, 0, 0] ∧ win1_1.index t = ![t.val, 0, 0] ∧ win1_2.index t = ![0, t.val] ∧ win1_3.index t = ![0, t.val] := (by decide +kernel : ∀ t : Fin grid1.N, _)
theorem idx_keys : ∀ t : Fin cfg1.N, win1_4.index t = ![t.val, 0, 0] ∧ win1_5.index t = ![t.val, 0, 0] ∧ win1_28.index t = ![t.val, 0, 0] ∧ win1_29.index t = ![t.val, 0, 0] := (by decide +kernel : ∀ t : Fin grid1.N, _)
theorem idx_sa : ∀ t : Fin cfg1.N, win1_6.index t = ![0, 0] ∧ win1_7.index t = ![0, 0] ∧ win1_8.index t = ![0, 0] ∧ win1_9.index t = ![0, 0] ∧ win1_10.index t = ![0, 0] ∧ win1_11.index t = ![0, 0] := (by decide +kernel : ∀ t : Fin grid1.N, _)
theorem idx_mid : ∀ t : Fin cfg1.N, win1_12.index t = ![0, 0] ∧ win1_13.index t = ![0, 0] ∧ win1_14.index t = ![0, 0] ∧ win1_15.index t = ![0, 0] ∧ win1_16.index t = ![0, 0] ∧ win1_17.index t = ![0, 0] := (by decide +kernel : ∀ t : Fin grid1.N, _)
theorem idx_ff : ∀ t : Fin cfg1.N, win1_18.index t = ![0, 0] ∧ win1_19.index t = ![0, 0] ∧ win1_20.index t = ![0, 0] ∧ win1_21.index t = ![0, 0] ∧ win1_22.index t = ![0, 0] := (by decide +kernel : ∀ t : Fin grid1.N, _)
theorem idx_rest : ∀ t : Fin cfg1.N, win1_23.index t = ![0, 0] ∧ win1_24.index t = ![0, 0] ∧ win1_25.index t = ![0, 0] ∧ win1_26.index t = ![0, 0] ∧ win1_27.index t = ![0, 0] := (by decide +kernel : ∀ t : Fin grid1.N, _)

set_option maxHeartbeats 2000000 in
/-- Blocks that are whole arrays. -/
theorem whole_sa : (iblk1 V c 6 t : Vec Ideal S256x256 .bf16) = V c main_v33 ∧ (iblk1 V c 7 t : Vec Ideal S1x256 .f32) = V c main_v36 ∧ (iblk1 V c 8 t : Vec Ideal S256x256 .bf16) = V c main_v39 ∧ (iblk1 V c 9 t : Vec Ideal S1x256 .f32) = V c main_v42 ∧ (iblk1 V c 10 t : Vec Ideal S256x256 .bf16) = V c main_v45 ∧ (iblk1 V c 11 t : Vec Ideal S1x256 .f32) = V c main_v48 := by
  refine ⟨?_, ?_, ?_, ?_, ?_, ?_⟩ <;> funext y <;> blk_ext [iblk1, idx_sa t]

set_option maxHeartbeats 2000000 in
/-- Blocks that are whole arrays. -/
theorem whole_mid : (iblk1 V c 12 t : Vec Ideal S256x256 .bf16) = V c main_v51 ∧ (iblk1 V c 13 t : Vec Ideal S1x256 .f32) = V c main_v54 ∧ (iblk1 V c 14 t : Vec Ideal S256x256 .bf16) = V c main_v57 ∧ (iblk1 V c 15 t : Vec Ideal S1x256 .f32) = V c main_v60 ∧ (iblk1 V c 16 t : Vec Ideal S256x256 .bf16) = V c main_v63 ∧ (iblk1 V c 17 t : Vec Ideal S1x256 .f32) = V c main_v66 := by
  refine ⟨?_, ?_, ?_, ?_, ?_, ?_⟩ <;> funext y <;> blk_ext [iblk1, idx_mid t]

set_option maxHeartbeats 2000000 in
/-- Blocks that are whole arrays. -/
theorem whole_ff : (iblk1 V c 18 t : Vec Ideal S256x2048 .bf16) = V c main_v69 ∧ (iblk1 V c 19 t : Vec Ideal S1x2048 .f32) = V c main_v72 ∧ (iblk1 V c 20 t : Vec Ideal S2048x256 .bf16) = V c main_v75 ∧ (iblk1 V c 21 t : Vec Ideal S1x256 .f32) = V c main_v78 ∧ (iblk1 V c 22 t : Vec Ideal S1x256 .f32) = V c main_v81 := by
  refine ⟨?_, ?_, ?_, ?_, ?_⟩ <;> funext y <;> blk_ext [iblk1, idx_ff t]

set_option maxHeartbeats 2000000 in
/-- Blocks that are whole arrays. -/
theorem whole_rest : (iblk1 V c 23 t : Vec Ideal S1x256 .f32) = V c main_v84 ∧ (iblk1 V c 24 t : Vec Ideal S1x256 .f32) = V c main_v87 ∧ (iblk1 V c 25 t : Vec Ideal S1x256 .f32) = V c main_v90 ∧ (iblk1 V c 26 t : Vec Ideal S1x256 .f32) = V c main_v93 ∧ (iblk1 V c 27 t : Vec Ideal S1x256 .f32) = V c main_v96 := by
  refine ⟨?_, ?_, ?_, ?_, ?_⟩ <;> funext y <;> blk_ext [iblk1, idx_rest t]

theorem emb28 (y : S1x300x256.Idx) : (win1_28.blk t).view.emb y = ix3 ⟨t.val, t.isLt⟩ (y 1) (y 2) := by blk_ext [idx_keys t]
theorem emb29 (y : S1x300x300.Idx) : (win1_29.blk t).view.emb y = ix3 ⟨t.val, t.isLt⟩ (y 1) (y 2) := by blk_ext [idx_keys t]

theorem boxes_in : (fun i k => (iblk1 V c 0 t : Vec Ideal S1x300x4 .f32) (ix3 0 i k)) = boxes (V c main_v4) ⟨t.val, t.isLt⟩ := by
  funext i k
  blk_ext [iblk1, idx_page t]

theorem boxes_in' : (fun k j => (iblk1 V c 1 t : Vec Ideal S1x4x300 .f32) (ix3 0 k j)) = boxes' (V c main_v5) ⟨t.val, t.isLt⟩ := by
  funext k j
  blk_ext [iblk1, idx_page t]

theorem bits_in : (fun i j => vmask (dist (iblk1 V c 0 t) (iblk1 V c 1 t)) (ix2 i j)) = bits (boxes (V c main_v4) ⟨t.val, t.isLt⟩) (boxes' (V c main_v5) ⟨t.val, t.isLt⟩) := by
  funext i j
  rw [vmask_bits, boxes_in, boxes_in']

/-- The rows' block is half the columns. -/
theorem rows_in : toM (iblk1 V c 2 t : Vec Ideal S300x256 .f32) = half (V c main_v0 : Vec Ideal S300x512 .f32) ⟨t.val, t.isLt⟩ := by
  funext i j
  show iblk1 V c 2 t (ix2 i j) = _
  blk_ext [iblk1, idx_page t]

/-- The positions' block is half the columns. -/
theorem qp_in : toM (iblk1 V c 3 t : Vec Ideal S300x256 .f32) = half (V c main_v1 : Vec Ideal S300x512 .f32) ⟨t.val, t.isLt⟩ := by
  funext i j
  show iblk1 V c 3 t (ix2 i j) = _
  blk_ext [iblk1, idx_page t]

theorem keys_in : toM (ks (iblk1 V c 4 t)) = first (V c main_v30_0) ⟨t.val, t.isLt⟩ := by
  rw [keys_of]
  funext i j
  blk_ext [iblk1, idx_keys t]

theorem values_in : toM (ks (iblk1 V c 5 t)) = first (V c main_v30_1) ⟨t.val, t.isLt⟩ := by
  rw [keys_of]
  funext i j
  blk_ext [iblk1, idx_keys t]

/-- The call's rows from its arguments. -/
def R : S2x300x256.Idx → EReal := G (V c main_v4) (V c main_v5) (V c main_v0) (V c main_v1) (V c main_v30_0) (V c main_v30_1)
  (toM (V c main_v33 : Vec Ideal S256x256 .bf16)) (toR (V c main_v36 : Vec Ideal S1x256 .f32)) (toM (V c main_v39 : Vec Ideal S256x256 .bf16)) (toR (V c main_v42 : Vec Ideal S1x256 .f32)) (toM (V c main_v45 : Vec Ideal S256x256 .bf16)) (toR (V c main_v48 : Vec Ideal S1x256 .f32)) (toM (V c main_v51 : Vec Ideal S256x256 .bf16)) (toR (V c main_v54 : Vec Ideal S1x256 .f32)) (toM (V c main_v57 : Vec Ideal S256x256 .bf16)) (toR (V c main_v60 : Vec Ideal S1x256 .f32))
  (toM (V c main_v63 : Vec Ideal S256x256 .bf16)) (toR (V c main_v66 : Vec Ideal S1x256 .f32)) (toM (V c main_v69 : Vec Ideal S256x2048 .bf16)) (toR (V c main_v72 : Vec Ideal S1x2048 .f32)) (toM (V c main_v75 : Vec Ideal S2048x256 .bf16)) (toR (V c main_v78 : Vec Ideal S1x256 .f32)) (toR (V c main_v81 : Vec Ideal S1x256 .f32)) (toR (V c main_v84 : Vec Ideal S1x256 .f32)) (toR (V c main_v87 : Vec Ideal S1x256 .f32)) (toR (V c main_v90 : Vec Ideal S1x256 .f32)) (toR (V c main_v93 : Vec Ideal S1x256 .f32)) (toR (V c main_v96 : Vec Ideal S1x256 .f32))

/-- The call's mask from its arguments. -/
def K : S2x300x300.Idx → EReal := H (V c main_v4) (V c main_v5)

theorem point28 (y : S1x300x256.Idx) : (outsAt1 (F := Ideal) V c t).1 y = R V c (ix3 ⟨t.val, t.isLt⟩ (y 1) (y 2)) := by
  obtain ⟨h6, h7, h8, h9, h10, h11⟩ := whole_sa V c t
  obtain ⟨h12, h13, h14, h15, h16, h17⟩ := whole_mid V c t
  obtain ⟨h18, h19, h20, h21, h22⟩ := whole_ff V c t
  obtain ⟨h23, h24, h25, h26, h27⟩ := whole_rest V c t
  rw [out28_eq, h6, h7, h8, h9, h10, h11, h12, h13, h14, h15, h16, h17, h18, h19, h20, h21, h22, h23, h24, h25, h26, h27]
  refine (page_of_rows _ _ y).trans ?_
  refine (congrFun (congrFun (vff_eq _ _ _ _ _ _ _) _) _).trans ?_
  rw [vca_eq, vsa_eq, bits_in, rows_in, qp_in, keys_in, values_in]
  rfl

theorem point29 (y : S1x300x300.Idx) : (outsAt1 (F := Ideal) V c t).2 y = K V c (ix3 ⟨t.val, t.isLt⟩ (y 1) (y 2)) := by
  rw [out29_eq]
  have e (x : FVec Ideal S300x300 .f32) : shapeCast S1x300x300 x shapeCasts_S300x300_S1x300x300 y = x (ix2 (y 1) (y 2)) := by
    pointwise
  refine (e _).trans ((word_unit _).trans ?_)
  refine (congrArg (fun b : BitVec 1 => if b = 1#1 then (1 : EReal) else 0) (congrFun (congrFun (bits_in V c t) (y 1)) (y 2))).trans ?_
  exact bits_unit _ _ _ _

/-- The call's rows. -/
theorem arr28 : ((dat1 V c).arrAt 28 cfg1.N : Vec Ideal S2x300x256 .f32) = R V c := by
  refine (dat1 V c).arrAt_eq_of_covers 28 _ (by decide +kernel) fun t _ y => ?_
  blk_simp
  rw [after1_28]
  exact (point28 V c t y).trans (congrArg (R V c) (emb28 t y).symm)

/-- The call's mask. -/
theorem arr29 : ((dat1 V c).arrAt 29 cfg1.N : Vec Ideal S2x300x300 .f32) = K V c := by
  refine (dat1 V c).arrAt_eq_of_covers 29 _ (by decide +kernel) fun t _ y => ?_
  blk_simp
  rw [after1_29]
  exact (point29 V c t y).trans (congrArg (K V c) (emb29 t y).symm)

end Cert.KernelIdeal.One

end
end
-- ==== Proof.SaArr.lean ====
module

public import proofs.«01_k».proof.Proof.K3
public import proofs.«01_k».proof.Proof.KernelIdeal.State

/-! # The array of the self-attention call inside the whole program -/

@[expose] public section

set_option maxRecDepth 16384

noncomputable section

namespace Cert.KernelIdeal.Sa

open Idealize.ShloMosaic Idealize.ShloMosaic.TcCoe Cert.KernelIdeal Cert.KernelIdeal.Gen Cert.KernelIdeal.Vec Cert.Spec
open Idealize.ShloMosaic.Pipeline (Dat)
open Cert.Kernel3Ideal.Arr (shown G)

variable (V : (c : Dev nD) → (b : Ref sig .tc) → Buf (Elt Ideal) ((c : Thread nD τ).loc b)) (c : Dev nD) (t : Fin cfg2.N)

section Block
variable (x0 : Vec Ideal S1x300x256 .f32) (x1 : Vec Ideal S300x256 .f32) (x2 : Vec Ideal S1x300x300 .f32) (x3 : Vec Ideal S256x256 .bf16) (x4 : Vec Ideal S1x256 .f32) (x5 : Vec Ideal S256x256 .bf16) (x6 : Vec Ideal S1x256 .f32) (x7 : Vec Ideal S256x256 .bf16) (x8 : Vec Ideal S1x256 .f32) (x9 : Vec Ideal S256x256 .bf16) (x10 : Vec Ideal S1x256 .f32) (x11 : Vec Ideal S1x256 .f32) (x12 : Vec Ideal S1x256 .f32)

theorem q_eq : k2_pay5 (F := Ideal) x0 x1 x3 x4 = vscale (vlin (addf (shapeCast S300x256 x0 shapeCasts_S1x300x256_S300x256) x1) x3 x4) := by
  simp only [k2_pay5, k2_pay4, k2_pay2, vscale, vlin, shapeCast_self]
theorem k_eq : k2_pay6 (F := Ideal) x0 x1 x5 x6 = vlin (addf (shapeCast S300x256 x0 shapeCasts_S1x300x256_S300x256) x1) x5 x6 := by
  simp only [k2_pay6, k2_pay4, k2_pay2, vlin, shapeCast_self]
theorem v_eq : k2_pay9 (F := Ideal) (k2_pay7 x0 x7) (k2_pay8 x8) = vlin (shapeCast S300x256 x0 shapeCasts_S1x300x256_S300x256) x7 x8 := by
  simp only [k2_pay9, k2_pay8, k2_pay7, k2_pay2, vlin, shapeCast_self]

set_option maxHeartbeats 1000000 in
/-- One block: the self-attention part of its rows. -/
theorem out_eq : out2_13 x0 x1 x2 x3 x4 x5 x6 x7 x8 x9 x10 x11 x12
    = shapeCast S1x300x256 (vsa (k2_pay3 x2) (shapeCast S300x256 x0 shapeCasts_S1x300x256_S300x256) x1 x3 x4 x5 x6 x7 x8 x9 x10 x11 x12) shapeCasts_S300x256_S1x300x256 := by
  unfold out2_13 k2_pay27 k2_pay26 k2_pay25 k2_pay24 k2_pay23 k2_pay22
  frame_out
  rw [vsa, ← q_eq, ← k_eq, ← v_eq]
  simp only [k2_pay10, k2_pay11]
  generalize k2_pay5 (F := Ideal) x0 x1 x3 x4 = q
  generalize k2_pay6 (F := Ideal) x0 x1 x5 x6 = k
  generalize k2_pay9 (F := Ideal) (k2_pay7 x0 x7) (k2_pay8 x8) = v
  generalize k2_pay3 (F := Ideal) x2 = mk
  simp only [saHeads, cat8_of, k2_pay1, k2_pay2, k2_pay12, k2_pay13, k2_pay14, k2_pay15, k2_pay16, k2_pay17, k2_pay18, k2_pay19, k2_pay20, k2_pay21]
  simp only [saHead, saCtx, saInv, saEx, saScore, vlin, vln, vcen, vmean, shapeCast_self]
end Block

theorem idx_page : ∀ t : Fin cfg2.N, win2_0.index t = ![t.val, 0, 0] ∧ win2_1.index t = ![0, t.val] ∧ win2_2.index t = ![t.val, 0, 0] ∧ win2_13.index t = ![t.val, 0, 0] := (by decide +kernel : ∀ t : Fin grid2.N, _)
theorem idx_whole : ∀ t : Fin cfg2.N, win2_3.index t = ![0, 0] ∧ win2_4.index t = ![0, 0] ∧ win2_5.index t = ![0, 0] ∧ win2_6.index t = ![0, 0] ∧ win2_7.index t = ![0, 0] := (by decide +kernel : ∀ t : Fin grid2.N, _)
theorem idx_whole' : ∀ t : Fin cfg2.N, win2_8.index t = ![0, 0] ∧ win2_9.index t = ![0, 0] ∧ win2_10.index t = ![0, 0] ∧ win2_11.index t = ![0, 0] ∧ win2_12.index t = ![0, 0] := (by decide +kernel : ∀ t : Fin grid2.N, _)
theorem emb_page (y : S1x300x256.Idx) : (win2_13.blk t).view.emb y = ix3 ⟨t.val, t.isLt⟩ (y 1) (y 2) := by blk_ext [idx_page t]

set_option maxHeartbeats 2000000 in
/-- The weights' blocks are whole arrays. -/
theorem whole : (iblk2 V c 3 t : Vec Ideal S256x256 .bf16) = V c main_v100 ∧ (iblk2 V c 4 t : Vec Ideal S1x256 .f32) = V c main_v103
    ∧ (iblk2 V c 5 t : Vec Ideal S256x256 .bf16) = V c main_v106 ∧ (iblk2 V c 6 t : Vec Ideal S1x256 .f32) = V c main_v109
    ∧ (iblk2 V c 7 t : Vec Ideal S256x256 .bf16) = V c main_v112 := by
  refine ⟨?_, ?_, ?_, ?_, ?_⟩ <;> funext y <;> blk_ext [iblk2, idx_whole t]

set_option maxHeartbeats 2000000 in
/-- … the rest of them. -/
theorem whole' : (iblk2 V c 8 t : Vec Ideal S1x256 .f32) = V c main_v115
    ∧ (iblk2 V c 9 t : Vec Ideal S256x256 .bf16) = V c main_v118 ∧ (iblk2 V c 10 t : Vec Ideal S1x256 .f32) = V c main_v121
    ∧ (iblk2 V c 11 t : Vec Ideal S1x256 .f32) = V c main_v124 ∧ (iblk2 V c 12 t : Vec Ideal S1x256 .f32) = V c main_v127 := by
  refine ⟨?_, ?_, ?_, ?_, ?_⟩ <;> funext y <;> blk_ext [iblk2, idx_whole' t]

/-- The rows' block is a page. -/
theorem rows_in : toM (shapeCast S300x256 (iblk2 V c 0 t) shapeCasts_S1x300x256_S300x256 : Vec Ideal S300x256 .f32) = page (V c main_v97_0) ⟨t.val, t.isLt⟩ := by
  refine (rows_of_page _ _).trans ?_
  funext i j
  blk_ext [iblk2, idx_page t]

/-- The positions' block is half the columns. -/
theorem qp_in : toM (iblk2 V c 1 t : Vec Ideal S300x256 .f32) = half (V c main_v1 : Vec Ideal S300x512 .f32) ⟨t.val, t.isLt⟩ := by
  funext i j
  show iblk2 V c 1 t (ix2 i j) = _
  blk_ext [iblk2, idx_page t]

theorem mask_of (x : Vec Ideal S1x300x300 .f32) (i j) : k2_pay3 x (ix2 i j) = FloatOps.cmpf (F := Ideal) (φ := .f32) .ogt (x (ix3 0 i j)) (Ideal.ofBits .f32 0x00000000#32) := by
  simp only [k2_pay3]
  pointwise

theorem mask_in : (fun i j => k2_pay3 (iblk2 V c 2 t) (ix2 i j)) = shown (V c main_v97_1) ⟨t.val, t.isLt⟩ := by
  funext i j
  have e : iblk2 V c 2 t (ix3 0 i j) = V c main_v97_1 (ix3 ⟨t.val, t.isLt⟩ i j) := by blk_ext [iblk2, idx_page t]
  rw [mask_of, shown, e]

/-- The call's result from its arguments. -/
def R : S2x300x256.Idx → EReal := G (V c main_v97_0) (V c main_v1) (V c main_v97_1) (toM (V c main_v100 : Vec Ideal S256x256 .bf16)) (toR (V c main_v103 : Vec Ideal S1x256 .f32))
  (toM (V c main_v106 : Vec Ideal S256x256 .bf16)) (toR (V c main_v109 : Vec Ideal S1x256 .f32)) (toM (V c main_v112 : Vec Ideal S256x256 .bf16)) (toR (V c main_v115 : Vec Ideal S1x256 .f32))
  (toM (V c main_v118 : Vec Ideal S256x256 .bf16)) (toR (V c main_v121 : Vec Ideal S1x256 .f32)) (toR (V c main_v124 : Vec Ideal S1x256 .f32)) (toR (V c main_v127 : Vec Ideal S1x256 .f32))

theorem point (y : S1x300x256.Idx) : out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) y
    = R V c (ix3 ⟨t.val, t.isLt⟩ (y 1) (y 2)) := by
  obtain ⟨h3, h4, h5, h6, h7⟩ := whole V c t
  obtain ⟨h8, h9, h10, h11, h12⟩ := whole' V c t
  rw [out_eq, h3, h4, h5, h6, h7, h8, h9, h10, h11, h12]
  refine (page_of_rows _ _ y).trans ?_
  refine (congrFun (congrFun (vsa_eq _ _ _ _ _ _ _ _ _ _ _ _ _) _) _).trans ?_
  rw [rows_in, qp_in, mask_in]
  rfl

/-- The call's array: the self-attention part of every page of the rows. -/
theorem arr : ((dat2 V c).arrAt 13 cfg2.N : Vec Ideal S2x300x256 .f32) = R V c := by
  refine (dat2 V c).arrAt_eq_of_covers 13 _ (by decide +kernel) fun t _ y => ?_
  blk_simp
  rw [after2_13]
  exact (point V c t y).trans (congrArg (R V c) (emb_page t y).symm)

end Cert.KernelIdeal.Sa

end
end
-- ==== Proof.CaArr.lean ====
module

public import proofs.«01_k».proof.Proof.K4
public import proofs.«01_k».proof.Proof.KernelIdeal.State

/-! # The arrays of the cross-attention call inside the whole program -/

@[expose] public section

set_option maxRecDepth 16384

noncomputable section

namespace Cert.KernelIdeal.Ca

open Idealize.ShloMosaic Idealize.ShloMosaic.TcCoe Cert.KernelIdeal Cert.KernelIdeal.Gen Cert.KernelIdeal.Vec Cert.Spec
open Idealize.ShloMosaic.Pipeline (Dat)
open Cert.Kernel4Ideal.Arr (upper keys_of G H)

variable (V : (c : Dev nD) → (b : Ref sig .tc) → Buf (Elt Ideal) ((c : Thread nD τ).loc b)) (c : Dev nD) (t : Fin cfg3.N)

theorem cast_back (x : FVec Ideal S300x4096 .f32) : shapeCast S300x4096 (shapeCast S1x300x4096 x shapeCasts_S300x4096_S1x300x4096) shapeCasts_S1x300x4096_S300x4096 = x := by
  funext j
  pointwise

theorem qs_eq (x0 x1 x4 x5) : k3_pay3 (F := Ideal) x0 x1 x4 x5 = qs x0 x1 x4 x5 := by
  simp only [k3_pay3, k3_pay2, qs, vscale, vlin, shapeCast_self]
theorem ks_eq (x2) : k3_pay4 (F := Ideal) x2 = ks x2 := by simp only [k3_pay4, ks]
theorem ks_eq' (x2) : k3_pay5 (F := Ideal) x2 = ks x2 := by simp only [k3_pay5, ks]

/-- The averaged weights a block of the call holds. -/
theorem out11_eq : (outsAt3 (F := Ideal) V c t).2 = shapeCast S1x300x4096 (caAvg (qs (iblk3 V c 0 t) (iblk3 V c 1 t) (iblk3 V c 4 t) (iblk3 V c 5 t)) (ks (iblk3 V c 2 t))) shapeCasts_S300x4096_S1x300x4096 := by
  unfold outsAt3
  frame_open
  simp (disch := decide) only [View.read_writes_junk_eq_canon, View.canon_cons_unit_lit',
        View.ld_unit_lit', View.readCov_unit_lit', View.readCov_cons_unit_lit', View.readAt_eq_ld,
        Memref.IsWhole.read_unread]
  rw [← qs_eq, ← ks_eq]
  simp only [cast_back, k3_pay8, k3_pay7, k3_pay6]
  generalize k3_pay3 (iblk3 V c 0 t) (iblk3 V c 1 t) (iblk3 V c 4 t) (iblk3 V c 5 t) = q
  generalize k3_pay4 (iblk3 V c 2 t) = k
  simp only [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, cast_back, caAvg, caShare, caEx, caInv, caScore]

/-- The rows a block of the call holds. -/
theorem out10_eq : (outsAt3 (F := Ideal) V c t).1 = shapeCast S1x300x256 (vca (shapeCast S300x256 (iblk3 V c 0 t) shapeCasts_S1x300x256_S300x256) (iblk3 V c 1 t) (ks (iblk3 V c 2 t)) (ks (iblk3 V c 3 t))
    (iblk3 V c 4 t) (iblk3 V c 5 t) (iblk3 V c 6 t) (iblk3 V c 7 t) (iblk3 V c 8 t) (iblk3 V c 9 t)) shapeCasts_S300x256_S1x300x256 := by
  unfold outsAt3
  frame_open
  simp only [cat8_of]
  simp (disch := decide) only [View.read_writes_junk_eq_canon, View.canon_cons_unit_lit',
        View.ld_unit_lit', View.readCov_unit_lit', View.readCov_cons_unit_lit', View.readAt_eq_ld,
        Memref.IsWhole.read_unread]
  rw [vca, ← ks_eq, ← ks_eq']
  change _ = shapeCast S1x300x256 (vln (addf (vlin (caHeads (qs (iblk3 V c 0 t) (iblk3 V c 1 t) (iblk3 V c 4 t) (iblk3 V c 5 t)) _ _) _ _) _) _ _) _
  rw [← qs_eq]
  simp only [k3_pay7, k3_pay6]
  generalize k3_pay3 (iblk3 V c 0 t) (iblk3 V c 1 t) (iblk3 V c 4 t) (iblk3 V c 5 t) = q
  generalize k3_pay4 (iblk3 V c 2 t) = k
  generalize k3_pay5 (iblk3 V c 3 t) = v
  simp only [caHeads, cat8_of, k3_pay1, k3_pay2]
  simp only [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay43, k3_pay44, caHead, caCtx, caEx, caInv, caScore, vlin, vln, vcen, vmean, shapeCast_self]

theorem idx_page : ∀ t : Fin cfg3.N, win3_0.index t = ![t.val, 0, 0] ∧ win3_1.index t = ![0, t.val] ∧ win3_10.index t = ![t.val, 0, 0] ∧ win3_11.index t = ![t.val, 0, 0] := (by decide +kernel : ∀ t : Fin grid3.N, _)
theorem idx_keys : ∀ t : Fin cfg3.N, win3_2.index t = ![t.val, 0, 1] ∧ win3_3.index t = ![t.val, 0, 1] := (by decide +kernel : ∀ t : Fin grid3.N, _)
theorem idx_whole : ∀ t : Fin cfg3.N, win3_4.index t = ![0, 0] ∧ win3_5.index t = ![0, 0] ∧ win3_6.index t = ![0, 0] ∧ win3_7.index t = ![0, 0]
    ∧ win3_8.index t = ![0, 0] ∧ win3_9.index t = ![0, 0] := (by decide +kernel : ∀ t : Fin grid3.N, _)
theorem emb10 (y : S1x300x256.Idx) : (win3_10.blk t).view.emb y = ix3 ⟨t.val, t.isLt⟩ (y 1) (y 2) := by blk_ext [idx_page t]
theorem emb11 (y : S1x300x4096.Idx) : (win3_11.blk t).view.emb y = ix3 ⟨t.val, t.isLt⟩ (y 1) (y 2) := by blk_ext [idx_page t]

set_option maxHeartbeats 2000000 in
/-- The weights' blocks are whole arrays. -/
theorem whole : (iblk3 V c 4 t : Vec Ideal S256x256 .bf16) = V c main_v131 ∧ (iblk3 V c 5 t : Vec Ideal S1x256 .f32) = V c main_v134
    ∧ (iblk3 V c 6 t : Vec Ideal S256x256 .bf16) = V c main_v137 ∧ (iblk3 V c 7 t : Vec Ideal S1x256 .f32) = V c main_v140
    ∧ (iblk3 V c 8 t : Vec Ideal S1x256 .f32) = V c main_v143 ∧ (iblk3 V c 9 t : Vec Ideal S1x256 .f32) = V c main_v146 := by
  refine ⟨?_, ?_, ?_, ?_, ?_, ?_⟩ <;> funext y <;> blk_ext [iblk3, idx_whole t]

/-- The rows' block is a page. -/
theorem rows_in : toM (shapeCast S300x256 (iblk3 V c 0 t) shapeCasts_S1x300x256_S300x256 : Vec Ideal S300x256 .f32) = page (V c main_v128) ⟨t.val, t.isLt⟩ := by
  refine (rows_of_page _ _).trans ?_
  funext i j
  blk_ext [iblk3, idx_page t]

/-- The positions' block is half the columns. -/
theorem qp_in : toM (iblk3 V c 1 t : Vec Ideal S300x256 .f32) = half (V c main_v1 : Vec Ideal S300x512 .f32) ⟨t.val, t.isLt⟩ := by
  funext i j
  show iblk3 V c 1 t (ix2 i j) = _
  blk_ext [iblk3, idx_page t]

theorem keys_in : toM (ks (iblk3 V c 2 t)) = upper (V c main_v30_0) ⟨t.val, t.isLt⟩ := by
  rw [keys_of]
  funext i j
  blk_ext [iblk3, idx_keys t]

theorem values_in : toM (ks (iblk3 V c 3 t)) = upper (V c main_v30_1) ⟨t.val, t.isLt⟩ := by
  rw [keys_of]
  funext i j
  blk_ext [iblk3, idx_keys t]

/-- The call's rows from its arguments. -/
def R : S2x300x256.Idx → EReal := G (V c main_v128) (V c main_v1) (V c main_v30_0) (V c main_v30_1) (toM (V c main_v131 : Vec Ideal S256x256 .bf16)) (toR (V c main_v134 : Vec Ideal S1x256 .f32))
  (toM (V c main_v137 : Vec Ideal S256x256 .bf16)) (toR (V c main_v140 : Vec Ideal S1x256 .f32)) (toR (V c main_v143 : Vec Ideal S1x256 .f32)) (toR (V c main_v146 : Vec Ideal S1x256 .f32))

/-- The call's averaged weights from its arguments. -/
def A : S2x300x4096.Idx → EReal := H (V c main_v128) (V c main_v1) (V c main_v30_0) (toM (V c main_v131 : Vec Ideal S256x256 .bf16)) (toR (V c main_v134 : Vec Ideal S1x256 .f32))

theorem point10 (y : S1x300x256.Idx) : (outsAt3 (F := Ideal) V c t).1 y = R V c (ix3 ⟨t.val, t.isLt⟩ (y 1) (y 2)) := by
  obtain ⟨h4, h5, h6, h7, h8, h9⟩ := whole V c t
  rw [out10_eq, h4, h5, h6, h7, h8, h9]
  refine (page_of_rows _ _ y).trans ?_
  refine (congrFun (congrFun (vca_eq _ _ _ _ _ _ _ _ _ _) _) _).trans ?_
  rw [rows_in, qp_in, keys_in, values_in]
  rfl

theorem point11 (y : S1x300x4096.Idx) : (outsAt3 (F := Ideal) V c t).2 y = A V c (ix3 ⟨t.val, t.isLt⟩ (y 1) (y 2)) := by
  obtain ⟨h4, h5, -, -, -, -⟩ := whole V c t
  rw [out11_eq, h4, h5]
  have e (x : FVec Ideal S300x4096 .f32) : shapeCast S1x300x4096 x shapeCasts_S300x4096_S1x300x4096 y = toM x (y 1) (y 2) := by
    simp only [toM]
    pointwise
  refine (e _).trans ?_
  rw [caAvg_eq, qs, vscale_eq, vlin_eq, add_eq, rows_in, qp_in, keys_in]
  rfl

/-- The call's rows. -/
theorem arr10 : ((dat3 V c).arrAt 10 cfg3.N : Vec Ideal S2x300x256 .f32) = R V c := by
  refine (dat3 V c).arrAt_eq_of_covers 10 _ (by decide +kernel) fun t _ y => ?_
  blk_simp
  rw [after3_10]
  exact (point10 V c t y).trans (congrArg (R V c) (emb10 t y).symm)

/-- The call's averaged weights. -/
theorem arr11 : ((dat3 V c).arrAt 11 cfg3.N : Vec Ideal S2x300x4096 .f32) = A V c := by
  refine (dat3 V c).arrAt_eq_of_covers 11 _ (by decide +kernel) fun t _ y => ?_
  blk_simp
  rw [after3_11]
  exact (point11 V c t y).trans (congrArg (A V c) (emb11 t y).symm)

end Cert.KernelIdeal.Ca

end
end
-- ==== Proof.FfArr.lean ====
module

public import proofs.«01_k».proof.Proof.K5
public import proofs.«01_k».proof.Proof.KernelIdeal.State

/-! # The array of the feed-forward call inside the whole program -/

@[expose] public section

set_option maxRecDepth 16384

noncomputable section

namespace Cert.KernelIdeal.Ff

open Idealize.ShloMosaic Idealize.ShloMosaic.TcCoe Cert.KernelIdeal Cert.KernelIdeal.Gen Cert.KernelIdeal.Vec Cert.Spec
open Idealize.ShloMosaic.Pipeline (Dat)
open Cert.Kernel5Ideal.Arr (G)

variable (V : (c : Dev nD) → (b : Ref sig .tc) → Buf (Elt Ideal) ((c : Thread nD τ).loc b)) (c : Dev nD)

/-- One block: the feed-forward part and the final normalisation of its rows. -/
theorem out_eq (x0 : Vec Ideal S1x300x256 .f32) (x1 : Vec Ideal S256x2048 .bf16) (x2 : Vec Ideal S1x2048 .f32) (x3 : Vec Ideal S2048x256 .bf16) (x4 x5 x6 x7 x8 : Vec Ideal S1x256 .f32) :
    out4_9 x0 x1 x2 x3 x4 x5 x6 x7 x8 = shapeCast S1x300x256 (vln (vff (shapeCast S300x256 x0 shapeCasts_S1x300x256_S300x256) x1 x2 x3 x4 x5 x6) x7 x8) shapeCasts_S300x256_S1x300x256 := by
  frame_out
  simp only [k4_pay1, k4_pay2, k4_pay3, k4_pay4, k4_pay7, k4_pay6, k4_pay5, vff, shapeCast_self, vffn, vhid, vln, vcen, vmean]

theorem idx_page : ∀ t : Fin cfg4.N, win4_0.index t = ![t.val, 0, 0] ∧ win4_9.index t = ![t.val, 0, 0] := (by decide +kernel : ∀ t : Fin grid4.N, _)
theorem idx_whole : ∀ t : Fin cfg4.N, win4_1.index t = ![0, 0] ∧ win4_2.index t = ![0, 0] ∧ win4_3.index t = ![0, 0] ∧ win4_4.index t = ![0, 0]
    ∧ win4_5.index t = ![0, 0] ∧ win4_6.index t = ![0, 0] ∧ win4_7.index t = ![0, 0] ∧ win4_8.index t = ![0, 0] := (by decide +kernel : ∀ t : Fin grid4.N, _)
theorem emb_page (t : Fin cfg4.N) (y : S1x300x256.Idx) : (win4_9.blk t).view.emb y = ix3 ⟨t.val, t.isLt⟩ (y 1) (y 2) := by blk_ext [idx_page t]

set_option maxHeartbeats 2000000 in
/-- The weights' blocks are whole arrays. -/
theorem whole (t : Fin cfg4.N) : (iblk4 V c 1 t : Vec Ideal S256x2048 .bf16) = V c main_v150 ∧ (iblk4 V c 2 t : Vec Ideal S1x2048 .f32) = V c main_v153
    ∧ (iblk4 V c 3 t : Vec Ideal S2048x256 .bf16) = V c main_v156 ∧ (iblk4 V c 4 t : Vec Ideal S1x256 .f32) = V c main_v159 ∧ (iblk4 V c 5 t : Vec Ideal S1x256 .f32) = V c main_v162
    ∧ (iblk4 V c 6 t : Vec Ideal S1x256 .f32) = V c main_v165 ∧ (iblk4 V c 7 t : Vec Ideal S1x256 .f32) = V c main_v166 ∧ (iblk4 V c 8 t : Vec Ideal S1x256 .f32) = V c main_v167 := by
  refine ⟨?_, ?_, ?_, ?_, ?_, ?_, ?_, ?_⟩ <;> funext y <;> blk_ext [iblk4, idx_whole t]

/-- The rows' block is a page. -/
theorem page_in (t : Fin cfg4.N) : toM (shapeCast S300x256 (iblk4 V c 0 t) shapeCasts_S1x300x256_S300x256 : Vec Ideal S300x256 .f32) = page (V c main_v147_0) ⟨t.val, t.isLt⟩ := by
  refine (rows_of_page _ _).trans ?_
  funext i j
  blk_ext [iblk4, idx_page t]

/-- The call's result from its arguments. -/
def R : S2x300x256.Idx → EReal := G (V c main_v147_0) (toM (V c main_v150 : Vec Ideal S256x2048 .bf16)) (toR (V c main_v153 : Vec Ideal S1x2048 .f32)) (toM (V c main_v156 : Vec Ideal S2048x256 .bf16))
        (toR (V c main_v159 : Vec Ideal S1x256 .f32)) (toR (V c main_v162 : Vec Ideal S1x256 .f32)) (toR (V c main_v165 : Vec Ideal S1x256 .f32))
        (toR (V c main_v166 : Vec Ideal S1x256 .f32)) (toR (V c main_v167 : Vec Ideal S1x256 .f32))

theorem point (t : Fin cfg4.N) (y : S1x300x256.Idx) : out4_9 (iblk4 V c 0 t) (iblk4 V c 1 t) (iblk4 V c 2 t) (iblk4 V c 3 t) (iblk4 V c 4 t) (iblk4 V c 5 t) (iblk4 V c 6 t) (iblk4 V c 7 t) (iblk4 V c 8 t) y
    = R V c (ix3 ⟨t.val, t.isLt⟩ (y 1) (y 2)) := by
  obtain ⟨h1, h2, h3, h4, h5, h6, h7, h8⟩ := whole V c t
  rw [out_eq, h1, h2, h3, h4, h5, h6, h7, h8]
  refine (page_of_rows _ _ y).trans ?_
  refine (congrFun (congrFun (vln_eq _ _ _) _) _).trans ?_
  rw [vff_eq, page_in]
  rfl

/-- The call's array: the feed-forward part and the final normalisation of every page of the rows. -/
theorem arr : ((dat4 V c).arrAt 9 cfg4.N : Vec Ideal S2x300x256 .f32) = R V c := by
  refine (dat4 V c).arrAt_eq_of_covers 9 _ (by decide +kernel) fun t _ y => ?_
  blk_simp
  rw [after4_9]
  exact (point V c t y).trans (congrArg (R V c) (emb_page t y).symm)

end Cert.KernelIdeal.Ff

end
end
-- ==== Proof.Chain.lean ====
module

public import proofs.«01_k».proof.Proof.Mid
public import proofs.«01_k».proof.Proof.KvArr
public import proofs.«01_k».proof.Proof.OneArr
public import proofs.«01_k».proof.Proof.SaArr
public import proofs.«01_k».proof.Proof.CaArr
public import proofs.«01_k».proof.Proof.FfArr
public import proofs.«01_k».proof.Proof.KernelIdeal.State

/-! # The arrays from call to call -/

@[expose] public section

set_option maxRecDepth 16384

noncomputable section

namespace Cert.KernelIdeal.Chain

open Idealize.ShloMosaic Idealize.ShloMosaic.TcCoe Idealize.ShloMosaic.StableHlo Cert.KernelIdeal Cert.KernelIdeal.Gen Cert.KernelIdeal.Vec Cert.Spec Cert.Mid

/-! ## What the host hands to the calls -/

def mat0 (a : FVec Ideal S2x256x256 .f32) : FVec Ideal S256x256 .bf16 := truncf .bf16 (shapeCast S256x256 (extractStridedSlice S1x256x256 ![0, 0, 0] a slices_S2x256x256_S1x256x256_0_0_0) shapeCasts_S1x256x256_S256x256) bitsLt_bf16_f32
theorem mat0_eq (a) : toM (mat0 a) = wt 0 a := by
  funext i j; simp only [toM, mat0, wt]; pointwise
def mat1 (a : FVec Ideal S2x256x256 .f32) : FVec Ideal S256x256 .bf16 := truncf .bf16 (shapeCast S256x256 (extractStridedSlice S1x256x256 ![1, 0, 0] a slices_S2x256x256_S1x256x256_1_0_0) shapeCasts_S1x256x256_S256x256) bitsLt_bf16_f32
theorem mat1_eq (a) : toM (mat1 a) = wt 1 a := by
  funext i j; simp only [toM, mat1, wt]; pointwise
def up0 (a : FVec Ideal S2x256x2048 .f32) : FVec Ideal S256x2048 .bf16 := truncf .bf16 (shapeCast S256x2048 (extractStridedSlice S1x256x2048 ![0, 0, 0] a slices_S2x256x2048_S1x256x2048_0_0_0) shapeCasts_S1x256x2048_S256x2048) bitsLt_bf16_f32
theorem up0_eq (a) : toM (up0 a) = wt 0 a := by
  funext i j; simp only [toM, up0, wt]; pointwise
def up1 (a : FVec Ideal S2x256x2048 .f32) : FVec Ideal S256x2048 .bf16 := truncf .bf16 (shapeCast S256x2048 (extractStridedSlice S1x256x2048 ![1, 0, 0] a slices_S2x256x2048_S1x256x2048_1_0_0) shapeCasts_S1x256x2048_S256x2048) bitsLt_bf16_f32
theorem up1_eq (a) : toM (up1 a) = wt 1 a := by
  funext i j; simp only [toM, up1, wt]; pointwise
def down0 (a : FVec Ideal S2x2048x256 .f32) : FVec Ideal S2048x256 .bf16 := truncf .bf16 (shapeCast S2048x256 (extractStridedSlice S1x2048x256 ![0, 0, 0] a slices_S2x2048x256_S1x2048x256_0_0_0) shapeCasts_S1x2048x256_S2048x256) bitsLt_bf16_f32
theorem down0_eq (a) : toM (down0 a) = wt 0 a := by
  funext i j; simp only [toM, down0, wt]; pointwise
def down1 (a : FVec Ideal S2x2048x256 .f32) : FVec Ideal S2048x256 .bf16 := truncf .bf16 (shapeCast S2048x256 (extractStridedSlice S1x2048x256 ![1, 0, 0] a slices_S2x2048x256_S1x2048x256_1_0_0) shapeCasts_S1x2048x256_S2048x256) bitsLt_bf16_f32
theorem down1_eq (a) : toM (down1 a) = wt 1 a := by
  funext i j; simp only [toM, down1, wt]; pointwise
def vec0 (a : FVec Ideal S2x256 .f32) : FVec Ideal S1x256 .f32 := extractStridedSlice S1x256 ![0, 0] a slices_S2x256_S1x256_0_0
theorem vec0_eq (a) : toR (vec0 a) = rw 0 a := by
  funext j; simp only [toR, vec0, rw]; pointwise
theorem vec0_eq' (a) : toR (shapeCast S1x256 (shapeCast S256 (vec0 a) shapeCasts_S1x256_S256) shapeCasts_S256_S1x256 : FVec Ideal S1x256 .f32) = rw 0 a := by
  funext j; simp only [toR, vec0, rw]; pointwise
def vec1 (a : FVec Ideal S2x256 .f32) : FVec Ideal S1x256 .f32 := extractStridedSlice S1x256 ![1, 0] a slices_S2x256_S1x256_1_0
theorem vec1_eq (a) : toR (vec1 a) = rw 1 a := by
  funext j; simp only [toR, vec1, rw]; pointwise
theorem vec1_eq' (a) : toR (shapeCast S1x256 (shapeCast S256 (vec1 a) shapeCasts_S1x256_S256) shapeCasts_S256_S1x256 : FVec Ideal S1x256 .f32) = rw 1 a := by
  funext j; simp only [toR, vec1, rw]; pointwise
def wide0 (a : FVec Ideal S2x2048 .f32) : FVec Ideal S1x2048 .f32 := extractStridedSlice S1x2048 ![0, 0] a slices_S2x2048_S1x2048_0_0
theorem wide0_eq (a) : toR (wide0 a) = rw 0 a := by
  funext j; simp only [toR, wide0, rw]; pointwise
theorem wide0_eq' (a) : toR (shapeCast S1x2048 (shapeCast S2048 (wide0 a) shapeCasts_S1x2048_S2048) shapeCasts_S2048_S1x2048 : FVec Ideal S1x2048 .f32) = rw 0 a := by
  funext j; simp only [toR, wide0, rw]; pointwise
def wide1 (a : FVec Ideal S2x2048 .f32) : FVec Ideal S1x2048 .f32 := extractStridedSlice S1x2048 ![1, 0] a slices_S2x2048_S1x2048_1_0
theorem wide1_eq (a) : toR (wide1 a) = rw 1 a := by
  funext j; simp only [toR, wide1, rw]; pointwise
theorem wide1_eq' (a) : toR (shapeCast S1x2048 (shapeCast S2048 (wide1 a) shapeCasts_S1x2048_S2048) shapeCasts_S2048_S1x2048 : FVec Ideal S1x2048 .f32) = rw 1 a := by
  funext j; simp only [toR, wide1, rw]; pointwise

variable (V : Valuation τ sig (Elt Ideal))

/-- The contents of a buffer. -/
abbrev A (V : Valuation τ sig (Elt Ideal)) (r : Ref sig .tc) := V (Proc.devRef .tc r)

set_option maxHeartbeats 4000000 in
/-- The weights the host hands to call 1. -/
theorem host1 :
    toM (A (after hostOps1 V) main_v33 : Vec Ideal S256x256 .bf16) = wt 0 (A V main_arg5)
    ∧ toR (A (after hostOps1 V) main_v36 : Vec Ideal S1x256 .f32) = rw 0 (A V main_arg6)
    ∧ toM (A (after hostOps1 V) main_v39 : Vec Ideal S256x256 .bf16) = wt 0 (A V main_arg7)
    ∧ toR (A (after hostOps1 V) main_v42 : Vec Ideal S1x256 .f32) = rw 0 (A V main_arg8)
    ∧ toM (A (after hostOps1 V) main_v45 : Vec Ideal S256x256 .bf16) = wt 0 (A V main_arg9)
    ∧ toR (A (after hostOps1 V) main_v48 : Vec Ideal S1x256 .f32) = rw 0 (A V main_arg10)
    ∧ toM (A (after hostOps1 V) main_v51 : Vec Ideal S256x256 .bf16) = wt 0 (A V main_arg11)
    ∧ toR (A (after hostOps1 V) main_v54 : Vec Ideal S1x256 .f32) = rw 0 (A V main_arg12)
    ∧ toM (A (after hostOps1 V) main_v57 : Vec Ideal S256x256 .bf16) = wt 0 (A V main_arg13)
    ∧ toR (A (after hostOps1 V) main_v60 : Vec Ideal S1x256 .f32) = rw 0 (A V main_arg14)
    ∧ toM (A (after hostOps1 V) main_v63 : Vec Ideal S256x256 .bf16) = wt 0 (A V main_arg19)
    ∧ toR (A (after hostOps1 V) main_v66 : Vec Ideal S1x256 .f32) = rw 0 (A V main_arg20)
    ∧ toM (A (after hostOps1 V) main_v69 : Vec Ideal S256x2048 .bf16) = wt 0 (A V main_arg21)
    ∧ toR (A (after hostOps1 V) main_v72 : Vec Ideal S1x2048 .f32) = rw 0 (A V main_arg22)
    ∧ toM (A (after hostOps1 V) main_v75 : Vec Ideal S2048x256 .bf16) = wt 0 (A V main_arg23)
    ∧ toR (A (after hostOps1 V) main_v78 : Vec Ideal S1x256 .f32) = rw 0 (A V main_arg24)
    ∧ toR (A (after hostOps1 V) main_v81 : Vec Ideal S1x256 .f32) = rw 0 (A V main_arg25)
    ∧ toR (A (after hostOps1 V) main_v84 : Vec Ideal S1x256 .f32) = rw 0 (A V main_arg26)
    ∧ toR (A (after hostOps1 V) main_v87 : Vec Ideal S1x256 .f32) = rw 0 (A V main_arg27)
    ∧ toR (A (after hostOps1 V) main_v90 : Vec Ideal S1x256 .f32) = rw 0 (A V main_arg28)
    ∧ toR (A (after hostOps1 V) main_v93 : Vec Ideal S1x256 .f32) = rw 0 (A V main_arg29)
    ∧ toR (A (after hostOps1 V) main_v96 : Vec Ideal S1x256 .f32) = rw 0 (A V main_arg30) :=
  ⟨mat0_eq (A V main_arg5),
    vec0_eq' (A V main_arg6),
    mat0_eq (A V main_arg7),
    vec0_eq' (A V main_arg8),
    mat0_eq (A V main_arg9),
    vec0_eq' (A V main_arg10),
    mat0_eq (A V main_arg11),
    vec0_eq' (A V main_arg12),
    mat0_eq (A V main_arg13),
    vec0_eq' (A V main_arg14),
    mat0_eq (A V main_arg19),
    vec0_eq' (A V main_arg20),
    up0_eq (A V main_arg21),
    wide0_eq' (A V main_arg22),
    down0_eq (A V main_arg23),
    vec0_eq' (A V main_arg24),
    vec0_eq' (A V main_arg25),
    vec0_eq' (A V main_arg26),
    vec0_eq' (A V main_arg27),
    vec0_eq' (A V main_arg28),
    vec0_eq' (A V main_arg29),
    vec0_eq' (A V main_arg30)⟩

set_option maxHeartbeats 4000000 in
/-- The weights the host hands to call 2. -/
theorem host2 :
    toM (A (after hostOps2 V) main_v100 : Vec Ideal S256x256 .bf16) = wt 1 (A V main_arg5)
    ∧ toR (A (after hostOps2 V) main_v103 : Vec Ideal S1x256 .f32) = rw 1 (A V main_arg6)
    ∧ toM (A (after hostOps2 V) main_v106 : Vec Ideal S256x256 .bf16) = wt 1 (A V main_arg7)
    ∧ toR (A (after hostOps2 V) main_v109 : Vec Ideal S1x256 .f32) = rw 1 (A V main_arg8)
    ∧ toM (A (after hostOps2 V) main_v112 : Vec Ideal S256x256 .bf16) = wt 1 (A V main_arg9)
    ∧ toR (A (after hostOps2 V) main_v115 : Vec Ideal S1x256 .f32) = rw 1 (A V main_arg10)
    ∧ toM (A (after hostOps2 V) main_v118 : Vec Ideal S256x256 .bf16) = wt 1 (A V main_arg11)
    ∧ toR (A (after hostOps2 V) main_v121 : Vec Ideal S1x256 .f32) = rw 1 (A V main_arg12)
    ∧ toR (A (after hostOps2 V) main_v124 : Vec Ideal S1x256 .f32) = rw 1 (A V main_arg25)
    ∧ toR (A (after hostOps2 V) main_v127 : Vec Ideal S1x256 .f32) = rw 1 (A V main_arg26) :=
  ⟨mat1_eq (A V main_arg5),
    vec1_eq' (A V main_arg6),
    mat1_eq (A V main_arg7),
    vec1_eq' (A V main_arg8),
    mat1_eq (A V main_arg9),
    vec1_eq' (A V main_arg10),
    mat1_eq (A V main_arg11),
    vec1_eq' (A V main_arg12),
    vec1_eq' (A V main_arg25),
    vec1_eq' (A V main_arg26)⟩

set_option maxHeartbeats 4000000 in
/-- The weights the host hands to call 3. -/
theorem host3 :
    toM (A (after hostOps3 V) main_v131 : Vec Ideal S256x256 .bf16) = wt 1 (A V main_arg13)
    ∧ toR (A (after hostOps3 V) main_v134 : Vec Ideal S1x256 .f32) = rw 1 (A V main_arg14)
    ∧ toM (A (after hostOps3 V) main_v137 : Vec Ideal S256x256 .bf16) = wt 1 (A V main_arg19)
    ∧ toR (A (after hostOps3 V) main_v140 : Vec Ideal S1x256 .f32) = rw 1 (A V main_arg20)
    ∧ toR (A (after hostOps3 V) main_v143 : Vec Ideal S1x256 .f32) = rw 1 (A V main_arg27)
    ∧ toR (A (after hostOps3 V) main_v146 : Vec Ideal S1x256 .f32) = rw 1 (A V main_arg28) :=
  ⟨mat1_eq (A V main_arg13),
    vec1_eq' (A V main_arg14),
    mat1_eq (A V main_arg19),
    vec1_eq' (A V main_arg20),
    vec1_eq' (A V main_arg27),
    vec1_eq' (A V main_arg28)⟩

set_option maxHeartbeats 4000000 in
/-- The weights the host hands to call 4. -/
theorem host4 :
    toM (A (after hostOps4 V) main_v150 : Vec Ideal S256x2048 .bf16) = wt 1 (A V main_arg21)
    ∧ toR (A (after hostOps4 V) main_v153 : Vec Ideal S1x2048 .f32) = rw 1 (A V main_arg22)
    ∧ toM (A (after hostOps4 V) main_v156 : Vec Ideal S2048x256 .bf16) = wt 1 (A V main_arg23)
    ∧ toR (A (after hostOps4 V) main_v159 : Vec Ideal S1x256 .f32) = rw 1 (A V main_arg24)
    ∧ toR (A (after hostOps4 V) main_v162 : Vec Ideal S1x256 .f32) = rw 1 (A V main_arg29)
    ∧ toR (A (after hostOps4 V) main_v165 : Vec Ideal S1x256 .f32) = rw 1 (A V main_arg30) :=
  ⟨up1_eq (A V main_arg21),
    wide1_eq' (A V main_arg22),
    down1_eq (A V main_arg23),
    vec1_eq' (A V main_arg24),
    vec1_eq' (A V main_arg29),
    vec1_eq' (A V main_arg30)⟩

variable (m : (ℓ : Loc nD τ sig) → Buf (Elt Ideal) ℓ) (ρ : Dev nD → PrngReg) (c : Dev nD) (p : Fin 2)

/-- The program's arguments. -/
def args : Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32)⟩

theorem weights1 :
    toM (V3 m ρ c main_v33 : Vec Ideal S256x256 .bf16) = wt 0 (args m c).wq
    ∧ toR (V3 m ρ c main_v36 : Vec Ideal S1x256 .f32) = rw 0 (args m c).bq
    ∧ toM (V3 m ρ c main_v39 : Vec Ideal S256x256 .bf16) = wt 0 (args m c).wk
    ∧ toR (V3 m ρ c main_v42 : Vec Ideal S1x256 .f32) = rw 0 (args m c).bk
    ∧ toM (V3 m ρ c main_v45 : Vec Ideal S256x256 .bf16) = wt 0 (args m c).wv
    ∧ toR (V3 m ρ c main_v48 : Vec Ideal S1x256 .f32) = rw 0 (args m c).bv
    ∧ toM (V3 m ρ c main_v51 : Vec Ideal S256x256 .bf16) = wt 0 (args m c).wo
    ∧ toR (V3 m ρ c main_v54 : Vec Ideal S1x256 .f32) = rw 0 (args m c).bo
    ∧ toM (V3 m ρ c main_v57 : Vec Ideal S256x256 .bf16) = wt 0 (args m c).cwq
    ∧ toR (V3 m ρ c main_v60 : Vec Ideal S1x256 .f32) = rw 0 (args m c).cbq
    ∧ toM (V3 m ρ c main_v63 : Vec Ideal S256x256 .bf16) = wt 0 (args m c).cwo
    ∧ toR (V3 m ρ c main_v66 : Vec Ideal S1x256 .f32) = rw 0 (args m c).cbo
    ∧ toM (V3 m ρ c main_v69 : Vec Ideal S256x2048 .bf16) = wt 0 (args m c).w1
    ∧ toR (V3 m ρ c main_v72 : Vec Ideal S1x2048 .f32) = rw 0 (args m c).b1
    ∧ toM (V3 m ρ c main_v75 : Vec Ideal S2048x256 .bf16) = wt 0 (args m c).w2
    ∧ toR (V3 m ρ c main_v78 : Vec Ideal S1x256 .f32) = rw 0 (args m c).b2
    ∧ toR (V3 m ρ c main_v81 : Vec Ideal S1x256 .f32) = rw 0 (args m c).g1
    ∧ toR (V3 m ρ c main_v84 : Vec Ideal S1x256 .f32) = rw 0 (args m c).c1
    ∧ toR (V3 m ρ c main_v87 : Vec Ideal S1x256 .f32) = rw 0 (args m c).g2
    ∧ toR (V3 m ρ c main_v90 : Vec Ideal S1x256 .f32) = rw 0 (args m c).c2
    ∧ toR (V3 m ρ c main_v93 : Vec Ideal S1x256 .f32) = rw 0 (args m c).g3
    ∧ toR (V3 m ρ c main_v96 : Vec Ideal S1x256 .f32) = rw 0 (args m c).c3 := by
  obtain ⟨h0, h1, h2, h3, h4, h5, h6, h7, h8, h9, h10, h11, h12, h13, h14, h15, h16, h17, h18, h19, h20, h21⟩ := host1 (W2 m ρ c)
  exact ⟨h0.trans (congrArg (wt 0) (W2_args m ρ c main_arg5 (by decide))),
    h1.trans (congrArg (rw 0) (W2_args m ρ c main_arg6 (by decide))),
    h2.trans (congrArg (wt 0) (W2_args m ρ c main_arg7 (by decide))),
    h3.trans (congrArg (rw 0) (W2_args m ρ c main_arg8 (by decide))),
    h4.trans (congrArg (wt 0) (W2_args m ρ c main_arg9 (by decide))),
    h5.trans (congrArg (rw 0) (W2_args m ρ c main_arg10 (by decide))),
    h6.trans (congrArg (wt 0) (W2_args m ρ c main_arg11 (by decide))),
    h7.trans (congrArg (rw 0) (W2_args m ρ c main_arg12 (by decide))),
    h8.trans (congrArg (wt 0) (W2_args m ρ c main_arg13 (by decide))),
    h9.trans (congrArg (rw 0) (W2_args m ρ c main_arg14 (by decide))),
    h10.trans (congrArg (wt 0) (W2_args m ρ c main_arg19 (by decide))),
    h11.trans (congrArg (rw 0) (W2_args m ρ c main_arg20 (by decide))),
    h12.trans (congrArg (wt 0) (W2_args m ρ c main_arg21 (by decide))),
    h13.trans (congrArg (rw 0) (W2_args m ρ c main_arg22 (by decide))),
    h14.trans (congrArg (wt 0) (W2_args m ρ c main_arg23 (by decide))),
    h15.trans (congrArg (rw 0) (W2_args m ρ c main_arg24 (by decide))),
    h16.trans (congrArg (rw 0) (W2_args m ρ c main_arg25 (by decide))),
    h17.trans (congrArg (rw 0) (W2_args m ρ c main_arg26 (by decide))),
    h18.trans (congrArg (rw 0) (W2_args m ρ c main_arg27 (by decide))),
    h19.trans (congrArg (rw 0) (W2_args m ρ c main_arg28 (by decide))),
    h20.trans (congrArg (rw 0) (W2_args m ρ c main_arg29 (by decide))),
    h21.trans (congrArg (rw 0) (W2_args m ρ c main_arg30 (by decide)))⟩

theorem weights2 :
    toM (V5 m ρ c main_v100 : Vec Ideal S256x256 .bf16) = wt 1 (args m c).wq
    ∧ toR (V5 m ρ c main_v103 : Vec Ideal S1x256 .f32) = rw 1 (args m c).bq
    ∧ toM (V5 m ρ c main_v106 : Vec Ideal S256x256 .bf16) = wt 1 (args m c).wk
    ∧ toR (V5 m ρ c main_v109 : Vec Ideal S1x256 .f32) = rw 1 (args m c).bk
    ∧ toM (V5 m ρ c main_v112 : Vec Ideal S256x256 .bf16) = wt 1 (args m c).wv
    ∧ toR (V5 m ρ c main_v115 : Vec Ideal S1x256 .f32) = rw 1 (args m c).bv
    ∧ toM (V5 m ρ c main_v118 : Vec Ideal S256x256 .bf16) = wt 1 (args m c).wo
    ∧ toR (V5 m ρ c main_v121 : Vec Ideal S1x256 .f32) = rw 1 (args m c).bo
    ∧ toR (V5 m ρ c main_v124 : Vec Ideal S1x256 .f32) = rw 1 (args m c).g1
    ∧ toR (V5 m ρ c main_v127 : Vec Ideal S1x256 .f32) = rw 1 (args m c).c1 := by
  obtain ⟨h0, h1, h2, h3, h4, h5, h6, h7, h8, h9⟩ := host2 (W4 m ρ c)
  exact ⟨h0.trans (congrArg (wt 1) (W4_args m ρ c main_arg5 (by decide))),
    h1.trans (congrArg (rw 1) (W4_args m ρ c main_arg6 (by decide))),
    h2.trans (congrArg (wt 1) (W4_args m ρ c main_arg7 (by decide))),
    h3.trans (congrArg (rw 1) (W4_args m ρ c main_arg8 (by decide))),
    h4.trans (congrArg (wt 1) (W4_args m ρ c main_arg9 (by decide))),
    h5.trans (congrArg (rw 1) (W4_args m ρ c main_arg10 (by decide))),
    h6.trans (congrArg (wt 1) (W4_args m ρ c main_arg11 (by decide))),
    h7.trans (congrArg (rw 1) (W4_args m ρ c main_arg12 (by decide))),
    h8.trans (congrArg (rw 1) (W4_args m ρ c main_arg25 (by decide))),
    h9.trans (congrArg (rw 1) (W4_args m ρ c main_arg26 (by decide)))⟩

theorem weights3 :
    toM (V7 m ρ c main_v131 : Vec Ideal S256x256 .bf16) = wt 1 (args m c).cwq
    ∧ toR (V7 m ρ c main_v134 : Vec Ideal S1x256 .f32) = rw 1 (args m c).cbq
    ∧ toM (V7 m ρ c main_v137 : Vec Ideal S256x256 .bf16) = wt 1 (args m c).cwo
    ∧ toR (V7 m ρ c main_v140 : Vec Ideal S1x256 .f32) = rw 1 (args m c).cbo
    ∧ toR (V7 m ρ c main_v143 : Vec Ideal S1x256 .f32) = rw 1 (args m c).g2
    ∧ toR (V7 m ρ c main_v146 : Vec Ideal S1x256 .f32) = rw 1 (args m c).c2 := by
  obtain ⟨h0, h1, h2, h3, h4, h5⟩ := host3 (W6 m ρ c)
  exact ⟨h0.trans (congrArg (wt 1) (W6_args m ρ c main_arg13 (by decide))),
    h1.trans (congrArg (rw 1) (W6_args m ρ c main_arg14 (by decide))),
    h2.trans (congrArg (wt 1) (W6_args m ρ c main_arg19 (by decide))),
    h3.trans (congrArg (rw 1) (W6_args m ρ c main_arg20 (by decide))),
    h4.trans (congrArg (rw 1) (W6_args m ρ c main_arg27 (by decide))),
    h5.trans (congrArg (rw 1) (W6_args m ρ c main_arg28 (by decide)))⟩

theorem weights4 :
    toM (V9 m ρ c main_v150 : Vec Ideal S256x2048 .bf16) = wt 1 (args m c).w1
    ∧ toR (V9 m ρ c main_v153 : Vec Ideal S1x2048 .f32) = rw 1 (args m c).b1
    ∧ toM (V9 m ρ c main_v156 : Vec Ideal S2048x256 .bf16) = wt 1 (args m c).w2
    ∧ toR (V9 m ρ c main_v159 : Vec Ideal S1x256 .f32) = rw 1 (args m c).b2
    ∧ toR (V9 m ρ c main_v162 : Vec Ideal S1x256 .f32) = rw 1 (args m c).g3
    ∧ toR (V9 m ρ c main_v165 : Vec Ideal S1x256 .f32) = rw 1 (args m c).c3 := by
  obtain ⟨h0, h1, h2, h3, h4, h5⟩ := host4 (W8 m ρ c)
  exact ⟨h0.trans (congrArg (wt 1) (W8_args m ρ c main_arg21 (by decide))),
    h1.trans (congrArg (rw 1) (W8_args m ρ c main_arg22 (by decide))),
    h2.trans (congrArg (wt 1) (W8_args m ρ c main_arg23 (by decide))),
    h3.trans (congrArg (rw 1) (W8_args m ρ c main_arg24 (by decide))),
    h4.trans (congrArg (rw 1) (W8_args m ρ c main_arg29 (by decide))),
    h5.trans (congrArg (rw 1) (W8_args m ρ c main_arg30 (by decide)))⟩

end Cert.KernelIdeal.Chain

end
end
-- ==== Proof.Calls.lean ====
module

public import proofs.«01_k».proof.Proof.Chain
public import proofs.«01_k».proof.Proof.R6

/-! # The whole program's results, in numbers -/

@[expose] public section

set_option maxRecDepth 16384

noncomputable section

namespace Cert.KernelIdeal.Calls

open Idealize.ShloMosaic Idealize.ShloMosaic.TcCoe Idealize.ShloMosaic.StableHlo Cert.KernelIdeal Cert.KernelIdeal.Gen Cert.KernelIdeal.Vec Cert.Spec Cert.Mid Cert.KernelIdeal.Chain
open Cert.Kernel6Ideal.Arr (first boxes boxes' bits)
open Cert.Kernel4Ideal.Arr (upper)
open Cert.Kernel3Ideal.Arr (shown)

/-! ## Arrays side by side -/

theorem cat_at {α : Type} (f : Fin 2 → (S256x256.Idx → α)) (l : Fin 2) (i j : Fin 256) (k : Fin 512) (hk : k.val = 256 * l.val + j.val) :
    concatenate S256x512 1 [⟨S256x256, f 0⟩, ⟨S256x256, f 1⟩] concatenates_S256x256_S256x256_S256x512_d1 (ix2 i k) = f l (ix2 i j) := by
  refine concatenate_ofFn_apply (t := S256x512) (s₁ := S256x256) 1 f _ rfl 256 rfl (ix2 i k) l ?_ (ix2 i j) ?_ ?_
  · show k.val / 256 = l.val
    omega
  · show j.val = k.val % 256
    omega
  · intro b hb
    have : b = 0 := by
      match b, hb with
      | 0, _ => rfl
      | 1, hb => exact absurd rfl hb
    subst this; rfl

theorem cat_row {α : Type} (f : Fin 2 → (S256.Idx → α)) (l : Fin 2) (j : Fin 256) (k : Fin 512) (hk : k.val = 256 * l.val + j.val) :
    concatenate S512 0 [⟨S256, f 0⟩, ⟨S256, f 1⟩] concatenates_S256_S256_S512_d0 (ix1 k) = f l (ix1 j) := by
  refine concatenate_ofFn_apply (t := S512) (s₁ := S256) 0 f _ rfl 256 rfl (ix1 k) l ?_ (ix1 j) ?_ ?_
  · show k.val / 256 = l.val
    omega
  · show j.val = k.val % 256
    omega
  · intro b hb
    have : b = 0 := Subsingleton.elim (α := Fin 1) _ _
    exact absurd (congrArg _ this) hb

theorem flat (x : FVec Ideal S512 .f32) (k : Fin 512) : shapeCast S1x512 x shapeCasts_S512_S1x512 (ix2 0 k) = x (ix1 k) := by
  pointwise

/-- The rows of both batches, next to each other. -/
theorem half_of (x : FVec Ideal S300x2x256 .f32) (p) : half (shapeCast S300x512 x shapeCasts_S300x2x256_S300x512) p = pg x p := by
  funext i j
  simp only [half, pg]
  pointwise
theorem half_of' (x : FVec Ideal S4096x2x256 .f32) (p) : half (shapeCast S4096x512 x shapeCasts_S4096x2x256_S4096x512) p = pg x p := by
  funext i j
  simp only [half, pg]
  pointwise

/-- Both layers' matrices, and rows. -/
def mats (a : FVec Ideal S2x256x256 .f32) : FVec Ideal S256x512 .bf16 :=
  truncf .bf16 (concatenate S256x512 1 [⟨S256x256, shapeCast S256x256 (extractStridedSlice S1x256x256 ![0, 0, 0] a slices_S2x256x256_S1x256x256_0_0_0) shapeCasts_S1x256x256_S256x256⟩,
    ⟨S256x256, shapeCast S256x256 (extractStridedSlice S1x256x256 ![1, 0, 0] a slices_S2x256x256_S1x256x256_1_0_0) shapeCasts_S1x256x256_S256x256⟩] concatenates_S256x256_S256x256_S256x512_d1) bitsLt_bf16_f32
def vecs (a : FVec Ideal S2x256 .f32) : FVec Ideal S1x512 .f32 :=
  shapeCast S1x512 (concatenate S512 0 [⟨S256, shapeCast S256 (extractStridedSlice S1x256 ![0, 0] a slices_S2x256_S1x256_0_0) shapeCasts_S1x256_S256⟩,
    ⟨S256, shapeCast S256 (extractStridedSlice S1x256 ![1, 0] a slices_S2x256_S1x256_1_0) shapeCasts_S1x256_S256⟩] concatenates_S256_S256_S512_d0) shapeCasts_S512_S1x512

theorem mats_at (a : FVec Ideal S2x256x256 .f32) (l : Fin 2) (i j : Fin 256) (k : Fin 512) (hk : k.val = 256 * l.val + j.val) : toM (mats a) i k = wt l a i j := by
  refine (cat_at ![mat0 a, mat1 a] l i j k hk).trans ?_
  match l with
  | 0 => exact congrFun (congrFun (mat0_eq a) i) j
  | 1 => exact congrFun (congrFun (mat1_eq a) i) j

theorem vecs_at (a : FVec Ideal S2x256 .f32) (l : Fin 2) (j : Fin 256) (k : Fin 512) (hk : k.val = 256 * l.val + j.val) : toR (vecs a) k = rw l a j := by
  have piece0 : shapeCast S256 (vec0 a) shapeCasts_S1x256_S256 (ix1 j) = rw 0 a j := by
    simp only [vec0, rw]
    pointwise
  have piece1 : shapeCast S256 (vec1 a) shapeCasts_S1x256_S256 (ix1 j) = rw 1 a j := by
    simp only [vec1, rw]
    pointwise
  refine (flat _ k).trans ((cat_row ![shapeCast S256 (vec0 a) shapeCasts_S1x256_S256, shapeCast S256 (vec1 a) shapeCasts_S1x256_S256] l j k hk).trans ?_)
  match l with
  | 0 => exact piece0
  | 1 => exact piece1

theorem lin_part {n : ℕ} {x y : M n 256} {w : M 256 512} {b : Fin 512 → EReal} {w' : M 256 256} {b' : Fin 256 → EReal} (i : Fin n) {j : Fin 256} {k : Fin 512}
    (hx : x = y) (hw : ∀ t, w t k = w' t j) (hb : b k = b' j) : lin x w b i k = lin y w' b' i j := by
  subst hx
  simp only [lin, hw, hb]

variable (m : (ℓ : Loc nD τ sig) → Buf (Elt Ideal) ℓ) (ρ : Dev nD → PrngReg) (c : Dev nD) (p : Fin 2)

/-! ## The keys and the values of both layers -/

theorem in2 : half (V1 m ρ c main_v2) p = pg (args m c).mem p := half_of' (m ((c : Thread nD τ).loc main_arg1)) p
theorem in3 : half (V1 m ρ c main_v3) p = pg (args m c).pos p := half_of' (m ((c : Thread nD τ).loc main_arg2)) p
theorem in11 : (V1 m ρ c main_v11 : Vec Ideal S256x512 .bf16) = mats (args m c).cwk := rfl
theorem in17 : (V1 m ρ c main_v17 : Vec Ideal S1x512 .f32) = vecs (args m c).cbk := rfl
theorem in23 : (V1 m ρ c main_v23 : Vec Ideal S256x512 .bf16) = mats (args m c).cwv := rfl
theorem in29 : (V1 m ρ c main_v29 : Vec Ideal S1x512 .f32) = vecs (args m c).cbv := rfl

theorem k30 : (W2 m ρ c (Proc.devRef .tc main_v30_0) : Vec Ideal S2x4096x512 .bf16) = Kv.R6 (V1 m ρ) c := (W2_arr m ρ c 6).trans (Kv.arr6 _ c)
theorem v30 : (W2 m ρ c (Proc.devRef .tc main_v30_1) : Vec Ideal S2x4096x512 .bf16) = Kv.R7 (V1 m ρ) c := (W2_arr m ρ c 7).trans (Kv.arr7 _ c)

theorem key_at (l : Fin 2) (i : Fin 4096) (j : Fin 256) (k : Fin 512) (hk : k.val = 256 * l.val + j.val) :
    (W2 m ρ c (Proc.devRef .tc main_v30_0) : Vec Ideal S2x4096x512 .bf16) (ix3 p i k) = keys (args m c) l p i j := by
  rw [k30, Kv.R6, in11, in17]
  change lin (add (half (V1 m ρ c main_v2) p) (half (V1 m ρ c main_v3) p)) (toM (mats (args m c).cwk)) (toR (vecs (args m c).cbk)) i k = _
  rw [in2, in3]
  exact lin_part i rfl (fun t => mats_at _ l t j k hk) (vecs_at _ l j k hk)

theorem val_at (l : Fin 2) (i : Fin 4096) (j : Fin 256) (k : Fin 512) (hk : k.val = 256 * l.val + j.val) :
    (W2 m ρ c (Proc.devRef .tc main_v30_1) : Vec Ideal S2x4096x512 .bf16) (ix3 p i k) = vals (args m c) l p i j := by
  rw [v30, Kv.R7, in23, in29]
  change lin (half (V1 m ρ c main_v2) p) (toM (mats (args m c).cwv)) (toR (vecs (args m c).cbv)) i k = _
  rw [in2]
  exact lin_part i rfl (fun t => mats_at _ l t j k hk) (vecs_at _ l j k hk)

theorem key0 : first (W2 m ρ c (Proc.devRef .tc main_v30_0)) p = keys (args m c) 0 p := by
  funext i j
  exact key_at m ρ c p 0 i j _ (by show j.val = 256 * 0 + j.val; omega)
theorem val0 : first (W2 m ρ c (Proc.devRef .tc main_v30_1)) p = vals (args m c) 0 p := by
  funext i j
  exact val_at m ρ c p 0 i j _ (by show j.val = 256 * 0 + j.val; omega)
theorem key1 : upper (W2 m ρ c (Proc.devRef .tc main_v30_0)) p = keys (args m c) 1 p := by
  funext i j
  exact key_at m ρ c p 1 i j _ (by show 256 + j.val = 256 * 1 + j.val; omega)
theorem val1 : upper (W2 m ρ c (Proc.devRef .tc main_v30_1)) p = vals (args m c) 1 p := by
  funext i j
  exact val_at m ρ c p 1 i j _ (by show 256 + j.val = 256 * 1 + j.val; omega)

/-! ## What is kept from call to call -/

theorem keep3 (r : Ref sig .tc) (h1 : r ∉ hostOps1_W) (h2 : ∀ w : Fin cfg0.W, Pipeline.arrRef spec0 w = r → (cfg0.win w).isOut = false) :
    W3 m ρ c (Proc.devRef .tc r) = W1 m ρ c (Proc.devRef .tc r) := (W3_of m ρ c r h1).trans (W2_of m ρ c r h2)
theorem keep5 (r : Ref sig .tc) (h1 : r ∉ hostOps2_W) (h2 : ∀ w : Fin cfg1.W, Pipeline.arrRef spec1 w = r → (cfg1.win w).isOut = false) :
    W5 m ρ c (Proc.devRef .tc r) = W3 m ρ c (Proc.devRef .tc r) := (W5_of m ρ c r h1).trans (W4_of m ρ c r h2)
theorem keep7 (r : Ref sig .tc) (h1 : r ∉ hostOps3_W) (h2 : ∀ w : Fin cfg2.W, Pipeline.arrRef spec2 w = r → (cfg2.win w).isOut = false) :
    W7 m ρ c (Proc.devRef .tc r) = W5 m ρ c (Proc.devRef .tc r) := (W7_of m ρ c r h1).trans (W6_of m ρ c r h2)

theorem pos3 : half (V3 m ρ c main_v1) p = pg (args m c).qp p := by
  rw [show V3 m ρ c main_v1 = W1 m ρ c (Proc.devRef .tc main_v1) from keep3 m ρ c main_v1 (by decide) (by decide)]
  exact half_of (m ((c : Thread nD τ).loc main_arg3)) p
theorem pos5 : half (V5 m ρ c main_v1) p = pg (args m c).qp p := by
  rw [show V5 m ρ c main_v1 = V3 m ρ c main_v1 from keep5 m ρ c main_v1 (by decide) (by decide), pos3]
theorem pos7 : half (V7 m ρ c main_v1) p = pg (args m c).qp p := by
  rw [show V7 m ρ c main_v1 = V5 m ρ c main_v1 from keep7 m ρ c main_v1 (by decide) (by decide), pos5]

theorem tgt3 : half (V3 m ρ c main_v0) p = pg (args m c).tgt p := by
  rw [show V3 m ρ c main_v0 = W1 m ρ c (Proc.devRef .tc main_v0) from keep3 m ρ c main_v0 (by decide) (by decide)]
  exact half_of (m ((c : Thread nD τ).loc main_arg0)) p

theorem box_rows (x : FVec Ideal S300x2x4 .f32) : boxes (transpose S2x300x4 [1, 0, 2] x transposes_S300x2x4_S2x300x4_1_0_2) p = fun i k => x (ix3 i p k) := by
  funext i k
  simp only [boxes]
  pointwise
theorem box_cols (x : FVec Ideal S300x2x4 .f32) : boxes' (transpose S2x4x300 [1, 2, 0] x transposes_S300x2x4_S2x4x300_1_2_0) p = fun k j => x (ix3 j p k) := by
  funext k j
  simp only [boxes']
  pointwise

theorem box3 : boxes (V3 m ρ c main_v4) p = fun i k => (args m c).box (ix3 i p k) := by
  rw [show V3 m ρ c main_v4 = W1 m ρ c (Proc.devRef .tc main_v4) from keep3 m ρ c main_v4 (by decide) (by decide)]
  exact box_rows p (m ((c : Thread nD τ).loc main_arg4))
theorem box3' : boxes' (V3 m ρ c main_v5) p = fun k j => (args m c).box (ix3 j p k) := by
  rw [show V3 m ρ c main_v5 = W1 m ρ c (Proc.devRef .tc main_v5) from keep3 m ρ c main_v5 (by decide) (by decide)]
  exact box_cols p (m ((c : Thread nD τ).loc main_arg4))

theorem key3 : first (V3 m ρ c main_v30_0) p = keys (args m c) 0 p := by
  rw [show V3 m ρ c main_v30_0 = W2 m ρ c (Proc.devRef .tc main_v30_0) from W3_of m ρ c main_v30_0 (by decide), key0]
theorem val3 : first (V3 m ρ c main_v30_1) p = vals (args m c) 0 p := by
  rw [show V3 m ρ c main_v30_1 = W2 m ρ c (Proc.devRef .tc main_v30_1) from W3_of m ρ c main_v30_1 (by decide), val0]
theorem key7 : upper (V7 m ρ c main_v30_0) p = keys (args m c) 1 p := by
  rw [show V7 m ρ c main_v30_0 = W2 m ρ c (Proc.devRef .tc main_v30_0) from
    (keep7 m ρ c main_v30_0 (by decide) (by decide)).trans ((keep5 m ρ c main_v30_0 (by decide) (by decide)).trans (W3_of m ρ c main_v30_0 (by decide))), key1]
theorem val7 : upper (V7 m ρ c main_v30_1) p = vals (args m c) 1 p := by
  rw [show V7 m ρ c main_v30_1 = W2 m ρ c (Proc.devRef .tc main_v30_1) from
    (keep7 m ρ c main_v30_1 (by decide) (by decide)).trans ((keep5 m ρ c main_v30_1 (by decide) (by decide)).trans (W3_of m ρ c main_v30_1 (by decide))), val1]

/-! ## The calls' arrays -/

theorem a97 : (W4 m ρ c (Proc.devRef .tc main_v97_0) : Vec Ideal S2x300x256 .f32) = One.R (V3 m ρ) c := (W4_arr m ρ c 28).trans (One.arr28 _ c)
theorem a97' : (W4 m ρ c (Proc.devRef .tc main_v97_1) : Vec Ideal S2x300x300 .f32) = One.K (V3 m ρ) c := (W4_arr m ρ c 29).trans (One.arr29 _ c)
theorem a128 : (W6 m ρ c (Proc.devRef .tc main_v128) : Vec Ideal S2x300x256 .f32) = Sa.R (V5 m ρ) c := (W6_arr m ρ c 13).trans (Sa.arr _ c)
theorem a147 : (W8 m ρ c (Proc.devRef .tc main_v147_0) : Vec Ideal S2x300x256 .f32) = Ca.R (V7 m ρ) c := (W8_arr m ρ c 10).trans (Ca.arr10 _ c)
theorem a147' : (W8 m ρ c (Proc.devRef .tc main_v147_1) : Vec Ideal S2x300x4096 .f32) = Ca.A (V7 m ρ) c := (W8_arr m ρ c 11).trans (Ca.arr11 _ c)
theorem a168 : (W10 m ρ c (Proc.devRef .tc main_v168) : Vec Ideal S2x300x256 .f32) = Ff.R (V9 m ρ) c := (W10_arr m ρ c 9).trans (Ff.arr _ c)

theorem call1 : page (V5 m ρ c main_v97_0) p = layer (args m c) 0 p (pg (args m c).tgt p) := by
  obtain ⟨h0, h1, h2, h3, h4, h5, h6, h7, h8, h9, h10, h11, h12, h13, h14, h15, h16, h17, h18, h19, h20, h21⟩ := weights1 m ρ c
  rw [show V5 m ρ c main_v97_0 = _ from (W5_of m ρ c main_v97_0 (by decide)).trans (a97 m ρ c), One.R,
    h0, h1, h2, h3, h4, h5, h6, h7, h8, h9, h10, h11, h12, h13, h14, h15, h16, h17, h18, h19, h20, h21]
  change ffnBlock (caBlock (saBlock (bits (boxes (V3 m ρ c main_v4) p) (boxes' (V3 m ρ c main_v5) p)) (half (V3 m ρ c main_v0) p) (half (V3 m ρ c main_v1) p) _ _ _ _ _ _ _ _ _ _)
    (half (V3 m ρ c main_v1) p) (first (V3 m ρ c main_v30_0) p) (first (V3 m ρ c main_v30_1) p) _ _ _ _ _ _) _ _ _ _ _ _ = _
  rw [box3, box3', tgt3, pos3, key3, val3]
  rfl

theorem mask1 : shown (V5 m ρ c main_v97_1) p = near (args m c) p := by
  rw [show V5 m ρ c main_v97_1 = _ from (W5_of m ρ c main_v97_1 (by decide)).trans (a97' m ρ c), near, ← box3 m ρ, ← box3' m ρ]
  funext i j
  exact Cert.Reference6Ideal.Arr.above _

theorem call2 : page (V7 m ρ c main_v128) p = sa (args m c) 1 p (layer (args m c) 0 p (pg (args m c).tgt p)) := by
  obtain ⟨h0, h1, h2, h3, h4, h5, h6, h7, h8, h9⟩ := weights2 m ρ c
  rw [show V7 m ρ c main_v128 = _ from (W7_of m ρ c main_v128 (by decide)).trans (a128 m ρ c), Sa.R, h0, h1, h2, h3, h4, h5, h6, h7, h8, h9]
  change saBlock (shown (V5 m ρ c main_v97_1) p) (page (V5 m ρ c main_v97_0) p) (half (V5 m ρ c main_v1) p) _ _ _ _ _ _ _ _ _ _ = _
  rw [mask1, call1, pos5]
  rfl

theorem call3 : page (V9 m ρ c main_v147_0) p = ca (args m c) 1 p (sa (args m c) 1 p (layer (args m c) 0 p (pg (args m c).tgt p))) := by
  obtain ⟨h0, h1, h2, h3, h4, h5⟩ := weights3 m ρ c
  rw [show V9 m ρ c main_v147_0 = _ from (W9_of m ρ c main_v147_0 (by decide)).trans (a147 m ρ c), Ca.R, h0, h1, h2, h3, h4, h5]
  change caBlock (page (V7 m ρ c main_v128) p) (half (V7 m ρ c main_v1) p) (upper (V7 m ρ c main_v30_0) p) (upper (V7 m ρ c main_v30_1) p) _ _ _ _ _ _ = _
  rw [call2, pos7, key7, val7]
  rfl

theorem row_of (x : FVec Ideal S256 .f32) : toR (shapeCast S1x256 x shapeCasts_S256_S1x256) = fun j => x (ix1 j) := by
  funext j
  simp only [toR]
  pointwise

section
variable (V : Valuation τ sig (Elt Ideal))
theorem host166 : toR (A (after hostOps4 V) main_v166 : Vec Ideal S1x256 .f32) = fun j => (A V main_arg31 : FVec Ideal S256 .f32) (ix1 j) := row_of (A V main_arg31)
theorem host167 : toR (A (after hostOps4 V) main_v167 : Vec Ideal S1x256 .f32) = fun j => (A V main_arg32 : FVec Ideal S256 .f32) (ix1 j) := row_of (A V main_arg32)
end

theorem in166 : toR (V9 m ρ c main_v166 : Vec Ideal S1x256 .f32) = fun j => (args m c).ng (ix1 j) := by
  refine (host166 (W8 m ρ c)).trans ?_
  funext j
  exact congrFun (W8_args m ρ c main_arg31 (by decide)) (ix1 j)
theorem in167 : toR (V9 m ρ c main_v167 : Vec Ideal S1x256 .f32) = fun j => (args m c).nb (ix1 j) := by
  refine (host167 (W8 m ρ c)).trans ?_
  funext j
  exact congrFun (W8_args m ρ c main_arg32 (by decide)) (ix1 j)

theorem call4 : page (W10 m ρ c (Proc.devRef .tc main_v168)) p = rows (args m c) p := by
  obtain ⟨h0, h1, h2, h3, h4, h5⟩ := weights4 m ρ c
  rw [a168, Ff.R, h0, h1, h2, h3, h4, h5, in166, in167]
  change ln (ffnBlock (page (V9 m ρ c main_v147_0) p) _ _ _ _ _ _) _ _ = _
  rw [call3]
  rfl

/-! ## The results -/

/-- The rows the program ends with. -/
theorem out_eq : (W11 m ρ c (Proc.devRef .tc main_v169) : S300x2x256.Idx → EReal) = out (args m c) := by
  funext y
  have h : W11 m ρ c (Proc.devRef .tc main_v169) = transpose S300x2x256 [1, 0, 2] (W10 m ρ c (Proc.devRef .tc main_v168) : FVec Ideal S2x300x256 .f32) transposes_S2x300x256_S300x2x256_1_0_2 := rfl
  rw [h]
  refine Eq.trans ?_ (congrFun (congrFun (call4 m ρ c (y 1)) (y 0)) (y 2))
  simp only [page]
  generalize (W10 m ρ c (Proc.devRef .tc main_v168) : FVec Ideal S2x300x256 .f32) = z
  pointwise

/-- The averaged weights the program ends with. -/
theorem att_eq : (W11 m ρ c (Proc.devRef .tc main_v147_1) : S2x300x4096.Idx → EReal) = att (args m c) := by
  obtain ⟨h0, h1, -⟩ := weights3 m ρ c
  rw [show W11 m ρ c (Proc.devRef .tc main_v147_1) = W8 m ρ c (Proc.devRef .tc main_v147_1) from
    (W11_of m ρ c main_v147_1 (by decide)).trans ((W10_of m ρ c main_v147_1 (by decide)).trans (W9_of m ρ c main_v147_1 (by decide))), a147', Ca.A, h0, h1]
  have e (p : Fin 2) : avgBlock (page (V7 m ρ c main_v128) p) (half (V7 m ρ c main_v1) p) (upper (V7 m ρ c main_v30_0) p) (wt 1 (args m c).cwq) (rw 1 (args m c).cbq) = avg (args m c) p := by
    rw [call2, pos7, key7]
    rfl
  funext y
  exact congrFun (congrFun (e (y 0)) (y 1)) (y 2)

end Cert.KernelIdeal.Calls

end
end
-- ==== Proof.RefMask.lean ====
module

public import proofs.«01_k».proof.Proof.HostMask
public import proofs.«01_k».proof.Proof.Mid
public import proofs.«01_k».proof.Proof.Gen.ReferenceIdeal.Run

/-! # The whole reference's mask -/

@[expose] public section

set_option maxRecDepth 16384

noncomputable section

namespace Cert.ReferenceIdeal.RefMask

open Idealize.ShloMosaic Idealize.ShloMosaic.TcCoe Idealize.ShloMosaic.StableHlo Cert.ReferenceIdeal Cert.ReferenceIdeal.Gen Cert.ReferenceIdeal.Value Cert.Spec Cert.Score
open Cert.Reference6Ideal.HostMask (fold_ori word_unit)

variable (V : Valuation τ sig (Elt Ideal)) (p : Fin 2) (i j : Fin 300)

/-- The boxes. -/
abbrev box : FVec Ideal S300x2x4 .f32 := V (Proc.devRef .tc main_arg4)
/-- The logits of batch `p` of the boxes, row by row, and column by column. -/
def rowsOf : Fin 300 → Fin 4 → EReal := fun i k => box V (ix3 i p k)
def colsOf : Fin 4 → Fin 300 → EReal := fun k j => box V (ix3 j p k)

theorem v21_eq : (res_main_v21 V : FVec Ideal S2x300 .f32) (ix2 p i) = lower (rowsOf V p i 0) (rowsOf V p i 2) := by
  simp only [res_main_v21, res_main_v12, res_main_v16, res_main_v10, lower, upper, half1, Ideal.logistic, rowsOf]
  pointwise
theorem v24_eq : (res_main_v24 V : FVec Ideal S2x300 .f32) (ix2 p i) = lower (rowsOf V p i 1) (rowsOf V p i 3) := by
  simp only [res_main_v24, res_main_v14, res_main_v18, res_main_v10, lower, upper, half1, Ideal.logistic, rowsOf]
  pointwise
theorem v27_eq : (res_main_v27 V : FVec Ideal S2x300 .f32) (ix2 p i) = upper (rowsOf V p i 0) (rowsOf V p i 2) := by
  simp only [res_main_v27, res_main_v12, res_main_v16, res_main_v10, lower, upper, half1, Ideal.logistic, rowsOf]
  pointwise
theorem v30_eq : (res_main_v30 V : FVec Ideal S2x300 .f32) (ix2 p i) = upper (rowsOf V p i 1) (rowsOf V p i 3) := by
  simp only [res_main_v30, res_main_v14, res_main_v18, res_main_v10, lower, upper, half1, Ideal.logistic, rowsOf]
  pointwise

theorem v95_eq : (res_main_v95 V : FVec Ideal S2x300x300 .f32) (ix3 p i j) = scores (rowsOf V p) (colsOf V p) i j := by
  simp only [res_main_v95, res_main_v90, res_main_v64, res_main_v58, res_main_v33]
  pointwise
  simp only [v21_eq, v24_eq, v27_eq, v30_eq]
  have z : id (constant S_ .f32 0x00000000#32 : FVec Ideal S_ .f32) ix0 = (0 : EReal) := by
    rw [id]
    pointwise
  rw [z]
  rfl

theorem cmp_eq (l r : Ideal .f32 × BitVec 32) : comparator_f32_i32_d2 (F := Ideal) l r = BitVec.ofBool (decide (l.1 < r.1)) := Cert.Reference6Ideal.HostMask.cmp_eq l r

/-- The sorted positions: place `q` of row `i` holds the position whose number comes there. -/
theorem sorted_eq (s : FVec Ideal S2x300x300 .f32) (q : Fin 300) : (Host.sort2 S2x300x300 2 comparator_f32_i32_d2 s (iotaInDim S2x300x300 32 2)).2 (ix3 p i q)
    = BitVec.ofNat 32 (sortedFrom (fun a b => decide ((s (ix3 p i a) : EReal) < s (ix3 p i b))) q).val := by
  have along (h : 2 < S2x300x300.rank) (k : Fin 300) : (ix3 p i q : S2x300x300.Idx).along ⟨2, h⟩ k = ix3 p i k := by
    funext a
    fin_cases a <;> rfl
  have cmp (k k' : Fin 300) : (comparator_f32_i32_d2 (F := Ideal) (s (ix3 p i k), iotaInDim S2x300x300 32 2 (ix3 p i k)) (s (ix3 p i k'), iotaInDim S2x300x300 32 2 (ix3 p i k')) == 1#1)
      = decide ((s (ix3 p i k) : EReal) < s (ix3 p i k')) := by
    rw [cmp_eq]
    by_cases h : (s (ix3 p i k) : EReal) < s (ix3 p i k') <;> simp [h]
  rw [Host.sort2, dif_pos (by decide)]
  refine (congrArg (iotaInDim S2x300x300 32 2) (along (by decide) _)).trans ?_
  refine congrArg (fun b => BitVec.ofNat 32 (sortedFrom b q).val) (funext fun k => funext fun k' => ?_)
  exact (congrArg₂ (fun u v : S2x300x300.Idx => comparator_f32_i32_d2 (F := Ideal) (s u, iotaInDim S2x300x300 32 2 u) (s v, iotaInDim S2x300x300 32 2 v) == 1#1)
    (along (by decide) k) (along (by decide) k')).trans (cmp k k')

/-- The bit of a box: whether its position is among the first hundred sorted ones. -/
def bit (s : FVec Ideal S2x300x300 .f32) : IVec S2x300x300 1 :=
  Host.reduce IntOp.ori (cmpi .eq (broadcastInDim S2x300x100x300 ![0, 1, 2, 3] bcast_S2x300x100x1_S2x300x100x300_0_1_2_3 (broadcastInDim S2x300x100x1 ![0, 1, 2] bcast_S2x300x100_S2x300x100x1_0_1_2
      (extractStridedSlice S2x300x100 ![0, 0, 0] ((Host.sort2 S2x300x300 2 comparator_f32_i32_d2 s (iotaInDim S2x300x300 32 2)).2) slices_S2x300x300_S2x300x100_0_0_0)))
    (broadcastInDim S2x300x100x300 ![0, 1, 2, 3] bcast_S1x1x1x300_S2x300x100x300_0_1_2_3 (broadcastInDim S1x1x1x300 ![3] bcast_S300_S1x1x1x300_3 (iotaInDim S300 32 0)))) (constantI S_ 1 0#1) reducesTo_S2x300x100x300_S2x300x300_d2 h_S_

theorem bit_eq (s : FVec Ideal S2x300x300 .f32) : bit s (ix3 p i j) = 1#1 ↔ Rank.rank (fun k => (s (ix3 p i k) : EReal)) j < 100 := by
  rw [← Rank.exists_sortedFrom_iff]
  have h (q : Fin 300) := sorted_eq p i s q
  simp only [bit]
  generalize (Host.sort2 S2x300x300 2 comparator_f32_i32_d2 s (iotaInDim S2x300x300 32 2)).2 = o at h ⊢
  pointwise
  rw [fold_ori]
  simp only [h]
  generalize (fun a b : Fin 300 => decide ((s (ix3 p i a) : EReal) < s (ix3 p i b))) = lt
  have e (a b : Fin 300) : IntOp.cmpi .eq (BitVec.ofNat 32 a.val) (BitVec.ofNat 32 b.val) = 1#1 ↔ a = b :=
    (WordCmp.cmpi_eq_ofNat_eq_one_iff (by omega) (by omega)).trans Fin.ext_iff.symm
  simp only [e]
  constructor
  · rintro ⟨q, h⟩
    exact ⟨⟨q.val, by omega⟩, q.isLt, h⟩
  · rintro ⟨q, hq, h⟩
    exact ⟨⟨q.val, hq⟩, h⟩

/-- The mask: one where the box is among the hundred nearest ones, zero elsewhere. -/
theorem v105_eq : ((res_main_v105 V : FVec Ideal S2x300x300 .f32) (ix3 p i j) : EReal) = mask (rowsOf V p) (colsOf V p) i j := by
  have h : bit (res_main_v95 V) (ix3 p i j) = 1#1 ↔ near (rowsOf V p) (colsOf V p) i j := by
    rw [bit_eq, near]
    simp only [v95_eq]
  rw [mask, ← if_congr h rfl rfl]
  exact word_unit _

end Cert.ReferenceIdeal.RefMask

end
end
-- ==== Proof.Ref.lean ====
module

public import proofs.«01_k».proof.Proof.RefMask
public import proofs.«01_k».proof.Proof.Chain
public import proofs.«01_k».proof.Proof.R6
public import proofs.«01_k».proof.Proof.R2

/-! # The whole reference -/

@[expose] public section

set_option maxRecDepth 16384

noncomputable section

namespace Cert.ReferenceIdeal.Whole

open Idealize.ShloMosaic Idealize.ShloMosaic.TcCoe Idealize.ShloMosaic.StableHlo Cert.ReferenceIdeal Cert.ReferenceIdeal.Gen Cert.ReferenceIdeal.Value Cert.Host Cert.Spec Cert.Mid Cert.KernelIdeal.Vec
open Cert.KernelIdeal.Chain (mat0 mat1 up0 up1 down0 down1 vec0 vec1 wide0 wide1 mat0_eq mat1_eq up0_eq up1_eq down0_eq down1_eq vec0_eq vec1_eq wide0_eq wide1_eq)
open Cert.Reference3Ideal.Arr (sdots sweights sctx swatt_eq)
open Cert.Reference5Ideal.Arr (hffn hffn_eq)

/-! ## The parts of a layer, over arrays -/

/-- A projection of 4096 rows. -/
def klin (x : FVec Ideal S2x4096x256 .f32) (w : FVec Ideal S256x256 .bf16) (b : FVec Ideal S1x256 .f32) : FVec Ideal S2x4096x256 .f32 :=
  addf (Host.dotGeneral dot_S2x4096x256_S256x256_S2x4096x256_2_0_01_1_n_n none x (extf .f32 w Cert.KernelIdeal.Gen.bitsLt_bf16_f32))
    (broadcastInDim S2x4096x256 ![0, 1, 2] bcast_S1x1x256_S2x4096x256_0_1_2 (broadcastInDim S1x1x256 ![2] bcast_S256_S1x1x256_2 (shapeCast S256 b shapeCasts_S1x256_S256)))

theorem klin_eq (x w b p) : page (klin x w b) p = lin (page x p) (toM w) (toR b) := by
  funext i j
  simp only [page, klin, lin, toM, toR]
  pointwise

section
variable (mk : FVec Ideal S2x300x300 .f32) (x qp : FVec Ideal S2x300x256 .f32) (wq wk wv wo : FVec Ideal S256x256 .bf16) (bq bk bv bo g b : FVec Ideal S1x256 .f32) (p : Fin 2)

def hsa : FVec Ideal S2x300x256 .f32 :=
  hln (addf x (hlin (sctx (sweights (sdots mk (hsplit (hlin (addf x qp) wq bq)) (hsplit (hlin (addf x qp) wk bk)))) (hsplit (hlin x wv bv))) wo bo)) g b

theorem hsa_eq : page (hsa mk x qp wq wk wv wo bq bk bv bo g b) p
    = saBlock (Cert.Kernel3Ideal.Arr.shown mk p) (page x p) (page qp p) (toM wq) (toR bq) (toM wk) (toR bk) (toM wv) (toR bv) (toM wo) (toR bo) (toR g) (toR b) := by
  rw [hsa, hln_eq, page_add, hlin_eq, swatt_eq, hlin_eq, hlin_eq, hlin_eq, page_add, ← saBlock_eq]

variable (k v : FVec Ideal S2x4096x256 .f32)

/-- The cross-attention weights. -/
def hw : FVec Ideal S2x8x300x4096 .f32 := hweights (hdots (hsplit (hlin (addf x qp) wq bq)) (hsplitK k))

def hca : FVec Ideal S2x300x256 .f32 := hln (addf x (hlin (hctx (hw x qp wq bq k) (hsplitK v)) wo bo)) g b

theorem hca_eq : page (hca x qp wq wo bq bo g b k v) p
    = caBlock (page x p) (page qp p) (page k p) (page v p) (toM wq) (toR bq) (toM wo) (toR bo) (toR g) (toR b) := by
  rw [hca, hw, hln_eq, page_add, hlin_eq, watt_eq, hlin_eq, page_add, ← caBlock_eq]

theorem havg_w : page (havg (hw x qp wq bq k)) p = avgBlock (page x p) (page qp p) (page k p) (toM wq) (toR bq) := by
  rw [havg_eq, avgBlock_eq]
  have e (h : Fin 8) : leaf (hw x qp wq bq k) p h = weights (rooted (dots (lin (add (page x p) (page qp p)) (toM wq) (toR bq)) (page k p) h)) := by
    rw [hw, hweights_eq, hdots_eq, hlin_eq, page_add]
  funext i j
  exact congrArg (fun s => Ideal.div s eight) (Finset.sum_congr rfl fun h _ => congrFun (congrFun (e h) i) j)

theorem hff_eq (w1 b1 w2) : page (hln (addf x (hffn x w1 b1 w2 bo)) g b) p = ffnBlock (page x p) (toM w1) (toR b1) (toM w2) (toR bo) (toR g) (toR b) := by
  rw [hln_eq, page_add, hffn_eq, add_comm']
  rfl

/-- The last normalisation, whose factors are whole rows. -/
def hend (g b : FVec Ideal S256 .f32) : FVec Ideal S2x300x256 .f32 :=
  addf (mulf (Host.divf (hcen x) (broadcastInDim S2x300x256 ![0, 1, 2] bcast_S2x300x1_S2x300x256_0_1_2 (Host.sqrt (addf (hmean (mulf (hcen x) (hcen x)))
    (broadcastInDim S2x300x1 ![] bcast_S_S2x300x1 (constant S_ .f32 0x3727C5AC#32))))))
      (broadcastInDim S2x300x256 ![0, 1, 2] bcast_S1x1x256_S2x300x256_0_1_2 (broadcastInDim S1x1x256 ![2] bcast_S256_S1x1x256_2 g)))
    (broadcastInDim S2x300x256 ![0, 1, 2] bcast_S1x1x256_S2x300x256_0_1_2 (broadcastInDim S1x1x256 ![2] bcast_S256_S1x1x256_2 b))

theorem hend_eq (g b : FVec Ideal S256 .f32) : page (hend x g b) p = ln (page x p) (fun j => g (ix1 j)) (fun j => b (ix1 j)) := by
  have back (r : FVec Ideal S256 .f32) : shapeCast S256 (shapeCast S1x256 r Cert.KernelIdeal.Gen.shapeCasts_S256_S1x256) shapeCasts_S1x256_S256 = r := by
    funext j
    pointwise
  have row (r : FVec Ideal S256 .f32) (j : Fin 256) : shapeCast S1x256 r Cert.KernelIdeal.Gen.shapeCasts_S256_S1x256 (ix2 0 j) = r (ix1 j) := by
    pointwise
  have e : hend x g b = hln x (shapeCast S1x256 g Cert.KernelIdeal.Gen.shapeCasts_S256_S1x256) (shapeCast S1x256 b Cert.KernelIdeal.Gen.shapeCasts_S256_S1x256) := by
    rw [hln, hrow, hrow, back, back]
    rfl
  rw [e, hln_eq]
  simp only [row]
end

/-! ## The reference's arrays -/

variable (V : Valuation τ sig (Elt Ideal)) (p : Fin 2)

/-- The contents of a buffer. -/
abbrev A (r : Ref sig .tc) := V (Proc.devRef .tc r)

/-- The reference's arguments. -/
def args : Args := ⟨A V main_arg0, A V main_arg1, A V main_arg2, A V main_arg3, A V main_arg4, A V main_arg5, A V main_arg6, A V main_arg7, A V main_arg8, A V main_arg9, A V main_arg10, A V main_arg11, A V main_arg12, A V main_arg13, A V main_arg14, A V main_arg15, A V main_arg16, A V main_arg17, A V main_arg18, A V main_arg19, A V main_arg20, A V main_arg21, A V main_arg22, A V main_arg23, A V main_arg24, A V main_arg25, A V main_arg26, A V main_arg27, A V main_arg28, A V main_arg29, A V main_arg30, A V main_arg31, A V main_arg32⟩

theorem v0_eq : page (res_main_v0 V : FVec Ideal S2x300x256 .f32) p = pg (args V).tgt p := by
  funext i j
  simp only [page, pg, args, res_main_v0]
  pointwise
theorem v1_eq : page (res_main_v1 V : FVec Ideal S2x4096x256 .f32) p = pg (args V).mem p := by
  funext i j
  simp only [page, pg, args, res_main_v1]
  pointwise
theorem v2_eq : page (res_main_v2 V : FVec Ideal S2x4096x256 .f32) p = pg (args V).pos p := by
  funext i j
  simp only [page, pg, args, res_main_v2]
  pointwise
theorem v3_eq : page (res_main_v3 V : FVec Ideal S2x300x256 .f32) p = pg (args V).qp p := by
  funext i j
  simp only [page, pg, args, res_main_v3]
  pointwise

/-- Where the mask is above zero. -/
theorem shown_eq : Cert.Kernel3Ideal.Arr.shown (res_main_v105 V) p = near (args V) p := by
  funext i j
  rw [Cert.Kernel3Ideal.Arr.shown, RefMask.v105_eq]
  exact Cert.Reference6Ideal.Arr.above _

set_option maxHeartbeats 2000000 in
theorem v199_res : res_main_v199 V = hsa (res_main_v105 V) (res_main_v0 V) (res_main_v3 V) (mat0 (A V main_arg5)) (mat0 (A V main_arg7)) (mat0 (A V main_arg9)) (mat0 (A V main_arg11)) (vec0 (A V main_arg6)) (vec0 (A V main_arg8)) (vec0 (A V main_arg10)) (vec0 (A V main_arg12)) (vec0 (A V main_arg25)) (vec0 (A V main_arg26)) := rfl
theorem v199_eq : page (res_main_v199 V : FVec Ideal S2x300x256 .f32) p = sa (args V) 0 p (page (res_main_v0 V : FVec Ideal S2x300x256 .f32) p) := by
  rw [v199_res, hsa_eq, shown_eq, v3_eq]
  simp only [mat0_eq, vec0_eq]
  rfl

theorem keys0_eq : page (klin (addf (res_main_v1 V) (res_main_v2 V)) (mat0 (A V main_arg15)) (vec0 (A V main_arg16))) p = keys (args V) 0 p := by
  rw [klin_eq, Cert.Reference2Ideal.Arr.hrows_add, v1_eq, v2_eq, mat0_eq, vec0_eq]
  rfl
theorem vals0_eq : page (klin (res_main_v1 V) (mat0 (A V main_arg17)) (vec0 (A V main_arg18))) p = vals (args V) 0 p := by
  rw [klin_eq, v1_eq, mat0_eq, vec0_eq]
  rfl

set_option maxHeartbeats 2000000 in
theorem v251_res : res_main_v251 V = hw (res_main_v199 V) (res_main_v3 V) (mat0 (A V main_arg13)) (vec0 (A V main_arg14)) (klin (addf (res_main_v1 V) (res_main_v2 V)) (mat0 (A V main_arg15)) (vec0 (A V main_arg16))) := rfl
set_option maxHeartbeats 2000000 in
theorem v290_res : res_main_v290 V = hca (res_main_v199 V) (res_main_v3 V) (mat0 (A V main_arg13)) (mat0 (A V main_arg19)) (vec0 (A V main_arg14)) (vec0 (A V main_arg20)) (vec0 (A V main_arg27)) (vec0 (A V main_arg28)) (klin (addf (res_main_v1 V) (res_main_v2 V)) (mat0 (A V main_arg15)) (vec0 (A V main_arg16))) (klin (res_main_v1 V) (mat0 (A V main_arg17)) (vec0 (A V main_arg18))) := rfl
theorem v290_eq : page (res_main_v290 V : FVec Ideal S2x300x256 .f32) p = ca (args V) 0 p (page (res_main_v199 V : FVec Ideal S2x300x256 .f32) p) := by
  rw [v290_res, hca_eq, keys0_eq, vals0_eq, v3_eq]
  simp only [mat0_eq, vec0_eq]
  rfl

set_option maxHeartbeats 2000000 in
theorem v336_res : res_main_v336 V = hln (addf (res_main_v290 V) (hffn (res_main_v290 V) (up0 (A V main_arg21)) (wide0 (A V main_arg22)) (down0 (A V main_arg23)) (vec0 (A V main_arg24)))) (vec0 (A V main_arg29)) (vec0 (A V main_arg30)) := rfl
theorem v336_eq : page (res_main_v336 V : FVec Ideal S2x300x256 .f32) p = ff (args V) 0 (page (res_main_v290 V : FVec Ideal S2x300x256 .f32) p) := by
  rw [v336_res, hff_eq]
  simp only [up0_eq, wide0_eq, down0_eq, vec0_eq]
  rfl

set_option maxHeartbeats 2000000 in
theorem v430_res : res_main_v430 V = hsa (res_main_v105 V) (res_main_v336 V) (res_main_v3 V) (mat1 (A V main_arg5)) (mat1 (A V main_arg7)) (mat1 (A V main_arg9)) (mat1 (A V main_arg11)) (vec1 (A V main_arg6)) (vec1 (A V main_arg8)) (vec1 (A V main_arg10)) (vec1 (A V main_arg12)) (vec1 (A V main_arg25)) (vec1 (A V main_arg26)) := rfl
theorem v430_eq : page (res_main_v430 V : FVec Ideal S2x300x256 .f32) p = sa (args V) 1 p (page (res_main_v336 V : FVec Ideal S2x300x256 .f32) p) := by
  rw [v430_res, hsa_eq, shown_eq, v3_eq]
  simp only [mat1_eq, vec1_eq]
  rfl

theorem keys1_eq : page (klin (addf (res_main_v1 V) (res_main_v2 V)) (mat1 (A V main_arg15)) (vec1 (A V main_arg16))) p = keys (args V) 1 p := by
  rw [klin_eq, Cert.Reference2Ideal.Arr.hrows_add, v1_eq, v2_eq, mat1_eq, vec1_eq]
  rfl
theorem vals1_eq : page (klin (res_main_v1 V) (mat1 (A V main_arg17)) (vec1 (A V main_arg18))) p = vals (args V) 1 p := by
  rw [klin_eq, v1_eq, mat1_eq, vec1_eq]
  rfl

set_option maxHeartbeats 2000000 in
theorem v482_res : res_main_v482 V = hw (res_main_v430 V) (res_main_v3 V) (mat1 (A V main_arg13)) (vec1 (A V main_arg14)) (klin (addf (res_main_v1 V) (res_main_v2 V)) (mat1 (A V main_arg15)) (vec1 (A V main_arg16))) := rfl
set_option maxHeartbeats 2000000 in
theorem v521_res : res_main_v521 V = hca (res_main_v430 V) (res_main_v3 V) (mat1 (A V main_arg13)) (mat1 (A V main_arg19)) (vec1 (A V main_arg14)) (vec1 (A V main_arg20)) (vec1 (A V main_arg27)) (vec1 (A V main_arg28)) (klin (addf (res_main_v1 V) (res_main_v2 V)) (mat1 (A V main_arg15)) (vec1 (A V main_arg16))) (klin (res_main_v1 V) (mat1 (A V main_arg17)) (vec1 (A V main_arg18))) := rfl
theorem v521_eq : page (res_main_v521 V : FVec Ideal S2x300x256 .f32) p = ca (args V) 1 p (page (res_main_v430 V : FVec Ideal S2x300x256 .f32) p) := by
  rw [v521_res, hca_eq, keys1_eq, vals1_eq, v3_eq]
  simp only [mat1_eq, vec1_eq]
  rfl

set_option maxHeartbeats 2000000 in
theorem v567_res : res_main_v567 V = hln (addf (res_main_v521 V) (hffn (res_main_v521 V) (up1 (A V main_arg21)) (wide1 (A V main_arg22)) (down1 (A V main_arg23)) (vec1 (A V main_arg24)))) (vec1 (A V main_arg29)) (vec1 (A V main_arg30)) := rfl
theorem v567_eq : page (res_main_v567 V : FVec Ideal S2x300x256 .f32) p = ff (args V) 1 (page (res_main_v521 V : FVec Ideal S2x300x256 .f32) p) := by
  rw [v567_res, hff_eq]
  simp only [up1_eq, wide1_eq, down1_eq, vec1_eq]
  rfl

theorem layer0_eq : page (res_main_v336 V : FVec Ideal S2x300x256 .f32) p = layer (args V) 0 p (pg (args V).tgt p) := by
  rw [v336_eq, v290_eq, v199_eq, v0_eq]
  rfl

/-- The reference's rows. -/
theorem rows_eq (y : S300x2x256.Idx) : transpose S300x2x256 [1, 0, 2] (hend (res_main_v567 V) (A V main_arg31) (A V main_arg32)) transposes_S2x300x256_S300x2x256_1_0_2 y = out (args V) y := by
  have e (p : Fin 2) : page (hend (res_main_v567 V) (A V main_arg31) (A V main_arg32)) p = rows (args V) p := by
    rw [hend_eq, v567_eq, v521_eq, v430_eq, layer0_eq]
    rfl
  refine Eq.trans ?_ (congrFun (congrFun (e (y 1)) (y 0)) (y 2))
  simp only [page]
  generalize hend (res_main_v567 V) (A V main_arg31) (A V main_arg32) = z
  pointwise

/-- The reference's averaged weights. -/
theorem att_eq (y : S2x300x4096.Idx) : havg (res_main_v482 V) y = att (args V) y := by
  have e (p : Fin 2) : page (havg (res_main_v482 V)) p = avg (args V) p := by
    rw [v482_res, havg_w, v3_eq, keys1_eq, v430_eq, layer0_eq, mat1_eq, vec1_eq]
    rfl
  refine Eq.trans (congrArg (havg (res_main_v482 V)) ?_) (congrFun (congrFun (e (y 0)) (y 1)) (y 2))
  funext a
  fin_cases a <;> rfl

end Cert.ReferenceIdeal.Whole

end
end
-- ==== Proof.Whole.lean ====
module

public import proofs.«01_k».proof.Defs
public import proofs.«01_k».proof.Proof.Calls
public import proofs.«01_k».proof.Proof.Ref
public import proofs.«01_k».proof.Proof.KernelIdeal.Run

/-! # The whole program and the reference end with the same results -/

@[expose] public section

set_option maxRecDepth 16384

noncomputable section

namespace Cert.ReferenceIdeal.Whole

open Idealize.ShloMosaic Idealize.ShloMosaic.TcCoe Idealize.SL.Sem Cert.ReferenceIdeal Cert.ReferenceIdeal.Gen Cert.ReferenceIdeal.Value Cert.Mid
open Idealize.ShloMosaic.StableHlo (launchContents)

/-- The reference's first result. -/
theorem first_eq (V : Valuation τ sig (Elt Ideal)) : transpose S300x2x256 [1, 0, 2] (addf (mulf (Host.divf (subf (res_main_v567 V) (broadcastInDim S2x300x256 ![0, 1, 2] bcast_S2x300x1_S2x300x256_0_1_2 (res_main_v571 V))) (broadcastInDim S2x300x256 ![0, 1, 2] bcast_S2x300x1_S2x300x256_0_1_2 (Host.sqrt (addf (Host.divf (broadcastInDim S2x300x1 ![0, 1] bcast_S2x300_S2x300x1_0_1 (Host.reduceAdd (mulf (res_main_v573 V) (res_main_v573 V)) (constant S_ .f32 0x00000000#32) reducesTo_S2x300x256_S2x300_d2 h_S_)) (broadcastInDim S2x300x1 ![] bcast_S_S2x300x1 (constant S_ .f32 0x43800000#32))) (broadcastInDim S2x300x1 ![] bcast_S_S2x300x1 (constant S_ .f32 0x3727C5AC#32)))))) (broadcastInDim S2x300x256 ![0, 1, 2] bcast_S1x1x256_S2x300x256_0_1_2 (broadcastInDim S1x1x256 ![2] bcast_S256_S1x1x256_2 (V (Proc.devRef .tc main_arg31))))) (broadcastInDim S2x300x256 ![0, 1, 2] bcast_S1x1x256_S2x300x256_0_1_2 (broadcastInDim S1x1x256 ![2] bcast_S256_S1x1x256_2 (V (Proc.devRef .tc main_arg32))))) transposes_S2x300x256_S300x2x256_1_0_2 = out (args V) :=
  (rfl : _ = transpose S300x2x256 [1, 0, 2] (hend (res_main_v567 V) (A V main_arg31) (A V main_arg32)) transposes_S2x300x256_S300x2x256_1_0_2).trans (funext (rows_eq V))

/-- The reference's third result. -/
theorem third_eq (V : Valuation τ sig (Elt Ideal)) : Host.divf (Host.reduceAdd (res_main_v482 V) (constant S_ .f32 0x00000000#32) reducesTo_S2x8x300x4096_S2x300x4096_d1 h_S_) (broadcastInDim S2x300x4096 ![] bcast_S_S2x300x4096 (constant S_ .f32 0x41000000#32)) = att (args V) :=
  funext (att_eq V)

/-- From memories that agree on the arguments, the whole program and the reference end with the same three results. -/
theorem claim : Cert.algebraic_KernelIdeal_ReferenceIdeal := by
  intro m g m' g' _ hm
  refine ⟨fun c => out (Cert.KernelIdeal.Chain.args m c), fun c => m ((c.tc : Thread Cert.KernelIdeal.nD Cert.KernelIdeal.τ).loc Cert.KernelIdeal.main_arg4), fun c => att (Cert.KernelIdeal.Chain.args m c),
    (θ_run _ _ _).mono (fun r h c => ?_) (Cert.KernelIdeal.Gen.run_state m g), (θ_run _ _ _).mono (fun r h c => ?_) (Value.run m' g')⟩
  · have k := Cert.KernelIdeal.Gen.kept m g c (h.1 c)
    exact ⟨(h.1 c _ (Cert.KernelIdeal.Gen.mem_uc Cert.KernelIdeal.main_v169 (by decide))).trans (Cert.KernelIdeal.Calls.out_eq m g c), k Cert.KernelIdeal.main_arg4 (by decide),
      (h.1 c _ (Cert.KernelIdeal.Gen.mem_uc Cert.KernelIdeal.main_v147_1 (by decide))).trans (Cert.KernelIdeal.Calls.att_eq m g c),
      k Cert.KernelIdeal.main_arg0 (by decide), k Cert.KernelIdeal.main_arg1 (by decide), k Cert.KernelIdeal.main_arg2 (by decide), k Cert.KernelIdeal.main_arg3 (by decide), k Cert.KernelIdeal.main_arg4 (by decide), k Cert.KernelIdeal.main_arg5 (by decide), k Cert.KernelIdeal.main_arg6 (by decide), k Cert.KernelIdeal.main_arg7 (by decide), k Cert.KernelIdeal.main_arg8 (by decide), k Cert.KernelIdeal.main_arg9 (by decide), k Cert.KernelIdeal.main_arg10 (by decide), k Cert.KernelIdeal.main_arg11 (by decide), k Cert.KernelIdeal.main_arg12 (by decide), k Cert.KernelIdeal.main_arg13 (by decide), k Cert.KernelIdeal.main_arg14 (by decide), k Cert.KernelIdeal.main_arg15 (by decide), k Cert.KernelIdeal.main_arg16 (by decide), k Cert.KernelIdeal.main_arg17 (by decide), k Cert.KernelIdeal.main_arg18 (by decide), k Cert.KernelIdeal.main_arg19 (by decide), k Cert.KernelIdeal.main_arg20 (by decide), k Cert.KernelIdeal.main_arg21 (by decide), k Cert.KernelIdeal.main_arg22 (by decide), k Cert.KernelIdeal.main_arg23 (by decide), k Cert.KernelIdeal.main_arg24 (by decide), k Cert.KernelIdeal.main_arg25 (by decide), k Cert.KernelIdeal.main_arg26 (by decide), k Cert.KernelIdeal.main_arg27 (by decide), k Cert.KernelIdeal.main_arg28 (by decide), k Cert.KernelIdeal.main_arg29 (by decide), k Cert.KernelIdeal.main_arg30 (by decide), k Cert.KernelIdeal.main_arg31 (by decide), k Cert.KernelIdeal.main_arg32 (by decide)⟩
  have ha : args (launchContents m' c) = Cert.KernelIdeal.Chain.args m c := by
    obtain ⟨h0, h1, h2, h3, h4, h5, h6, h7, h8, h9, h10, h11, h12, h13, h14, h15, h16, h17, h18, h19, h20, h21, h22, h23, h24, h25, h26, h27, h28, h29, h30, h31, h32⟩ := hm c
    unfold args Cert.KernelIdeal.Chain.args
    rw [Args.mk.injEq]
    exact ⟨h0, h1, h2, h3, h4, h5, h6, h7, h8, h9, h10, h11, h12, h13, h14, h15, h16, h17, h18, h19, h20, h21, h22, h23, h24, h25, h26, h27, h28, h29, h30, h31, h32⟩
  refine ⟨(h c).1.trans ?_, (h c).2.1.trans (hm c).2.2.2.2.1, (h c).2.2.1.trans ?_, (h c).2.2.2⟩
  · exact (first_eq (launchContents m' c)).trans (congrArg out ha)
  · exact (third_eq (launchContents m' c)).trans (congrArg att ha)

end Cert.ReferenceIdeal.Whole

end
end
-- ==== Proof.lean ====
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.R2
public import proofs.«01_k».proof.Proof.R3
public import proofs.«01_k».proof.Proof.R4
public import proofs.«01_k».proof.Proof.R5
public import proofs.«01_k».proof.Proof.Kernel6.Frame
public import proofs.«01_k».proof.Proof.R6
public import proofs.«01_k».proof.Proof.Whole

/-! # The claims, put together -/

@[expose] public section

set_option maxRecDepth 16384

namespace Cert.Proof

open Idealize.ShloMosaic Idealize.SL.Sem

theorem claim : Cert.Claim := by
  refine ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    fun m g _ => Cert.Kernel.Gen.frame m g, fun m g _ => Cert.KernelIdeal.Gen.frame m g, fun m g _ => ?_,
    fun m g _ => Cert.Kernel2.Gen.frame m g, fun m g _ => Cert.Kernel2Ideal.Gen.frame m g, fun m g _ => ?_,
    fun m g _ => Cert.Kernel3.Gen.frame m g, fun m g _ => Cert.Kernel3Ideal.Gen.frame m g, fun m g _ => ?_,
    fun m g _ => Cert.Kernel4.Gen.frame m g, fun m g _ => Cert.Kernel4Ideal.Gen.frame m g, fun m g _ => ?_,
    fun m g _ => Cert.Kernel5.Gen.frame m g, fun m g _ => Cert.Kernel5Ideal.Gen.frame m g, fun m g _ => ?_,
    fun m g _ => Cert.Kernel6.Gen.frame m g, fun m g _ => Cert.Kernel6Ideal.Gen.frame m g, fun m g _ => ?_,
    IdealRules.named_const.statement Cert.KernelIdeal.κ "s" .f32 0x3E3504F3#32 _ rfl, Cert.ReferenceIdeal.Whole.claim,
    trivial, Cert.Reference2Ideal.Arr.claim,
    IdealRules.named_const.statement Cert.Kernel3Ideal.κ "s" .f32 0x3E3504F3#32 _ rfl, Cert.Reference3Ideal.Arr.claim,
    IdealRules.named_const.statement Cert.Kernel4Ideal.κ "s" .f32 0x3E3504F3#32 _ rfl, Cert.Reference4Ideal.Arr.claim,
    trivial, Cert.Reference5Ideal.Arr.claim,
    IdealRules.named_const.statement Cert.Kernel6Ideal.κ "s" .f32 0x3E3504F3#32 _ rfl, Cert.Reference6Ideal.Arr.claim⟩
  · exact (θ_run _ _ _).mono (fun r h => ⟨fun c => (h c).2.2.2, sem_eq_zero_of_no_sems (by decide) r.2⟩) (Cert.ReferenceIdeal.Value.run m g)
  · exact (θ_run _ _ _).mono (fun r h => ⟨fun c => (h c).2.2, sem_eq_zero_of_no_sems (by decide) r.2⟩) (Cert.Reference2Ideal.Value.run m g)
  · exact (θ_run _ _ _).mono (fun r h => ⟨fun c => (h c).2, sem_eq_zero_of_no_sems (by decide) r.2⟩) (Cert.Reference3Ideal.Value.run m g)
  · exact (θ_run _ _ _).mono (fun r h => ⟨fun c => (h c).2.2, sem_eq_zero_of_no_sems (by decide) r.2⟩) (Cert.Reference4Ideal.Value.run m g)
  · exact (θ_run _ _ _).mono (fun r h => ⟨fun c => (h c).2, sem_eq_zero_of_no_sems (by decide) r.2⟩) (Cert.Reference5Ideal.Value.run m g)
  · exact (θ_run _ _ _).mono (fun r h => ⟨fun c => (h c).2.2, sem_eq_zero_of_no_sems (by decide) r.2⟩) (Cert.Reference6Ideal.Value.run m g)

end Cert.Proof
